-- ==== Defs.lean ====
def Pre_Kernel [hPre_experts_in_range : Cert.Pre_experts_in_range.Facts] (m : (ℓ : Loc Cert.Kernel.nD Cert.Kernel.τ Cert.Kernel.sig) → Buf (Elt Bits) ℓ) : Prop :=
  ∀ c : Dev Cert.Kernel.nD,
    (Cert.Pre_experts_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_experts_in_range : Cert.Pre_experts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_experts_in_range : Cert.Pre_experts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] [hPre_experts_in_range : Cert.Pre_experts_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_experts_in_range : Cert.Pre_experts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v65)) (v1 : (c : Dev Cert.Kernel2Ideal.nD) → Buf (Elt Ideal) ((c.tc : Thread Cert.Kernel2Ideal.nD Cert.Kernel2Ideal.τ).loc Cert.Kernel2Ideal.main_v68)) (v2 : (c : Dev Cert.Kernel2Ideal.nD) → Buf (Elt Ideal) ((c.tc : Thread Cert.Kernel2Ideal.nD Cert.Kernel2Ideal.τ).loc Cert.Kernel2Ideal.main_v40)) (v3 : (c : Dev Cert.Kernel2Ideal.nD) → Buf (Elt Ideal) ((c.tc : Thread Cert.Kernel2Ideal.nD Cert.Kernel2Ideal.τ).loc Cert.Kernel2Ideal.main_v43)) (v4 : (c : Dev Cert.Kernel2Ideal.nD) → Buf (Elt Ideal) ((c.tc : Thread Cert.Kernel2Ideal.nD Cert.Kernel2Ideal.τ).loc Cert.Kernel2Ideal.main_v47)) (v5 : (c : Dev Cert.Kernel2Ideal.nD) → Buf (Elt Ideal) ((c.tc : Thread Cert.Kernel2Ideal.nD Cert.Kernel2Ideal.τ).loc Cert.Kernel2Ideal.main_v52)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v65) = v0 c
          ∧ r.2.mem ((c.tc : Thread Cert.Kernel2Ideal.nD Cert.Kernel2Ideal.τ).loc Cert.Kernel2Ideal.main_v68) = v1 c
          ∧ r.2.mem ((c.tc : Thread Cert.Kernel2Ideal.nD Cert.Kernel2Ideal.τ).loc Cert.Kernel2Ideal.main_v40) = v2 c
          ∧ r.2.mem ((c.tc : Thread Cert.Kernel2Ideal.nD Cert.Kernel2Ideal.τ).loc Cert.Kernel2Ideal.main_v43) = v3 c
          ∧ r.2.mem ((c.tc : Thread Cert.Kernel2Ideal.nD Cert.Kernel2Ideal.τ).loc Cert.Kernel2Ideal.main_v47) = v4 c
          ∧ r.2.mem ((c.tc : Thread Cert.Kernel2Ideal.nD Cert.Kernel2Ideal.τ).loc Cert.Kernel2Ideal.main_v52) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_v27) = v2 c
          ∧ r.2.mem ((c.tc : Thread Cert.Reference2Ideal.nD Cert.Reference2Ideal.τ).loc Cert.Reference2Ideal.main_v56) = v3 c
          ∧ r.2.mem ((c.tc : Thread Cert.Reference2Ideal.nD Cert.Reference2Ideal.τ).loc Cert.Reference2Ideal.main_v30) = v4 c
          ∧ r.2.mem ((c.tc : Thread Cert.Reference2Ideal.nD Cert.Reference2Ideal.τ).loc Cert.Reference2Ideal.main_v59) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v50)) (v1 : (c : Dev Cert.Kernel3Ideal.nD) → Buf (Elt Ideal) ((c.tc : Thread Cert.Kernel3Ideal.nD Cert.Kernel3Ideal.τ).loc Cert.Kernel3Ideal.main_v52)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v50) = v0 c
          ∧ r.2.mem ((c.tc : Thread Cert.Kernel3Ideal.nD Cert.Kernel3Ideal.τ).loc Cert.Kernel3Ideal.main_v52) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_v62) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v40)) (v1 : (c : Dev Cert.Kernel4Ideal.nD) → Buf (Elt Ideal) ((c.tc : Thread Cert.Kernel4Ideal.nD Cert.Kernel4Ideal.τ).loc Cert.Kernel4Ideal.main_v43)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v40) = v0 c
          ∧ r.2.mem ((c.tc : Thread Cert.Kernel4Ideal.nD Cert.Kernel4Ideal.τ).loc Cert.Kernel4Ideal.main_v43) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v58) = v0 c
          ∧ r.2.mem ((c.tc : Thread Cert.Reference4Ideal.nD Cert.Reference4Ideal.τ).loc Cert.Reference4Ideal.main_v62) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v94)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v94) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v76) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v3) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_v13) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_experts_in_range : Cert.Pre_experts_in_range.Facts),
    quiescent_Kernel (hKernel := hKernel) (hPre_experts_in_range := hPre_experts_in_range)
    ∧ quiescent_KernelIdeal (hKernelIdeal := hKernelIdeal) (hPre_experts_in_range := hPre_experts_in_range)
    ∧ quiescent_ReferenceIdeal (hReferenceIdeal := hReferenceIdeal) (hPre_experts_in_range := hPre_experts_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal) (hPre_experts_in_range := hPre_experts_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_experts_in_range.lean ====
abbrev S73 : Shape := ⟨1, ![73]⟩
abbrev S37376x1024 : Shape := ⟨2, ![37376, 1024]⟩
abbrev S1024 : Shape := ⟨1, ![1024]⟩
abbrev S8x1024x3584 : Shape := ⟨3, ![8, 1024, 3584]⟩
abbrev S8x3584x1024 : Shape := ⟨3, ![8, 3584, 1024]⟩
abbrev S37376x1 : Shape := ⟨2, ![37376, 1]⟩
abbrev S_ : Shape := ⟨0, ![]⟩

class Facts : Prop where
  bcast_S_S73 : S_.BroadcastsInDim S73 (![] : Fin 0 → Fin S73.rank)

variable [Facts]

def fn {F : FTy → Type} [FloatOps F] (main_arg0 : IVec S73 32) (main_arg1 : FVec F S37376x1024 .bf16) (main_arg2 : FVec F S1024 .f32) (main_arg3 : FVec F S8x1024x3584 .f32) (main_arg4 : FVec F S8x1024x3584 .f32) (main_arg5 : FVec F S8x3584x1024 .f32) (main_arg6 : FVec F S37376x1 .f32) : IVec S73 1 :=
  let main_c : IVec S_ 32 := constantI S_ 32 0#32
  let main_v0 : IVec S73 32 := broadcastInDim S73 ![] bcast_S_S73 main_c
  let main_v1 : IVec S73 1 := cmpi .sge main_arg0 main_v0
  let main_c_0 : IVec S_ 32 := constantI S_ 32 8#32
  let main_v2 : IVec S73 32 := broadcastInDim S73 ![] bcast_S_S73 main_c_0
  let main_v3 : IVec S73 1 := cmpi .slt main_arg0 main_v2
  let main_v4 : IVec S73 1 := andi main_v1 main_v3
  main_v4
-- ==== Kernel.lean ====
abbrev S73 : Shape := ⟨1, ![73]⟩
abbrev S37376x1024 : Shape := ⟨2, ![37376, 1024]⟩
abbrev S1024 : Shape := ⟨1, ![1024]⟩
abbrev S8x1024x3584 : Shape := ⟨3, ![8, 1024, 3584]⟩
abbrev S8x3584x1024 : Shape := ⟨3, ![8, 3584, 1024]⟩
abbrev S37376x1 : Shape := ⟨2, ![37376, 1]⟩
abbrev S1x1024 : Shape := ⟨2, ![1, 1024]⟩
abbrev S512x1024 : Shape := ⟨2, ![512, 1024]⟩
abbrev S1x1024x896 : Shape := ⟨3, ![1, 1024, 896]⟩
abbrev S1 : Shape := ⟨1, ![1]⟩
abbrev S1x896x1024 : Shape := ⟨3, ![1, 896, 1024]⟩
abbrev S512x1 : Shape := ⟨2, ![512, 1]⟩
abbrev S1024x896 : Shape := ⟨2, ![1024, 896]⟩
abbrev S512x896 : Shape := ⟨2, ![512, 896]⟩
abbrev S896x1024 : Shape := ⟨2, ![896, 1024]⟩

abbrev nBuf : Space → Nat
  | .hbm => 11
  | .vmem => 15
  | .smem => 1
  | _ => 0

abbrev bufTy : (tb : Table) → Fin (tcTables nBuf tb) → BufTy
  | .hbm, ⟨0, _⟩ => ⟨S37376x1024, .bf16⟩
  | .hbm, ⟨1, _⟩ => ⟨S1024, .f32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S37376x1, .f32⟩
  | .hbm, ⟨6, _⟩ => ⟨S8x1024x3584, .bf16⟩
  | .hbm, ⟨7, _⟩ => ⟨S8x1024x3584, .bf16⟩
  | .hbm, ⟨8, _⟩ => ⟨S8x3584x1024, .bf16⟩
  | .hbm, ⟨9, _⟩ => ⟨S1x1024, .f32⟩
  | .hbm, ⟨10, _⟩ => ⟨S37376x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024, .f32⟩
  | .local _ .vmem, ⟨3, _⟩ => ⟨S1x1024x896, .bf16⟩
  | .local _ .vmem, ⟨4, _⟩ => ⟨S1x1024x896, .bf16⟩
  | .local _ .vmem, ⟨5, _⟩ => ⟨S1x1024x896, .bf16⟩
  | .local _ .vmem, ⟨6, _⟩ => ⟨S1x1024x896, .bf16⟩
  | .local _ .vmem, ⟨7, _⟩ => ⟨S1x896x1024, .bf16⟩
  | .local _ .vmem, ⟨8, _⟩ => ⟨S1x896x1024, .bf16⟩
  | .local _ .vmem, ⟨9, _⟩ => ⟨S512x1, .f32⟩
  | .local _ .vmem, ⟨10, _⟩ => ⟨S512x1, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .f32⟩
  | .local _ .smem, ⟨0, _⟩ => ⟨S73, .i32⟩
  | _, _ => ⟨S37376x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![73, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_17 : BitVec 32 := 0#32
  let v24 : BitVec 1 := Scalar.cmpi .ne v23 c0_i32_17
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S73.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S73) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S73.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S73) ![v0.toNat] S1.size (k0_off1_inb i)) numel1_S1
  let c0_i32 : BitVec 32 := 0#32
  let c0_i32_0 : BitVec 32 := 0#32
  ![v1.toNat, c0_i32.toNat, arg1.toNat]

def cc0_transform_4 (k0_off1_inb : ∀ i : grid0.Coords, ∀ a, (k0_off1 i) a + S1.size a ≤ S73.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S73) ![v0.toNat] S1.size (k0_off1_inb i)) numel1_S1
  let c0_i32 : BitVec 32 := 0#32
  let c0_i32_0 : BitVec 32 := 0#32
  ![v1.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x896x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S73 : Shape := ⟨1, ![73]⟩
abbrev S37376x1024 : Shape := ⟨2, ![37376, 1024]⟩
abbrev S1024 : Shape := ⟨1, ![1024]⟩
abbrev S8x1024x3584 : Shape := ⟨3, ![8, 1024, 3584]⟩
abbrev S8x3584x1024 : Shape := ⟨3, ![8, 3584, 1024]⟩
abbrev S37376x1 : Shape := ⟨2, ![37376, 1]⟩
abbrev S73x512 : Shape := ⟨2, ![73, 512]⟩
abbrev S37376 : Shape := ⟨1, ![37376]⟩
abbrev S1x8 : Shape := ⟨2, ![1, 8]⟩
abbrev S37376x8 : Shape := ⟨2, ![37376, 8]⟩
abbrev S_ : Shape := ⟨0, ![]⟩
abbrev S1x1024x3584 : Shape := ⟨3, ![1, 1024, 3584]⟩
abbrev S1024x3584 : Shape := ⟨2, ![1024, 3584]⟩
abbrev S37376x3584 : Shape := ⟨2, ![37376, 3584]⟩
abbrev S1x3584x1024 : Shape := ⟨3, ![1, 3584, 1024]⟩
abbrev S3584x1024 : Shape := ⟨2, ![3584, 1024]⟩

abbrev nBuf : Space → Nat
  | .hbm => 204
  | .vmem => 0
  | .smem => 0
  | _ => 0

abbrev hbmTy0_0 (i : Nat) : BufTy := match i % 128 with
  | 0 => ⟨S73, .i32⟩
  | 1 => ⟨S37376x1024, .bf16⟩
  | 2 => ⟨S1024, .f32⟩
  | 3 => ⟨S8x1024x3584, .f32⟩
  | 4 => ⟨S8x1024x3584, .f32⟩
  | 5 => ⟨S8x3584x1024, .f32⟩
  | 6 => ⟨S37376x1, .f32⟩
  | 7 => ⟨S73x512, .i32⟩
  | 8 => ⟨S37376, .i32⟩
  | 9 => ⟨S37376x1, .i32⟩
  | 10 => ⟨S1x8, .i32⟩
  | 11 => ⟨S37376x8, .i32⟩
  | 12 => ⟨S37376x8, .i32⟩
  | 13 => ⟨S37376x8, .i1⟩
  | 14 => ⟨S37376x8, .f32⟩
  | 15 => ⟨S37376x8, .f32⟩
  | 16 => ⟨S37376x8, .f32⟩
  | 17 => ⟨S37376x1024, .f32⟩
  | 18 => ⟨S_, .f32⟩
  | 19 => ⟨S37376x1024, .f32⟩
  | 20 => ⟨S1x1024x3584, .f32⟩
  | 21 => ⟨S1024x3584, .f32⟩
  | 22 => ⟨S37376x3584, .f32⟩
  | 23 => ⟨S37376x3584, .f32⟩
  | 24 => ⟨S37376x3584, .f32⟩
  | 25 => ⟨S_, .f32⟩
  | 26 => ⟨S37376x3584, .f32⟩
  | 27 => ⟨S37376x3584, .f32⟩
  | 28 => ⟨S_, .f32⟩
  | 29 => ⟨S37376x3584, .f32⟩
  | 30 => ⟨S37376x3584, .f32⟩
  | 31 => ⟨S37376x3584, .f32⟩
  | 32 => ⟨S1x1024x3584, .f32⟩
  | 33 => ⟨S1024x3584, .f32⟩
  | 34 => ⟨S37376x3584, .f32⟩
  | 35 => ⟨S37376x3584, .f32⟩
  | 36 => ⟨S37376x1, .f32⟩
  | 37 => ⟨S1x3584x1024, .f32⟩
  | 38 => ⟨S3584x1024, .f32⟩
  | 39 => ⟨S37376x1024, .f32⟩
  | 40 => ⟨S37376x1024, .f32⟩
  | 41 => ⟨S37376x1024, .f32⟩
  | 42 => ⟨S37376x1024, .f32⟩
  | 43 => ⟨S1x1024x3584, .f32⟩
  | 44 => ⟨S1024x3584, .f32⟩
  | 45 => ⟨S37376x3584, .f32⟩
  | 46 => ⟨S37376x3584, .f32⟩
  | 47 => ⟨S37376x3584, .f32⟩
  | 48 => ⟨S_, .f32⟩
  | 49 => ⟨S37376x3584, .f32⟩
  | 50 => ⟨S37376x3584, .f32⟩
  | 51 => ⟨S_, .f32⟩
  | 52 => ⟨S37376x3584, .f32⟩
  | 53 => ⟨S37376x3584, .f32⟩
  | 54 => ⟨S37376x3584, .f32⟩
  | 55 => ⟨S1x1024x3584, .f32⟩
  | 56 => ⟨S1024x3584, .f32⟩
  | 57 => ⟨S37376x3584, .f32⟩
  | 58 => ⟨S37376x3584, .f32⟩
  | 59 => ⟨S37376x1, .f32⟩
  | 60 => ⟨S1x3584x1024, .f32⟩
  | 61 => ⟨S3584x1024, .f32⟩
  | 62 => ⟨S37376x1024, .f32⟩
  | 63 => ⟨S37376x1024, .f32⟩
  | 64 => ⟨S37376x1024, .f32⟩
  | 65 => ⟨S37376x1024, .f32⟩
  | 66 => ⟨S1x1024x3584, .f32⟩
  | 67 => ⟨S1024x3584, .f32⟩
  | 68 => ⟨S37376x3584, .f32⟩
  | 69 => ⟨S37376x3584, .f32⟩
  | 70 => ⟨S37376x3584, .f32⟩
  | 71 => ⟨S_, .f32⟩
  | 72 => ⟨S37376x3584, .f32⟩
  | 73 => ⟨S37376x3584, .f32⟩
  | 74 => ⟨S_, .f32⟩
  | 75 => ⟨S37376x3584, .f32⟩
  | 76 => ⟨S37376x3584, .f32⟩
  | 77 => ⟨S37376x3584, .f32⟩
  | 78 => ⟨S1x1024x3584, .f32⟩
  | 79 => ⟨S1024x3584, .f32⟩
  | 80 => ⟨S37376x3584, .f32⟩
  | 81 => ⟨S37376x3584, .f32⟩
  | 82 => ⟨S37376x1, .f32⟩
  | 83 => ⟨S1x3584x1024, .f32⟩
  | 84 => ⟨S3584x1024, .f32⟩
  | 85 => ⟨S37376x1024, .f32⟩
  | 86 => ⟨S37376x1024, .f32⟩
  | 87 => ⟨S37376x1024, .f32⟩
  | 88 => ⟨S37376x1024, .f32⟩
  | 89 => ⟨S1x1024x3584, .f32⟩
  | 90 => ⟨S1024x3584, .f32⟩
  | 91 => ⟨S37376x3584, .f32⟩
  | 92 => ⟨S37376x3584, .f32⟩
  | 93 => ⟨S37376x3584, .f32⟩
  | 94 => ⟨S_, .f32⟩
  | 95 => ⟨S37376x3584, .f32⟩
  | 96 => ⟨S37376x3584, .f32⟩
  | 97 => ⟨S_, .f32⟩
  | 98 => ⟨S37376x3584, .f32⟩
  | 99 => ⟨S37376x3584, .f32⟩
  | 100 => ⟨S37376x3584, .f32⟩
  | 101 => ⟨S1x1024x3584, .f32⟩
  | 102 => ⟨S1024x3584, .f32⟩
  | 103 => ⟨S37376x3584, .f32⟩
  | 104 => ⟨S37376x3584, .f32⟩
  | 105 => ⟨S37376x1, .f32⟩
  | 106 => ⟨S1x3584x1024, .f32⟩
  | 107 => ⟨S3584x1024, .f32⟩
  | 108 => ⟨S37376x1024, .f32⟩
  | 109 => ⟨S37376x1024, .f32⟩
  | 110 => ⟨S37376x1024, .f32⟩
  | 111 => ⟨S37376x1024, .f32⟩
  | 112 => ⟨S1x1024x3584, .f32⟩
  | 113 => ⟨S1024x3584, .f32⟩
  | 114 => ⟨S37376x3584, .f32⟩
  | 115 => ⟨S37376x3584, .f32⟩
  | 116 => ⟨S37376x3584, .f32⟩
  | 117 => ⟨S_, .f32⟩
  | 118 => ⟨S37376x3584, .f32⟩
  | 119 => ⟨S37376x3584, .f32⟩
  | 120 => ⟨S_, .f32⟩
  | 121 => ⟨S37376x3584, .f32⟩
  | 122 => ⟨S37376x3584, .f32⟩
  | 123 => ⟨S37376x3584, .f32⟩
  | 124 => ⟨S1x1024x3584, .f32⟩
  | 125 => ⟨S1024x3584, .f32⟩
  | 126 => ⟨S37376x3584, .f32⟩
  | 127 => ⟨S37376x3584, .f32⟩
  | _ => ⟨S73, .i32⟩

abbrev hbmTy0_1 (i : Nat) : BufTy := match i % 128 with
  | 0 => ⟨S37376x1, .f32⟩
  | 1 => ⟨S1x3584x1024, .f32⟩
  | 2 => ⟨S3584x1024, .f32⟩
  | 3 => ⟨S37376x1024, .f32⟩
  | 4 => ⟨S37376x1024, .f32⟩
  | 5 => ⟨S37376x1024, .f32⟩
  | 6 => ⟨S37376x1024, .f32⟩
  | 7 => ⟨S1x1024x3584, .f32⟩
  | 8 => ⟨S1024x3584, .f32⟩
  | 9 => ⟨S37376x3584, .f32⟩
  | 10 => ⟨S37376x3584, .f32⟩
  | 11 => ⟨S37376x3584, .f32⟩
  | 12 => ⟨S_, .f32⟩
  | 13 => ⟨S37376x3584, .f32⟩
  | 14 => ⟨S37376x3584, .f32⟩
  | 15 => ⟨S_, .f32⟩
  | 16 => ⟨S37376x3584, .f32⟩
  | 17 => ⟨S37376x3584, .f32⟩
  | 18 => ⟨S37376x3584, .f32⟩
  | 19 => ⟨S1x1024x3584, .f32⟩
  | 20 => ⟨S1024x3584, .f32⟩
  | 21 => ⟨S37376x3584, .f32⟩
  | 22 => ⟨S37376x3584, .f32⟩
  | 23 => ⟨S37376x1, .f32⟩
  | 24 => ⟨S1x3584x1024, .f32⟩
  | 25 => ⟨S3584x1024, .f32⟩
  | 26 => ⟨S37376x1024, .f32⟩
  | 27 => ⟨S37376x1024, .f32⟩
  | 28 => ⟨S37376x1024, .f32⟩
  | 29 => ⟨S37376x1024, .f32⟩
  | 30 => ⟨S1x1024x3584, .f32⟩
  | 31 => ⟨S1024x3584, .f32⟩
  | 32 => ⟨S37376x3584, .f32⟩
  | 33 => ⟨S37376x3584, .f32⟩
  | 34 => ⟨S37376x3584, .f32⟩
  | 35 => ⟨S_, .f32⟩
  | 36 => ⟨S37376x3584, .f32⟩
  | 37 => ⟨S37376x3584, .f32⟩
  | 38 => ⟨S_, .f32⟩
  | 39 => ⟨S37376x3584, .f32⟩
  | 40 => ⟨S37376x3584, .f32⟩
  | 41 => ⟨S37376x3584, .f32⟩
  | 42 => ⟨S1x1024x3584, .f32⟩
  | 43 => ⟨S1024x3584, .f32⟩
  | 44 => ⟨S37376x3584, .f32⟩
  | 45 => ⟨S37376x3584, .f32⟩
  | 46 => ⟨S37376x1, .f32⟩
  | 47 => ⟨S1x3584x1024, .f32⟩
  | 48 => ⟨S3584x1024, .f32⟩
  | 49 => ⟨S37376x1024, .f32⟩
  | 50 => ⟨S37376x1024, .f32⟩
  | 51 => ⟨S37376x1024, .f32⟩
  | 52 => ⟨S37376x1024, .f32⟩
  | 53 => ⟨S1x1024x3584, .f32⟩
  | 54 => ⟨S1024x3584, .f32⟩
  | 55 => ⟨S37376x3584, .f32⟩
  | 56 => ⟨S37376x3584, .f32⟩
  | 57 => ⟨S37376x3584, .f32⟩
  | 58 => ⟨S_, .f32⟩
  | 59 => ⟨S37376x3584, .f32⟩
  | 60 => ⟨S37376x3584, .f32⟩
  | 61 => ⟨S_, .f32⟩
  | 62 => ⟨S37376x3584, .f32⟩
  | 63 => ⟨S37376x3584, .f32⟩
  | 64 => ⟨S37376x3584, .f32⟩
  | 65 => ⟨S1x1024x3584, .f32⟩
  | 66 => ⟨S1024x3584, .f32⟩
  | 67 => ⟨S37376x3584, .f32⟩
  | 68 => ⟨S37376x3584, .f32⟩
  | 69 => ⟨S37376x1, .f32⟩
  | 70 => ⟨S1x3584x1024, .f32⟩
  | 71 => ⟨S3584x1024, .f32⟩
  | 72 => ⟨S37376x1024, .f32⟩
  | 73 => ⟨S37376x1024, .f32⟩
  | 74 => ⟨S37376x1024, .f32⟩
  | 75 => ⟨S37376x1024, .f32⟩
  | _ => ⟨S73, .i32⟩

abbrev hbmTy (i : Nat) : BufTy := match i / 128 with
  | 0 => hbmTy0_0 i
  | 1 => hbmTy0_1 i
  | _ => ⟨S73, .i32⟩

abbrev bufTy : (tb : Table) → Fin (tcTables nBuf tb) → BufTy
  | .hbm, ⟨i, _⟩ => hbmTy i
  | _, _ => ⟨S73, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call2_v0 : Ref sig .tc := ⟨.hbm, 46, rfl⟩
abbrev main_call2_v1 : Ref sig .tc := ⟨.hbm, 47, rfl⟩
abbrev main_call2_cst : Ref sig .tc := ⟨.hbm, 48, rfl⟩
abbrev main_call2_v2 : Ref sig .tc := ⟨.hbm, 49, rfl⟩
abbrev main_call2_v3 : Ref sig .tc := ⟨.hbm, 50, rfl⟩
abbrev main_call2_cst_0 : Ref sig .tc := ⟨.hbm, 51, rfl⟩
abbrev main_call2_v4 : Ref sig .tc := ⟨.hbm, 52, rfl⟩
abbrev main_call2_v5 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_call3_v0 : Ref sig .tc := ⟨.hbm, 69, rfl⟩
abbrev main_call3_v1 : Ref sig .tc := ⟨.hbm, 70, rfl⟩
abbrev main_call3_cst : Ref sig .tc := ⟨.hbm, 71, rfl⟩
abbrev main_call3_v2 : Ref sig .tc := ⟨.hbm, 72, rfl⟩
abbrev main_call3_v3 : Ref sig .tc := ⟨.hbm, 73, rfl⟩
abbrev main_call3_cst_0 : Ref sig .tc := ⟨.hbm, 74, rfl⟩
abbrev main_call3_v4 : Ref sig .tc := ⟨.hbm, 75, rfl⟩
abbrev main_call3_v5 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_call4_v0 : Ref sig .tc := ⟨.hbm, 92, rfl⟩
abbrev main_call4_v1 : Ref sig .tc := ⟨.hbm, 93, rfl⟩
abbrev main_call4_cst : Ref sig .tc := ⟨.hbm, 94, rfl⟩
abbrev main_call4_v2 : Ref sig .tc := ⟨.hbm, 95, rfl⟩
abbrev main_call4_v3 : Ref sig .tc := ⟨.hbm, 96, rfl⟩
abbrev main_call4_cst_0 : Ref sig .tc := ⟨.hbm, 97, rfl⟩
abbrev main_call4_v4 : Ref sig .tc := ⟨.hbm, 98, rfl⟩
abbrev main_call4_v5 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_call5_v0 : Ref sig .tc := ⟨.hbm, 115, rfl⟩
abbrev main_call5_v1 : Ref sig .tc := ⟨.hbm, 116, rfl⟩
abbrev main_call5_cst : Ref sig .tc := ⟨.hbm, 117, rfl⟩
abbrev main_call5_v2 : Ref sig .tc := ⟨.hbm, 118, rfl⟩
abbrev main_call5_v3 : Ref sig .tc := ⟨.hbm, 119, rfl⟩
abbrev main_call5_cst_0 : Ref sig .tc := ⟨.hbm, 120, rfl⟩
abbrev main_call5_v4 : Ref sig .tc := ⟨.hbm, 121, rfl⟩
abbrev main_call5_v5 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_call6_v0 : Ref sig .tc := ⟨.hbm, 138, rfl⟩
abbrev main_call6_v1 : Ref sig .tc := ⟨.hbm, 139, rfl⟩
abbrev main_call6_cst : Ref sig .tc := ⟨.hbm, 140, rfl⟩
abbrev main_call6_v2 : Ref sig .tc := ⟨.hbm, 141, rfl⟩
abbrev main_call6_v3 : Ref sig .tc := ⟨.hbm, 142, rfl⟩
abbrev main_call6_cst_0 : Ref sig .tc := ⟨.hbm, 143, rfl⟩
abbrev main_call6_v4 : Ref sig .tc := ⟨.hbm, 144, rfl⟩
abbrev main_call6_v5 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_call7_v0 : Ref sig .tc := ⟨.hbm, 161, rfl⟩
abbrev main_call7_v1 : Ref sig .tc := ⟨.hbm, 162, rfl⟩
abbrev main_call7_cst : Ref sig .tc := ⟨.hbm, 163, rfl⟩
abbrev main_call7_v2 : Ref sig .tc := ⟨.hbm, 164, rfl⟩
abbrev main_call7_v3 : Ref sig .tc := ⟨.hbm, 165, rfl⟩
abbrev main_call7_cst_0 : Ref sig .tc := ⟨.hbm, 166, rfl⟩
abbrev main_call7_v4 : Ref sig .tc := ⟨.hbm, 167, rfl⟩
abbrev main_call7_v5 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_call8_v0 : Ref sig .tc := ⟨.hbm, 184, rfl⟩
abbrev main_call8_v1 : Ref sig .tc := ⟨.hbm, 185, rfl⟩
abbrev main_call8_cst : Ref sig .tc := ⟨.hbm, 186, rfl⟩
abbrev main_call8_v2 : Ref sig .tc := ⟨.hbm, 187, rfl⟩
abbrev main_call8_v3 : Ref sig .tc := ⟨.hbm, 188, rfl⟩
abbrev main_call8_cst_0 : Ref sig .tc := ⟨.hbm, 189, rfl⟩
abbrev main_call8_v4 : Ref sig .tc := ⟨.hbm, 190, rfl⟩
abbrev main_call8_v5 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩

abbrev nD : Nat := 1
abbrev τ : Topo := Topo.v7x

variable {F : FTy → Type} [FloatOps F]
-- ==== Kernel2.lean ====
abbrev S8x2048x1024 : Shape := ⟨3, ![8, 2048, 1024]⟩
abbrev S32x4x1024 : Shape := ⟨3, ![32, 4, 1024]⟩
abbrev S32x3x768 : Shape := ⟨3, ![32, 3, 768]⟩
abbrev S32x2x512 : Shape := ⟨3, ![32, 2, 512]⟩
abbrev S1024 : Shape := ⟨1, ![1024]⟩
abbrev S1024x7200 : Shape := ⟨2, ![1024, 7200]⟩
abbrev S_ : Shape := ⟨0, ![]⟩
abbrev S32x8x1024 : Shape := ⟨3, ![32, 8, 1024]⟩
abbrev S256x1024 : Shape := ⟨2, ![256, 1024]⟩
abbrev S16384x1024 : Shape := ⟨2, ![16384, 1024]⟩
abbrev S16640x1024 : Shape := ⟨2, ![16640, 1024]⟩
abbrev S1024x24 : Shape := ⟨2, ![1024, 24]⟩
abbrev S1024x8 : Shape := ⟨2, ![1024, 8]⟩
abbrev S1024x96 : Shape := ⟨2, ![1024, 96]⟩
abbrev S1024x128 : Shape := ⟨2, ![1024, 128]⟩
abbrev S1024x512 : Shape := ⟨2, ![1024, 512]⟩
abbrev S1024x768 : Shape := ⟨2, ![1024, 768]⟩
abbrev S1024x3072 : Shape := ⟨2, ![1024, 3072]⟩
abbrev S1024x384 : Shape := ⟨2, ![1024, 384]⟩
abbrev S1024x7680 : Shape := ⟨2, ![1024, 7680]⟩
abbrev S1x1024 : Shape := ⟨2, ![1, 1024]⟩
abbrev S16640x7680 : Shape := ⟨2, ![16640, 7680]⟩
abbrev S1280x1024 : Shape := ⟨2, ![1280, 1024]⟩
abbrev S1024x1536 : Shape := ⟨2, ![1024, 1536]⟩
abbrev S1280x1536 : Shape := ⟨2, ![1280, 1536]⟩
abbrev S1280 : Shape := ⟨1, ![1280]⟩
abbrev S1280x1 : Shape := ⟨2, ![1280, 1]⟩
abbrev S256x7680 : Shape := ⟨2, ![256, 7680]⟩
abbrev S32x8x7680 : Shape := ⟨3, ![32, 8, 7680]⟩
abbrev S3x7680 : Shape := ⟨2, ![3, 7680]⟩
abbrev S1x3x7680 : Shape := ⟨3, ![1, 3, 7680]⟩
abbrev S8x3x7680 : Shape := ⟨3, ![8, 3, 7680]⟩
abbrev S8x3x768 : Shape := ⟨3, ![8, 3, 768]⟩
abbrev S32x4x768 : Shape := ⟨3, ![32, 4, 768]⟩
abbrev S32x7x768 : Shape := ⟨3, ![32, 7, 768]⟩
abbrev S8x2x7680 : Shape := ⟨3, ![8, 2, 7680]⟩
abbrev S8x2x512 : Shape := ⟨3, ![8, 2, 512]⟩
abbrev S32x4x512 : Shape := ⟨3, ![32, 4, 512]⟩
abbrev S32x6x512 : Shape := ⟨3, ![32, 6, 512]⟩
abbrev S16640x512 : Shape := ⟨2, ![16640, 512]⟩
abbrev S16640x768 : Shape := ⟨2, ![16640, 768]⟩
abbrev S16640x24 : Shape := ⟨2, ![16640, 24]⟩
abbrev S16640x8 : Shape := ⟨2, ![16640, 8]⟩
abbrev S16640x3072 : Shape := ⟨2, ![16640, 3072]⟩
abbrev S16640x7200 : Shape := ⟨2, ![16640, 7200]⟩
abbrev S16384x7200 : Shape := ⟨2, ![16384, 7200]⟩
abbrev S8x2048x7200 : Shape := ⟨3, ![8, 2048, 7200]⟩
abbrev S256x7200 : Shape := ⟨2, ![256, 7200]⟩
abbrev S32x8x7200 : Shape := ⟨3, ![32, 8, 7200]⟩
abbrev S32x4x7200 : Shape := ⟨3, ![32, 4, 7200]⟩

abbrev nBuf : Space → Nat
  | .hbm => 79
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S32x4x1024, .f32⟩
  | .hbm, ⟨2, _⟩ => ⟨S32x3x768, .f32⟩
  | .hbm, ⟨3, _⟩ => ⟨S32x2x512, .f32⟩
  | .hbm, ⟨4, _⟩ => ⟨S1024, .f32⟩
  | .hbm, ⟨5, _⟩ => ⟨S1024x7200, .f32⟩
  | .hbm, ⟨6, _⟩ => ⟨S_, .i32⟩
  | .hbm, ⟨7, _⟩ => ⟨S_, .f32⟩
  | .hbm, ⟨8, _⟩ => ⟨S32x8x1024, .f32⟩
  | .hbm, ⟨9, _⟩ => ⟨S256x1024, .f32⟩
  | .hbm, ⟨10, _⟩ => ⟨S16384x1024, .f32⟩
  | .hbm, ⟨11, _⟩ => ⟨S16640x1024, .f32⟩
  | .hbm, ⟨12, _⟩ => ⟨S1024x24, .f32⟩
  | .hbm, ⟨13, _⟩ => ⟨S1024x8, .f32⟩
  | .hbm, ⟨14, _⟩ => ⟨S_, .f32⟩
  | .hbm, ⟨15, _⟩ => ⟨S1024x96, .f32⟩
  | .hbm, ⟨16, _⟩ => ⟨S1024x128, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S1024x768, .f32⟩
  | .hbm, ⟨21, _⟩ => ⟨S1024x768, .f32⟩
  | .hbm, ⟨22, _⟩ => ⟨S1024x512, .f32⟩
  | .hbm, ⟨23, _⟩ => ⟨S1024x512, .f32⟩
  | .hbm, ⟨24, _⟩ => ⟨S1024x3072, .f32⟩
  | .hbm, ⟨25, _⟩ => ⟨S_, .f32⟩
  | .hbm, ⟨26, _⟩ => ⟨S1024x384, .f32⟩
  | .hbm, ⟨27, _⟩ => ⟨S1024x7680, .f32⟩
  | .hbm, ⟨28, _⟩ => ⟨S1024x7680, .bf16⟩
  | .hbm, ⟨29, _⟩ => ⟨S1x1024, .f32⟩
  | .hbm, ⟨30, _⟩ => ⟨S16640x7680, .f32⟩
  | .hbm, ⟨31, _⟩ => ⟨S256x7680, .f32⟩
  | .hbm, ⟨32, _⟩ => ⟨S32x8x7680, .f32⟩
  | .hbm, ⟨33, _⟩ => ⟨S3x7680, .f32⟩
  | .hbm, ⟨34, _⟩ => ⟨S3x7680, .f32⟩
  | .hbm, ⟨35, _⟩ => ⟨S3x7680, .f32⟩
  | .hbm, ⟨36, _⟩ => ⟨S3x7680, .f32⟩
  | .hbm, ⟨37, _⟩ => ⟨S3x7680, .f32⟩
  | .hbm, ⟨38, _⟩ => ⟨S3x7680, .f32⟩
  | .hbm, ⟨39, _⟩ => ⟨S3x7680, .f32⟩
  | .hbm, ⟨40, _⟩ => ⟨S3x7680, .f32⟩
  | .hbm, ⟨41, _⟩ => ⟨S1x3x7680, .f32⟩
  | .hbm, ⟨42, _⟩ => ⟨S1x3x7680, .f32⟩
  | .hbm, ⟨43, _⟩ => ⟨S1x3x7680, .f32⟩
  | .hbm, ⟨44, _⟩ => ⟨S1x3x7680, .f32⟩
  | .hbm, ⟨45, _⟩ => ⟨S1x3x7680, .f32⟩
  | .hbm, ⟨46, _⟩ => ⟨S1x3x7680, .f32⟩
  | .hbm, ⟨47, _⟩ => ⟨S1x3x7680, .f32⟩
  | .hbm, ⟨48, _⟩ => ⟨S1x3x7680, .f32⟩
  | .hbm, ⟨49, _⟩ => ⟨S8x3x7680, .f32⟩
  | .hbm, ⟨50, _⟩ => ⟨S8x3x768, .f32⟩
  | .hbm, ⟨51, _⟩ => ⟨S32x4x768, .f32⟩
  | .hbm, ⟨52, _⟩ => ⟨S32x7x768, .f32⟩
  | .hbm, ⟨53, _⟩ => ⟨S32x3x768, .f32⟩
  | .hbm, ⟨54, _⟩ => ⟨S8x2x7680, .f32⟩
  | .hbm, ⟨55, _⟩ => ⟨S8x2x512, .f32⟩
  | .hbm, ⟨56, _⟩ => ⟨S8x2x512, .f32⟩
  | .hbm, ⟨57, _⟩ => ⟨S8x2x512, .f32⟩
  | .hbm, ⟨58, _⟩ => ⟨S32x4x512, .f32⟩
  | .hbm, ⟨59, _⟩ => ⟨S32x4x512, .f32⟩
  | .hbm, ⟨60, _⟩ => ⟨S32x4x512, .f32⟩
  | .hbm, ⟨61, _⟩ => ⟨S32x6x512, .f32⟩
  | .hbm, ⟨62, _⟩ => ⟨S32x2x512, .f32⟩
  | .hbm, ⟨63, _⟩ => ⟨S16640x512, .f32⟩
  | .hbm, ⟨64, _⟩ => ⟨S16640x768, .f32⟩
  | .hbm, ⟨65, _⟩ => ⟨S16640x24, .f32⟩
  | .hbm, ⟨66, _⟩ => ⟨S16640x512, .f32⟩
  | .hbm, ⟨67, _⟩ => ⟨S16640x768, .f32⟩
  | .hbm, ⟨68, _⟩ => ⟨S16640x8, .f32⟩
  | .hbm, ⟨69, _⟩ => ⟨S16640x512, .f32⟩
  | .hbm, ⟨70, _⟩ => ⟨S16640x512, .f32⟩
  | .hbm, ⟨71, _⟩ => ⟨S16640x512, .f32⟩
  | .hbm, ⟨72, _⟩ => ⟨S16640x3072, .f32⟩
  | .hbm, ⟨73, _⟩ => ⟨S16640x7200, .f32⟩
  | .hbm, ⟨74, _⟩ => ⟨S16384x7200, .f32⟩
  | .hbm, ⟨75, _⟩ => ⟨S8x2048x7200, .f32⟩
  | .hbm, ⟨76, _⟩ => ⟨S256x7200, .f32⟩
  | .hbm, ⟨77, _⟩ => ⟨S32x8x7200, .f32⟩
  | .hbm, ⟨78, _⟩ => ⟨S32x4x7200, .f32⟩
  | .local _ .vmem, ⟨0, _⟩ => ⟨S1280x1024, .f32⟩
  | .local _ .vmem, ⟨1, _⟩ => ⟨S1280x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S1280x1536, .f32⟩
  | .local _ .vmem, ⟨6, _⟩ => ⟨S1280x1536, .f32⟩
  | .local _ .vmem, ⟨7, _⟩ => ⟨S1280x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![13, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1280x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8x2048x1024 : Shape := ⟨3, ![8, 2048, 1024]⟩
abbrev S32x4x1024 : Shape := ⟨3, ![32, 4, 1024]⟩
abbrev S32x3x768 : Shape := ⟨3, ![32, 3, 768]⟩
abbrev S32x2x512 : Shape := ⟨3, ![32, 2, 512]⟩
abbrev S1024 : Shape := ⟨1, ![1024]⟩
abbrev S1024x7200 : Shape := ⟨2, ![1024, 7200]⟩
abbrev S_ : Shape := ⟨0, ![]⟩
abbrev S8x3x768 : Shape := ⟨3, ![8, 3, 768]⟩
abbrev S8x2x512 : Shape := ⟨3, ![8, 2, 512]⟩
abbrev S8x2048 : Shape := ⟨2, ![8, 2048]⟩
abbrev S8x2048x1 : Shape := ⟨3, ![8, 2048, 1]⟩
abbrev S1x1x1024 : Shape := ⟨3, ![1, 1, 1024]⟩
abbrev S8x2048x7200 : Shape := ⟨3, ![8, 2048, 7200]⟩
abbrev S8x2048x512 : Shape := ⟨3, ![8, 2048, 512]⟩
abbrev S8x2048x768 : Shape := ⟨3, ![8, 2048, 768]⟩
abbrev S8x2048x24 : Shape := ⟨3, ![8, 2048, 24]⟩
abbrev S8x2048x8 : Shape := ⟨3, ![8, 2048, 8]⟩
abbrev S8x2048x3072 : Shape := ⟨3, ![8, 2048, 3072]⟩
abbrev S8x2051x768 : Shape := ⟨3, ![8, 2051, 768]⟩
abbrev S8x2050x512 : Shape := ⟨3, ![8, 2050, 512]⟩
abbrev S32x4 : Shape := ⟨2, ![32, 4]⟩
abbrev S32x4x1 : Shape := ⟨3, ![32, 4, 1]⟩
abbrev S32x4x7200 : Shape := ⟨3, ![32, 4, 7200]⟩
abbrev S32x4x512 : Shape := ⟨3, ![32, 4, 512]⟩
abbrev S32x4x768 : Shape := ⟨3, ![32, 4, 768]⟩
abbrev S32x4x24 : Shape := ⟨3, ![32, 4, 24]⟩
abbrev S32x4x8 : Shape := ⟨3, ![32, 4, 8]⟩
abbrev S32x4x3072 : Shape := ⟨3, ![32, 4, 3072]⟩
abbrev S32x7x768 : Shape := ⟨3, ![32, 7, 768]⟩
abbrev S32x6x512 : Shape := ⟨3, ![32, 6, 512]⟩

abbrev nBuf : Space → Nat
  | .hbm => 74
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S32x4x1024, .f32⟩
  | .hbm, ⟨2, _⟩ => ⟨S32x3x768, .f32⟩
  | .hbm, ⟨3, _⟩ => ⟨S32x2x512, .f32⟩
  | .hbm, ⟨4, _⟩ => ⟨S1024, .f32⟩
  | .hbm, ⟨5, _⟩ => ⟨S1024x7200, .f32⟩
  | .hbm, ⟨6, _⟩ => ⟨S_, .f32⟩
  | .hbm, ⟨7, _⟩ => ⟨S8x3x768, .f32⟩
  | .hbm, ⟨8, _⟩ => ⟨S_, .f32⟩
  | .hbm, ⟨9, _⟩ => ⟨S8x2x512, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S8x2048x7200, .f32⟩
  | .hbm, ⟨27, _⟩ => ⟨S8x2048x512, .f32⟩
  | .hbm, ⟨28, _⟩ => ⟨S8x2048x768, .f32⟩
  | .hbm, ⟨29, _⟩ => ⟨S8x2048x24, .f32⟩
  | .hbm, ⟨30, _⟩ => ⟨S8x2048x512, .f32⟩
  | .hbm, ⟨31, _⟩ => ⟨S8x2048x768, .f32⟩
  | .hbm, ⟨32, _⟩ => ⟨S8x2048x8, .f32⟩
  | .hbm, ⟨33, _⟩ => ⟨S8x2048x512, .f32⟩
  | .hbm, ⟨34, _⟩ => ⟨S8x2048x512, .f32⟩
  | .hbm, ⟨35, _⟩ => ⟨S8x2048x512, .f32⟩
  | .hbm, ⟨36, _⟩ => ⟨S8x2048x3072, .f32⟩
  | .hbm, ⟨37, _⟩ => ⟨S8x2051x768, .f32⟩
  | .hbm, ⟨38, _⟩ => ⟨S8x3x768, .f32⟩
  | .hbm, ⟨39, _⟩ => ⟨S8x2048x512, .f32⟩
  | .hbm, ⟨40, _⟩ => ⟨S8x2050x512, .f32⟩
  | .hbm, ⟨41, _⟩ => ⟨S8x2x512, .f32⟩
  | .hbm, ⟨42, _⟩ => ⟨S32x4x1024, .f32⟩
  | .hbm, ⟨43, _⟩ => ⟨S_, .f32⟩
  | .hbm, ⟨44, _⟩ => ⟨S32x4, .f32⟩
  | .hbm, ⟨45, _⟩ => ⟨S32x4x1, .f32⟩
  | .hbm, ⟨46, _⟩ => ⟨S_, .f32⟩
  | .hbm, ⟨47, _⟩ => ⟨S32x4x1, .f32⟩
  | .hbm, ⟨48, _⟩ => ⟨S32x4x1, .f32⟩
  | .hbm, ⟨49, _⟩ => ⟨S_, .f32⟩
  | .hbm, ⟨50, _⟩ => ⟨S32x4x1, .f32⟩
  | .hbm, ⟨51, _⟩ => ⟨S32x4x1, .f32⟩
  | .hbm, ⟨52, _⟩ => ⟨S32x4x1, .f32⟩
  | .hbm, ⟨53, _⟩ => ⟨S32x4x1024, .f32⟩
  | .hbm, ⟨54, _⟩ => ⟨S32x4x1024, .f32⟩
  | .hbm, ⟨55, _⟩ => ⟨S1x1x1024, .f32⟩
  | .hbm, ⟨56, _⟩ => ⟨S32x4x1024, .f32⟩
  | .hbm, ⟨57, _⟩ => ⟨S32x4x1024, .f32⟩
  | .hbm, ⟨58, _⟩ => ⟨S32x4x7200, .f32⟩
  | .hbm, ⟨59, _⟩ => ⟨S32x4x512, .f32⟩
  | .hbm, ⟨60, _⟩ => ⟨S32x4x768, .f32⟩
  | .hbm, ⟨61, _⟩ => ⟨S32x4x24, .f32⟩
  | .hbm, ⟨62, _⟩ => ⟨S32x4x512, .f32⟩
  | .hbm, ⟨63, _⟩ => ⟨S32x4x768, .f32⟩
  | .hbm, ⟨64, _⟩ => ⟨S32x4x8, .f32⟩
  | .hbm, ⟨65, _⟩ => ⟨S32x4x512, .f32⟩
  | .hbm, ⟨66, _⟩ => ⟨S32x4x512, .f32⟩
  | .hbm, ⟨67, _⟩ => ⟨S32x4x512, .f32⟩
  | .hbm, ⟨68, _⟩ => ⟨S32x4x3072, .f32⟩
  | .hbm, ⟨69, _⟩ => ⟨S32x7x768, .f32⟩
  | .hbm, ⟨70, _⟩ => ⟨S32x3x768, .f32⟩
  | .hbm, ⟨71, _⟩ => ⟨S32x4x512, .f32⟩
  | .hbm, ⟨72, _⟩ => ⟨S32x6x512, .f32⟩
  | .hbm, ⟨73, _⟩ => ⟨S32x2x512, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]
-- ==== Kernel3.lean ====
abbrev S256x7680 : Shape := ⟨2, ![256, 7680]⟩
abbrev S32x512x2x2x64 : Shape := ⟨5, ![32, 512, 2, 2, 64]⟩
abbrev S64 : Shape := ⟨1, ![64]⟩
abbrev S3x64 : Shape := ⟨2, ![3, 64]⟩
abbrev S8 : Shape := ⟨1, ![8]⟩
abbrev S_ : Shape := ⟨0, ![]⟩
abbrev S1x8 : Shape := ⟨2, ![1, 8]⟩
abbrev S32x8 : Shape := ⟨2, ![32, 8]⟩
abbrev S256 : Shape := ⟨1, ![256]⟩
abbrev S32 : Shape := ⟨1, ![32]⟩
abbrev S256x1 : Shape := ⟨2, ![256, 1]⟩
abbrev S1x32 : Shape := ⟨2, ![1, 32]⟩
abbrev S256x32 : Shape := ⟨2, ![256, 32]⟩
abbrev S256x128 : Shape := ⟨2, ![256, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x3x1x64 : Shape := ⟨4, ![1, 3, 1, 64]⟩
abbrev S1x3x2x64 : Shape := ⟨4, ![1, 3, 2, 64]⟩
abbrev S3x128 : Shape := ⟨2, ![3, 128]⟩
abbrev S8x128 : Shape := ⟨2, ![8, 128]⟩
abbrev S128x1 : Shape := ⟨2, ![128, 1]⟩
abbrev S128x128 : Shape := ⟨2, ![128, 128]⟩
abbrev S256x512 : Shape := ⟨2, ![256, 512]⟩
abbrev S256x256 : Shape := ⟨2, ![256, 256]⟩
abbrev S256x768 : Shape := ⟨2, ![256, 768]⟩
abbrev S32x8x512 : Shape := ⟨3, ![32, 8, 512]⟩
abbrev S32x8x256 : Shape := ⟨3, ![32, 8, 256]⟩
abbrev S32x512x256 : Shape := ⟨3, ![32, 512, 256]⟩
abbrev S32x4x256 : Shape := ⟨3, ![32, 4, 256]⟩
abbrev S32x516x256 : Shape := ⟨3, ![32, 516, 256]⟩
abbrev S32x4x512 : Shape := ⟨3, ![32, 4, 512]⟩
abbrev S32x4x4x2x64 : Shape := ⟨5, ![32, 4, 4, 2, 64]⟩

abbrev nBuf : Space → Nat
  | .hbm => 99
  | .vmem => 10
  | .smem => 0
  | _ => 0

abbrev bufTy : (tb : Table) → Fin (tcTables nBuf tb) → BufTy
  | .hbm, ⟨0, _⟩ => ⟨S256x7680, .f32⟩
  | .hbm, ⟨1, _⟩ => ⟨S32x512x2x2x64, .f32⟩
  | .hbm, ⟨2, _⟩ => ⟨S64, .f32⟩
  | .hbm, ⟨3, _⟩ => ⟨S3x64, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S1x8, .i32⟩
  | .hbm, ⟨9, _⟩ => ⟨S32x8, .i32⟩
  | .hbm, ⟨10, _⟩ => ⟨S256, .i32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S256, .f32⟩
  | .hbm, ⟨20, _⟩ => ⟨S256x1, .f32⟩
  | .hbm, ⟨21, _⟩ => ⟨S1x32, .f32⟩
  | .hbm, ⟨22, _⟩ => ⟨S256x32, .f32⟩
  | .hbm, ⟨23, _⟩ => ⟨S256x32, .f32⟩
  | .hbm, ⟨24, _⟩ => ⟨S256x32, .f32⟩
  | .hbm, ⟨25, _⟩ => ⟨S256x32, .f32⟩
  | .hbm, ⟨26, _⟩ => ⟨S256x32, .f32⟩
  | .hbm, ⟨27, _⟩ => ⟨S256x128, .f32⟩
  | .hbm, ⟨28, _⟩ => ⟨S256x32, .f32⟩
  | .hbm, ⟨29, _⟩ => ⟨S256x32, .f32⟩
  | .hbm, ⟨30, _⟩ => ⟨S256x128, .f32⟩
  | .hbm, ⟨31, _⟩ => ⟨S1x64, .f32⟩
  | .hbm, ⟨32, _⟩ => ⟨S2x64, .f32⟩
  | .hbm, ⟨33, _⟩ => ⟨S128, .f32⟩
  | .hbm, ⟨34, _⟩ => ⟨S1x128, .f32⟩
  | .hbm, ⟨35, _⟩ => ⟨S1x3x1x64, .f32⟩
  | .hbm, ⟨36, _⟩ => ⟨S1x3x2x64, .f32⟩
  | .hbm, ⟨37, _⟩ => ⟨S3x128, .f32⟩
  | .hbm, ⟨38, _⟩ => ⟨S_, .i32⟩
  | .hbm, ⟨39, _⟩ => ⟨S_, .f32⟩
  | .hbm, ⟨40, _⟩ => ⟨S8x128, .f32⟩
  | .hbm, ⟨41, _⟩ => ⟨S128, .i32⟩
  | .hbm, ⟨42, _⟩ => ⟨S128x1, .i32⟩
  | .hbm, ⟨43, _⟩ => ⟨S_, .i32⟩
  | .hbm, ⟨44, _⟩ => ⟨S_, .i32⟩
  | .hbm, ⟨45, _⟩ => ⟨S128x1, .i32⟩
  | .hbm, ⟨46, _⟩ => ⟨S128x1, .i32⟩
  | .hbm, ⟨47, _⟩ => ⟨S128x1, .i32⟩
  | .hbm, ⟨48, _⟩ => ⟨S_, .i32⟩
  | .hbm, ⟨49, _⟩ => ⟨S128x1, .i32⟩
  | .hbm, ⟨50, _⟩ => ⟨S128x1, .i1⟩
  | .hbm, ⟨51, _⟩ => ⟨S128x1, .i32⟩
  | .hbm, ⟨52, _⟩ => ⟨S128x1, .i32⟩
  | .hbm, ⟨53, _⟩ => ⟨S_, .i32⟩
  | .hbm, ⟨54, _⟩ => ⟨S128x1, .i32⟩
  | .hbm, ⟨55, _⟩ => ⟨S128x1, .i1⟩
  | .hbm, ⟨56, _⟩ => ⟨S128x1, .i1⟩
  | .hbm, ⟨57, _⟩ => ⟨S_, .i32⟩
  | .hbm, ⟨58, _⟩ => ⟨S128x1, .i32⟩
  | .hbm, ⟨59, _⟩ => ⟨S128x1, .i32⟩
  | .hbm, ⟨60, _⟩ => ⟨S128x1, .i32⟩
  | .hbm, ⟨61, _⟩ => ⟨S1x128, .i32⟩
  | .hbm, ⟨62, _⟩ => ⟨S_, .i32⟩
  | .hbm, ⟨63, _⟩ => ⟨S_, .i32⟩
  | .hbm, ⟨64, _⟩ => ⟨S1x128, .i32⟩
  | .hbm, ⟨65, _⟩ => ⟨S1x128, .i32⟩
  | .hbm, ⟨66, _⟩ => ⟨S1x128, .i32⟩
  | .hbm, ⟨67, _⟩ => ⟨S_, .i32⟩
  | .hbm, ⟨68, _⟩ => ⟨S1x128, .i32⟩
  | .hbm, ⟨69, _⟩ => ⟨S1x128, .i1⟩
  | .hbm, ⟨70, _⟩ => ⟨S1x128, .i32⟩
  | .hbm, ⟨71, _⟩ => ⟨S1x128, .i32⟩
  | .hbm, ⟨72, _⟩ => ⟨S_, .i32⟩
  | .hbm, ⟨73, _⟩ => ⟨S1x128, .i32⟩
  | .hbm, ⟨74, _⟩ => ⟨S1x128, .i1⟩
  | .hbm, ⟨75, _⟩ => ⟨S1x128, .i1⟩
  | .hbm, ⟨76, _⟩ => ⟨S_, .i32⟩
  | .hbm, ⟨77, _⟩ => ⟨S1x128, .i32⟩
  | .hbm, ⟨78, _⟩ => ⟨S1x128, .i32⟩
  | .hbm, ⟨79, _⟩ => ⟨S1x128, .i32⟩
  | .hbm, ⟨80, _⟩ => ⟨S128x128, .i32⟩
  | .hbm, ⟨81, _⟩ => ⟨S128x128, .i32⟩
  | .hbm, ⟨82, _⟩ => ⟨S128x128, .i1⟩
  | .hbm, ⟨83, _⟩ => ⟨S128x128, .f32⟩
  | .hbm, ⟨84, _⟩ => ⟨S_, .f32⟩
  | .hbm, ⟨85, _⟩ => ⟨S128x128, .f32⟩
  | .hbm, ⟨86, _⟩ => ⟨S128x128, .f32⟩
  | .hbm, ⟨87, _⟩ => ⟨S256x512, .bf16⟩
  | .hbm, ⟨88, _⟩ => ⟨S256x512, .f32⟩
  | .hbm, ⟨89, _⟩ => ⟨S256x256, .f32⟩
  | .hbm, ⟨90, _⟩ => ⟨S32x8x512, .f32⟩
  | .hbm, ⟨91, _⟩ => ⟨S32x8x256, .f32⟩
  | .hbm, ⟨92, _⟩ => ⟨S32x512x256, .f32⟩
  | .hbm, ⟨93, _⟩ => ⟨S32x4x256, .f32⟩
  | .hbm, ⟨94, _⟩ => ⟨S32x516x256, .f32⟩
  | .hbm, ⟨95, _⟩ => ⟨S32x4x512, .f32⟩
  | .hbm, ⟨96, _⟩ => ⟨S32x4x4x2x64, .f32⟩
  | .hbm, ⟨97, _⟩ => ⟨S32x512x256, .f32⟩
  | .hbm, ⟨98, _⟩ => ⟨S32x512x2x2x64, .f32⟩
  | .local _ .vmem, ⟨0, _⟩ => ⟨S256x512, .f32⟩
  | .local _ .vmem, ⟨1, _⟩ => ⟨S256x768, .f32⟩
  | .local _ .vmem, ⟨2, _⟩ => ⟨S256x128, .f32⟩
  | .local _ .vmem, ⟨3, _⟩ => ⟨S256x128, .f32⟩
  | .local _ .vmem, ⟨4, _⟩ => ⟨S1x128, .f32⟩
  | .local _ .vmem, ⟨5, _⟩ => ⟨S8x128, .f32⟩
  | .local _ .vmem, ⟨6, _⟩ => ⟨S128x128, .f32⟩
  | .local _ .vmem, ⟨7, _⟩ => ⟨S256x512, .bf16⟩
  | .local _ .vmem, ⟨8, _⟩ => ⟨S256x512, .f32⟩
  | .local _ .vmem, ⟨9, _⟩ => ⟨S256x256, .f32⟩
  | _, _ => ⟨S256x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_1 : Ref sig .tc := ⟨.hbm, 38, rfl⟩
abbrev main_call0_v0 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_2 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_c : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_0 : Ref sig .tc := ⟨.hbm, 57, rfl⟩
abbrev main_call1_v12 : Ref sig .tc := ⟨.hbm, 58, rfl⟩
abbrev main_call1_v13 : Ref sig .tc := ⟨.hbm, 59, rfl⟩
abbrev main_v34 : Ref sig .tc := ⟨.hbm, 60, rfl⟩
abbrev main_v35 : Ref sig .tc := ⟨.hbm, 61, rfl⟩
abbrev main_c_3 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_c : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_0 : Ref sig .tc := ⟨.hbm, 76, rfl⟩
abbrev main_call2_v12 : Ref sig .tc := ⟨.hbm, 77, rfl⟩
abbrev main_call2_v13 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_cst_4 : Ref sig .tc := ⟨.hbm, 84, rfl⟩
abbrev main_v41 : Ref sig .tc := ⟨.hbm, 85, rfl⟩
abbrev main_v42 : Ref sig .tc := ⟨.hbm, 86, rfl⟩
abbrev main_v43_0 : Ref sig .tc := ⟨.hbm, 87, rfl⟩
abbrev main_v43_1 : Ref sig .tc := ⟨.hbm, 88, rfl⟩
abbrev main_v43_2 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference3Ideal.lean ====
abbrev S256x7680 : Shape := ⟨2, ![256, 7680]⟩
abbrev S32x512x2x2x64 : Shape := ⟨5, ![32, 512, 2, 2, 64]⟩
abbrev S64 : Shape := ⟨1, ![64]⟩
abbrev S3x64 : Shape := ⟨2, ![3, 64]⟩
abbrev S256x768 : Shape := ⟨2, ![256, 768]⟩
abbrev S32x8x768 : Shape := ⟨3, ![32, 8, 768]⟩
abbrev S32x4x768 : Shape := ⟨3, ![32, 4, 768]⟩
abbrev S4 : Shape := ⟨1, ![4]⟩
abbrev S_ : Shape := ⟨0, ![]⟩
abbrev S32x4x3x2x2x64 : Shape := ⟨6, ![32, 4, 3, 2, 2, 64]⟩
abbrev S32x4x3x1x2x64 : Shape := ⟨6, ![32, 4, 3, 1, 2, 64]⟩
abbrev S32x4x3x2x64 : Shape := ⟨5, ![32, 4, 3, 2, 64]⟩
abbrev S3x1x64 : Shape := ⟨3, ![3, 1, 64]⟩
abbrev S32x4x3x2 : Shape := ⟨4, ![32, 4, 3, 2]⟩
abbrev S32x4x3x2x1 : Shape := ⟨5, ![32, 4, 3, 2, 1]⟩
abbrev S1x1x3x1x64 : Shape := ⟨5, ![1, 1, 3, 1, 64]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S1x4x1x1x32 : Shape := ⟨5, ![1, 4, 1, 1, 32]⟩
abbrev S32x4x3x2x32 : Shape := ⟨5, ![32, 4, 3, 2, 32]⟩
abbrev S32x4x2x2x2x64 : Shape := ⟨6, ![32, 4, 2, 2, 2, 64]⟩
abbrev S32x4x4x2x64 : Shape := ⟨5, ![32, 4, 4, 2, 64]⟩
abbrev S32x4x1x2x2x64 : Shape := ⟨6, ![32, 4, 1, 2, 2, 64]⟩
abbrev S32x4x2x2x64 : Shape := ⟨5, ![32, 4, 2, 2, 64]⟩
abbrev S32x516x2x2x64 : Shape := ⟨5, ![32, 516, 2, 2, 64]⟩

abbrev nBuf : Space → Nat
  | .hbm => 73
  | .vmem => 0
  | .smem => 0
  | _ => 0

abbrev bufTy : (tb : Table) → Fin (tcTables nBuf tb) → BufTy
  | .hbm, ⟨0, _⟩ => ⟨S256x7680, .f32⟩
  | .hbm, ⟨1, _⟩ => ⟨S32x512x2x2x64, .f32⟩
  | .hbm, ⟨2, _⟩ => ⟨S64, .f32⟩
  | .hbm, ⟨3, _⟩ => ⟨S3x64, .f32⟩
  | .hbm, ⟨4, _⟩ => ⟨S256x768, .f32⟩
  | .hbm, ⟨5, _⟩ => ⟨S32x8x768, .f32⟩
  | .hbm, ⟨6, _⟩ => ⟨S32x4x768, .f32⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S32x4x3x2x2x64, .f32⟩
  | .hbm, ⟨12, _⟩ => ⟨S32x4x3x1x2x64, .f32⟩
  | .hbm, ⟨13, _⟩ => ⟨S32x4x3x2x64, .f32⟩
  | .hbm, ⟨14, _⟩ => ⟨S3x1x64, .f32⟩
  | .hbm, ⟨15, _⟩ => ⟨S32x4x3x2x64, .f32⟩
  | .hbm, ⟨16, _⟩ => ⟨S_, .f32⟩
  | .hbm, ⟨17, _⟩ => ⟨S32x4x3x2, .f32⟩
  | .hbm, ⟨18, _⟩ => ⟨S32x4x3x2x1, .f32⟩
  | .hbm, ⟨19, _⟩ => ⟨S_, .f32⟩
  | .hbm, ⟨20, _⟩ => ⟨S32x4x3x2x1, .f32⟩
  | .hbm, ⟨21, _⟩ => ⟨S32x4x3x2x1, .f32⟩
  | .hbm, ⟨22, _⟩ => ⟨S_, .f32⟩
  | .hbm, ⟨23, _⟩ => ⟨S32x4x3x2x1, .f32⟩
  | .hbm, ⟨24, _⟩ => ⟨S32x4x3x2x1, .f32⟩
  | .hbm, ⟨25, _⟩ => ⟨S32x4x3x2x1, .f32⟩
  | .hbm, ⟨26, _⟩ => ⟨S32x4x3x2x64, .f32⟩
  | .hbm, ⟨27, _⟩ => ⟨S32x4x3x2x64, .f32⟩
  | .hbm, ⟨28, _⟩ => ⟨S1x1x3x1x64, .f32⟩
  | .hbm, ⟨29, _⟩ => ⟨S32x4x3x2x64, .f32⟩
  | .hbm, ⟨30, _⟩ => ⟨S32x4x3x2x64, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S32, .f32⟩
  | .hbm, ⟨39, _⟩ => ⟨S4, .f32⟩
  | .hbm, ⟨40, _⟩ => ⟨S4x1, .f32⟩
  | .hbm, ⟨41, _⟩ => ⟨S1x32, .f32⟩
  | .hbm, ⟨42, _⟩ => ⟨S4x32, .f32⟩
  | .hbm, ⟨43, _⟩ => ⟨S4x32, .f32⟩
  | .hbm, ⟨44, _⟩ => ⟨S4x32, .f32⟩
  | .hbm, ⟨45, _⟩ => ⟨S4x32, .f32⟩
  | .hbm, ⟨46, _⟩ => ⟨S1x4x1x1x32, .f32⟩
  | .hbm, ⟨47, _⟩ => ⟨S4x32, .f32⟩
  | .hbm, ⟨48, _⟩ => ⟨S1x4x1x1x32, .f32⟩
  | .hbm, ⟨49, _⟩ => ⟨S32x4x3x2x32, .f32⟩
  | .hbm, ⟨50, _⟩ => ⟨S32x4x3x2x32, .f32⟩
  | .hbm, ⟨51, _⟩ => ⟨S32x4x3x2x32, .f32⟩
  | .hbm, ⟨52, _⟩ => ⟨S32x4x3x2x32, .f32⟩
  | .hbm, ⟨53, _⟩ => ⟨S32x4x3x2x32, .f32⟩
  | .hbm, ⟨54, _⟩ => ⟨S32x4x3x2x32, .f32⟩
  | .hbm, ⟨55, _⟩ => ⟨S32x4x3x2x32, .f32⟩
  | .hbm, ⟨56, _⟩ => ⟨S32x4x3x2x32, .f32⟩
  | .hbm, ⟨57, _⟩ => ⟨S32x4x3x2x32, .f32⟩
  | .hbm, ⟨58, _⟩ => ⟨S32x4x3x2x32, .f32⟩
  | .hbm, ⟨59, _⟩ => ⟨S32x4x3x2x32, .f32⟩
  | .hbm, ⟨60, _⟩ => ⟨S32x4x3x2x32, .f32⟩
  | .hbm, ⟨61, _⟩ => ⟨S32x4x3x2x64, .f32⟩
  | .hbm, ⟨62, _⟩ => ⟨S32x4x3x1x2x64, .f32⟩
  | .hbm, ⟨63, _⟩ => ⟨S32x4x3x2x64, .f32⟩
  | .hbm, ⟨64, _⟩ => ⟨S32x4x3x1x2x64, .f32⟩
  | .hbm, ⟨65, _⟩ => ⟨S32x4x3x1x2x64, .f32⟩
  | .hbm, ⟨66, _⟩ => ⟨S32x4x3x2x2x64, .f32⟩
  | .hbm, ⟨67, _⟩ => ⟨S32x4x2x2x2x64, .f32⟩
  | .hbm, ⟨68, _⟩ => ⟨S32x4x4x2x64, .f32⟩
  | .hbm, ⟨69, _⟩ => ⟨S32x4x1x2x2x64, .f32⟩
  | .hbm, ⟨70, _⟩ => ⟨S32x4x2x2x64, .f32⟩
  | .hbm, ⟨71, _⟩ => ⟨S32x516x2x2x64, .f32⟩
  | .hbm, ⟨72, _⟩ => ⟨S32x512x2x2x64, .f32⟩
  | _, _ => ⟨S256x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩

abbrev nD : Nat := 1
abbrev τ : Topo := Topo.v7x

variable {F : FTy → Type} [FloatOps F]
-- ==== Kernel4.lean ====
abbrev S16640x7680 : Shape := ⟨2, ![16640, 7680]⟩
abbrev S64 : Shape := ⟨1, ![64]⟩
abbrev S3x64 : Shape := ⟨2, ![3, 64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x3x1x64 : Shape := ⟨4, ![1, 3, 1, 64]⟩
abbrev S1x3x2x64 : Shape := ⟨4, ![1, 3, 2, 64]⟩
abbrev S3x128 : Shape := ⟨2, ![3, 128]⟩
abbrev S8x128 : Shape := ⟨2, ![8, 128]⟩
abbrev S128x1 : Shape := ⟨2, ![128, 1]⟩
abbrev S128x128 : Shape := ⟨2, ![128, 128]⟩
abbrev S16384x512 : Shape := ⟨2, ![16384, 512]⟩
abbrev S16384x256 : Shape := ⟨2, ![16384, 256]⟩
abbrev S16384x128 : Shape := ⟨2, ![16384, 128]⟩
abbrev S8x16x128x128 : Shape := ⟨4, ![8, 16, 128, 128]⟩
abbrev S8x512x2048 : Shape := ⟨3, ![8, 512, 2048]⟩
abbrev S8x256x2048 : Shape := ⟨3, ![8, 256, 2048]⟩
abbrev S512x512 : Shape := ⟨2, ![512, 512]⟩
abbrev S512x768 : Shape := ⟨2, ![512, 768]⟩
abbrev S512x128 : Shape := ⟨2, ![512, 128]⟩
abbrev S512x256 : Shape := ⟨2, ![512, 256]⟩
abbrev S1x4x128x128 : Shape := ⟨4, ![1, 4, 128, 128]⟩
abbrev S1x512x512 : Shape := ⟨3, ![1, 512, 512]⟩
abbrev S1x256x512 : Shape := ⟨3, ![1, 256, 512]⟩
abbrev S128x512 : Shape := ⟨2, ![128, 512]⟩
abbrev S1x128x512 : Shape := ⟨3, ![1, 128, 512]⟩
abbrev S1x1x128x128 : Shape := ⟨4, ![1, 1, 128, 128]⟩
abbrev S8x4x2x64x2048 : Shape := ⟨5, ![8, 4, 2, 64, 2048]⟩
abbrev S8x2048x4x2x64 : Shape := ⟨5, ![8, 2048, 4, 2, 64]⟩
abbrev S8x256x512 : Shape := ⟨3, ![8, 256, 512]⟩
abbrev S8x2x2x64x512 : Shape := ⟨5, ![8, 2, 2, 64, 512]⟩
abbrev S8x512x2x2x64 : Shape := ⟨5, ![8, 512, 2, 2, 64]⟩

abbrev nBuf : Space → Nat
  | .hbm => 93
  | .vmem => 27
  | .smem => 0
  | _ => 0

abbrev bufTy : (tb : Table) → Fin (tcTables nBuf tb) → BufTy
  | .hbm, ⟨0, _⟩ => ⟨S16640x7680, .f32⟩
  | .hbm, ⟨1, _⟩ => ⟨S64, .f32⟩
  | .hbm, ⟨2, _⟩ => ⟨S3x64, .f32⟩
  | .hbm, ⟨3, _⟩ => ⟨S2048, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S2048, .f32⟩
  | .hbm, ⟨13, _⟩ => ⟨S2048x1, .f32⟩
  | .hbm, ⟨14, _⟩ => ⟨S1x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x128, .f32⟩
  | .hbm, ⟨21, _⟩ => ⟨S2048x32, .f32⟩
  | .hbm, ⟨22, _⟩ => ⟨S2048x32, .f32⟩
  | .hbm, ⟨23, _⟩ => ⟨S2048x128, .f32⟩
  | .hbm, ⟨24, _⟩ => ⟨S1x64, .f32⟩
  | .hbm, ⟨25, _⟩ => ⟨S2x64, .f32⟩
  | .hbm, ⟨26, _⟩ => ⟨S128, .f32⟩
  | .hbm, ⟨27, _⟩ => ⟨S1x128, .f32⟩
  | .hbm, ⟨28, _⟩ => ⟨S1x3x1x64, .f32⟩
  | .hbm, ⟨29, _⟩ => ⟨S1x3x2x64, .f32⟩
  | .hbm, ⟨30, _⟩ => ⟨S3x128, .f32⟩
  | .hbm, ⟨31, _⟩ => ⟨S_, .i32⟩
  | .hbm, ⟨32, _⟩ => ⟨S_, .f32⟩
  | .hbm, ⟨33, _⟩ => ⟨S8x128, .f32⟩
  | .hbm, ⟨34, _⟩ => ⟨S128, .i32⟩
  | .hbm, ⟨35, _⟩ => ⟨S128x1, .i32⟩
  | .hbm, ⟨36, _⟩ => ⟨S_, .i32⟩
  | .hbm, ⟨37, _⟩ => ⟨S_, .i32⟩
  | .hbm, ⟨38, _⟩ => ⟨S128x1, .i32⟩
  | .hbm, ⟨39, _⟩ => ⟨S128x1, .i32⟩
  | .hbm, ⟨40, _⟩ => ⟨S128x1, .i32⟩
  | .hbm, ⟨41, _⟩ => ⟨S_, .i32⟩
  | .hbm, ⟨42, _⟩ => ⟨S128x1, .i32⟩
  | .hbm, ⟨43, _⟩ => ⟨S128x1, .i1⟩
  | .hbm, ⟨44, _⟩ => ⟨S128x1, .i32⟩
  | .hbm, ⟨45, _⟩ => ⟨S128x1, .i32⟩
  | .hbm, ⟨46, _⟩ => ⟨S_, .i32⟩
  | .hbm, ⟨47, _⟩ => ⟨S128x1, .i32⟩
  | .hbm, ⟨48, _⟩ => ⟨S128x1, .i1⟩
  | .hbm, ⟨49, _⟩ => ⟨S128x1, .i1⟩
  | .hbm, ⟨50, _⟩ => ⟨S_, .i32⟩
  | .hbm, ⟨51, _⟩ => ⟨S128x1, .i32⟩
  | .hbm, ⟨52, _⟩ => ⟨S128x1, .i32⟩
  | .hbm, ⟨53, _⟩ => ⟨S128x1, .i32⟩
  | .hbm, ⟨54, _⟩ => ⟨S1x128, .i32⟩
  | .hbm, ⟨55, _⟩ => ⟨S_, .i32⟩
  | .hbm, ⟨56, _⟩ => ⟨S_, .i32⟩
  | .hbm, ⟨57, _⟩ => ⟨S1x128, .i32⟩
  | .hbm, ⟨58, _⟩ => ⟨S1x128, .i32⟩
  | .hbm, ⟨59, _⟩ => ⟨S1x128, .i32⟩
  | .hbm, ⟨60, _⟩ => ⟨S_, .i32⟩
  | .hbm, ⟨61, _⟩ => ⟨S1x128, .i32⟩
  | .hbm, ⟨62, _⟩ => ⟨S1x128, .i1⟩
  | .hbm, ⟨63, _⟩ => ⟨S1x128, .i32⟩
  | .hbm, ⟨64, _⟩ => ⟨S1x128, .i32⟩
  | .hbm, ⟨65, _⟩ => ⟨S_, .i32⟩
  | .hbm, ⟨66, _⟩ => ⟨S1x128, .i32⟩
  | .hbm, ⟨67, _⟩ => ⟨S1x128, .i1⟩
  | .hbm, ⟨68, _⟩ => ⟨S1x128, .i1⟩
  | .hbm, ⟨69, _⟩ => ⟨S_, .i32⟩
  | .hbm, ⟨70, _⟩ => ⟨S1x128, .i32⟩
  | .hbm, ⟨71, _⟩ => ⟨S1x128, .i32⟩
  | .hbm, ⟨72, _⟩ => ⟨S1x128, .i32⟩
  | .hbm, ⟨73, _⟩ => ⟨S128x128, .i32⟩
  | .hbm, ⟨74, _⟩ => ⟨S128x128, .i32⟩
  | .hbm, ⟨75, _⟩ => ⟨S128x128, .i1⟩
  | .hbm, ⟨76, _⟩ => ⟨S128x128, .f32⟩
  | .hbm, ⟨77, _⟩ => ⟨S_, .f32⟩
  | .hbm, ⟨78, _⟩ => ⟨S128x128, .f32⟩
  | .hbm, ⟨79, _⟩ => ⟨S128x128, .f32⟩
  | .hbm, ⟨80, _⟩ => ⟨S16384x512, .bf16⟩
  | .hbm, ⟨81, _⟩ => ⟨S16384x256, .f32⟩
  | .hbm, ⟨82, _⟩ => ⟨S16384x128, .bf16⟩
  | .hbm, ⟨83, _⟩ => ⟨S16384x128, .bf16⟩
  | .hbm, ⟨84, _⟩ => ⟨S8x16x128x128, .bf16⟩
  | .hbm, ⟨85, _⟩ => ⟨S8x16x128x128, .bf16⟩
  | .hbm, ⟨86, _⟩ => ⟨S8x512x2048, .f32⟩
  | .hbm, ⟨87, _⟩ => ⟨S8x256x2048, .f32⟩
  | .hbm, ⟨88, _⟩ => ⟨S8x4x2x64x2048, .f32⟩
  | .hbm, ⟨89, _⟩ => ⟨S8x2048x4x2x64, .f32⟩
  | .hbm, ⟨90, _⟩ => ⟨S8x256x512, .f32⟩
  | .hbm, ⟨91, _⟩ => ⟨S8x2x2x64x512, .f32⟩
  | .hbm, ⟨92, _⟩ => ⟨S8x512x2x2x64, .f32⟩
  | .local _ .vmem, ⟨0, _⟩ => ⟨S512x512, .f32⟩
  | .local _ .vmem, ⟨1, _⟩ => ⟨S512x512, .f32⟩
  | .local _ .vmem, ⟨2, _⟩ => ⟨S512x768, .f32⟩
  | .local _ .vmem, ⟨3, _⟩ => ⟨S512x768, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x128, .f32⟩
  | .local _ .vmem, ⟨9, _⟩ => ⟨S8x128, .f32⟩
  | .local _ .vmem, ⟨10, _⟩ => ⟨S128x128, .f32⟩
  | .local _ .vmem, ⟨11, _⟩ => ⟨S512x512, .bf16⟩
  | .local _ .vmem, ⟨12, _⟩ => ⟨S512x512, .bf16⟩
  | .local _ .vmem, ⟨13, _⟩ => ⟨S512x256, .f32⟩
  | .local _ .vmem, ⟨14, _⟩ => ⟨S512x256, .f32⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S1x4x128x128, .bf16⟩
  | .local _ .vmem, ⟨20, _⟩ => ⟨S1x4x128x128, .bf16⟩
  | .local _ .vmem, ⟨21, _⟩ => ⟨S1x4x128x128, .bf16⟩
  | .local _ .vmem, ⟨22, _⟩ => ⟨S1x4x128x128, .bf16⟩
  | .local _ .vmem, ⟨23, _⟩ => ⟨S1x512x512, .f32⟩
  | .local _ .vmem, ⟨24, _⟩ => ⟨S1x512x512, .f32⟩
  | .local _ .vmem, ⟨25, _⟩ => ⟨S1x256x512, .f32⟩
  | .local _ .vmem, ⟨26, _⟩ => ⟨S1x256x512, .f32⟩
  | _, _ => ⟨S16640x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_c : Ref sig .tc := ⟨.hbm, 31, rfl⟩
abbrev main_call0_v0 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_1 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v29 : Ref sig .tc := ⟨.hbm, 53, rfl⟩
abbrev main_v30 : Ref sig .tc := ⟨.hbm, 54, rfl⟩
abbrev main_c_2 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_c : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_0 : Ref sig .tc := ⟨.hbm, 69, rfl⟩
abbrev main_call2_v12 : Ref sig .tc := ⟨.hbm, 70, rfl⟩
abbrev main_call2_v13 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_3 : Ref sig .tc := ⟨.hbm, 77, rfl⟩
abbrev main_v36 : Ref sig .tc := ⟨.hbm, 78, rfl⟩
abbrev main_v37 : Ref sig .tc := ⟨.hbm, 79, rfl⟩
abbrev main_v38_0 : Ref sig .tc := ⟨.hbm, 80, rfl⟩
abbrev main_v38_1 : Ref sig .tc := ⟨.hbm, 81, rfl⟩
abbrev main_v38_2 : Ref sig .tc := ⟨.hbm, 82, rfl⟩
abbrev main_v38_3 : Ref sig .tc := ⟨.hbm, 83, rfl⟩
abbrev main_v38_4 : Ref sig .tc := ⟨.hbm, 84, rfl⟩
abbrev main_v38_5 : Ref sig .tc := ⟨.hbm, 85, rfl⟩
abbrev main_v38_6 : Ref sig .tc := ⟨.hbm, 86, rfl⟩
abbrev main_v38_7 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x128x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S16640x7680 : Shape := ⟨2, ![16640, 7680]⟩
abbrev S64 : Shape := ⟨1, ![64]⟩
abbrev S3x64 : Shape := ⟨2, ![3, 64]⟩
abbrev S16384x768 : Shape := ⟨2, ![16384, 768]⟩
abbrev S8x2048x768 : Shape := ⟨3, ![8, 2048, 768]⟩
abbrev S_ : Shape := ⟨0, ![]⟩
abbrev S8x0x2x2x64 : Shape := ⟨5, ![8, 0, 2, 2, 64]⟩
abbrev S2048 : Shape := ⟨1, ![2048]⟩
abbrev S8x2048x3x2x2x64 : Shape := ⟨6, ![8, 2048, 3, 2, 2, 64]⟩
abbrev S8x2048x3x1x2x64 : Shape := ⟨6, ![8, 2048, 3, 1, 2, 64]⟩
abbrev S8x2048x3x2x64 : Shape := ⟨5, ![8, 2048, 3, 2, 64]⟩
abbrev S3x1x64 : Shape := ⟨3, ![3, 1, 64]⟩
abbrev S8x2048x3x2 : Shape := ⟨4, ![8, 2048, 3, 2]⟩
abbrev S8x2048x3x2x1 : Shape := ⟨5, ![8, 2048, 3, 2, 1]⟩
abbrev S1x1x3x1x64 : Shape := ⟨5, ![1, 1, 3, 1, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x1x32 : Shape := ⟨5, ![1, 2048, 1, 1, 32]⟩
abbrev S8x2048x3x2x32 : Shape := ⟨5, ![8, 2048, 3, 2, 32]⟩
abbrev S8x2048x2x2x2x64 : Shape := ⟨6, ![8, 2048, 2, 2, 2, 64]⟩
abbrev S8x2048x4x2x64 : Shape := ⟨5, ![8, 2048, 4, 2, 64]⟩
abbrev S8x2048x1x2x2x64 : Shape := ⟨6, ![8, 2048, 1, 2, 2, 64]⟩
abbrev S8x2048x2x2x64 : Shape := ⟨5, ![8, 2048, 2, 2, 64]⟩
abbrev S8x512x2x2x64 : Shape := ⟨5, ![8, 512, 2, 2, 64]⟩

abbrev nBuf : Space → Nat
  | .hbm => 73
  | .vmem => 0
  | .smem => 0
  | _ => 0

abbrev bufTy : (tb : Table) → Fin (tcTables nBuf tb) → BufTy
  | .hbm, ⟨0, _⟩ => ⟨S16640x7680, .f32⟩
  | .hbm, ⟨1, _⟩ => ⟨S64, .f32⟩
  | .hbm, ⟨2, _⟩ => ⟨S3x64, .f32⟩
  | .hbm, ⟨3, _⟩ => ⟨S16384x768, .f32⟩
  | .hbm, ⟨4, _⟩ => ⟨S8x2048x768, .f32⟩
  | .hbm, ⟨5, _⟩ => ⟨S_, .f32⟩
  | .hbm, ⟨6, _⟩ => ⟨S8x0x2x2x64, .f32⟩
  | .hbm, ⟨7, _⟩ => ⟨S2048, .i32⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S8x2048x3x2x2x64, .f32⟩
  | .hbm, ⟨12, _⟩ => ⟨S8x2048x3x1x2x64, .f32⟩
  | .hbm, ⟨13, _⟩ => ⟨S8x2048x3x2x64, .f32⟩
  | .hbm, ⟨14, _⟩ => ⟨S3x1x64, .f32⟩
  | .hbm, ⟨15, _⟩ => ⟨S8x2048x3x2x64, .f32⟩
  | .hbm, ⟨16, _⟩ => ⟨S_, .f32⟩
  | .hbm, ⟨17, _⟩ => ⟨S8x2048x3x2, .f32⟩
  | .hbm, ⟨18, _⟩ => ⟨S8x2048x3x2x1, .f32⟩
  | .hbm, ⟨19, _⟩ => ⟨S_, .f32⟩
  | .hbm, ⟨20, _⟩ => ⟨S8x2048x3x2x1, .f32⟩
  | .hbm, ⟨21, _⟩ => ⟨S8x2048x3x2x1, .f32⟩
  | .hbm, ⟨22, _⟩ => ⟨S_, .f32⟩
  | .hbm, ⟨23, _⟩ => ⟨S8x2048x3x2x1, .f32⟩
  | .hbm, ⟨24, _⟩ => ⟨S8x2048x3x2x1, .f32⟩
  | .hbm, ⟨25, _⟩ => ⟨S8x2048x3x2x1, .f32⟩
  | .hbm, ⟨26, _⟩ => ⟨S8x2048x3x2x64, .f32⟩
  | .hbm, ⟨27, _⟩ => ⟨S8x2048x3x2x64, .f32⟩
  | .hbm, ⟨28, _⟩ => ⟨S1x1x3x1x64, .f32⟩
  | .hbm, ⟨29, _⟩ => ⟨S8x2048x3x2x64, .f32⟩
  | .hbm, ⟨30, _⟩ => ⟨S8x2048x3x2x64, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S32, .f32⟩
  | .hbm, ⟨39, _⟩ => ⟨S2048, .f32⟩
  | .hbm, ⟨40, _⟩ => ⟨S2048x1, .f32⟩
  | .hbm, ⟨41, _⟩ => ⟨S1x32, .f32⟩
  | .hbm, ⟨42, _⟩ => ⟨S2048x32, .f32⟩
  | .hbm, ⟨43, _⟩ => ⟨S2048x32, .f32⟩
  | .hbm, ⟨44, _⟩ => ⟨S2048x32, .f32⟩
  | .hbm, ⟨45, _⟩ => ⟨S2048x32, .f32⟩
  | .hbm, ⟨46, _⟩ => ⟨S1x2048x1x1x32, .f32⟩
  | .hbm, ⟨47, _⟩ => ⟨S2048x32, .f32⟩
  | .hbm, ⟨48, _⟩ => ⟨S1x2048x1x1x32, .f32⟩
  | .hbm, ⟨49, _⟩ => ⟨S8x2048x3x2x32, .f32⟩
  | .hbm, ⟨50, _⟩ => ⟨S8x2048x3x2x32, .f32⟩
  | .hbm, ⟨51, _⟩ => ⟨S8x2048x3x2x32, .f32⟩
  | .hbm, ⟨52, _⟩ => ⟨S8x2048x3x2x32, .f32⟩
  | .hbm, ⟨53, _⟩ => ⟨S8x2048x3x2x32, .f32⟩
  | .hbm, ⟨54, _⟩ => ⟨S8x2048x3x2x32, .f32⟩
  | .hbm, ⟨55, _⟩ => ⟨S8x2048x3x2x32, .f32⟩
  | .hbm, ⟨56, _⟩ => ⟨S8x2048x3x2x32, .f32⟩
  | .hbm, ⟨57, _⟩ => ⟨S8x2048x3x2x32, .f32⟩
  | .hbm, ⟨58, _⟩ => ⟨S8x2048x3x2x32, .f32⟩
  | .hbm, ⟨59, _⟩ => ⟨S8x2048x3x2x32, .f32⟩
  | .hbm, ⟨60, _⟩ => ⟨S8x2048x3x2x32, .f32⟩
  | .hbm, ⟨61, _⟩ => ⟨S8x2048x3x2x64, .f32⟩
  | .hbm, ⟨62, _⟩ => ⟨S8x2048x3x1x2x64, .f32⟩
  | .hbm, ⟨63, _⟩ => ⟨S8x2048x3x2x64, .f32⟩
  | .hbm, ⟨64, _⟩ => ⟨S8x2048x3x1x2x64, .f32⟩
  | .hbm, ⟨65, _⟩ => ⟨S8x2048x3x1x2x64, .f32⟩
  | .hbm, ⟨66, _⟩ => ⟨S8x2048x3x2x2x64, .f32⟩
  | .hbm, ⟨67, _⟩ => ⟨S8x2048x2x2x2x64, .f32⟩
  | .hbm, ⟨68, _⟩ => ⟨S8x2048x4x2x64, .f32⟩
  | .hbm, ⟨69, _⟩ => ⟨S8x2048x1x2x2x64, .f32⟩
  | .hbm, ⟨70, _⟩ => ⟨S8x2048x2x2x64, .f32⟩
  | .hbm, ⟨71, _⟩ => ⟨S8x2048x2x2x64, .f32⟩
  | .hbm, ⟨72, _⟩ => ⟨S8x512x2x2x64, .f32⟩
  | _, _ => ⟨S16640x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩

abbrev nD : Nat := 1
abbrev τ : Topo := Topo.v7x

variable {F : FTy → Type} [FloatOps F]
-- ==== Kernel5.lean ====
abbrev S256x7680 : Shape := ⟨2, ![256, 7680]⟩
abbrev S32x8x64x64 : Shape := ⟨4, ![32, 8, 64, 64]⟩
abbrev S32x3x768 : Shape := ⟨3, ![32, 3, 768]⟩
abbrev S32x2x512 : Shape := ⟨3, ![32, 2, 512]⟩
abbrev S4x768 : Shape := ⟨2, ![4, 768]⟩
abbrev S768 : Shape := ⟨1, ![768]⟩
abbrev S8 : Shape := ⟨1, ![8]⟩
abbrev S512 : Shape := ⟨1, ![512]⟩
abbrev S3x512 : Shape := ⟨2, ![3, 512]⟩
abbrev S_ : Shape := ⟨0, ![]⟩
abbrev S128x512 : Shape := ⟨2, ![128, 512]⟩
abbrev S8x64 : Shape := ⟨2, ![8, 64]⟩
abbrev S512x1 : Shape := ⟨2, ![512, 1]⟩
abbrev S512x2 : Shape := ⟨2, ![512, 2]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x768 : Shape := ⟨2, ![1, 768]⟩
abbrev S1 : Shape := ⟨1, ![1]⟩
abbrev S2 : Shape := ⟨1, ![2]⟩
abbrev S1x512 : Shape := ⟨2, ![1, 512]⟩
abbrev S512x128 : Shape := ⟨2, ![512, 128]⟩
abbrev S32x8x7680 : Shape := ⟨3, ![32, 8, 7680]⟩
abbrev S32x8x768 : Shape := ⟨3, ![32, 8, 768]⟩
abbrev S32x128x768 : Shape := ⟨3, ![32, 128, 768]⟩
abbrev S4096x768 : Shape := ⟨2, ![4096, 768]⟩
abbrev S32x8x512 : Shape := ⟨3, ![32, 8, 512]⟩
abbrev S32x128x512 : Shape := ⟨3, ![32, 128, 512]⟩
abbrev S4096x512 : Shape := ⟨2, ![4096, 512]⟩
abbrev S32x8x128 : Shape := ⟨3, ![32, 8, 128]⟩
abbrev S32x128x128 : Shape := ⟨3, ![32, 128, 128]⟩
abbrev S4096x128 : Shape := ⟨2, ![4096, 128]⟩
abbrev S32x2x256x64 : Shape := ⟨4, ![32, 2, 256, 64]⟩
abbrev S32x2x256x2x64 : Shape := ⟨5, ![32, 2, 256, 2, 64]⟩
abbrev S32x1x256x64 : Shape := ⟨4, ![32, 1, 256, 64]⟩
abbrev S32x256x64 : Shape := ⟨3, ![32, 256, 64]⟩
abbrev S32x512x128 : Shape := ⟨3, ![32, 512, 128]⟩
abbrev S128x768 : Shape := ⟨2, ![128, 768]⟩
abbrev S1x512x128 : Shape := ⟨3, ![1, 512, 128]⟩
abbrev S1x8x768 : Shape := ⟨3, ![1, 8, 768]⟩
abbrev S1x8x512 : Shape := ⟨3, ![1, 8, 512]⟩
abbrev S136x768 : Shape := ⟨2, ![136, 768]⟩
abbrev S136x512 : Shape := ⟨2, ![136, 512]⟩
abbrev S8x768 : Shape := ⟨2, ![8, 768]⟩
abbrev S8x512 : Shape := ⟨2, ![8, 512]⟩
abbrev S256x128 : Shape := ⟨2, ![256, 128]⟩
abbrev S256x1 : Shape := ⟨2, ![256, 1]⟩
abbrev S32x1x256x1x64 : Shape := ⟨5, ![32, 1, 256, 1, 64]⟩

abbrev nBuf : Space → Nat
  | .hbm => 142
  | .vmem => 38
  | .smem => 0
  | _ => 0

abbrev hbmTy0_0 (i : Nat) : BufTy := match i % 128 with
  | 0 => ⟨S256x7680, .f32⟩
  | 1 => ⟨S32x8x64x64, .f32⟩
  | 2 => ⟨S32x3x768, .f32⟩
  | 3 => ⟨S32x2x512, .f32⟩
  | 4 => ⟨S4x768, .f32⟩
  | 5 => ⟨S768, .f32⟩
  | 6 => ⟨S8, .f32⟩
  | 7 => ⟨S8, .f32⟩
  | 8 => ⟨S8, .f32⟩
  | 9 => ⟨S512, .f32⟩
  | 10 => ⟨S3x512, .f32⟩
  | 11 => ⟨S8, .i32⟩
  | 12 => ⟨S_, .f32⟩
  | 13 => ⟨S128x512, .f32⟩
  | 14 => ⟨S8x64, .i32⟩
  | 15 => ⟨S512, .i32⟩
  | 16 => ⟨S_, .i32⟩
  | 17 => ⟨S512, .i32⟩
  | 18 => ⟨S512, .i32⟩
  | 19 => ⟨S512, .i32⟩
  | 20 => ⟨S_, .i32⟩
  | 21 => ⟨S512, .i32⟩
  | 22 => ⟨S512, .i1⟩
  | 23 => ⟨S_, .i32⟩
  | 24 => ⟨S512, .i32⟩
  | 25 => ⟨S512, .i32⟩
  | 26 => ⟨S512, .i32⟩
  | 27 => ⟨S_, .i32⟩
  | 28 => ⟨S512, .i32⟩
  | 29 => ⟨S512, .i1⟩
  | 30 => ⟨S_, .i32⟩
  | 31 => ⟨S512, .i32⟩
  | 32 => ⟨S512, .i32⟩
  | 33 => ⟨S512, .i32⟩
  | 34 => ⟨S512x1, .i32⟩
  | 35 => ⟨S512x1, .i32⟩
  | 36 => ⟨S512x2, .i32⟩
  | 37 => ⟨S_, .f32⟩
  | 38 => ⟨S512, .f32⟩
  | 39 => ⟨S128x512, .f32⟩
  | 40 => ⟨S128, .i32⟩
  | 41 => ⟨S1x128, .i32⟩
  | 42 => ⟨S128, .i32⟩
  | 43 => ⟨S128x1, .i32⟩
  | 44 => ⟨S128x128, .i32⟩
  | 45 => ⟨S128x128, .i32⟩
  | 46 => ⟨S128x128, .i1⟩
  | 47 => ⟨S128x128, .f32⟩
  | 48 => ⟨S128x128, .f32⟩
  | 49 => ⟨S1x768, .f32⟩
  | 50 => ⟨S_, .f32⟩
  | 51 => ⟨S1x128, .f32⟩
  | 52 => ⟨S_, .i32⟩
  | 53 => ⟨S1, .i32⟩
  | 54 => ⟨S_, .i32⟩
  | 55 => ⟨S1, .i32⟩
  | 56 => ⟨S2, .i32⟩
  | 57 => ⟨S1x128, .f32⟩
  | 58 => ⟨S8, .f32⟩
  | 59 => ⟨S8, .f32⟩
  | 60 => ⟨S_, .f32⟩
  | 61 => ⟨S1x128, .f32⟩
  | 62 => ⟨S_, .i32⟩
  | 63 => ⟨S1, .i32⟩
  | 64 => ⟨S_, .i32⟩
  | 65 => ⟨S1, .i32⟩
  | 66 => ⟨S2, .i32⟩
  | 67 => ⟨S1x128, .f32⟩
  | 68 => ⟨S8x64, .f32⟩
  | 69 => ⟨S512, .f32⟩
  | 70 => ⟨S1x512, .f32⟩
  | 71 => ⟨S1x512, .f32⟩
  | 72 => ⟨S512x128, .f32⟩
  | 73 => ⟨S32x8x7680, .f32⟩
  | 74 => ⟨S32x8x768, .f32⟩
  | 75 => ⟨S_, .i32⟩
  | 76 => ⟨S_, .f32⟩
  | 77 => ⟨S32x128x768, .f32⟩
  | 78 => ⟨S4096x768, .f32⟩
  | 79 => ⟨S32x8x512, .f32⟩
  | 80 => ⟨S_, .i32⟩
  | 81 => ⟨S_, .f32⟩
  | 82 => ⟨S32x128x512, .f32⟩
  | 83 => ⟨S4096x512, .f32⟩
  | 84 => ⟨S32x8x128, .f32⟩
  | 85 => ⟨S_, .i32⟩
  | 86 => ⟨S_, .f32⟩
  | 87 => ⟨S32x128x128, .f32⟩
  | 88 => ⟨S4096x128, .f32⟩
  | 89 => ⟨S32x8x512, .f32⟩
  | 90 => ⟨S_, .i32⟩
  | 91 => ⟨S_, .f32⟩
  | 92 => ⟨S32x128x512, .f32⟩
  | 93 => ⟨S4096x512, .f32⟩
  | 94 => ⟨S32x8x512, .f32⟩
  | 95 => ⟨S_, .i32⟩
  | 96 => ⟨S_, .f32⟩
  | 97 => ⟨S32x128x512, .f32⟩
  | 98 => ⟨S4096x512, .f32⟩
  | 99 => ⟨S32x8x512, .f32⟩
  | 100 => ⟨S_, .i32⟩
  | 101 => ⟨S_, .f32⟩
  | 102 => ⟨S32x128x512, .f32⟩
  | 103 => ⟨S4096x512, .f32⟩
  | 104 => ⟨S_, .i32⟩
  | 105 => ⟨S_, .f32⟩
  | 106 => ⟨S32x8x768, .f32⟩
  | 107 => ⟨S_, .i32⟩
  | 108 => ⟨S_, .f32⟩
  | 109 => ⟨S32x8x512, .f32⟩
  | 110 => ⟨S32x2x256x64, .f32⟩
  | 111 => ⟨S_, .f32⟩
  | 112 => ⟨S32x2x256x2x64, .f32⟩
  | 113 => ⟨S32x1x256x64, .f32⟩
  | 114 => ⟨S32x256x64, .f32⟩
  | 115 => ⟨S_, .i32⟩
  | 116 => ⟨S1, .i32⟩
  | 117 => ⟨S_, .i32⟩
  | 118 => ⟨S1, .i32⟩
  | 119 => ⟨S2, .i32⟩
  | 120 => ⟨S32x2x256x2x64, .f32⟩
  | 121 => ⟨S32x1x256x64, .f32⟩
  | 122 => ⟨S32x256x64, .f32⟩
  | 123 => ⟨S_, .i32⟩
  | 124 => ⟨S1, .i32⟩
  | 125 => ⟨S_, .i32⟩
  | 126 => ⟨S1, .i32⟩
  | 127 => ⟨S2, .i32⟩
  | _ => ⟨S256x7680, .f32⟩

abbrev hbmTy0_1 (i : Nat) : BufTy := match i % 128 with
  | 0 => ⟨S32x2x256x2x64, .f32⟩
  | 1 => ⟨S32x512x128, .f32⟩
  | 2 => ⟨S4096x512, .bf16⟩
  | 3 => ⟨S4096x512, .bf16⟩
  | 4 => ⟨S32x512x128, .f32⟩
  | 5 => ⟨S32x2x256x2x64, .f32⟩
  | 6 => ⟨S32x1x256x1x64, .f32⟩
  | 7 => ⟨S32x256x64, .f32⟩
  | 8 => ⟨S32x1x256x1x64, .f32⟩
  | 9 => ⟨S32x256x64, .f32⟩
  | 10 => ⟨S32x1x256x64, .f32⟩
  | 11 => ⟨S32x1x256x64, .f32⟩
  | 12 => ⟨S32x2x256x64, .f32⟩
  | 13 => ⟨S32x8x64x64, .f32⟩
  | _ => ⟨S256x7680, .f32⟩

abbrev hbmTy (i : Nat) : BufTy := match i / 128 with
  | 0 => hbmTy0_0 i
  | 1 => hbmTy0_1 i
  | _ => ⟨S256x7680, .f32⟩

abbrev bufTy : (tb : Table) → Fin (tcTables nBuf tb) → BufTy
  | .hbm, ⟨i, _⟩ => hbmTy i
  | .local _ .vmem, ⟨0, _⟩ => ⟨S128x768, .f32⟩
  | .local _ .vmem, ⟨1, _⟩ => ⟨S128x768, .f32⟩
  | .local _ .vmem, ⟨2, _⟩ => ⟨S128x512, .f32⟩
  | .local _ .vmem, ⟨3, _⟩ => ⟨S128x512, .f32⟩
  | .local _ .vmem, ⟨4, _⟩ => ⟨S128x128, .f32⟩
  | .local _ .vmem, ⟨5, _⟩ => ⟨S128x128, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S1x512x128, .f32⟩
  | .local _ .vmem, ⟨13, _⟩ => ⟨S1x512x128, .f32⟩
  | .local _ .vmem, ⟨14, _⟩ => ⟨S1x8x768, .f32⟩
  | .local _ .vmem, ⟨15, _⟩ => ⟨S1x8x768, .f32⟩
  | .local _ .vmem, ⟨16, _⟩ => ⟨S1x8x512, .f32⟩
  | .local _ .vmem, ⟨17, _⟩ => ⟨S1x8x512, .f32⟩
  | .local _ .vmem, ⟨18, _⟩ => ⟨S4x768, .f32⟩
  | .local _ .vmem, ⟨19, _⟩ => ⟨S1x768, .f32⟩
  | .local _ .vmem, ⟨20, _⟩ => ⟨S1x128, .f32⟩
  | .local _ .vmem, ⟨21, _⟩ => ⟨S1x128, .f32⟩
  | .local _ .vmem, ⟨22, _⟩ => ⟨S1x512, .f32⟩
  | .local _ .vmem, ⟨23, _⟩ => ⟨S1x512, .f32⟩
  | .local _ .vmem, ⟨24, _⟩ => ⟨S3x512, .f32⟩
  | .local _ .vmem, ⟨25, _⟩ => ⟨S128x512, .f32⟩
  | .local _ .vmem, ⟨26, _⟩ => ⟨S512x128, .f32⟩
  | .local _ .vmem, ⟨27, _⟩ => ⟨S128x128, .f32⟩
  | .local _ .vmem, ⟨28, _⟩ => ⟨S128x128, .f32⟩
  | .local _ .vmem, ⟨29, _⟩ => ⟨S128x512, .bf16⟩
  | .local _ .vmem, ⟨30, _⟩ => ⟨S128x512, .bf16⟩
  | .local _ .vmem, ⟨31, _⟩ => ⟨S128x512, .bf16⟩
  | .local _ .vmem, ⟨32, _⟩ => ⟨S128x512, .bf16⟩
  | .local _ .vmem, ⟨33, _⟩ => ⟨S1x512x128, .f32⟩
  | .local _ .vmem, ⟨34, _⟩ => ⟨S1x512x128, .f32⟩
  | .local _ .vmem, ⟨35, _⟩ => ⟨S136x768, .f32⟩
  | .local _ .vmem, ⟨36, _⟩ => ⟨S136x512, .f32⟩
  | .local _ .vmem, ⟨37, _⟩ => ⟨S512x128, .f32⟩
  | _, _ => ⟨S256x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_c_10 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_call0_v0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_call1_v0 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_13 : Ref sig .tc := ⟨.hbm, 85, rfl⟩
abbrev main_call2_v0 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_14 : Ref sig .tc := ⟨.hbm, 90, rfl⟩
abbrev main_call3_v0 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_15 : Ref sig .tc := ⟨.hbm, 95, rfl⟩
abbrev main_call4_v0 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_16 : Ref sig .tc := ⟨.hbm, 100, rfl⟩
abbrev main_call5_v0 : Ref sig .tc := ⟨.hbm, 101, rfl⟩
abbrev main_v66 : Ref sig .tc := ⟨.hbm, 102, rfl⟩
abbrev main_v67 : Ref sig .tc := ⟨.hbm, 103, rfl⟩
abbrev main_c_17 : Ref sig .tc := ⟨.hbm, 104, rfl⟩
abbrev main_call6_v0 : Ref sig .tc := ⟨.hbm, 105, rfl⟩
abbrev main_v68 : Ref sig .tc := ⟨.hbm, 106, rfl⟩
abbrev main_c_18 : Ref sig .tc := ⟨.hbm, 107, rfl⟩
abbrev main_call7_v0 : Ref sig .tc := ⟨.hbm, 108, rfl⟩
abbrev main_v69 : Ref sig .tc := ⟨.hbm, 109, rfl⟩
abbrev main_v70 : Ref sig .tc := ⟨.hbm, 110, rfl⟩
abbrev main_cst_19 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_c_20 : Ref sig .tc := ⟨.hbm, 115, rfl⟩
abbrev main_v74 : Ref sig .tc := ⟨.hbm, 116, rfl⟩
abbrev main_c_21 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_c_22 : Ref sig .tc := ⟨.hbm, 123, rfl⟩
abbrev main_v80 : Ref sig .tc := ⟨.hbm, 124, rfl⟩
abbrev main_c_23 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85_0 : Ref sig .tc := ⟨.hbm, 130, rfl⟩
abbrev main_v85_1 : Ref sig .tc := ⟨.hbm, 131, rfl⟩
abbrev main_v85_2 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_scratch0 : Ref sig .tc := ⟨.vmem, 35, rfl⟩
abbrev cc0_scratch1 : Ref sig .tc := ⟨.vmem, 36, rfl⟩
abbrev cc0_scratch2 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_204 : BitVec 32 := 0#32
  let v615 : BitVec 1 := Scalar.cmpi .eq arg1 c0_i32_204
  let v616 : BitVec 32 := Scalar.extui v615
  let c0_i32_205 : BitVec 32 := 0#32
  let v617 : BitVec 1 := Scalar.cmpi .ne v616 c0_i32_205
  v617

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S4x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S3x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S512x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S128x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S128x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false]
-- ==== Reference5Ideal.lean ====
abbrev S256x7680 : Shape := ⟨2, ![256, 7680]⟩
abbrev S32x8x64x64 : Shape := ⟨4, ![32, 8, 64, 64]⟩
abbrev S32x3x768 : Shape := ⟨3, ![32, 3, 768]⟩
abbrev S32x2x512 : Shape := ⟨3, ![32, 2, 512]⟩
abbrev S4x768 : Shape := ⟨2, ![4, 768]⟩
abbrev S768 : Shape := ⟨1, ![768]⟩
abbrev S8 : Shape := ⟨1, ![8]⟩
abbrev S512 : Shape := ⟨1, ![512]⟩
abbrev S3x512 : Shape := ⟨2, ![3, 512]⟩
abbrev S256x768 : Shape := ⟨2, ![256, 768]⟩
abbrev S32x8x768 : Shape := ⟨3, ![32, 8, 768]⟩
abbrev S32x4x768 : Shape := ⟨3, ![32, 4, 768]⟩
abbrev S256x8 : Shape := ⟨2, ![256, 8]⟩
abbrev S32x8x8 : Shape := ⟨3, ![32, 8, 8]⟩
abbrev S32x4x8 : Shape := ⟨3, ![32, 4, 8]⟩
abbrev S32x7x768 : Shape := ⟨3, ![32, 7, 768]⟩
abbrev S1x768 : Shape := ⟨2, ![1, 768]⟩
abbrev S1x1x768 : Shape := ⟨3, ![1, 1, 768]⟩
abbrev S_ : Shape := ⟨0, ![]⟩
abbrev S32x4x512 : Shape := ⟨3, ![32, 4, 512]⟩
abbrev S32x4x128 : Shape := ⟨3, ![32, 4, 128]⟩
abbrev S32x1x4x8x64 : Shape := ⟨5, ![32, 1, 4, 8, 64]⟩
abbrev S32x1x4x2x64 : Shape := ⟨5, ![32, 1, 4, 2, 64]⟩
abbrev S32x1x4x2x4x64 : Shape := ⟨6, ![32, 1, 4, 2, 4, 64]⟩
abbrev S1x1x8 : Shape := ⟨3, ![1, 1, 8]⟩
abbrev S32x1x4x8 : Shape := ⟨4, ![32, 1, 4, 8]⟩
abbrev S1x1x1x8 : Shape := ⟨4, ![1, 1, 1, 8]⟩
abbrev S32x1x4x8x1 : Shape := ⟨5, ![32, 1, 4, 8, 1]⟩
abbrev S32x1x1x8 : Shape := ⟨4, ![32, 1, 1, 8]⟩
abbrev S32x1x8x64x64 : Shape := ⟨5, ![32, 1, 8, 64, 64]⟩
abbrev S32x1x8 : Shape := ⟨3, ![32, 1, 8]⟩
abbrev S32x8 : Shape := ⟨2, ![32, 8]⟩
abbrev S32x8x1x1 : Shape := ⟨4, ![32, 8, 1, 1]⟩

abbrev nBuf : Space → Nat
  | .hbm => 111
  | .vmem => 0
  | .smem => 0
  | _ => 0

abbrev bufTy : (tb : Table) → Fin (tcTables nBuf tb) → BufTy
  | .hbm, ⟨0, _⟩ => ⟨S256x7680, .f32⟩
  | .hbm, ⟨1, _⟩ => ⟨S32x8x64x64, .f32⟩
  | .hbm, ⟨2, _⟩ => ⟨S32x3x768, .f32⟩
  | .hbm, ⟨3, _⟩ => ⟨S32x2x512, .f32⟩
  | .hbm, ⟨4, _⟩ => ⟨S4x768, .f32⟩
  | .hbm, ⟨5, _⟩ => ⟨S768, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S512, .f32⟩
  | .hbm, ⟨10, _⟩ => ⟨S3x512, .f32⟩
  | .hbm, ⟨11, _⟩ => ⟨S256x768, .f32⟩
  | .hbm, ⟨12, _⟩ => ⟨S32x8x768, .f32⟩
  | .hbm, ⟨13, _⟩ => ⟨S32x4x768, .f32⟩
  | .hbm, ⟨14, _⟩ => ⟨S256x8, .f32⟩
  | .hbm, ⟨15, _⟩ => ⟨S32x8x8, .f32⟩
  | .hbm, ⟨16, _⟩ => ⟨S32x4x8, .f32⟩
  | .hbm, ⟨17, _⟩ => ⟨S32x7x768, .f32⟩
  | .hbm, ⟨18, _⟩ => ⟨S32x4x768, .f32⟩
  | .hbm, ⟨19, _⟩ => ⟨S1x768, .f32⟩
  | .hbm, ⟨20, _⟩ => ⟨S768, .f32⟩
  | .hbm, ⟨21, _⟩ => ⟨S1x1x768, .f32⟩
  | .hbm, ⟨22, _⟩ => ⟨S32x4x768, .f32⟩
  | .hbm, ⟨23, _⟩ => ⟨S32x4x768, .f32⟩
  | .hbm, ⟨24, _⟩ => ⟨S32x4x768, .f32⟩
  | .hbm, ⟨25, _⟩ => ⟨S1x768, .f32⟩
  | .hbm, ⟨26, _⟩ => ⟨S768, .f32⟩
  | .hbm, ⟨27, _⟩ => ⟨S1x1x768, .f32⟩
  | .hbm, ⟨28, _⟩ => ⟨S32x4x768, .f32⟩
  | .hbm, ⟨29, _⟩ => ⟨S32x4x768, .f32⟩
  | .hbm, ⟨30, _⟩ => ⟨S32x4x768, .f32⟩
  | .hbm, ⟨31, _⟩ => ⟨S32x4x768, .f32⟩
  | .hbm, ⟨32, _⟩ => ⟨S1x768, .f32⟩
  | .hbm, ⟨33, _⟩ => ⟨S768, .f32⟩
  | .hbm, ⟨34, _⟩ => ⟨S1x1x768, .f32⟩
  | .hbm, ⟨35, _⟩ => ⟨S32x4x768, .f32⟩
  | .hbm, ⟨36, _⟩ => ⟨S32x4x768, .f32⟩
  | .hbm, ⟨37, _⟩ => ⟨S32x4x768, .f32⟩
  | .hbm, ⟨38, _⟩ => ⟨S32x4x768, .f32⟩
  | .hbm, ⟨39, _⟩ => ⟨S1x768, .f32⟩
  | .hbm, ⟨40, _⟩ => ⟨S768, .f32⟩
  | .hbm, ⟨41, _⟩ => ⟨S1x1x768, .f32⟩
  | .hbm, ⟨42, _⟩ => ⟨S32x4x768, .f32⟩
  | .hbm, ⟨43, _⟩ => ⟨S32x4x768, .f32⟩
  | .hbm, ⟨44, _⟩ => ⟨S32x4x768, .f32⟩
  | .hbm, ⟨45, _⟩ => ⟨S1x1x768, .f32⟩
  | .hbm, ⟨46, _⟩ => ⟨S32x4x768, .f32⟩
  | .hbm, ⟨47, _⟩ => ⟨S32x4x768, .f32⟩
  | .hbm, ⟨48, _⟩ => ⟨S32x3x768, .f32⟩
  | .hbm, ⟨49, _⟩ => ⟨S32x4x768, .f32⟩
  | .hbm, ⟨50, _⟩ => ⟨S32x4x768, .f32⟩
  | .hbm, ⟨51, _⟩ => ⟨S_, .f32⟩
  | .hbm, ⟨52, _⟩ => ⟨S32x4x768, .f32⟩
  | .hbm, ⟨53, _⟩ => ⟨S32x4x768, .f32⟩
  | .hbm, ⟨54, _⟩ => ⟨S_, .f32⟩
  | .hbm, ⟨55, _⟩ => ⟨S32x4x768, .f32⟩
  | .hbm, ⟨56, _⟩ => ⟨S32x4x768, .f32⟩
  | .hbm, ⟨57, _⟩ => ⟨S32x4x768, .f32⟩
  | .hbm, ⟨58, _⟩ => ⟨S32x4x512, .f32⟩
  | .hbm, ⟨59, _⟩ => ⟨S32x4x128, .f32⟩
  | .hbm, ⟨60, _⟩ => ⟨S32x4x128, .f32⟩
  | .hbm, ⟨61, _⟩ => ⟨S32x1x4x8x64, .f32⟩
  | .hbm, ⟨62, _⟩ => ⟨S32x1x4x2x64, .f32⟩
  | .hbm, ⟨63, _⟩ => ⟨S32x1x4x2x4x64, .f32⟩
  | .hbm, ⟨64, _⟩ => ⟨S32x1x4x8x64, .f32⟩
  | .hbm, ⟨65, _⟩ => ⟨S1x1x8, .f32⟩
  | .hbm, ⟨66, _⟩ => ⟨S32x4x8, .f32⟩
  | .hbm, ⟨67, _⟩ => ⟨S32x4x8, .f32⟩
  | .hbm, ⟨68, _⟩ => ⟨S_, .f32⟩
  | .hbm, ⟨69, _⟩ => ⟨S32x4x8, .f32⟩
  | .hbm, ⟨70, _⟩ => ⟨S32x4x8, .f32⟩
  | .hbm, ⟨71, _⟩ => ⟨S32x4x8, .f32⟩
  | .hbm, ⟨72, _⟩ => ⟨S32x4x8, .f32⟩
  | .hbm, ⟨73, _⟩ => ⟨S32x4x8, .i1⟩
  | .hbm, ⟨74, _⟩ => ⟨S32x4x8, .f32⟩
  | .hbm, ⟨75, _⟩ => ⟨S32x4x8, .f32⟩
  | .hbm, ⟨76, _⟩ => ⟨S32x4x8, .f32⟩
  | .hbm, ⟨77, _⟩ => ⟨S32x4x8, .f32⟩
  | .hbm, ⟨78, _⟩ => ⟨S32x4x8, .f32⟩
  | .hbm, ⟨79, _⟩ => ⟨S32x4x8, .f32⟩
  | .hbm, ⟨80, _⟩ => ⟨S32x4x8, .f32⟩
  | .hbm, ⟨81, _⟩ => ⟨S32x4x8, .f32⟩
  | .hbm, ⟨82, _⟩ => ⟨S32x1x4x8, .f32⟩
  | .hbm, ⟨83, _⟩ => ⟨S8, .f32⟩
  | .hbm, ⟨84, _⟩ => ⟨S8, .f32⟩
  | .hbm, ⟨85, _⟩ => ⟨S1x1x1x8, .f32⟩
  | .hbm, ⟨86, _⟩ => ⟨S32x1x4x8, .f32⟩
  | .hbm, ⟨87, _⟩ => ⟨S32x1x4x8, .f32⟩
  | .hbm, ⟨88, _⟩ => ⟨S_, .f32⟩
  | .hbm, ⟨89, _⟩ => ⟨S_, .f32⟩
  | .hbm, ⟨90, _⟩ => ⟨S32x1x4x8, .f32⟩
  | .hbm, ⟨91, _⟩ => ⟨S32x1x4x8x1, .f32⟩
  | .hbm, ⟨92, _⟩ => ⟨S32x1x4x8x64, .f32⟩
  | .hbm, ⟨93, _⟩ => ⟨S32x1x4x8x64, .f32⟩
  | .hbm, ⟨94, _⟩ => ⟨S32x1x1x8, .f32⟩
  | .hbm, ⟨95, _⟩ => ⟨S32x1x4x8, .f32⟩
  | .hbm, ⟨96, _⟩ => ⟨S32x1x4x8, .f32⟩
  | .hbm, ⟨97, _⟩ => ⟨S32x1x4x8, .f32⟩
  | .hbm, ⟨98, _⟩ => ⟨S32x1x4x8x1, .f32⟩
  | .hbm, ⟨99, _⟩ => ⟨S32x1x4x8x64, .f32⟩
  | .hbm, ⟨100, _⟩ => ⟨S32x1x4x8x64, .f32⟩
  | .hbm, ⟨101, _⟩ => ⟨S32x1x8x64x64, .f32⟩
  | .hbm, ⟨102, _⟩ => ⟨S32x1x1x8, .f32⟩
  | .hbm, ⟨103, _⟩ => ⟨S32x1x8, .f32⟩
  | .hbm, ⟨104, _⟩ => ⟨S32x1x8, .f32⟩
  | .hbm, ⟨105, _⟩ => ⟨S32x8, .f32⟩
  | .hbm, ⟨106, _⟩ => ⟨S32x8x1x1, .f32⟩
  | .hbm, ⟨107, _⟩ => ⟨S32x8x64x64, .f32⟩
  | .hbm, ⟨108, _⟩ => ⟨S32x8x64x64, .f32⟩
  | .hbm, ⟨109, _⟩ => ⟨S32x8x64x64, .f32⟩
  | .hbm, ⟨110, _⟩ => ⟨S32x8x64x64, .f32⟩
  | _, _ => ⟨S256x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_call2_call0_cst : Ref sig .tc := ⟨.hbm, 88, rfl⟩
abbrev main_call2_call0_v0 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]
-- ==== Kernel6.lean ====
abbrev S16640x1024 : Shape := ⟨2, ![16640, 1024]⟩
abbrev S1024 : Shape := ⟨1, ![1024]⟩
abbrev S1x1024x2816 : Shape := ⟨3, ![1, 1024, 2816]⟩
abbrev S1x2816x1024 : Shape := ⟨3, ![1, 2816, 1024]⟩
abbrev S_ : Shape := ⟨0, ![]⟩
abbrev S26 : Shape := ⟨1, ![26]⟩
abbrev S16640x1 : Shape := ⟨2, ![16640, 1]⟩
abbrev S1x1024 : Shape := ⟨2, ![1, 1024]⟩
abbrev S640x1024 : Shape := ⟨2, ![640, 1024]⟩
abbrev S1x1024x1408 : Shape := ⟨3, ![1, 1024, 1408]⟩
abbrev S1 : Shape := ⟨1, ![1]⟩
abbrev S1x1408x1024 : Shape := ⟨3, ![1, 1408, 1024]⟩
abbrev S640x1 : Shape := ⟨2, ![640, 1]⟩
abbrev S640 : Shape := ⟨1, ![640]⟩
abbrev S1024x1408 : Shape := ⟨2, ![1024, 1408]⟩
abbrev S640x1408 : Shape := ⟨2, ![640, 1408]⟩
abbrev S1408x1024 : Shape := ⟨2, ![1408, 1024]⟩

abbrev nBuf : Space → Nat
  | .hbm => 13
  | .vmem => 15
  | .smem => 1
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024x2816, .bf16⟩
  | .hbm, ⟨6, _⟩ => ⟨S1x1024x2816, .bf16⟩
  | .hbm, ⟨7, _⟩ => ⟨S1x2816x1024, .bf16⟩
  | .hbm, ⟨8, _⟩ => ⟨S_, .i32⟩
  | .hbm, ⟨9, _⟩ => ⟨S_, .f32⟩
  | .hbm, ⟨10, _⟩ => ⟨S16640x1, .f32⟩
  | .hbm, ⟨11, _⟩ => ⟨S1x1024, .f32⟩
  | .hbm, ⟨12, _⟩ => ⟨S16640x1024, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1408x1024, .bf16⟩
  | .local _ .vmem, ⟨8, _⟩ => ⟨S1x1408x1024, .bf16⟩
  | .local _ .vmem, ⟨9, _⟩ => ⟨S640x1, .f32⟩
  | .local _ .vmem, ⟨10, _⟩ => ⟨S640x1, .f32⟩
  | .local _ .vmem, ⟨11, _⟩ => ⟨S640x1024, .f32⟩
  | .local _ .vmem, ⟨12, _⟩ => ⟨S640x1024, .f32⟩
  | .local _ .vmem, ⟨13, _⟩ => ⟨S640x1024, .bf16⟩
  | .local _ .vmem, ⟨14, _⟩ => ⟨S640x1024, .f32⟩
  | .local _ .smem, ⟨0, _⟩ => ⟨S26, .i32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![26, 2], ![false, false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_17 : BitVec 32 := 0#32
  let v24 : BitVec 1 := Scalar.cmpi .ne v23 c0_i32_17
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S26.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S26) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S26.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S26) ![v0.toNat] S1.size (k0_off1_inb i)) numel1_S1
  let c0_i32 : BitVec 32 := 0#32
  let c0_i32_0 : BitVec 32 := 0#32
  ![v1.toNat, c0_i32.toNat, arg1.toNat]

def cc0_transform_4 (k0_off1_inb : ∀ i : grid0.Coords, ∀ a, (k0_off1 i) a + S1.size a ≤ S26.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S26) ![v0.toNat] S1.size (k0_off1_inb i)) numel1_S1
  let c0_i32 : BitVec 32 := 0#32
  let c0_i32_0 : BitVec 32 := 0#32
  ![v1.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S640x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S640x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference6Ideal.lean ====
abbrev S16640x1024 : Shape := ⟨2, ![16640, 1024]⟩
abbrev S1024 : Shape := ⟨1, ![1024]⟩
abbrev S1x1024x2816 : Shape := ⟨3, ![1, 1024, 2816]⟩
abbrev S1x2816x1024 : Shape := ⟨3, ![1, 2816, 1024]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S1024x2816 : Shape := ⟨2, ![1024, 2816]⟩
abbrev S2816x1024 : Shape := ⟨2, ![2816, 1024]⟩
abbrev S16640x2816 : Shape := ⟨2, ![16640, 2816]⟩

abbrev nBuf : Space → Nat
  | .hbm => 38
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S16640x1024, .f32⟩
  | .hbm, ⟨6, _⟩ => ⟨S_, .f32⟩
  | .hbm, ⟨7, _⟩ => ⟨S16640, .f32⟩
  | .hbm, ⟨8, _⟩ => ⟨S16640x1, .f32⟩
  | .hbm, ⟨9, _⟩ => ⟨S_, .f32⟩
  | .hbm, ⟨10, _⟩ => ⟨S16640x1, .f32⟩
  | .hbm, ⟨11, _⟩ => ⟨S16640x1, .f32⟩
  | .hbm, ⟨12, _⟩ => ⟨S_, .f32⟩
  | .hbm, ⟨13, _⟩ => ⟨S16640x1, .f32⟩
  | .hbm, ⟨14, _⟩ => ⟨S16640x1, .f32⟩
  | .hbm, ⟨15, _⟩ => ⟨S16640x1, .f32⟩
  | .hbm, ⟨16, _⟩ => ⟨S16640x1024, .f32⟩
  | .hbm, ⟨17, _⟩ => ⟨S16640x1024, .f32⟩
  | .hbm, ⟨18, _⟩ => ⟨S1x1024, .f32⟩
  | .hbm, ⟨19, _⟩ => ⟨S16640x1024, .f32⟩
  | .hbm, ⟨20, _⟩ => ⟨S16640x1024, .f32⟩
  | .hbm, ⟨21, _⟩ => ⟨S1024x2816, .f32⟩
  | .hbm, ⟨22, _⟩ => ⟨S1024x2816, .f32⟩
  | .hbm, ⟨23, _⟩ => ⟨S2816x1024, .f32⟩
  | .hbm, ⟨24, _⟩ => ⟨S16640x2816, .f32⟩
  | .hbm, ⟨25, _⟩ => ⟨S16640x2816, .f32⟩
  | .hbm, ⟨26, _⟩ => ⟨S16640x2816, .f32⟩
  | .hbm, ⟨27, _⟩ => ⟨S_, .f32⟩
  | .hbm, ⟨28, _⟩ => ⟨S16640x2816, .f32⟩
  | .hbm, ⟨29, _⟩ => ⟨S16640x2816, .f32⟩
  | .hbm, ⟨30, _⟩ => ⟨S_, .f32⟩
  | .hbm, ⟨31, _⟩ => ⟨S16640x2816, .f32⟩
  | .hbm, ⟨32, _⟩ => ⟨S16640x2816, .f32⟩
  | .hbm, ⟨33, _⟩ => ⟨S16640x2816, .f32⟩
  | .hbm, ⟨34, _⟩ => ⟨S16640x2816, .f32⟩
  | .hbm, ⟨35, _⟩ => ⟨S16640x2816, .f32⟩
  | .hbm, ⟨36, _⟩ => ⟨S16640x1024, .f32⟩
  | .hbm, ⟨37, _⟩ => ⟨S16640x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Kernel7.lean ====
abbrev S16640x512 : Shape := ⟨2, ![16640, 512]⟩
abbrev S16640x7680 : Shape := ⟨2, ![16640, 7680]⟩
abbrev S16640x1024 : Shape := ⟨2, ![16640, 1024]⟩
abbrev S3x512x1024 : Shape := ⟨3, ![3, 512, 1024]⟩
abbrev S1024x1024 : Shape := ⟨2, ![1024, 1024]⟩
abbrev S640x512 : Shape := ⟨2, ![640, 512]⟩
abbrev S640x1024 : Shape := ⟨2, ![640, 1024]⟩
abbrev S1x512x1024 : Shape := ⟨3, ![1, 512, 1024]⟩
abbrev S512x1024 : Shape := ⟨2, ![512, 1024]⟩

abbrev nBuf : Space → Nat
  | .hbm => 10
  | .vmem => 18
  | .smem => 0
  | _ => 0

abbrev bufTy : (tb : Table) → Fin (tcTables nBuf tb) → BufTy
  | .hbm, ⟨0, _⟩ => ⟨S16640x512, .bf16⟩
  | .hbm, ⟨1, _⟩ => ⟨S16640x512, .bf16⟩
  | .hbm, ⟨2, _⟩ => ⟨S16640x512, .bf16⟩
  | .hbm, ⟨3, _⟩ => ⟨S16640x7680, .f32⟩
  | .hbm, ⟨4, _⟩ => ⟨S16640x1024, .f32⟩
  | .hbm, ⟨5, _⟩ => ⟨S3x512x1024, .f32⟩
  | .hbm, ⟨6, _⟩ => ⟨S1024x1024, .f32⟩
  | .hbm, ⟨7, _⟩ => ⟨S3x512x1024, .bf16⟩
  | .hbm, ⟨8, _⟩ => ⟨S1024x1024, .bf16⟩
  | .hbm, ⟨9, _⟩ => ⟨S16640x1024, .f32⟩
  | .local _ .vmem, ⟨0, _⟩ => ⟨S640x512, .bf16⟩
  | .local _ .vmem, ⟨1, _⟩ => ⟨S640x512, .bf16⟩
  | .local _ .vmem, ⟨2, _⟩ => ⟨S640x512, .bf16⟩
  | .local _ .vmem, ⟨3, _⟩ => ⟨S640x512, .bf16⟩
  | .local _ .vmem, ⟨4, _⟩ => ⟨S640x512, .bf16⟩
  | .local _ .vmem, ⟨5, _⟩ => ⟨S640x512, .bf16⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .f32⟩
  | .local _ .vmem, ⟨11, _⟩ => ⟨S640x1024, .f32⟩
  | .local _ .vmem, ⟨12, _⟩ => ⟨S640x1024, .f32⟩
  | .local _ .vmem, ⟨13, _⟩ => ⟨S640x1024, .f32⟩
  | .local _ .vmem, ⟨14, _⟩ => ⟨S3x512x1024, .bf16⟩
  | .local _ .vmem, ⟨15, _⟩ => ⟨S1024x1024, .bf16⟩
  | .local _ .vmem, ⟨16, _⟩ => ⟨S640x1024, .f32⟩
  | .local _ .vmem, ⟨17, _⟩ => ⟨S640x1024, .f32⟩
  | _, _ => ⟨S16640x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S640x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S16640x512 : Shape := ⟨2, ![16640, 512]⟩
abbrev S16640x7680 : Shape := ⟨2, ![16640, 7680]⟩
abbrev S16640x1024 : Shape := ⟨2, ![16640, 1024]⟩
abbrev S3x512x1024 : Shape := ⟨3, ![3, 512, 1024]⟩
abbrev S1024x1024 : Shape := ⟨2, ![1024, 1024]⟩
abbrev S16640x1x512 : Shape := ⟨3, ![16640, 1, 512]⟩
abbrev S16640x3x512 : Shape := ⟨3, ![16640, 3, 512]⟩
abbrev S3x1024x16640 : Shape := ⟨3, ![3, 1024, 16640]⟩
abbrev S16640x3x1024 : Shape := ⟨3, ![16640, 3, 1024]⟩
abbrev S16640x3072 : Shape := ⟨2, ![16640, 3072]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S16640x512, .bf16⟩
  | .hbm, ⟨1, _⟩ => ⟨S16640x512, .bf16⟩
  | .hbm, ⟨2, _⟩ => ⟨S16640x512, .bf16⟩
  | .hbm, ⟨3, _⟩ => ⟨S16640x7680, .f32⟩
  | .hbm, ⟨4, _⟩ => ⟨S16640x1024, .f32⟩
  | .hbm, ⟨5, _⟩ => ⟨S3x512x1024, .f32⟩
  | .hbm, ⟨6, _⟩ => ⟨S1024x1024, .f32⟩
  | .hbm, ⟨7, _⟩ => ⟨S16640x1x512, .bf16⟩
  | .hbm, ⟨8, _⟩ => ⟨S16640x1x512, .bf16⟩
  | .hbm, ⟨9, _⟩ => ⟨S16640x1x512, .bf16⟩
  | .hbm, ⟨10, _⟩ => ⟨S16640x3x512, .bf16⟩
  | .hbm, ⟨11, _⟩ => ⟨S16640x3x512, .f32⟩
  | .hbm, ⟨12, _⟩ => ⟨S3x1024x16640, .f32⟩
  | .hbm, ⟨13, _⟩ => ⟨S16640x3x1024, .f32⟩
  | .hbm, ⟨14, _⟩ => ⟨S16640x3072, .f32⟩
  | .hbm, ⟨15, _⟩ => ⟨S16640x3x1024, .f32⟩
  | .hbm, ⟨16, _⟩ => ⟨S16640x3x1024, .f32⟩
  | .hbm, ⟨17, _⟩ => ⟨S16640x3x1024, .f32⟩
  | .hbm, ⟨18, _⟩ => ⟨S_, .f32⟩
  | .hbm, ⟨19, _⟩ => ⟨S16640x3x1024, .f32⟩
  | .hbm, ⟨20, _⟩ => ⟨S16640x3x1024, .f32⟩
  | .hbm, ⟨21, _⟩ => ⟨S_, .f32⟩
  | .hbm, ⟨22, _⟩ => ⟨S16640x3x1024, .f32⟩
  | .hbm, ⟨23, _⟩ => ⟨S16640x3x1024, .f32⟩
  | .hbm, ⟨24, _⟩ => ⟨S16640x1024, .f32⟩
  | .hbm, ⟨25, _⟩ => ⟨S16640x1024, .f32⟩
  | .hbm, ⟨26, _⟩ => ⟨S16640x1024, .f32⟩
  | _, _ => ⟨S16640x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel8.lean ====
abbrev S16640x1024 : Shape := ⟨2, ![16640, 1024]⟩
abbrev S1024 : Shape := ⟨1, ![1024]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S16640x128 : Shape := ⟨2, ![16640, 128]⟩
abbrev S640x1024 : Shape := ⟨2, ![640, 1024]⟩
abbrev S640x128 : Shape := ⟨2, ![640, 128]⟩
abbrev S640 : Shape := ⟨1, ![640]⟩
abbrev S640x1 : Shape := ⟨2, ![640, 1]⟩
abbrev S16640x8 : Shape := ⟨2, ![16640, 8]⟩

abbrev nBuf : Space → Nat
  | .hbm => 10
  | .vmem => 8
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x8, .f32⟩
  | .hbm, ⟨3, _⟩ => ⟨S_, .i32⟩
  | .hbm, ⟨4, _⟩ => ⟨S_, .f32⟩
  | .hbm, ⟨5, _⟩ => ⟨S1024x128, .f32⟩
  | .hbm, ⟨6, _⟩ => ⟨S1x1024, .f32⟩
  | .hbm, ⟨7, _⟩ => ⟨S16640x1024, .bf16⟩
  | .hbm, ⟨8, _⟩ => ⟨S16640x128, .f32⟩
  | .hbm, ⟨9, _⟩ => ⟨S16640x8, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1024x128, .f32⟩
  | .local _ .vmem, ⟨4, _⟩ => ⟨S640x1024, .bf16⟩
  | .local _ .vmem, ⟨5, _⟩ => ⟨S640x1024, .bf16⟩
  | .local _ .vmem, ⟨6, _⟩ => ⟨S640x128, .f32⟩
  | .local _ .vmem, ⟨7, _⟩ => ⟨S640x128, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S16640x1024 : Shape := ⟨2, ![16640, 1024]⟩
abbrev S1024 : Shape := ⟨1, ![1024]⟩
abbrev S1024x8 : Shape := ⟨2, ![1024, 8]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S16640x8 : Shape := ⟨2, ![16640, 8]⟩

abbrev nBuf : Space → Nat
  | .hbm => 21
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x8, .f32⟩
  | .hbm, ⟨3, _⟩ => ⟨S16640x1024, .f32⟩
  | .hbm, ⟨4, _⟩ => ⟨S_, .f32⟩
  | .hbm, ⟨5, _⟩ => ⟨S16640, .f32⟩
  | .hbm, ⟨6, _⟩ => ⟨S16640x1, .f32⟩
  | .hbm, ⟨7, _⟩ => ⟨S_, .f32⟩
  | .hbm, ⟨8, _⟩ => ⟨S16640x1, .f32⟩
  | .hbm, ⟨9, _⟩ => ⟨S16640x1, .f32⟩
  | .hbm, ⟨10, _⟩ => ⟨S_, .f32⟩
  | .hbm, ⟨11, _⟩ => ⟨S16640x1, .f32⟩
  | .hbm, ⟨12, _⟩ => ⟨S16640x1, .f32⟩
  | .hbm, ⟨13, _⟩ => ⟨S16640x1, .f32⟩
  | .hbm, ⟨14, _⟩ => ⟨S16640x1024, .f32⟩
  | .hbm, ⟨15, _⟩ => ⟨S16640x1024, .f32⟩
  | .hbm, ⟨16, _⟩ => ⟨S1x1024, .f32⟩
  | .hbm, ⟨17, _⟩ => ⟨S16640x1024, .f32⟩
  | .hbm, ⟨18, _⟩ => ⟨S16640x1024, .f32⟩
  | .hbm, ⟨19, _⟩ => ⟨S16640x8, .f32⟩
  | .hbm, ⟨20, _⟩ => ⟨S16640x1024, .bf16⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Body.lean ====
/-
  What one grid point of the grouped SwiGLU kernel leaves behind, as a function of what it reads. At a row tile's first
  point the body copies the tile's rows into its scratch and clears the accumulator; at every point it adds the
  product of one block of hidden columns; at a row tile's last point it writes the accumulator, scaled row by row.
-/
module

public import proofs.«01_k».proof.Defs
public import proofs.«01_k».proof.Proof.Gen.KernelIdeal.Frame
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem

namespace Cert.KernelIdeal.Body

open Cert.KernelIdeal Cert.KernelIdeal.Gen

section Cases
variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

variable (c : Dev nD) (i : grid0.Coords)
  (a3 : Memref sig .tc .vmem S512x1024 .bf16) (h3 : a3.IsWhole) (a4 : Memref sig .tc .vmem S1x1024 .f32) (h4 : a4.IsWhole)
  (a5 : Memref sig .tc .vmem S1x1024x896 .bf16) (h5 : a5.IsWhole) (a6 : Memref sig .tc .vmem S1x1024x896 .bf16) (h6 : a6.IsWhole)
  (a7 : Memref sig .tc .vmem S1x896x1024 .bf16) (h7 : a7.IsWhole) (a8 : Memref sig .tc .vmem S512x1 .f32) (h8 : a8.IsWhole)
  (a9 : Memref sig .tc .vmem S512x1024 .f32) (h9 : a9.IsWhole) (a10 : Memref sig .tc .vmem S512x1024 .bf16) (h10 : a10.IsWhole)
  (a11 : Memref sig .tc .vmem S512x1024 .f32) (h11 : a11.IsWhole)
  (x0 : Vec F S512x1024 .bf16) (x1 : Vec F S1x1024 .f32) (x2 : Vec F S1x1024x896 .bf16) (x3 : Vec F S1x1024x896 .bf16)
  (x4 : Vec F S1x896x1024 .bf16) (x5 : Vec F S512x1 .f32) (xt : TbBuf0 (F := F) c tbM0_0)
  (xs : Vec F S512x1024 .bf16) (xa : Vec F S512x1024 .f32)

/-- A tile's first point copies the tile's rows into the scratch … -/
theorem rows_first (hc0 : cond0_0 i) (hc1 : ¬cond0_1 i) :
    sout0_A_0 c i a3 h3 a4 h4 a5 h5 a6 h6 a7 h7 a8 h8 a9 h9 a10 h10 a11 h11 hc0 hc1 x0 x1 x2 x3 x4 x5 xt = x0 := by
  unfold sout0_A_0
  rw [View.read_writes_eq_canon _ _ _ (scover0_A_0 c i a3 h3 a4 h4 a5 h5 a6 h6 a7 h7 a8 h8 a9 h9 a10 h10 a11 h11 hc0 hc1 x0 x1 x2 x3 x4 x5 xt)]
  unfold kernelRun0_A
  dsimp only
  sl_unfold_words
  rw [View.canon_unit_zero zero2]
  unfold k0_pay1
  simp only [View.readAt_eq_ld, h3.read_unread, View.ld_unit_zero (S := S512x1024) zero2, shapeCast_self]

/-- … and starts the accumulator from zero. -/
theorem acc_first (hc0 : cond0_0 i) (hc1 : ¬cond0_1 i) :
    sout0_A_1 c i a3 h3 a4 h4 a5 h5 a6 h6 a7 h7 a8 h8 a9 h9 a10 h10 a11 h11 hc0 hc1 x0 x1 x2 x3 x4 x5 xt
      = k0_pay3 x0 x2 x3 (k0_pay2 (F := F)) x4 := by
  unfold sout0_A_1
  rw [View.read_writes_eq_canon _ _ _ (scover0_A_1 c i a3 h3 a4 h4 a5 h5 a6 h6 a7 h7 a8 h8 a9 h9 a10 h10 a11 h11 hc0 hc1 x0 x1 x2 x3 x4 x5 xt)]
  unfold kernelRun0_A
  dsimp only
  sl_unfold_words
  rw [View.canon_cons_unit_zero (S := S512x1024) zero2, View.readCov_unit_zero (S := S512x1024) _ zero2, View.readCov_unit_zero (S := S512x1024) _ zero2]
  unfold k0_pay1
  simp only [View.readAt_eq_ld, h3.read_unread, h5.read_unread, h6.read_unread, h7.read_unread, View.ld_unit_zero (S := S512x1024) zero2,
    View.ld_unit_zero (S := S1x1024x896) zero3, View.ld_unit_zero (S := S1x896x1024) zero3, shapeCast_self]

/-- A middle point keeps the rows and adds one block's product to the accumulator. -/
theorem acc_middle (hc0 : ¬cond0_0 i) (hc1 : ¬cond0_1 i) :
    sout0_B_1 c i a3 h3 a4 h4 a5 h5 a6 h6 a7 h7 a8 h8 a9 h9 a10 h10 a11 h11 hc0 hc1 x0 x1 x2 x3 x4 x5 xt xs xa
      = k0_pay3 xs x2 x3 xa x4 := by
  unfold sout0_B_1
  rw [View.read_writes_eq_canon _ _ _ (scover0_B_1 c i a3 h3 a4 h4 a5 h5 a6 h6 a7 h7 a8 h8 a9 h9 a10 h10 a11 h11 hc0 hc1 x0 x1 x2 x3 x4 x5 xt xs xa)]
  unfold kernelRun0_B
  dsimp only
  sl_unfold_words
  rw [View.canon_unit_zero zero2]
  simp only [View.readAt_eq_ld, h5.read_unread, h6.read_unread, h7.read_unread, h10.read_unread, h11.read_unread,
    View.ld_unit_zero (S := S512x1024) zero2, View.ld_unit_zero (S := S1x1024x896) zero3, View.ld_unit_zero (S := S1x896x1024) zero3]

/-- A tile's last point adds its block's product and writes the accumulator scaled row by row. -/
theorem out_last (hc0 : ¬cond0_0 i) (hc1 : cond0_1 i) :
    out0_C_6 c i a3 h3 a4 h4 a5 h5 a6 h6 a7 h7 a8 h8 a9 h9 a10 h10 a11 h11 hc0 hc1 x0 x1 x2 x3 x4 x5 xt xs xa
      = k0_pay4 x5 (k0_pay3 xs x2 x3 xa x4) := by
  unfold out0_C_6
  rw [View.read_writes_eq_canon _ _ _ (cover0_C_6 c i a3 h3 a4 h4 a5 h5 a6 h6 a7 h7 a8 h8 a9 h9 a10 h10 a11 h11 hc0 hc1 x0 x1 x2 x3 x4 x5 xt xs xa)]
  unfold kernelRun0_C
  dsimp only
  sl_unfold_words
  rw [View.canon_unit_zero zero2, View.readCov_unit_zero (S := S512x1024) _ zero2]
  simp only [View.readAt_eq_ld, h5.read_unread, h6.read_unread, h7.read_unread, h8.read_unread, h10.read_unread, h11.read_unread,
    View.ld_unit_zero (S := S512x1024) zero2, View.ld_unit_zero (S := S1x1024x896) zero3, View.ld_unit_zero (S := S1x896x1024) zero3,
    View.ld_unit_zero (S := S512x1) zero2]

end Cases

/-! ## The same at an index, over the extended reals -/

/-- One hidden unit of the gated layer: `g · σ(g) · u`. -/
def gated (g u : EReal) : EReal := g * Ideal.logistic g * u

/-- One point's contribution, at row `r` and output column `d`: the sum over the block's hidden columns. -/
theorem pay3_apply (x : Vec Ideal S512x1024 .bf16) (wg wu : Vec Ideal S1x1024x896 .bf16) (acc : Vec Ideal S512x1024 .f32)
    (wd : Vec Ideal S1x896x1024 .bf16) (r : Fin 512) (d : Fin 1024) :
    k0_pay3 (F := Ideal) x wg wu acc wd (ix2 r d)
      = acc (ix2 r d) + ∑ k : Fin 896, gated (∑ j : Fin 1024, x (ix2 r j) * wg (ix3 0 j k)) (∑ j : Fin 1024, x (ix2 r j) * wu (ix3 0 j k))
          * wd (ix3 0 k d) := by
  unfold gated
  pointwise [k0_pay3]

theorem pay2_apply (r : Fin 512) (d : Fin 1024) : k0_pay2 (F := Ideal) (ix2 r d) = (0 : EReal) := by
  pointwise [k0_pay2]

theorem pay4_apply (s : Vec Ideal S512x1 .f32) (x : Vec Ideal S512x1024 .f32) (r : Fin 512) (d : Fin 1024) :
    k0_pay4 (F := Ideal) s x (ix2 r d) = s (ix2 r 0) * x (ix2 r d) := by
  pointwise [k0_pay4]

end Cert.KernelIdeal.Body

end
-- ==== Proof.Tables.lean ====
/-
  The precondition read as numbers: `experts_in_range` of the arguments says that every word of the routing table
  names one of the eight experts, so every weight block that an index map picks through the table lies inside its
  array. That is the side condition under which the two printed kernels run.
-/
module

public import proofs.«01_k».proof.Defs
public import proofs.«01_k».proof.Proof.Gen.Kernel.Frame
public import proofs.«01_k».proof.Proof.Gen.KernelIdeal.Frame
public import proofs.«01_k».proof.Proof.Gen.Pre_experts_in_range
public import Idealize.ShloMosaic.Lib.StableHlo.Predicate

@[expose] public section

namespace Cert.Tables

open Idealize.ShloMosaic Idealize.ShloMosaic.TcCoe

/-- A 32-bit word that is at least 0 and below 8 as a signed number is below 8 as a natural number. -/
theorem toNat_lt_eight (w : BitVec 32) (h0 : (0#32).sle w = true) (h8 : w.slt 8#32 = true) : w.toNat < 8 := by
  rw [BitVec.sle_iff_toInt_le] at h0
  rw [BitVec.slt_iff_toInt_lt] at h8
  have e0 : (0#32).toInt = 0 := by decide
  have e8 : (8#32).toInt = 8 := by decide
  rw [e0] at h0
  rw [e8] at h8
  rw [BitVec.toInt_eq_toNat_cond] at h0 h8
  split at h0 <;> split at h8 <;> omega

/-- The predicate, element by element: each word of the table names an expert. -/
theorem entry_lt {F : FTy → Type} [FloatOps F] {a0 : IVec Cert.Pre_experts_in_range.S73 32} {a1 a2 a3 a4 a5 a6}
    (h : Cert.Pre_experts_in_range.fn (F := F) a0 a1 a2 a3 a4 a5 a6 = fun _ => 1#1) (x : Cert.Pre_experts_in_range.S73.Idx) :
    (a0 x).toNat < 8 := by
  have hx : IntOp.andi (IntOp.cmpi .sge (a0 x) 0#32) (IntOp.cmpi .slt (a0 x) 8#32) = 1#1 := congrFun h x
  have andi_one (a b : BitVec 1) : IntOp.andi a b = 1#1 → a = 1#1 ∧ b = 1#1 := by revert a b; decide
  obtain ⟨h0, h8⟩ := andi_one _ _ hx
  unfold IntOp.cmpi at h0 h8
  rw [StableHlo.Predicate.ofBool_eq_one_iff] at h0 h8
  exact toNat_lt_eight _ h0 h8

section Rounded
open Cert.Kernel Cert.Kernel.Gen

/-- The table that the rounded kernel prefetches is its first argument. -/
theorem tbl_kernel (m : (ℓ : Loc nD τ sig) → Buf (Elt Bits) ℓ) (c : Dev nD) :
    tbl m 0 = m ((c.tc : Thread nD τ).loc main_arg0) := by
  obtain rfl : c = 0 := Subsingleton.elim _ _
  exact V_main_arg0 m 0

theorem ok_kernel (m : (ℓ : Loc nD τ sig) → Buf (Elt Bits) ℓ) (h : Cert.Pre_Kernel m) : Ok (F := Bits) m := by
  have small : ∀ x, (tbl m 0 x : BitVec 32).toNat < 8 := fun x => by
    rw [tbl_kernel m 0]
    exact entry_lt (h 0) x
  have word : ∀ (r : Rect S73) (h1 : r.shape.numel = 1), ((tbl m).at 0 r h1 : BitVec 32).toNat < 8 := fun r h1 => small _
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    have hf : (i 1).val < 4 := (i 1).isLt
    have hf' : (BitVec.ofNat 32 (i 1).val).toNat = (i 1).val := by rw [BitVec.toNat_ofNat]; omega
    have hw := word (Rect.unit (s := S73) ![(Scalar.indexCast (BitVec.ofNat 32 (i 0).val) : BitVec 32).toNat] S1.size (k0_off1_inb i)) numel1_S1
  · match a with
    | ⟨0, _⟩ => exact (Nat.mul_one _).trans_le hw
    | ⟨1, _⟩ => exact le_refl 1024
    | ⟨2, _⟩ => show ((BitVec.ofNat 32 (i 1).val).toNat + 1) * 896 ≤ 3584; omega
  · match a with
    | ⟨0, _⟩ => exact (Nat.mul_one _).trans_le hw
    | ⟨1, _⟩ => exact le_refl 1024
    | ⟨2, _⟩ => show ((BitVec.ofNat 32 (i 1).val).toNat + 1) * 896 ≤ 3584; omega
  · match a with
    | ⟨0, _⟩ => exact (Nat.mul_one _).trans_le hw
    | ⟨1, _⟩ => show ((BitVec.ofNat 32 (i 1).val).toNat + 1) * 896 ≤ 3584; omega
    | ⟨2, _⟩ => exact le_refl 1024

end Rounded

section Exact
open Cert.KernelIdeal Cert.KernelIdeal.Gen

/-- The table that the exact kernel prefetches is its first argument. -/
theorem tbl_ideal (m : (ℓ : Loc nD τ sig) → Buf (Elt Ideal) ℓ) (c : Dev nD) :
    tbl m 0 = m ((c.tc : Thread nD τ).loc main_arg0) := by
  obtain rfl : c = 0 := Subsingleton.elim _ _
  exact V_main_arg0 m 0

/-- Each word of the exact kernel's table names an expert. -/
theorem expert_lt (m : (ℓ : Loc nD τ sig) → Buf (Elt Ideal) ℓ) (h : Cert.Pre_KernelIdeal m) (x : S73.Idx) :
    (tbl m 0 x : BitVec 32).toNat < 8 := by
  rw [tbl_ideal m 0]
  exact entry_lt (h 0) x

theorem ok_ideal (m : (ℓ : Loc nD τ sig) → Buf (Elt Ideal) ℓ) (h : Cert.Pre_KernelIdeal m) : Ok (F := Ideal) m := by
  have word : ∀ (r : Rect S73) (h1 : r.shape.numel = 1), ((tbl m).at 0 r h1 : BitVec 32).toNat < 8 := fun r h1 => expert_lt m h _
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    have hf : (i 1).val < 4 := (i 1).isLt
    have hf' : (BitVec.ofNat 32 (i 1).val).toNat = (i 1).val := by rw [BitVec.toNat_ofNat]; omega
    have hw := word (Rect.unit (s := S73) ![(Scalar.indexCast (BitVec.ofNat 32 (i 0).val) : BitVec 32).toNat] S1.size (k0_off1_inb i)) numel1_S1
  · match a with
    | ⟨0, _⟩ => exact (Nat.mul_one _).trans_le hw
    | ⟨1, _⟩ => exact le_refl 1024
    | ⟨2, _⟩ => show ((BitVec.ofNat 32 (i 1).val).toNat + 1) * 896 ≤ 3584; omega
  · match a with
    | ⟨0, _⟩ => exact (Nat.mul_one _).trans_le hw
    | ⟨1, _⟩ => exact le_refl 1024
    | ⟨2, _⟩ => show ((BitVec.ofNat 32 (i 1).val).toNat + 1) * 896 ≤ 3584; omega
  · match a with
    | ⟨0, _⟩ => exact (Nat.mul_one _).trans_le hw
    | ⟨1, _⟩ => show ((BitVec.ofNat 32 (i 1).val).toNat + 1) * 896 ≤ 3584; omega
    | ⟨2, _⟩ => exact le_refl 1024

end Exact

end Cert.Tables
-- ==== Proof.Blocks.lean ====
/-
  The blocks that one grid point of the grouped SwiGLU kernel reads, as entries of the program's arguments. Grid point `t` works
  on row tile `t / 4` and block `t % 4` of the hidden columns; its weight blocks belong to the expert that the routing
  table names for the tile.
-/
module

public import proofs.«01_k».proof.Proof.Body
public import proofs.«01_k».proof.Proof.Tables

@[expose] public section

noncomputable section

open Idealize.ShloMosaic Idealize.ShloMosaic.TcCoe Idealize.SL.Sem

namespace Cert.KernelIdeal.Blocks

open Cert.KernelIdeal Cert.KernelIdeal.Gen

/-- A grid point's coordinates: the row tile and the block of hidden columns. -/
theorem coords_tile : ∀ t : Fin grid0.N, ((grid0.coords t) 0).val = t.val / 4 := by decide +kernel
theorem coords_block : ∀ t : Fin grid0.N, ((grid0.coords t) 1).val = t.val % 4 := by decide +kernel

theorem point_lt (t : Fin grid0.N) : t.val < 292 := t.isLt.trans_eq N_0

theorem tile_word (t : Fin grid0.N) : (BitVec.ofNat 32 ((grid0.coords t) 0).val).toNat = t.val / 4 := by
  have h := point_lt t
  rw [coords_tile, BitVec.toNat_ofNat]; omega

theorem block_word (t : Fin grid0.N) : (BitVec.ofNat 32 ((grid0.coords t) 1).val).toNat = t.val % 4 := by
  rw [coords_block, BitVec.toNat_ofNat]; omega

/-- The row tile of a grid point. -/
def tile (t : Fin grid0.N) : Fin 73 := ⟨t.val / 4, by have h := point_lt t; omega⟩

variable (m : (ℓ : Loc nD τ sig) → Buf (Elt Ideal) ℓ) (hO : Ok m) (c : Dev nD)

/-- The table's word for a row tile. -/
def word (q : Fin 73) : BitVec 32 := tbl m 0 (ix1 q)

/-- The one table word that an index map reads at a grid point. -/
theorem table_at (t : Fin grid0.N) :
    ((tbl m).at 0 (Rect.unit (s := S73) ![(Scalar.indexCast (BitVec.ofNat 32 ((grid0.coords t) 0).val) : BitVec 32).toNat] S1.size (k0_off1_inb (grid0.coords t)))
      numel1_S1 : BitVec 32) = word m (tile t) := by
  show tbl m 0 _ = tbl m 0 _
  congr 1
  funext a
  apply Fin.ext
  match a with
  | ⟨0, _⟩ =>
    show (BitVec.ofNat 32 ((grid0.coords t) 0).val).toNat + 1 * 0 = t.val / 4
    rw [tile_word]; omega

/-! ## The arguments as the region finds them -/

theorem gate_cast : V m c main_v0 = (m ((c.tc : Thread nD τ).loc main_arg3) : S8x1024x3584.Idx → EReal) := by
  show StableHlo.after hostOps0 _ _ = _
  after_results_simp
  rfl

theorem up_cast : V m c main_v1 = (m ((c.tc : Thread nD τ).loc main_arg4) : S8x1024x3584.Idx → EReal) := by
  show StableHlo.after hostOps0 _ _ = _
  after_results_simp
  rfl

theorem down_cast : V m c main_v2 = (m ((c.tc : Thread nD τ).loc main_arg5) : S8x3584x1024.Idx → EReal) := by
  show StableHlo.after hostOps0 _ _ = _
  after_results_simp
  rfl

/-! ## The blocks -/

/-- Row `r` of tile `q`. -/
def row (q : Fin 73) (r : Fin 512) : Fin 37376 := ⟨q.val * 512 + r.val, by omega⟩

/-- Column `k` of block `f` of the hidden columns. -/
def hidden (f : ℕ) (k : Fin 896) : Fin 3584 := ⟨f % 4 * 896 + k.val, by omega⟩

theorem rows_at (t : Fin (cfgM m hO).N) (r : Fin 512) (j : Fin 1024) :
    (iblk m hO c 0 t : Vec Ideal S512x1024 .bf16) (ix2 r j)
      = (m ((c.tc : Thread nD τ).loc main_arg1) : S37376x1024.Idx → EReal) (ix2 (row (tile t) r) j) := by
  unfold iblk
  refine (View.read_apply ..).trans ?_
  show V m c main_arg1 _ = _
  rw [V_main_arg1]
  show (m ((c.tc : Thread nD τ).loc main_arg1) : S37376x1024.Idx → EReal) _ = _
  congr 1
  funext a
  apply Fin.ext
  match a with
  | ⟨0, _⟩ =>
    show (BitVec.ofNat 32 ((grid0.coords t) 0).val).toNat * 512 + 1 * r.val = t.val / 4 * 512 + r.val
    rw [tile_word]; omega
  | ⟨1, _⟩ => show 0 * 1024 + 1 * j.val = j.val; omega

theorem scale_at (t : Fin (cfgM m hO).N) (r : Fin 512) :
    (iblk m hO c 5 t : Vec Ideal S512x1 .f32) (ix2 r 0)
      = (m ((c.tc : Thread nD τ).loc main_arg6) : S37376x1.Idx → EReal) (ix2 (row (tile t) r) 0) := by
  unfold iblk
  refine (View.read_apply ..).trans ?_
  show V m c main_arg6 _ = _
  rw [V_main_arg6]
  show (m ((c.tc : Thread nD τ).loc main_arg6) : S37376x1.Idx → EReal) _ = _
  congr 1
  funext a
  apply Fin.ext
  match a with
  | ⟨0, _⟩ =>
    show (BitVec.ofNat 32 ((grid0.coords t) 0).val).toNat * 512 + 1 * r.val = t.val / 4 * 512 + r.val
    rw [tile_word]; omega
  | ⟨1, _⟩ => show 0 * 1 + 1 * 0 = 0; omega

variable (hw : ∀ q, (word m q).toNat < 8)

/-- The expert of a row tile. -/
def expert (q : Fin 73) : Fin 8 := ⟨(word m q).toNat, hw q⟩

theorem gate_at (t : Fin (cfgM m hO).N) (j : Fin 1024) (k : Fin 896) :
    (iblk m hO c 2 t : Vec Ideal S1x1024x896 .bf16) (ix3 0 j k)
      = (m ((c.tc : Thread nD τ).loc main_arg3) : S8x1024x3584.Idx → EReal) (ix3 (expert m hw (tile t)) j (hidden t.val k)) := by
  unfold iblk
  refine (View.read_apply ..).trans ?_
  show V m c main_v0 _ = _
  rw [gate_cast]
  show (m ((c.tc : Thread nD τ).loc main_arg3) : S8x1024x3584.Idx → EReal) _ = _
  congr 1
  funext a
  apply Fin.ext
  match a with
  | ⟨0, _⟩ =>
    refine (congrArg (fun w : BitVec 32 => w.toNat * 1 + 1 * 0) (table_at m t)).trans ?_
    show (word m (tile t)).toNat * 1 + 1 * 0 = (word m (tile t)).toNat
    omega
  | ⟨1, _⟩ => show 0 * 1024 + 1 * j.val = j.val; omega
  | ⟨2, _⟩ =>
    show (BitVec.ofNat 32 ((grid0.coords t) 1).val).toNat * 896 + 1 * k.val = t.val % 4 * 896 + k.val
    rw [block_word]; omega

theorem up_at (t : Fin (cfgM m hO).N) (j : Fin 1024) (k : Fin 896) :
    (iblk m hO c 3 t : Vec Ideal S1x1024x896 .bf16) (ix3 0 j k)
      = (m ((c.tc : Thread nD τ).loc main_arg4) : S8x1024x3584.Idx → EReal) (ix3 (expert m hw (tile t)) j (hidden t.val k)) := by
  unfold iblk
  refine (View.read_apply ..).trans ?_
  show V m c main_v1 _ = _
  rw [up_cast]
  show (m ((c.tc : Thread nD τ).loc main_arg4) : S8x1024x3584.Idx → EReal) _ = _
  congr 1
  funext a
  apply Fin.ext
  match a with
  | ⟨0, _⟩ =>
    refine (congrArg (fun w : BitVec 32 => w.toNat * 1 + 1 * 0) (table_at m t)).trans ?_
    show (word m (tile t)).toNat * 1 + 1 * 0 = (word m (tile t)).toNat
    omega
  | ⟨1, _⟩ => show 0 * 1024 + 1 * j.val = j.val; omega
  | ⟨2, _⟩ =>
    show (BitVec.ofNat 32 ((grid0.coords t) 1).val).toNat * 896 + 1 * k.val = t.val % 4 * 896 + k.val
    rw [block_word]; omega

theorem down_at (t : Fin (cfgM m hO).N) (k : Fin 896) (d : Fin 1024) :
    (iblk m hO c 4 t : Vec Ideal S1x896x1024 .bf16) (ix3 0 k d)
      = (m ((c.tc : Thread nD τ).loc main_arg5) : S8x3584x1024.Idx → EReal) (ix3 (expert m hw (tile t)) (hidden t.val k) d) := by
  unfold iblk
  refine (View.read_apply ..).trans ?_
  show V m c main_v2 _ = _
  rw [down_cast]
  show (m ((c.tc : Thread nD τ).loc main_arg5) : S8x3584x1024.Idx → EReal) _ = _
  congr 1
  funext a
  apply Fin.ext
  match a with
  | ⟨0, _⟩ =>
    refine (congrArg (fun w : BitVec 32 => w.toNat * 1 + 1 * 0) (table_at m t)).trans ?_
    show (word m (tile t)).toNat * 1 + 1 * 0 = (word m (tile t)).toNat
    omega
  | ⟨1, _⟩ =>
    show (BitVec.ofNat 32 ((grid0.coords t) 1).val).toNat * 896 + 1 * k.val = t.val % 4 * 896 + k.val
    rw [block_word]; omega
  | ⟨2, _⟩ => show 0 * 1024 + 1 * d.val = d.val; omega

end Cert.KernelIdeal.Blocks

end
-- ==== Proof.Fold.lean ====
/-
  What the grouped SwiGLU kernel's output array holds: row by row, the scale times the sum of the four blocks' contributions,
  each block's over its own 896 hidden columns of the tile's expert.
-/
module

public import proofs.«01_k».proof.Proof.Blocks

@[expose] public section

noncomputable section

open Idealize.ShloMosaic Idealize.ShloMosaic.TcCoe Idealize.SL.Sem
open Idealize.ShloMosaic.Pipeline (Dat Cfg Window)

namespace Cert.KernelIdeal.Fold

open Cert.KernelIdeal Cert.KernelIdeal.Gen Cert.KernelIdeal.Blocks Cert.KernelIdeal.Body

variable (m : (ℓ : Loc nD τ sig) → Buf (Elt Ideal) ℓ) (ρ : Dev nD → PrngReg) (hO : Ok m) (c : Dev nD)

/-! ## The arguments, as arrays of extended reals -/

def xg : S37376x1024.Idx → EReal := m ((c.tc : Thread nD τ).loc main_arg1)
def wGate : S8x1024x3584.Idx → EReal := m ((c.tc : Thread nD τ).loc main_arg3)
def wUp : S8x1024x3584.Idx → EReal := m ((c.tc : Thread nD τ).loc main_arg4)
def wDown : S8x3584x1024.Idx → EReal := m ((c.tc : Thread nD τ).loc main_arg5)
def scale : S37376x1.Idx → EReal := m ((c.tc : Thread nD τ).loc main_arg6)

/-- Hidden unit `n` of expert `e` on row `p`. -/
def unit (e : Fin 8) (p : Fin 37376) (n : Fin 3584) : EReal :=
  gated (∑ j : Fin 1024, xg m c (ix2 p j) * wGate m c (ix3 e j n)) (∑ j : Fin 1024, xg m c (ix2 p j) * wUp m c (ix3 e j n))

/-- What block `f` of the hidden columns adds to row `p`, output column `d`. -/
def part (e : Fin 8) (p : Fin 37376) (d : Fin 1024) (f : ℕ) : EReal :=
  ∑ k : Fin 896, unit m c e p (hidden f k) * wDown m c (ix3 e (hidden f k) d)

theorem part_mod (e : Fin 8) (p : Fin 37376) (d : Fin 1024) (f : ℕ) : part m c e p d (f % 4) = part m c e p d f := by
  have h (k : Fin 896) : hidden (f % 4) k = hidden f k := Fin.ext (by
    show f % 4 % 4 * 896 + k.val = f % 4 * 896 + k.val
    rw [Nat.mod_mod])
  unfold part
  simp only [h]

variable (hw : ∀ q, (word m q).toNat < 8)

/-- One point's sum over its blocks is the contribution of its part of the hidden columns. -/
theorem point_apply (t : Fin (cfgM m hO).N) (x : Vec Ideal S512x1024 .bf16) (acc : Vec Ideal S512x1024 .f32)
    (hx : ∀ r j, x (ix2 r j) = xg m c (ix2 (row (tile t) r) j)) (r : Fin 512) (d : Fin 1024) :
    k0_pay3 x (iblk m hO c 2 t) (iblk m hO c 3 t) acc (iblk m hO c 4 t) (ix2 r d)
      = acc (ix2 r d) + part m c (expert m hw (tile t)) (row (tile t) r) d t.val := by
  refine (pay3_apply _ _ _ _ _ r d).trans ?_
  congr 1
  refine Finset.sum_congr rfl fun k _ => ?_
  refine congrArg₂ (· * ·) (congrArg₂ gated (Finset.sum_congr rfl fun j _ => ?_) (Finset.sum_congr rfl fun j _ => ?_)) (down_at m hO c hw t k d)
  · exact congrArg₂ (· * ·) (hx r j) (gate_at m hO c hw t j k)
  · exact congrArg₂ (· * ·) (hx r j) (up_at m hO c hw t j k)

/-- A tile's first point, in the chain of what the points leave. -/
theorem first_eq (t : Fin (cfgM m hO).N) (h0 : t.val % 4 = 0) (h3 : ¬t.val % 4 = 3) :
    (outsAt0 m hO c t.val t.isLt).2
      = ((iblk m hO c 0 t : Vec Ideal S512x1024 .bf16), k0_pay3 (iblk m hO c 0 t) (iblk m hO c 2 t) (iblk m hO c 3 t) (k0_pay2 (F := Ideal)) (iblk m hO c 4 t)) := by
  have e := congrArg Prod.snd (outsAt0_A m hO c t h0 h3)
  dsimp only at e
  exact e.trans (Prod.ext (by dsimp only; exact rows_first (F := Ideal) ..) (by dsimp only; exact acc_first (F := Ideal) ..))

/-- A tile's middle points. -/
theorem middle_eq (t : Fin (cfgM m hO).N) (hp : t.val - 1 < (cfgM m hO).N) (h0 : ¬t.val % 4 = 0) (h3 : ¬t.val % 4 = 3) :
    (outsAt0 m hO c t.val t.isLt).2
      = ((outsAt0 m hO c (t.val - 1) hp).2.1,
        k0_pay3 (outsAt0 m hO c (t.val - 1) hp).2.1 (iblk m hO c 2 t) (iblk m hO c 3 t) (outsAt0 m hO c (t.val - 1) hp).2.2 (iblk m hO c 4 t)) := by
  have e := congrArg Prod.snd (outsAt0_B m hO c t h0 h3)
  dsimp only at e
  exact e.trans (Prod.ext rfl (by dsimp only; exact acc_middle (F := Ideal) ..))

/-- A tile's last point. -/
theorem last_eq (t : Fin (cfgM m hO).N) (hp : t.val - 1 < (cfgM m hO).N) (h0 : ¬t.val % 4 = 0) (h3 : t.val % 4 = 3) :
    (outsAt0 m hO c t.val t.isLt).1
      = k0_pay4 (iblk m hO c 5 t)
        (k0_pay3 (outsAt0 m hO c (t.val - 1) hp).2.1 (iblk m hO c 2 t) (iblk m hO c 3 t) (outsAt0 m hO c (t.val - 1) hp).2.2 (iblk m hO c 4 t)) := by
  have e := congrArg Prod.fst (outsAt0_C m hO c t h0 h3)
  dsimp only at e
  exact e.trans (out_last (F := Ideal) ..)

/-- Before a tile's last point: the scratch holds the tile's rows, the accumulator the parts so far. -/
theorem carried (n : ℕ) (hn : n < (cfgM m hO).N) (h3 : n % 4 ≠ 3) :
    (∀ r j, (outsAt0 m hO c n hn).2.1 (ix2 r j) = xg m c (ix2 (row (tile ⟨n, hn⟩) r) j))
      ∧ ∀ r d, (outsAt0 m hO c n hn).2.2 (ix2 r d)
        = ∑ f ∈ Finset.range (n % 4 + 1), part m c (expert m hw (tile ⟨n, hn⟩)) (row (tile ⟨n, hn⟩) r) d f := by
  induction n using Nat.strong_induction_on with
  | _ n ih =>
    by_cases h0 : n % 4 = 0
    · have e := first_eq m hO c ⟨n, hn⟩ h0 h3
      have hrows : ∀ r j, (iblk m hO c 0 ⟨n, hn⟩ : Vec Ideal S512x1024 .bf16) (ix2 r j) = xg m c (ix2 (row (tile ⟨n, hn⟩) r) j) :=
        fun r j => rows_at m hO c ⟨n, hn⟩ r j
      refine ⟨fun r j => (congrFun (congrArg Prod.fst e) _).trans (hrows r j), fun r d => (congrFun (congrArg Prod.snd e) _).trans ?_⟩
      refine (point_apply m hO c hw ⟨n, hn⟩ _ _ hrows r d).trans ?_
      rw [pay2_apply, zero_add, h0, Finset.sum_range_one, ← h0, part_mod]
    · have hp : n - 1 < (cfgM m hO).N := lt_of_le_of_lt (Nat.sub_le n 1) hn
      obtain ⟨hrows, hacc⟩ := ih (n - 1) (by omega) hp (by omega)
      have ht : tile ⟨n - 1, hp⟩ = tile ⟨n, hn⟩ := Fin.ext (by show (n - 1) / 4 = n / 4; omega)
      have hm : (n - 1) % 4 + 1 = n % 4 := by omega
      rw [ht] at hrows hacc
      have e := middle_eq m hO c ⟨n, hn⟩ hp h0 h3
      refine ⟨fun r j => (congrFun (congrArg Prod.fst e) _).trans (hrows r j), fun r d => (congrFun (congrArg Prod.snd e) _).trans ?_⟩
      refine (point_apply m hO c hw ⟨n, hn⟩ _ _ hrows r d).trans ?_
      rw [Finset.sum_range_succ, part_mod, ← hm, ← hacc]

/-- The output array's value: row `p` of tile `p / 512`. -/
def value (p : Fin 37376) (d : Fin 1024) : EReal :=
  scale m c (ix2 p 0) * ∑ f ∈ Finset.range 4, part m c (expert m hw ⟨p.val / 512, by omega⟩) p d f

/-- At a tile's last point the output block holds the tile's rows of the value. -/
theorem written (t : Fin (cfgM m hO).N) (h3 : t.val % 4 = 3) (r : Fin 512) (d : Fin 1024) :
    (outsAt0 m hO c t.val t.isLt).1 (ix2 r d) = value m c hw (row (tile t) r) d := by
  have h0 : ¬t.val % 4 = 0 := by omega
  have hp : t.val - 1 < (cfgM m hO).N := lt_of_le_of_lt (Nat.sub_le _ 1) t.isLt
  obtain ⟨hrows, hacc⟩ := carried m hO c hw (t.val - 1) hp (by omega)
  have ht : tile ⟨t.val - 1, hp⟩ = tile t := Fin.ext (by show (t.val - 1) / 4 = t.val / 4; omega)
  rw [ht] at hrows hacc
  refine (congrFun (last_eq m hO c t hp h0 h3) _).trans ((pay4_apply _ _ r d).trans ?_)
  have hsum := point_apply m hO c hw t _ (outsAt0 m hO c (t.val - 1) hp).2.2 hrows r d
  rw [hacc, show (t.val - 1) % 4 + 1 = 3 by omega, ← part_mod, h3, ← Finset.sum_range_succ] at hsum
  have hq : (⟨(row (tile t) r).val / 512, by have := (row (tile t) r).isLt; omega⟩ : Fin 73) = tile t :=
    Fin.ext (by show (t.val / 4 * 512 + r.val) / 512 = t.val / 4; omega)
  unfold value
  rw [hq]
  exact congrArg₂ (· * ·) (scale_at m hO c t r) hsum

/-! ## The output array -/

/-- The output array. -/
def out : S37376x1024.Idx → EReal := fun i => value m c hw (i 0) (i 1)

theorem written_idx (t : Fin (cfgM m hO).N) (h3 : t.val % 4 = 3) (y : S512x1024.Idx) :
    (outsAt0 m hO c t.val t.isLt).1 y = value m c hw (row (tile t) (y 0)) (y 1) := by
  conv_lhs => rw [eq_ix2 y]
  exact written m hO c hw t h3 (y 0) (y 1)

/-- A block whose entries are a table's entries at the block's rows is the table read at the block. -/
theorem cut_eq (t : Fin (cfgM m hO).N) (g : Fin 37376 → Fin 1024 → EReal) (x : Vec Ideal S512x1024 .f32)
    (h : ∀ y : S512x1024.Idx, x y = g (row (tile t) (y 0)) (y 1)) :
    ((cfgM m hO).win 6).cut (grid0.coords t) x = (((cfgM m hO).win 6).blk t).view.read (Elt Ideal) (fun i : S37376x1024.Idx => g (i 0) (i 1)) := by
  have rows (y : S512x1024.Idx) : g (row (tile t) (y 0)) (y 1)
      = (fun i : S37376x1024.Idx => g (i 0) (i 1)) ((((cfgM m hO).win 6).blk t).view.emb y) := by
    refine congrArg₂ g (Fin.ext ?_) (Fin.ext ?_)
    · show t.val / 4 * 512 + (y 0).val = (BitVec.ofNat 32 ((grid0.coords t) 0).val).toNat * 512 + 1 * (y 0).val
      rw [tile_word]; omega
    · show (y 1).val = 0 * 1024 + 1 * (y 1).val
      omega
  exact funext fun y => (h y).trans (rows y)

theorem flushed_eq (t : Fin (cfgM m hO).N) (hf : ((cfgM m hO).win 6).flush t = true) :
    (dats m hO 0 c).flushed 6 t = (((cfgM m hO).win 6).blk t).view.read (Elt Ideal) (out m c hw) := by
  show ((cfgM m hO).win 6).cut (grid0.coords t) ((dats m hO 0 c).after 6 t) = _
  rw [after0_6]
  exact cut_eq m hO t (value m c hw) _ (written_idx m hO c hw t ((flush0_6 (adm m hO) t).mp hf))

theorem mem_blk (t : Fin (cfgM m hO).N) (i : S37376x1024.Idx) :
    i ∈ (((cfgM m hO).win 6).blk t).view.set
      ↔ ∀ a : Fin 2, cc0_transform_6 (grid0.coords t) a * S512x1024.size a ≤ (i a).val
        ∧ (i a).val < cc0_transform_6 (grid0.coords t) a * S512x1024.size a + S512x1024.size a := by
  have e : (((cfgM m hO).win 6).blk t).view.set = (((cfgM m hO).win 6).rect t).set := View.set_slice_whole main_v4 _
  rw [e]
  exact Rect.mem_set_unit

/-- Every row lies in the block that its tile's last point writes back. -/
theorem covered (i : S37376x1024.Idx) : ∃ t : Fin (cfgM m hO).N, ((cfgM m hO).win 6).flush t = true ∧ i ∈ (((cfgM m hO).win 6).blk t).view.set := by
  have hi : (i 0).val < 37376 := (i 0).isLt
  have hd : (i 1).val < 1024 := (i 1).isLt
  have hlt : (i 0).val / 512 * 4 + 3 < (cfgM m hO).N := lt_of_lt_of_eq (by omega) (show 292 = (cfgM m hO).N from N_0.symm)
  have hmod : ((i 0).val / 512 * 4 + 3) % 4 = 3 := by omega
  refine ⟨⟨_, hlt⟩, (flush0_6 (adm m hO) ⟨_, hlt⟩).mpr hmod, ?_⟩
  rw [mem_blk]
  have ht := tile_word ⟨(i 0).val / 512 * 4 + 3, hlt⟩
  dsimp only at ht
  intro a
  match a with
  | ⟨0, _⟩ =>
    show (BitVec.ofNat 32 ((grid0.coords _) 0).val).toNat * 512 ≤ (i 0).val ∧ (i 0).val < (BitVec.ofNat 32 ((grid0.coords _) 0).val).toNat * 512 + 512
    rw [ht]; omega
  | ⟨1, _⟩ =>
    show 0 * 1024 ≤ (i 1).val ∧ (i 1).val < 0 * 1024 + 1024
    omega

theorem final : (dats m hO 0 c).arrAt 6 (cfgM m hO).N = out m c hw :=
  (dats m hO 0 c).arrAt_eq_of_cover 6 _ (fun t hf => flushed_eq m hO c hw t hf) (fun i => covered m hO i)

include hO in
/-- The exact kernel's run: its result is `out`, its arguments end unchanged. -/
theorem run : θ_run defs (onTc (τ := τ) (main (F := Ideal))) ⟨m, fun _ => 0, ρ⟩ (fun r => ∀ c : Dev nD,
      r.2.mem ((c.tc : Thread nD τ).loc main_v4) = out m c hw
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).trans (final m hO c hw), h.2 c⟩)
    (θ_run_and ((θ_run defs _ _).mono (fun _ h c => (h c).1 6) (run_main m ρ hO)) (unchanged m ρ hO))

end Cert.KernelIdeal.Fold

end
-- ==== Proof.RefValue.lean ====
/-
  The reference's result at an index. The reference runs all eight experts on every row and adds them with a row's combine
  weights; its eight rounds are one round taken at eight expert numbers, so the round is read at an index once.
-/
module

public import proofs.«01_k».proof.Defs
public import proofs.«01_k».proof.Proof.Gen.ReferenceIdeal.Run
public import proofs.«01_k».proof.Proof.Gen.ReferenceIdeal.Read
public import proofs.«01_k».proof.Proof.Body
public import Idealize.ShloMosaic.Lib.Pointwise

@[expose] public section

noncomputable section

open Idealize.ShloMosaic Idealize.ShloMosaic.TcCoe Idealize.SL.Sem

namespace Cert.ReferenceIdeal.Rounds

open Cert.ReferenceIdeal Cert.ReferenceIdeal.Gen Cert.ReferenceIdeal.Read
open Cert.KernelIdeal.Body (gated)

/-- Rows times one expert's matrix of one of the two input weights. -/
def proj (h : FVec Ideal S37376x1024 .f32) (w : FVec Ideal S8x1024x3584 .f32) (e : ℕ) (se : S8x1024x3584.Slices ![e, 0, 0] S1x1024x3584) :
    FVec Ideal S37376x3584 .f32 :=
  Host.dotGeneral dot_S37376x1024_S1024x3584_S37376x3584_1_0_0_1_n_n none h
    (shapeCast S1024x3584 (extractStridedSlice S1x1024x3584 ![e, 0, 0] w se) shapeCasts_S1x1024x3584_S1024x3584)

/-- The sigmoid-gated product of the two projections. -/
def act (g u : FVec Ideal S37376x3584 .f32) : FVec Ideal S37376x3584 .f32 :=
  mulf (mulf g (Host.divf (broadcastInDim S37376x3584 ![] bcast_S_S37376x3584 (constant S_ .f32 0x3F800000#32))
    (addf (broadcastInDim S37376x3584 ![] bcast_S_S37376x3584 (constant S_ .f32 0x3F800000#32)) (Host.exp (Host.negf g))))) u

/-- The hidden activations times one expert's output matrix. -/
def back (a : FVec Ideal S37376x3584 .f32) (w : FVec Ideal S8x3584x1024 .f32) (e : ℕ) (se : S8x3584x1024.Slices ![e, 0, 0] S1x3584x1024) :
    FVec Ideal S37376x1024 .f32 :=
  Host.dotGeneral dot_S37376x3584_S3584x1024_S37376x1024_1_0_0_1_n_n none a
    (shapeCast S3584x1024 (extractStridedSlice S1x3584x1024 ![e, 0, 0] w se) shapeCasts_S1x3584x1024_S3584x1024)

/-- One round: what expert `e` gives, times its combine weights, added. -/
def round (acc : FVec Ideal S37376x1024 .f32) (cw : FVec Ideal S37376x8 .f32) (y : FVec Ideal S37376x1024 .f32) (e : ℕ)
    (se : S37376x8.Slices ![0, e] S37376x1) : FVec Ideal S37376x1024 .f32 :=
  addf acc (mulf (broadcastInDim S37376x1024 ![0, 1] bcast_S37376x1_S37376x1024_0_1 (extractStridedSlice S37376x1 ![0, e] cw se)) y)

theorem proj_apply (h : FVec Ideal S37376x1024 .f32) (w : FVec Ideal S8x1024x3584 .f32) (e : Fin 8)
    (se : S8x1024x3584.Slices ![e.val, 0, 0] S1x1024x3584) (p : Fin 37376) (n : Fin 3584) :
    proj h w e.val se (ix2 p n) = ∑ j : Fin 1024, h (ix2 p j) * w (ix3 e j n) := by
  pointwise [proj]

theorem act_apply (g u : FVec Ideal S37376x3584 .f32) (p : Fin 37376) (n : Fin 3584) :
    act g u (ix2 p n) = gated (g (ix2 p n)) (u (ix2 p n)) := by
  unfold gated
  pointwise [act, Ideal.logistic]

theorem back_apply (a : FVec Ideal S37376x3584 .f32) (w : FVec Ideal S8x3584x1024 .f32) (e : Fin 8)
    (se : S8x3584x1024.Slices ![e.val, 0, 0] S1x3584x1024) (p : Fin 37376) (d : Fin 1024) :
    back a w e.val se (ix2 p d) = ∑ n : Fin 3584, a (ix2 p n) * w (ix3 e n d) := by
  pointwise [back]

theorem round_apply (acc : FVec Ideal S37376x1024 .f32) (cw : FVec Ideal S37376x8 .f32) (y : FVec Ideal S37376x1024 .f32) (e : Fin 8)
    (se : S37376x8.Slices ![0, e.val] S37376x1) (p : Fin 37376) (d : Fin 1024) :
    round acc cw y e.val se (ix2 p d) = acc (ix2 p d) + cw (ix2 p e) * y (ix2 p d) := by
  pointwise [round]

/-! ## The eight rounds -/

variable (x0 : IVec S73 32) (x1 : FVec Ideal S37376x1024 .bf16) (x3 x4 : FVec Ideal S8x1024x3584 .f32) (x5 : FVec Ideal S8x3584x1024 .f32)
  (x6 : FVec Ideal S37376x1 .f32)

/-- Expert `e`'s round over the reference's own rows and combine weights. -/
def step (acc : FVec Ideal S37376x1024 .f32) (e : ℕ) (s1 : S8x1024x3584.Slices ![e, 0, 0] S1x1024x3584)
    (s2 : S8x3584x1024.Slices ![e, 0, 0] S1x3584x1024) (s3 : S37376x8.Slices ![0, e] S37376x1) : FVec Ideal S37376x1024 .f32 :=
  round acc (val_main_v4 (F := Ideal) x0 x6) (back (act (proj (val_main_v5 (F := Ideal) x1) x3 e s1) (proj (val_main_v5 (F := Ideal) x1) x4 e s1)) x5 e s2) e s3

/-- What expert `e` gives on row `p`, output column `d`. -/
def dense (e : Fin 8) (p : Fin 37376) (d : Fin 1024) : EReal :=
  ∑ n : Fin 3584, gated (∑ j : Fin 1024, x1 (ix2 p j) * x3 (ix3 e j n)) (∑ j : Fin 1024, x1 (ix2 p j) * x4 (ix3 e j n)) * x5 (ix3 e n d)

theorem step_apply (acc : FVec Ideal S37376x1024 .f32) (e : Fin 8) (s1 : S8x1024x3584.Slices ![e.val, 0, 0] S1x1024x3584)
    (s2 : S8x3584x1024.Slices ![e.val, 0, 0] S1x3584x1024) (s3 : S37376x8.Slices ![0, e.val] S37376x1) (p : Fin 37376) (d : Fin 1024) :
    step x0 x1 x3 x4 x5 x6 acc e.val s1 s2 s3 (ix2 p d)
      = acc (ix2 p d) + val_main_v4 (F := Ideal) x0 x6 (ix2 p e) * dense x1 x3 x4 x5 e p d := by
  unfold step dense
  rw [round_apply, back_apply]
  simp only [act_apply, proj_apply]
  rfl

/-- The reference is the eight rounds, from zero. -/
theorem eight_rounds : val_main_v126 (F := Ideal) x0 x1 x3 x4 x5 x6
    = step x0 x1 x3 x4 x5 x6 (step x0 x1 x3 x4 x5 x6 (step x0 x1 x3 x4 x5 x6 (step x0 x1 x3 x4 x5 x6 (step x0 x1 x3 x4 x5 x6
      (step x0 x1 x3 x4 x5 x6 (step x0 x1 x3 x4 x5 x6 (step x0 x1 x3 x4 x5 x6 (val_main_v6 (F := Ideal))
        (0 : Fin 8).val slices_S8x1024x3584_S1x1024x3584_0_0_0 slices_S8x3584x1024_S1x3584x1024_0_0_0 slices_S37376x8_S37376x1_0_0)
        (1 : Fin 8).val slices_S8x1024x3584_S1x1024x3584_1_0_0 slices_S8x3584x1024_S1x3584x1024_1_0_0 slices_S37376x8_S37376x1_0_1)
        (2 : Fin 8).val slices_S8x1024x3584_S1x1024x3584_2_0_0 slices_S8x3584x1024_S1x3584x1024_2_0_0 slices_S37376x8_S37376x1_0_2)
        (3 : Fin 8).val slices_S8x1024x3584_S1x1024x3584_3_0_0 slices_S8x3584x1024_S1x3584x1024_3_0_0 slices_S37376x8_S37376x1_0_3)
        (4 : Fin 8).val slices_S8x1024x3584_S1x1024x3584_4_0_0 slices_S8x3584x1024_S1x3584x1024_4_0_0 slices_S37376x8_S37376x1_0_4)
        (5 : Fin 8).val slices_S8x1024x3584_S1x1024x3584_5_0_0 slices_S8x3584x1024_S1x3584x1024_5_0_0 slices_S37376x8_S37376x1_0_5)
        (6 : Fin 8).val slices_S8x1024x3584_S1x1024x3584_6_0_0 slices_S8x3584x1024_S1x3584x1024_6_0_0 slices_S37376x8_S37376x1_0_6)
        (7 : Fin 8).val slices_S8x1024x3584_S1x1024x3584_7_0_0 slices_S8x3584x1024_S1x3584x1024_7_0_0 slices_S37376x8_S37376x1_0_7 := rfl

/-- A row's combine weight for expert `e`: its scale if the row's tile is the expert's, else zero. -/
theorem combine_apply (p : Fin 37376) (e : Fin 8) :
    val_main_v4 (F := Ideal) x0 x6 (ix2 p e)
      = if (x0 (ix1 ⟨p.val / 512, by omega⟩)).toNat = e.val then x6 (ix2 p 0) else (0 : EReal) := by
  rw [val_main_v4_apply, val_main_v3_apply, val_main_v2_apply, val_main_call0_v4_apply, val_main_call0_v2_apply, val_main_call0_v0_apply,
    val_main_v1_apply, val_main_v0_apply, val_main_call0_v3_apply, val_main_call0_v1_apply]
  have hx6 : idx_main_v3 (ix2 p e) = ix2 p 0 := funext fun a => Fin.ext (by match a with | ⟨0, _⟩ => rfl | ⟨1, _⟩ => rfl)
  have hx0 : idx_main_v0 (idx_main_v1 (idx_main_call0_v0 (idx_main_call0_v2 (ix2 p e)))) = ix1 ⟨p.val / 512, by omega⟩ :=
    funext fun a => Fin.ext (by match a with | ⟨0, _⟩ => rfl)
  rw [hx6, hx0]
  generalize x0 (ix1 ⟨p.val / 512, by omega⟩) = w
  show x6 (ix2 p 0) * (((IntOp.cmpi .eq w (BitVec.ofNat 32 e.val)).toNat : ℝ) : EReal) = _
  have he : (BitVec.ofNat 32 e.val).toNat = e.val := by rw [BitVec.toNat_ofNat]; omega
  by_cases h : w.toNat = e.val
  · have hw : w = BitVec.ofNat 32 e.val := BitVec.eq_of_toNat_eq (h.trans he.symm)
    rw [if_pos h, ← hw]
    simp [IntOp.cmpi]
  · have hw : w ≠ BitVec.ofNat 32 e.val := fun hw => h ((congrArg BitVec.toNat hw).trans he)
    rw [if_neg h]
    simp [IntOp.cmpi, hw]

theorem zeros_apply (p : Fin 37376) (d : Fin 1024) : val_main_v6 (F := Ideal) (ix2 p d) = (0 : EReal) := by
  pointwise [val_main_v6, val_main_cst]

/-- The reference on row `p`, output column `d`: the one expert that the row's tile names, times the row's scale. -/
theorem value_apply (p : Fin 37376) (d : Fin 1024) (e : Fin 8) (he : (x0 (ix1 ⟨p.val / 512, by omega⟩)).toNat = e.val) :
    val_main_v126 (F := Ideal) x0 x1 x3 x4 x5 x6 (ix2 p d) = x6 (ix2 p 0) * dense x1 x3 x4 x5 e p d := by
  have one (e' : Fin 8) : val_main_v4 (F := Ideal) x0 x6 (ix2 p e') * dense x1 x3 x4 x5 e' p d
      = if e = e' then x6 (ix2 p 0) * dense x1 x3 x4 x5 e' p d else 0 := by
    rw [combine_apply, he]
    by_cases h : e = e'
    · rw [if_pos h, if_pos (congrArg Fin.val h)]
    · rw [if_neg h, if_neg (fun h' => h (Fin.ext h')), zero_mul]
  rw [eight_rounds]
  simp only [step_apply, zeros_apply, zero_add]
  rw [← Fin.sum_univ_eight (fun e' => val_main_v4 (F := Ideal) x0 x6 (ix2 p e') * dense x1 x3 x4 x5 e' p d)]
  simp only [one]
  rw [Finset.sum_ite_eq, if_pos (Finset.mem_univ e)]

end Cert.ReferenceIdeal.Rounds

end
-- ==== Proof.Equation.lean ====
/-
  The grouped SwiGLU kernel's output array is the reference's: a sum over all hidden columns is the sum of the sums over the
  kernel's four blocks of them.
-/
module

public import proofs.«01_k».proof.Proof.Fold
public import proofs.«01_k».proof.Proof.RefValue

@[expose] public section

noncomputable section

open Idealize.ShloMosaic Idealize.ShloMosaic.TcCoe Idealize.SL.Sem

namespace Cert.Equation

open Cert.KernelIdeal Cert.KernelIdeal.Gen Cert.KernelIdeal.Blocks Cert.KernelIdeal.Fold
open Cert.ReferenceIdeal.Rounds (dense)

/-- A sum over the 3584 hidden columns, block by block. -/
theorem sum_blocks (g : Fin 3584 → EReal) : ∑ n, g n = ∑ f ∈ Finset.range 4, ∑ k : Fin 896, g (hidden f k) := by
  rw [Finset.sum_range, ← (finProdFinEquiv (m := 4) (n := 896)).sum_comp g, Fintype.sum_prod_type]
  refine Finset.sum_congr rfl fun f _ => Finset.sum_congr rfl fun k _ => congrArg g (Fin.ext ?_)
  show k.val + 896 * f.val = f.val % 4 * 896 + k.val
  have := f.isLt
  omega

variable (m : (ℓ : Loc nD τ sig) → Buf (Elt Ideal) ℓ) (c : Dev nD) (hw : ∀ q, (word m q).toNat < 8)

theorem value_eq (p : Fin 37376) (d : Fin 1024) :
    value m c hw p d = scale m c (ix2 p 0) * dense (xg m c) (wGate m c) (wUp m c) (wDown m c) (expert m hw ⟨p.val / 512, by omega⟩) p d := by
  unfold value dense part unit
  rw [sum_blocks]

/-- The two arrays are the same function of the arguments. -/
theorem out_eq : out m c hw = Cert.ReferenceIdeal.Read.val_main_v126 (F := Ideal) (m ((c.tc : Thread nD τ).loc main_arg0)) (xg m c) (wGate m c) (wUp m c)
    (wDown m c) (scale m c) := by
  funext i
  rw [eq_ix2 i]
  refine (value_eq m c hw (i 0) (i 1)).trans (Cert.ReferenceIdeal.Rounds.value_apply _ _ _ _ _ _ (i 0) (i 1) _ ?_).symm
  show BitVec.toNat _ = (word m _).toNat
  unfold word
  rw [Cert.Tables.tbl_ideal m c]

end Cert.Equation

end
-- ==== Proof.ProjBody.lean ====
/-
  What one grid point of the norm-and-project kernel leaves behind, as a function of what it reads. At a row tile's first
  point the body normalizes the tile's rows into its scratch; at every point it writes the product of the normalized rows
  with one block of the projection's columns.
-/
module

public import proofs.«01_k».proof.Defs
public import proofs.«01_k».proof.Proof.Gen.Kernel2Ideal.Frame
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem

namespace Cert.Kernel2Ideal.Body

open Cert.Kernel2Ideal Cert.Kernel2Ideal.Gen

section Cases
variable {F : FTy → Type} [FloatOps F]

theorem zero2 : (![0, 0] : Fin 2 → Nat) = fun _ => 0 := funext fun a => by fin_cases a <;> rfl

variable (c : Dev nD) (i : grid0.Coords)
  (a2 : Memref sig .tc .vmem S1280x1024 .f32) (h2 : a2.IsWhole) (a3 : Memref sig .tc .vmem S1x1024 .f32) (h3 : a3.IsWhole)
  (a4 : Memref sig .tc .vmem S1024x1536 .bf16) (h4 : a4.IsWhole) (a5 : Memref sig .tc .vmem S1280x1536 .f32) (h5 : a5.IsWhole)
  (a6 : Memref sig .tc .vmem S1280x1024 .bf16) (h6 : a6.IsWhole)
  (x0 : Vec F S1280x1024 .f32) (x1 : Vec F S1x1024 .f32) (x2 : Vec F S1024x1536 .bf16) (xs : Vec F S1280x1024 .bf16)

/-- A tile's first point normalizes the tile's rows into the scratch … -/
theorem rows_first (hc0 : cond0_0 i) :
    sout0_A_0 c i a2 h2 a3 h3 a4 h4 a5 h5 a6 h6 hc0 x0 x1 x2 = k0_pay1 x0 x1 := by
  unfold sout0_A_0
  rw [View.read_writes_eq_canon _ _ _ (scover0_A_0 c i a2 h2 a3 h3 a4 h4 a5 h5 a6 h6 hc0 x0 x1 x2)]
  unfold kernelRun0_A
  dsimp only
  sl_unfold_words
  rw [View.canon_unit_zero zero2]
  simp only [View.readAt_eq_ld, h2.read_unread, h3.read_unread, View.ld_unit_zero (S := S1280x1024) zero2, View.ld_unit_zero (S := S1x1024) zero2]

/-- … and writes their product with the block of columns. -/
theorem out_first (hc0 : cond0_0 i) :
    out0_A_3 c i a2 h2 a3 h3 a4 h4 a5 h5 a6 h6 hc0 x0 x1 x2 = k0_pay2 (k0_pay1 x0 x1) x2 := by
  unfold out0_A_3
  rw [View.read_writes_eq_canon _ _ _ (cover0_A_3 c i a2 h2 a3 h3 a4 h4 a5 h5 a6 h6 hc0 x0 x1 x2)]
  unfold kernelRun0_A
  dsimp only
  sl_unfold_words
  rw [View.canon_unit_zero zero2, View.readCov_unit_zero (S := S1280x1024) _ zero2]
  simp only [View.readAt_eq_ld, h2.read_unread, h3.read_unread, h4.read_unread, View.ld_unit_zero (S := S1280x1024) zero2,
    View.ld_unit_zero (S := S1x1024) zero2, View.ld_unit_zero (S := S1024x1536) zero2]

/-- A later point writes the product of the rows in the scratch with its block of columns. -/
theorem out_later (hc0 : ¬cond0_0 i) :
    out0_B_3 c i a2 h2 a3 h3 a4 h4 a5 h5 a6 h6 hc0 x0 x1 x2 xs = k0_pay2 xs x2 := by
  unfold out0_B_3
  rw [View.read_writes_eq_canon _ _ _ (cover0_B_3 c i a2 h2 a3 h3 a4 h4 a5 h5 a6 h6 hc0 x0 x1 x2 xs)]
  unfold kernelRun0_B
  dsimp only
  sl_unfold_words
  rw [View.canon_unit_zero zero2]
  simp only [View.readAt_eq_ld, h4.read_unread, h6.read_unread, View.ld_unit_zero (S := S1280x1024) zero2,
    View.ld_unit_zero (S := S1024x1536) zero2]

end Cases

/-! ## The same at an index, over the extended reals -/

/-- A row's entry `j` divided by the row's root mean square, times the gain. -/
def normed (x : Fin 1024 → EReal) (g : Fin 1024 → EReal) (j : Fin 1024) : EReal :=
  x j * Ideal.rsqrt (Ideal.div (∑ k : Fin 1024, x k * x k) (Ideal.ofBits .f32 0x44800000#32) + Ideal.ofBits .f32 0x358637BD#32) * g j

theorem pay1_apply (x : Vec Ideal S1280x1024 .f32) (g : Vec Ideal S1x1024 .f32) (r : Fin 1280) (j : Fin 1024) :
    k0_pay1 (F := Ideal) x g (ix2 r j) = normed (fun k => x (ix2 r k)) (fun k => g (ix2 0 k)) j := by
  unfold normed
  pointwise [k0_pay1]

theorem pay2_apply (x : Vec Ideal S1280x1024 .bf16) (w : Vec Ideal S1024x1536 .bf16) (r : Fin 1280) (n : Fin 1536) :
    k0_pay2 (F := Ideal) x w (ix2 r n) = ∑ j : Fin 1024, x (ix2 r j) * w (ix2 j n) := by
  pointwise [k0_pay2]

/-- A normalized row times one column of the weight. -/
def projected (x g w : Fin 1024 → EReal) : EReal := ∑ j, normed x g j * w j

end Cert.Kernel2Ideal.Body

end
-- ==== Proof.ProjFold.lean ====
/-
  What the norm-and-project kernel's output array holds: every row of the row array, normalized, times every column of the
  weight array.
-/
module

public import proofs.«01_k».proof.Proof.ProjBody

@[expose] public section

noncomputable section

open Idealize.ShloMosaic Idealize.ShloMosaic.TcCoe Idealize.SL.Sem
open Idealize.ShloMosaic.Pipeline (Dat Cfg Window)

namespace Cert.Kernel2Ideal.Fold

open Cert.Kernel2Ideal Cert.Kernel2Ideal.Gen Cert.Kernel2Ideal.Body

/-- A grid point's coordinates: the row tile and the block of columns. -/
theorem coords_tile : ∀ t : Fin grid0.N, ((grid0.coords t) 0).val = t.val / 5 := by decide +kernel
theorem coords_block : ∀ t : Fin grid0.N, ((grid0.coords t) 1).val = t.val % 5 := by decide +kernel

theorem point_lt (t : Fin grid0.N) : t.val < 65 := t.isLt.trans_eq N_0

theorem tile_word (t : Fin grid0.N) : (BitVec.ofNat 32 ((grid0.coords t) 0).val).toNat = t.val / 5 := by
  have h := point_lt t
  rw [coords_tile, BitVec.toNat_ofNat]; omega

theorem block_word (t : Fin grid0.N) : (BitVec.ofNat 32 ((grid0.coords t) 1).val).toNat = t.val % 5 := by
  rw [coords_block, BitVec.toNat_ofNat]; omega

/-- Row `r` of the tile that grid point number `t` works on, and column `k` of its block. -/
def row (t : ℕ) (r : Fin 1280) : Fin 16640 := ⟨t / 5 % 13 * 1280 + r.val, by omega⟩
def col (t : ℕ) (k : Fin 1536) : Fin 7680 := ⟨t % 5 * 1536 + k.val, by omega⟩

theorem row_val (t : Fin grid0.N) (r : Fin 1280) : (row t.val r).val = t.val / 5 * 1280 + r.val := by
  have h := point_lt t
  show t.val / 5 % 13 * 1280 + r.val = _
  omega

variable (m : (ℓ : Loc nD τ sig) → Buf (Elt Ideal) ℓ) (ρ : Dev nD → PrngReg) (c : Dev nD)

/-! ## The arrays that the region reads -/

def rows : S16640x1024.Idx → EReal := V m c main_v3
def gain : S1x1024.Idx → EReal := V m c main_v19
def weight : S1024x7680.Idx → EReal := V m c main_v18

theorem rows_at (t : Fin cfg0.N) (r : Fin 1280) (j : Fin 1024) :
    (iblk m c 0 t : Vec Ideal S1280x1024 .f32) (ix2 r j) = rows m c (ix2 (row t.val r) j) := by
  unfold iblk
  refine (View.read_apply ..).trans ?_
  show rows m c _ = _
  congr 1
  funext a
  apply Fin.ext
  match a with
  | ⟨0, _⟩ =>
    show (BitVec.ofNat 32 ((grid0.coords t) 0).val).toNat * 1280 + 1 * r.val = (row t.val r).val
    rw [tile_word, row_val]; omega
  | ⟨1, _⟩ => show 0 * 1024 + 1 * j.val = j.val; omega

theorem gain_at (t : Fin cfg0.N) (j : Fin 1024) :
    (iblk m c 1 t : Vec Ideal S1x1024 .f32) (ix2 0 j) = gain m c (ix2 0 j) := by
  unfold iblk
  refine (View.read_apply ..).trans ?_
  show gain m c _ = _
  congr 1
  funext a
  apply Fin.ext
  match a with
  | ⟨0, _⟩ => show 0 * 1 + 1 * 0 = 0; omega
  | ⟨1, _⟩ => show 0 * 1024 + 1 * j.val = j.val; omega

theorem weight_at (t : Fin cfg0.N) (j : Fin 1024) (k : Fin 1536) :
    (iblk m c 2 t : Vec Ideal S1024x1536 .bf16) (ix2 j k) = weight m c (ix2 j (col t.val k)) := by
  unfold iblk
  refine (View.read_apply ..).trans ?_
  show weight m c _ = _
  congr 1
  funext a
  apply Fin.ext
  match a with
  | ⟨0, _⟩ => show 0 * 1024 + 1 * j.val = j.val; omega
  | ⟨1, _⟩ =>
    show (BitVec.ofNat 32 ((grid0.coords t) 1).val).toNat * 1536 + 1 * k.val = t.val % 5 * 1536 + k.val
    rw [block_word]; omega

/-! ## The points in order -/

/-- The normalized row `p`. -/
def hidden (p : Fin 16640) (j : Fin 1024) : EReal := normed (fun k => rows m c (ix2 p k)) (fun k => gain m c (ix2 0 k)) j

/-- Row `p` of the product, at column `n`. -/
def value (p : Fin 16640) (n : Fin 7680) : EReal := ∑ j : Fin 1024, hidden m c p j * weight m c (ix2 j n)

theorem normed_at (t : Fin cfg0.N) (r : Fin 1280) (j : Fin 1024) :
    k0_pay1 (F := Ideal) (iblk m c 0 t) (iblk m c 1 t) (ix2 r j) = hidden m c (row t.val r) j := by
  refine (pay1_apply _ _ r j).trans ?_
  unfold hidden
  exact congrArg₂ (fun x g => normed x g j) (funext fun k => rows_at m c t r k) (funext fun k => gain_at m c t k)

theorem first_eq (t : Fin cfg0.N) (h0 : t.val % 5 = 0) :
    outsAt0 m c t.val t.isLt = (k0_pay2 (k0_pay1 (F := Ideal) (iblk m c 0 t) (iblk m c 1 t)) (iblk m c 2 t), k0_pay1 (iblk m c 0 t) (iblk m c 1 t)) :=
  (outsAt0_A m c t h0).trans (Prod.ext (by dsimp only; exact out_first (F := Ideal) ..) (by dsimp only; exact rows_first (F := Ideal) ..))

theorem later_eq (t : Fin cfg0.N) (hp : t.val - 1 < cfg0.N) (h0 : ¬t.val % 5 = 0) :
    outsAt0 m c t.val t.isLt = (k0_pay2 (F := Ideal) (outsAt0 m c (t.val - 1) hp).2 (iblk m c 2 t), (outsAt0 m c (t.val - 1) hp).2) :=
  (outsAt0_B m c t h0).trans (Prod.ext (by dsimp only; exact out_later (F := Ideal) ..) rfl)

/-- After every point the scratch holds its tile's normalized rows. -/
theorem carried (n : ℕ) (hn : n < cfg0.N) :
    ∀ r j, (outsAt0 m c n hn).2 (ix2 r j) = hidden m c (row n r) j := by
  induction n using Nat.strong_induction_on with
  | _ n ih =>
    intro r j
    by_cases h0 : n % 5 = 0
    · exact (congrFun (congrArg Prod.snd (first_eq m c ⟨n, hn⟩ h0)) _).trans (normed_at m c ⟨n, hn⟩ r j)
    · have hp : n - 1 < cfg0.N := lt_of_le_of_lt (Nat.sub_le n 1) hn
      have hr : row (n - 1) r = row n r := Fin.ext (by
        show (n - 1) / 5 % 13 * 1280 + r.val = n / 5 % 13 * 1280 + r.val
        rw [show (n - 1) / 5 = n / 5 by omega])
      refine (congrFun (congrArg Prod.snd (later_eq m c ⟨n, hn⟩ hp h0)) _).trans ((ih (n - 1) (by omega) hp r j).trans ?_)
      rw [hr]

/-- After every point the output block holds its rows and columns of the product. -/
theorem written (t : Fin cfg0.N) (r : Fin 1280) (k : Fin 1536) :
    (outsAt0 m c t.val t.isLt).1 (ix2 r k) = value m c (row t.val r) (col t.val k) := by
  have hs := carried m c t.val t.isLt
  have e : (outsAt0 m c t.val t.isLt).1 = k0_pay2 (F := Ideal) (outsAt0 m c t.val t.isLt).2 (iblk m c 2 t) := by
    by_cases h0 : t.val % 5 = 0
    · rw [first_eq m c t h0]
    · rw [later_eq m c t (lt_of_le_of_lt (Nat.sub_le _ 1) t.isLt) h0]
  refine (congrFun e _).trans ((pay2_apply _ _ r k).trans ?_)
  unfold value
  exact Finset.sum_congr rfl fun j _ => congrArg₂ (· * ·) (hs r j) (weight_at m c t j k)

/-! ## The output array -/

/-- The output array. -/
def out : S16640x7680.Idx → EReal := fun i => value m c (i 0) (i 1)

theorem written_idx (t : Fin cfg0.N) (y : S1280x1536.Idx) :
    (outsAt0 m c t.val t.isLt).1 y = value m c (row t.val (y 0)) (col t.val (y 1)) := by
  conv_lhs => rw [eq_ix2 y]
  exact written m c t (y 0) (y 1)

/-- A block whose entries are a table's entries at the block's rows and columns is the table read at the block. -/
theorem cut_eq (t : Fin cfg0.N) (g : Fin 16640 → Fin 7680 → EReal) (x : Vec Ideal S1280x1536 .f32)
    (h : ∀ y : S1280x1536.Idx, x y = g (row t.val (y 0)) (col t.val (y 1))) :
    (cfg0.win 3).cut (grid0.coords t) x = ((cfg0.win 3).blk t).view.read (Elt Ideal) (fun i : S16640x7680.Idx => g (i 0) (i 1)) := by
  have at_blk (y : S1280x1536.Idx) : g (row t.val (y 0)) (col t.val (y 1))
      = (fun i : S16640x7680.Idx => g (i 0) (i 1)) (((cfg0.win 3).blk t).view.emb y) := by
    refine congrArg₂ g (Fin.ext ?_) (Fin.ext ?_)
    · refine (row_val t (y 0)).trans ?_
      show t.val / 5 * 1280 + (y 0).val = (BitVec.ofNat 32 ((grid0.coords t) 0).val).toNat * 1280 + 1 * (y 0).val
      rw [tile_word]; omega
    · show t.val % 5 * 1536 + (y 1).val = (BitVec.ofNat 32 ((grid0.coords t) 1).val).toNat * 1536 + 1 * (y 1).val
      rw [block_word]; omega
  exact funext fun y => (h y).trans (at_blk y)

theorem flushed_eq (t : Fin cfg0.N) (hf : (cfg0.win 3).flush t = true) :
    (dats m 0 c).flushed 3 t = ((cfg0.win 3).blk t).view.read (Elt Ideal) (out m c) := by
  show (cfg0.win 3).cut (grid0.coords t) ((dats m 0 c).after 3 t) = _
  rw [after0_3]
  exact cut_eq t (value m c) _ (written_idx m c t)

theorem mem_blk (t : Fin cfg0.N) (i : S16640x7680.Idx) :
    i ∈ ((cfg0.win 3).blk t).view.set
      ↔ ∀ a : Fin 2, cc0_transform_3 (grid0.coords t) a * S1280x1536.size a ≤ (i a).val
        ∧ (i a).val < cc0_transform_3 (grid0.coords t) a * S1280x1536.size a + S1280x1536.size a := by
  have e : ((cfg0.win 3).blk t).view.set = ((cfg0.win 3).rect t).set := View.set_slice_whole main_v20 _
  rw [e]
  exact Rect.mem_set_unit

/-- Every entry lies in the block that one point writes back. -/
theorem covered (i : S16640x7680.Idx) : ∃ t : Fin cfg0.N, (cfg0.win 3).flush t = true ∧ i ∈ ((cfg0.win 3).blk t).view.set := by
  have hi : (i 0).val < 16640 := (i 0).isLt
  have hd : (i 1).val < 7680 := (i 1).isLt
  have hlt : (i 0).val / 1280 * 5 + (i 1).val / 1536 < cfg0.N := lt_of_lt_of_eq (by omega) (show 65 = cfg0.N from N_0.symm)
  refine ⟨⟨_, hlt⟩, flush0_3 ⟨_, hlt⟩, ?_⟩
  rw [mem_blk]
  have ht := tile_word ⟨_, hlt⟩
  have hb := block_word ⟨_, hlt⟩
  dsimp only at ht hb
  intro a
  match a with
  | ⟨0, _⟩ =>
    show (BitVec.ofNat 32 ((grid0.coords _) 0).val).toNat * 1280 ≤ (i 0).val ∧ (i 0).val < (BitVec.ofNat 32 ((grid0.coords _) 0).val).toNat * 1280 + 1280
    rw [ht]; omega
  | ⟨1, _⟩ =>
    show (BitVec.ofNat 32 ((grid0.coords _) 1).val).toNat * 1536 ≤ (i 1).val ∧ (i 1).val < (BitVec.ofNat 32 ((grid0.coords _) 1).val).toNat * 1536 + 1536
    rw [hb]; omega

theorem final : (dats m 0 c).arrAt 3 cfg0.N = out m c :=
  (dats m 0 c).arrAt_eq_of_cover 3 _ (fun t hf => flushed_eq m c t hf) (fun i => covered i)

end Cert.Kernel2Ideal.Fold

end
-- ==== Proof.ProjHost.lean ====
/-
  The host lines around the norm-and-project kernel. Before it: the two groups' rows one after the other (the samples' four
  rows padded to eight), the gain as one row, and the projection's columns rearranged.
-/
module

public import proofs.«01_k».proof.Proof.ProjFold
public import Idealize.ShloMosaic.Lib.StableHlo.RunRead

@[expose] public section

noncomputable section

open Idealize.ShloMosaic Idealize.ShloMosaic.TcCoe Idealize.SL.Sem

namespace Cert.Kernel2Ideal.Host

open Cert.Kernel2Ideal Cert.Kernel2Ideal.Gen Cert.Kernel2Ideal.Fold

variable (m : (ℓ : Loc nD τ sig) → Buf (Elt Ideal) ℓ) (c : Dev nD)

/-! ## The arguments, as arrays of extended reals -/

def xPrompt : S8x2048x1024.Idx → EReal := m ((c.tc : Thread nD τ).loc main_arg0)
def xSample : S32x4x1024.Idx → EReal := m ((c.tc : Thread nD τ).loc main_arg1)
def ssmConv : S32x3x768.Idx → EReal := m ((c.tc : Thread nD τ).loc main_arg2)
def shortConv : S32x2x512.Idx → EReal := m ((c.tc : Thread nD τ).loc main_arg3)
def normGain : S1024.Idx → EReal := m ((c.tc : Thread nD τ).loc main_arg4)
def wIn : S1024x7200.Idx → EReal := m ((c.tc : Thread nD τ).loc main_arg5)

/-! ## What the region reads -/

/-- Row `t` of prompt `b`, and row `t` of sample `b`, among all the rows. -/
def promptRow (b : Fin 8) (t : Fin 2048) : Fin 16640 := ⟨b.val * 2048 + t.val, by omega⟩
def sampleRow (b : Fin 32) (t : Fin 4) : Fin 16640 := ⟨16384 + b.val * 8 + t.val, by omega⟩

theorem gain_eq (j : Fin 1024) : gain m c (ix2 0 j) = normGain m c (ix1 j) := by
  have e : gain m c = shapeCast S1x1024 (normGain m c) shapeCasts_S1024_S1x1024 := by
    unfold gain
    show StableHlo.after (List.flatten [hostOps0, hostOps0_1, hostOps0_2]) _ _ = _
    simp only [List.flatten_cons, List.flatten_nil, List.append_nil, List.cons_append, List.nil_append]
    after_reads_simp
    rfl
  rw [e]
  pointwise

theorem rows_eq : rows m c = concatenate S16640x1024 0
    [⟨S16384x1024, shapeCast S16384x1024 (xPrompt m c) shapeCasts_S8x2048x1024_S16384x1024⟩,
      ⟨S256x1024, shapeCast S256x1024 (pad S32x8x1024 ![0, 0, 0] ![0, 4, 0] ![0, 0, 0] (xSample m c)
        (sitofp (F := Ideal) .f32 (constantI S_ 32 0#32)) pads_S32x4x1024_S32x8x1024_000_040_000 h_S_) shapeCasts_S32x8x1024_S256x1024⟩]
    concatenates_S16384x1024_S256x1024_S16640x1024_d0 := by
  unfold rows
  show StableHlo.after (List.flatten [hostOps0, hostOps0_1, hostOps0_2]) _ _ = _
  simp only [List.flatten_cons, List.flatten_nil, List.append_nil, List.cons_append, List.nil_append]
  after_reads_simp
  rfl

theorem prompt_cast (x : S8x2048x1024.Idx → EReal) (p : Fin 16384) (j : Fin 1024) :
    shapeCast S16384x1024 x shapeCasts_S8x2048x1024_S16384x1024 (ix2 p j) = x (ix3 ⟨p.val / 2048, by omega⟩ ⟨p.val % 2048, by omega⟩ j) := by
  pointwise

theorem sample_cast (x : S32x8x1024.Idx → EReal) (p : Fin 256) (j : Fin 1024) :
    shapeCast S256x1024 x shapeCasts_S32x8x1024_S256x1024 (ix2 p j) = x (ix3 ⟨p.val / 8, by omega⟩ ⟨p.val % 8, by omega⟩ j) := by
  pointwise

theorem sample_pad (x : S32x4x1024.Idx → EReal) (v : S_.Idx → EReal) (b : Fin 32) (t : Fin 8) (ht : t.val < 4) (j : Fin 1024) :
    pad S32x8x1024 ![0, 0, 0] ![0, 4, 0] ![0, 0, 0] x v pads_S32x4x1024_S32x8x1024_000_040_000 h_S_ (ix3 b t j) = x (ix3 b ⟨t.val, ht⟩ j) := by
  pointwise
  exact dif_pos ht

theorem prompt_rows (b : Fin 8) (t : Fin 2048) (j : Fin 1024) :
    rows m c (ix2 (promptRow b t) j) = xPrompt m c (ix3 b t j) := by
  rw [rows_eq]
  refine (concatenate_pair_apply_left (s₁ := S16384x1024) (s₂ := S256x1024) (t := S16640x1024) 0 _ _ _ (ix2 (promptRow b t) j) rfl
    (ix2 (⟨b.val * 2048 + t.val, by omega⟩ : Fin 16384) j) (fun a => by match a with | ⟨0, _⟩ => rfl | ⟨1, _⟩ => rfl)).trans ((prompt_cast _ _ _).trans ?_)
  refine congrArg (xPrompt m c) (congrArg₂ (fun b t => ix3 b t j) (Fin.ext ?_) (Fin.ext ?_))
  · show (b.val * 2048 + t.val) / 2048 = b.val
    omega
  · show (b.val * 2048 + t.val) % 2048 = t.val
    omega

theorem sample_rows (b : Fin 32) (t : Fin 4) (j : Fin 1024) :
    rows m c (ix2 (sampleRow b t) j) = xSample m c (ix3 b t j) := by
  rw [rows_eq]
  refine (concatenate_pair_apply_right (s₁ := S16384x1024) (s₂ := S256x1024) (t := S16640x1024) 0 _ _ _ (ix2 (sampleRow b t) j) rfl rfl
    (ix2 (⟨b.val * 8 + t.val, by omega⟩ : Fin 256) j) (fun a ha => by match a with | ⟨0, _⟩ => exact absurd rfl ha | ⟨1, _⟩ => rfl) ?_).trans
    ((sample_cast _ _ _).trans ((sample_pad _ _ _ _ ?_ _).trans ?_))
  · show b.val * 8 + t.val + 16384 = 16384 + b.val * 8 + t.val
    omega
  · show (b.val * 8 + t.val) % 8 < 4
    omega
  refine congrArg (xSample m c) (congrArg₂ (fun b t => ix3 b t j) (Fin.ext ?_) (Fin.ext ?_))
  · show (b.val * 8 + t.val) / 8 = b.val
    omega
  · show (b.val * 8 + t.val) % 8 = t.val
    omega

set_option maxHeartbeats 4000000 in
theorem weight_eq : weight m c = concatenate S1024x7680 1
    [⟨S1024x512, extractStridedSlice S1024x512 ![0, 0] (wIn m c) slices_S1024x7200_S1024x512_0_0⟩,
      ⟨S1024x512, extractStridedSlice S1024x512 ![0, 1304] (wIn m c) slices_S1024x7200_S1024x512_0_1304⟩,
      ⟨S1024x512, extractStridedSlice S1024x512 ![0, 2592] (wIn m c) slices_S1024x7200_S1024x512_0_2592⟩,
      ⟨S1024x768, extractStridedSlice S1024x768 ![0, 512] (wIn m c) slices_S1024x7200_S1024x768_0_512⟩,
      ⟨S1024x768, extractStridedSlice S1024x768 ![0, 1816] (wIn m c) slices_S1024x7200_S1024x768_0_1816⟩,
      ⟨S1024x512, extractStridedSlice S1024x512 ![0, 3104] (wIn m c) slices_S1024x7200_S1024x512_0_3104⟩,
      ⟨S1024x512, extractStridedSlice S1024x512 ![0, 3616] (wIn m c) slices_S1024x7200_S1024x512_0_3616⟩,
      ⟨S1024x3072, extractStridedSlice S1024x3072 ![0, 4128] (wIn m c) slices_S1024x7200_S1024x3072_0_4128⟩,
      ⟨S1024x128, concatenate S1024x128 1
        [⟨S1024x24, extractStridedSlice S1024x24 ![0, 1280] (wIn m c) slices_S1024x7200_S1024x24_0_1280⟩,
          ⟨S1024x8, extractStridedSlice S1024x8 ![0, 2584] (wIn m c) slices_S1024x7200_S1024x8_0_2584⟩, ⟨S1024x96, broadcastInDim S1024x96 ![] bcast_S_S1024x96 (constant (F := Ideal) S_ .f32 0x00000000#32)⟩]
        concatenates_S1024x24_S1024x8_S1024x96_S1024x128_d1⟩, ⟨S1024x384, broadcastInDim S1024x384 ![] bcast_S_S1024x384 (constant (F := Ideal) S_ .f32 0x00000000#32)⟩]
    concatenates_S1024x512_S1024x512_S1024x512_S1024x768_S1024x768_S1024x512_S1024x512_S1024x3072_S1024x128_S1024x384_S1024x7680_d1 := by
  unfold weight
  show StableHlo.after (List.flatten [hostOps0, hostOps0_1, hostOps0_2]) _ _ = _
  simp only [List.flatten_cons, List.flatten_nil, List.append_nil, List.cons_append, List.nil_append]
  after_reads_simp
  rfl

/-- Where the kernel's column order puts column `n` of the projection. -/
def back (n : Fin 7200) : Fin 7680 :=
  ⟨if n.val < 512 then n.val else if n.val < 1280 then n.val + 1024 else if n.val < 1304 then n.val + 5888
    else if n.val < 1816 then n.val - 792 else if n.val < 2584 then n.val + 488 else if n.val < 2592 then n.val + 4608
    else if n.val < 3104 then n.val - 1568 else n.val - 32, by split_ifs <;> omega⟩

set_option maxHeartbeats 2000000 in
theorem weight_back (j : Fin 1024) (n : Fin 7200) : weight m c (ix2 j (back n)) = wIn m c (ix2 j n) := by
  have hb : (back n).val = if n.val < 512 then n.val else if n.val < 1280 then n.val + 1024 else if n.val < 1304 then n.val + 5888
    else if n.val < 1816 then n.val - 792 else if n.val < 2584 then n.val + 488 else if n.val < 2592 then n.val + 4608
    else if n.val < 3104 then n.val - 1568 else n.val - 32 := rfl
  have hn := n.isLt
  rw [weight_eq]
  pointwise
  generalize back n = k at *
  generalize wIn m c = w
  split_ifs at hb
  case neg =>
    by_cases h₁ : n.val < 3616
    · iterate 5 refine (dif_neg (by omega)).trans ?_
      refine (dif_pos (by omega)).trans ?_
      exact congrArg w (congrArg (ix2 j) (Fin.ext (by show 3104 + (k.val - 512 - 512 - 512 - 768 - 768) = n.val; omega)))
    · by_cases h₂ : n.val < 4128
      · iterate 6 refine (dif_neg (by omega)).trans ?_
        refine (dif_pos (by omega)).trans ?_
        exact congrArg w (congrArg (ix2 j) (Fin.ext (by
          show 3616 + (k.val - 512 - 512 - 512 - 768 - 768 - 512) = n.val; omega)))
      · iterate 7 refine (dif_neg (by omega)).trans ?_
        refine (dif_pos (by omega)).trans ?_
        exact congrArg w (congrArg (ix2 j) (Fin.ext (by
          show 4128 + (k.val - 512 - 512 - 512 - 768 - 768 - 512 - 512) = n.val; omega)))
  all_goals
    repeat first | refine (dif_pos (by omega)).trans ?_ | refine (dif_neg (by omega)).trans ?_
    refine congrArg w (congrArg (ix2 j) (Fin.ext ?_))
    dsimp only
    omega

end Cert.Kernel2Ideal.Host

end
-- ==== Proof.ProjTail.lean ====
/-
  The host lines after the norm-and-project kernel: its columns put back in the projection's order and the rows its two
  convolutions carry on. First as terms of the kernel's output array, then at an index.
-/
module

public import proofs.«01_k».proof.Proof.ProjHost

@[expose] public section

noncomputable section

open Idealize.ShloMosaic Idealize.ShloMosaic.TcCoe Idealize.SL.Sem

namespace Cert.Kernel2Ideal.Tail

open Cert.Kernel2Ideal Cert.Kernel2Ideal.Gen Cert.Kernel2Ideal.Fold Cert.Kernel2Ideal.Host

/-! ## The terms -/

/-- The output's columns in the projection's order. -/
def ordered (o : FVec Ideal S16640x7680 .f32) : FVec Ideal S16640x7200 .f32 :=
  concatenate S16640x7200 1
    [⟨S16640x512, extractStridedSlice S16640x512 ![0, 0] o slices_S16640x7680_S16640x512_0_0⟩,
      ⟨S16640x768, extractStridedSlice S16640x768 ![0, 1536] o slices_S16640x7680_S16640x768_0_1536⟩,
      ⟨S16640x24, extractStridedSlice S16640x24 ![0, 7168] o slices_S16640x7680_S16640x24_0_7168⟩,
      ⟨S16640x512, extractStridedSlice S16640x512 ![0, 512] o slices_S16640x7680_S16640x512_0_512⟩,
      ⟨S16640x768, extractStridedSlice S16640x768 ![0, 2304] o slices_S16640x7680_S16640x768_0_2304⟩,
      ⟨S16640x8, extractStridedSlice S16640x8 ![0, 7192] o slices_S16640x7680_S16640x8_0_7192⟩,
      ⟨S16640x512, extractStridedSlice S16640x512 ![0, 1024] o slices_S16640x7680_S16640x512_0_1024⟩,
      ⟨S16640x512, extractStridedSlice S16640x512 ![0, 3072] o slices_S16640x7680_S16640x512_0_3072⟩,
      ⟨S16640x512, extractStridedSlice S16640x512 ![0, 3584] o slices_S16640x7680_S16640x512_0_3584⟩,
      ⟨S16640x3072, extractStridedSlice S16640x3072 ![0, 4096] o slices_S16640x7680_S16640x3072_0_4096⟩]
    concatenates_S16640x512_S16640x768_S16640x24_S16640x512_S16640x768_S16640x8_S16640x512_S16640x512_S16640x512_S16640x3072_S16640x7200_d1

/-- The samples' rows, eight for each sample. -/
def sampleRows (o : FVec Ideal S16640x7680 .f32) : FVec Ideal S32x8x7680 .f32 :=
  shapeCast S32x8x7680 (extractStridedSlice S256x7680 ![16384, 0] o slices_S16640x7680_S256x7680_16384_0) shapeCasts_S256x7680_S32x8x7680

/-- Each prompt's last three rows. -/
def lastRows (o : FVec Ideal S16640x7680 .f32) : FVec Ideal S8x3x7680 .f32 :=
  concatenate S8x3x7680 0
    [⟨S1x3x7680, broadcastInDim S1x3x7680 ![1, 2] bcast_S3x7680_S1x3x7680_1_2 (extractStridedSlice S3x7680 ![2045, 0] o slices_S16640x7680_S3x7680_2045_0)⟩,
      ⟨S1x3x7680, broadcastInDim S1x3x7680 ![1, 2] bcast_S3x7680_S1x3x7680_1_2 (extractStridedSlice S3x7680 ![4093, 0] o slices_S16640x7680_S3x7680_4093_0)⟩,
      ⟨S1x3x7680, broadcastInDim S1x3x7680 ![1, 2] bcast_S3x7680_S1x3x7680_1_2 (extractStridedSlice S3x7680 ![6141, 0] o slices_S16640x7680_S3x7680_6141_0)⟩,
      ⟨S1x3x7680, broadcastInDim S1x3x7680 ![1, 2] bcast_S3x7680_S1x3x7680_1_2 (extractStridedSlice S3x7680 ![8189, 0] o slices_S16640x7680_S3x7680_8189_0)⟩,
      ⟨S1x3x7680, broadcastInDim S1x3x7680 ![1, 2] bcast_S3x7680_S1x3x7680_1_2 (extractStridedSlice S3x7680 ![10237, 0] o slices_S16640x7680_S3x7680_10237_0)⟩,
      ⟨S1x3x7680, broadcastInDim S1x3x7680 ![1, 2] bcast_S3x7680_S1x3x7680_1_2 (extractStridedSlice S3x7680 ![12285, 0] o slices_S16640x7680_S3x7680_12285_0)⟩,
      ⟨S1x3x7680, broadcastInDim S1x3x7680 ![1, 2] bcast_S3x7680_S1x3x7680_1_2 (extractStridedSlice S3x7680 ![14333, 0] o slices_S16640x7680_S3x7680_14333_0)⟩,
      ⟨S1x3x7680, broadcastInDim S1x3x7680 ![1, 2] bcast_S3x7680_S1x3x7680_1_2 (extractStridedSlice S3x7680 ![16381, 0] o slices_S16640x7680_S3x7680_16381_0)⟩]
    concatenates_S1x3x7680_S1x3x7680_S1x3x7680_S1x3x7680_S1x3x7680_S1x3x7680_S1x3x7680_S1x3x7680_S8x3x7680_d0

def colsPrompt (o : FVec Ideal S16640x7680 .f32) : FVec Ideal S8x2048x7200 .f32 :=
  shapeCast S8x2048x7200 (extractStridedSlice S16384x7200 ![0, 0] (ordered o) slices_S16640x7200_S16384x7200_0_0) shapeCasts_S16384x7200_S8x2048x7200

def colsSample (o : FVec Ideal S16640x7680 .f32) : FVec Ideal S32x4x7200 .f32 :=
  extractStridedSlice S32x4x7200 ![0, 0, 0] (shapeCast S32x8x7200 (extractStridedSlice S256x7200 ![16384, 0] (ordered o)
    slices_S16640x7200_S256x7200_16384_0) shapeCasts_S256x7200_S32x8x7200) slices_S32x8x7200_S32x4x7200_0_0_0

def ssmPrompt (o : FVec Ideal S16640x7680 .f32) : FVec Ideal S8x3x768 .f32 :=
  extractStridedSlice S8x3x768 ![0, 0, 2304] (lastRows o) slices_S8x3x7680_S8x3x768_0_0_2304

def ssmSample (a : FVec Ideal S32x3x768 .f32) (o : FVec Ideal S16640x7680 .f32) : FVec Ideal S32x3x768 .f32 :=
  extractStridedSlice S32x3x768 ![0, 4, 0] (concatenate S32x7x768 1 [⟨S32x3x768, a⟩,
    ⟨S32x4x768, extractStridedSlice S32x4x768 ![0, 0, 2304] (sampleRows o) slices_S32x8x7680_S32x4x768_0_0_2304⟩]
    concatenates_S32x3x768_S32x4x768_S32x7x768_d1) slices_S32x7x768_S32x3x768_0_4_0

def shortPrompt (o : FVec Ideal S16640x7680 .f32) : FVec Ideal S8x2x512 .f32 :=
  mulf (extractStridedSlice S8x2x512 ![0, 0, 3072] (extractStridedSlice S8x2x7680 ![0, 1, 0] (lastRows o) slices_S8x3x7680_S8x2x7680_0_1_0)
      slices_S8x2x7680_S8x2x512_0_0_3072)
    (extractStridedSlice S8x2x512 ![0, 0, 3584] (extractStridedSlice S8x2x7680 ![0, 1, 0] (lastRows o) slices_S8x3x7680_S8x2x7680_0_1_0)
      slices_S8x2x7680_S8x2x512_0_0_3584)

def shortSample (a : FVec Ideal S32x2x512 .f32) (o : FVec Ideal S16640x7680 .f32) : FVec Ideal S32x2x512 .f32 :=
  extractStridedSlice S32x2x512 ![0, 4, 0] (concatenate S32x6x512 1 [⟨S32x2x512, a⟩,
    ⟨S32x4x512, mulf (extractStridedSlice S32x4x512 ![0, 0, 3072] (sampleRows o) slices_S32x8x7680_S32x4x512_0_0_3072)
      (extractStridedSlice S32x4x512 ![0, 0, 3584] (sampleRows o) slices_S32x8x7680_S32x4x512_0_0_3584)⟩]
    concatenates_S32x2x512_S32x4x512_S32x6x512_d1) slices_S32x6x512_S32x2x512_0_4_0

/-! ## The lines leave these terms -/

variable (U : Valuation τ sig (Elt Ideal)) (o : FVec Ideal S16640x7680 .f32)

set_option maxHeartbeats 4000000 in
theorem after_colsPrompt : StableHlo.after (List.flatten [hostOps1]) U (Proc.devRef .tc main_v65) = colsPrompt (U (Proc.devRef .tc main_v20)) := by
  simp only [List.flatten_cons, List.flatten_nil, List.append_nil, List.cons_append, List.nil_append]
  after_reads_simp
  rfl

set_option maxHeartbeats 4000000 in
theorem after_colsSample : StableHlo.after (List.flatten [hostOps1]) U (Proc.devRef .tc main_v68) = colsSample (U (Proc.devRef .tc main_v20)) := by
  simp only [List.flatten_cons, List.flatten_nil, List.append_nil, List.cons_append, List.nil_append]
  after_reads_simp
  rfl

set_option maxHeartbeats 4000000 in
theorem after_ssmPrompt : StableHlo.after (List.flatten [hostOps1]) U (Proc.devRef .tc main_v40) = ssmPrompt (U (Proc.devRef .tc main_v20)) := by
  simp only [List.flatten_cons, List.flatten_nil, List.append_nil, List.cons_append, List.nil_append]
  after_reads_simp
  rfl

set_option maxHeartbeats 4000000 in
theorem after_ssmSample : StableHlo.after (List.flatten [hostOps1]) U (Proc.devRef .tc main_v43) = ssmSample (U (Proc.devRef .tc main_arg2)) (U (Proc.devRef .tc main_v20)) := by
  simp only [List.flatten_cons, List.flatten_nil, List.append_nil, List.cons_append, List.nil_append]
  after_reads_simp
  rfl

set_option maxHeartbeats 4000000 in
theorem after_shortPrompt : StableHlo.after (List.flatten [hostOps1]) U (Proc.devRef .tc main_v47) = shortPrompt (U (Proc.devRef .tc main_v20)) := by
  simp only [List.flatten_cons, List.flatten_nil, List.append_nil, List.cons_append, List.nil_append]
  after_reads_simp
  rfl

set_option maxHeartbeats 4000000 in
theorem after_shortSample : StableHlo.after (List.flatten [hostOps1]) U (Proc.devRef .tc main_v52) = shortSample (U (Proc.devRef .tc main_arg3)) (U (Proc.devRef .tc main_v20)) := by
  simp only [List.flatten_cons, List.flatten_nil, List.append_nil, List.cons_append, List.nil_append]
  after_reads_simp
  rfl

/-! ## The terms at an index -/

theorem sampleRows_apply (b : Fin 32) (t : Fin 8) (k : Fin 7680) :
    sampleRows o (ix3 b t k) = o (ix2 ⟨16384 + b.val * 8 + t.val, by omega⟩ k) := by
  unfold sampleRows
  refine (?_ : _ = extractStridedSlice S256x7680 ![16384, 0] o slices_S16640x7680_S256x7680_16384_0 (ix2 (⟨b.val * 8 + t.val, by omega⟩ : Fin 256) k)).trans ?_
  · generalize extractStridedSlice S256x7680 ![16384, 0] o slices_S16640x7680_S256x7680_16384_0 = y
    pointwise
  · refine (extractStridedSlice_apply _ _ _ _ (ix2 (⟨16384 + b.val * 8 + t.val, by omega⟩ : Fin 16640) k) (fun a => by
      match a with | ⟨0, _⟩ => exact Nat.add_assoc _ _ _ | ⟨1, _⟩ => exact (Nat.zero_add _).symm))

/-- Eight pieces of one block each, one after the other. -/
theorem stacked_apply (y0 y1 y2 y3 y4 y5 y6 y7 : FVec Ideal S1x3x7680 .f32) (h : Shape.Concatenates [S1x3x7680, S1x3x7680, S1x3x7680, S1x3x7680, S1x3x7680, S1x3x7680, S1x3x7680, S1x3x7680] S8x3x7680 0)
    (b : Fin 8) (t : Fin 3) (k : Fin 7680) :
    concatenate S8x3x7680 0 [⟨S1x3x7680, y0⟩, ⟨S1x3x7680, y1⟩, ⟨S1x3x7680, y2⟩, ⟨S1x3x7680, y3⟩, ⟨S1x3x7680, y4⟩, ⟨S1x3x7680, y5⟩, ⟨S1x3x7680, y6⟩, ⟨S1x3x7680, y7⟩] h (ix3 b t k) = ![y0, y1, y2, y3, y4, y5, y6, y7] b (ix3 0 t k) := by
  pointwise
  fin_cases b <;> rfl

theorem lastRows_apply (b : Fin 8) (t : Fin 3) (k : Fin 7680) :
    lastRows o (ix3 b t k) = o (ix2 ⟨b.val * 2048 + 2045 + t.val, by omega⟩ k) := by
  have piece : ∀ (p : ℕ) (hs : S16640x7680.Slices ![p, 0] S3x7680) (q : Fin 16640) (h : q.val = p + t.val),
      broadcastInDim S1x3x7680 ![1, 2] bcast_S3x7680_S1x3x7680_1_2 (extractStridedSlice S3x7680 ![p, 0] o hs) (ix3 0 t k) = o (ix2 q k) := by
    intro p hs q h
    refine (broadcastInDim_apply _ bcast_S3x7680_S1x3x7680_1_2 _ (ix3 0 t k) (ix2 t k) (fun a => by match a with | ⟨0, _⟩ => rfl | ⟨1, _⟩ => rfl)).trans ?_
    exact extractStridedSlice_apply _ _ _ _ _ (fun a => by match a with | ⟨0, _⟩ => exact h | ⟨1, _⟩ => exact (Nat.zero_add _).symm)
  unfold lastRows
  refine (stacked_apply _ _ _ _ _ _ _ _ _ b t k).trans ?_
  fin_cases b
  · exact piece 2045 slices_S16640x7680_S3x7680_2045_0 _ rfl
  · exact piece 4093 slices_S16640x7680_S3x7680_4093_0 _ rfl
  · exact piece 6141 slices_S16640x7680_S3x7680_6141_0 _ rfl
  · exact piece 8189 slices_S16640x7680_S3x7680_8189_0 _ rfl
  · exact piece 10237 slices_S16640x7680_S3x7680_10237_0 _ rfl
  · exact piece 12285 slices_S16640x7680_S3x7680_12285_0 _ rfl
  · exact piece 14333 slices_S16640x7680_S3x7680_14333_0 _ rfl
  · exact piece 16381 slices_S16640x7680_S3x7680_16381_0 _ rfl

theorem ordered_apply (p : Fin 16640) (n : Fin 7200) : ordered o (ix2 p n) = o (ix2 p (back n)) := by
  have hb : (back n).val = if n.val < 512 then n.val else if n.val < 1280 then n.val + 1024 else if n.val < 1304 then n.val + 5888
    else if n.val < 1816 then n.val - 792 else if n.val < 2584 then n.val + 488 else if n.val < 2592 then n.val + 4608
    else if n.val < 3104 then n.val - 1568 else n.val - 32 := rfl
  have hn := n.isLt
  pointwise [ordered]
  generalize back n = k at *
  split_ifs at hb
  case neg =>
    by_cases h₁ : n.val < 3616
    · iterate 7 refine (dif_neg (by omega)).trans ?_
      refine (dif_pos (by omega)).trans ?_
      refine congrArg o (congrArg (ix2 p) (Fin.ext ?_))
      dsimp only
      omega
    · by_cases h₂ : n.val < 4128
      · iterate 8 refine (dif_neg (by omega)).trans ?_
        refine (dif_pos (by omega)).trans ?_
        refine congrArg o (congrArg (ix2 p) (Fin.ext ?_))
        dsimp only
        omega
      · iterate 9 refine (dif_neg (by omega)).trans ?_
        refine congrArg o (congrArg (ix2 p) (Fin.ext ?_))
        dsimp only
        omega
  all_goals
    repeat first | refine (dif_pos (by omega)).trans ?_ | refine (dif_neg (by omega)).trans ?_
    refine congrArg o (congrArg (ix2 p) (Fin.ext ?_))
    dsimp only
    omega

theorem colsPrompt_apply (b : Fin 8) (t : Fin 2048) (n : Fin 7200) : colsPrompt o (ix3 b t n) = o (ix2 (promptRow b t) (back n)) := by
  refine Eq.trans ?_ (ordered_apply o (promptRow b t) n)
  unfold colsPrompt
  generalize ordered o = x
  refine (?_ : _ = extractStridedSlice S16384x7200 ![0, 0] x slices_S16640x7200_S16384x7200_0_0 (ix2 (⟨b.val * 2048 + t.val, by omega⟩ : Fin 16384) n)).trans ?_
  · generalize extractStridedSlice S16384x7200 ![0, 0] x slices_S16640x7200_S16384x7200_0_0 = y
    pointwise
  · exact extractStridedSlice_apply _ _ _ _ _ (fun a => by
      match a with | ⟨0, _⟩ => exact (Nat.zero_add _).symm | ⟨1, _⟩ => exact (Nat.zero_add _).symm)

theorem colsSample_apply (b : Fin 32) (t : Fin 4) (n : Fin 7200) : colsSample o (ix3 b t n) = o (ix2 (sampleRow b t) (back n)) := by
  refine Eq.trans ?_ (ordered_apply o (sampleRow b t) n)
  unfold colsSample
  generalize ordered o = x
  refine (?_ : _ = extractStridedSlice S256x7200 ![16384, 0] x slices_S16640x7200_S256x7200_16384_0 (ix2 (⟨b.val * 8 + t.val, by omega⟩ : Fin 256) n)).trans ?_
  · generalize extractStridedSlice S256x7200 ![16384, 0] x slices_S16640x7200_S256x7200_16384_0 = y
    pointwise
  · exact extractStridedSlice_apply _ _ _ _ _ (fun a => by
      match a with | ⟨0, _⟩ => exact Nat.add_assoc _ _ _ | ⟨1, _⟩ => exact (Nat.zero_add _).symm)

theorem ssmPrompt_apply (b : Fin 8) (t : Fin 3) (k : Fin 768) :
    ssmPrompt o (ix3 b t k) = o (ix2 (promptRow b ⟨2045 + t.val, by omega⟩) (back ⟨1816 + k.val, by omega⟩)) := by
  unfold ssmPrompt
  refine (extractStridedSlice_apply _ _ _ _ (ix3 b t (⟨2304 + k.val, by omega⟩ : Fin 7680)) (fun a => by
    match a with | ⟨0, _⟩ => exact (Nat.zero_add _).symm | ⟨1, _⟩ => exact (Nat.zero_add _).symm | ⟨2, _⟩ => rfl)).trans ((lastRows_apply ..).trans ?_)
  refine congrArg₂ (fun p q => o (ix2 p q)) (Fin.ext (Nat.add_assoc _ _ _)) (Fin.ext ?_)
  simp only [back]
  split_ifs <;> omega

theorem shortPrompt_apply (b : Fin 8) (t : Fin 2) (k : Fin 512) :
    shortPrompt o (ix3 b t k) = o (ix2 (promptRow b ⟨2046 + t.val, by omega⟩) (back ⟨3104 + k.val, by omega⟩))
      * o (ix2 (promptRow b ⟨2046 + t.val, by omega⟩) (back ⟨3616 + k.val, by omega⟩)) := by
  have one : ∀ (p : ℕ) (hp : p + 512 ≤ 7680) (h : S8x2x7680.Slices ![0, 0, p] S8x2x512) (q : Fin 7680) (hq : q.val = p + k.val),
      extractStridedSlice S8x2x512 ![0, 0, p] (extractStridedSlice S8x2x7680 ![0, 1, 0] (lastRows o) slices_S8x3x7680_S8x2x7680_0_1_0) h (ix3 b t k)
        = o (ix2 (promptRow b ⟨2046 + t.val, by omega⟩) q) := by
    intro p hp h q hq
    refine (extractStridedSlice_apply _ _ _ _ (ix3 b t q) (fun a => by
      match a with | ⟨0, _⟩ => exact (Nat.zero_add _).symm | ⟨1, _⟩ => exact (Nat.zero_add _).symm | ⟨2, _⟩ => exact hq)).trans ?_
    refine (extractStridedSlice_apply _ _ _ _ (ix3 b (⟨1 + t.val, by omega⟩ : Fin 3) q) (fun a => by
      match a with | ⟨0, _⟩ => exact (Nat.zero_add _).symm | ⟨1, _⟩ => rfl | ⟨2, _⟩ => exact (Nat.zero_add _).symm)).trans ((lastRows_apply ..).trans ?_)
    refine congrArg (fun p => o (ix2 p q)) (Fin.ext ?_)
    show b.val * 2048 + 2045 + (1 + t.val) = b.val * 2048 + (2046 + t.val)
    omega
  refine congrArg₂ (· * ·) (one 3072 (by omega) _ _ ?_) (one 3584 (by omega) _ _ ?_)
  · simp only [back]
    split_ifs <;> omega
  · simp only [back]
    split_ifs <;> omega

theorem ssmSample_apply (a : FVec Ideal S32x3x768 .f32) (b : Fin 32) (t : Fin 3) (k : Fin 768) :
    ssmSample a o (ix3 b t k) = o (ix2 (sampleRow b ⟨1 + t.val, by omega⟩) (back ⟨1816 + k.val, by omega⟩)) := by
  unfold ssmSample
  refine (extractStridedSlice_apply _ _ _ _ (ix3 b (⟨4 + t.val, by omega⟩ : Fin 7) k) (fun a => by
    match a with | ⟨0, _⟩ => exact (Nat.zero_add _).symm | ⟨1, _⟩ => rfl | ⟨2, _⟩ => exact (Nat.zero_add _).symm)).trans ?_
  refine (concatenate_pair_apply_right (s₁ := S32x3x768) (s₂ := S32x4x768) (t := S32x7x768) 1 _ _ _ _ rfl rfl
    (ix3 b (⟨1 + t.val, by omega⟩ : Fin 4) k) (fun a ha => by match a with | ⟨0, _⟩ => rfl | ⟨1, _⟩ => exact absurd rfl ha | ⟨2, _⟩ => rfl) ?_).trans ?_
  · show 1 + t.val + 3 = 4 + t.val
    omega
  refine (extractStridedSlice_apply _ _ _ _ (ix3 b (⟨1 + t.val, by omega⟩ : Fin 8) (⟨2304 + k.val, by omega⟩ : Fin 7680)) (fun a => by
    match a with | ⟨0, _⟩ => exact (Nat.zero_add _).symm | ⟨1, _⟩ => exact (Nat.zero_add _).symm | ⟨2, _⟩ => rfl)).trans ((sampleRows_apply ..).trans ?_)
  refine congrArg (fun q => o (ix2 (sampleRow b ⟨1 + t.val, by omega⟩) q)) (Fin.ext ?_)
  simp only [back]
  split_ifs <;> omega

theorem shortSample_apply (a : FVec Ideal S32x2x512 .f32) (b : Fin 32) (t : Fin 2) (k : Fin 512) :
    shortSample a o (ix3 b t k) = o (ix2 (sampleRow b ⟨2 + t.val, by omega⟩) (back ⟨3104 + k.val, by omega⟩))
      * o (ix2 (sampleRow b ⟨2 + t.val, by omega⟩) (back ⟨3616 + k.val, by omega⟩)) := by
  have one : ∀ (p : ℕ) (h : S32x8x7680.Slices ![0, 0, p] S32x4x512) (q : Fin 7680) (hq : q.val = p + k.val),
      extractStridedSlice S32x4x512 ![0, 0, p] (sampleRows o) h (ix3 b (⟨2 + t.val, by omega⟩ : Fin 4) k)
        = o (ix2 (sampleRow b ⟨2 + t.val, by omega⟩) q) := by
    intro p h q hq
    exact (extractStridedSlice_apply _ _ _ _ (ix3 b (⟨2 + t.val, by omega⟩ : Fin 8) q) (fun a => by
      match a with | ⟨0, _⟩ => exact (Nat.zero_add _).symm | ⟨1, _⟩ => exact (Nat.zero_add _).symm | ⟨2, _⟩ => exact hq)).trans (sampleRows_apply ..)
  unfold shortSample
  refine (extractStridedSlice_apply _ _ _ _ (ix3 b (⟨4 + t.val, by omega⟩ : Fin 6) k) (fun a => by
    match a with | ⟨0, _⟩ => exact (Nat.zero_add _).symm | ⟨1, _⟩ => rfl | ⟨2, _⟩ => exact (Nat.zero_add _).symm)).trans ?_
  refine (concatenate_pair_apply_right (s₁ := S32x2x512) (s₂ := S32x4x512) (t := S32x6x512) 1 _ _ _ _ rfl rfl
    (ix3 b (⟨2 + t.val, by omega⟩ : Fin 4) k) (fun a ha => by match a with | ⟨0, _⟩ => rfl | ⟨1, _⟩ => exact absurd rfl ha | ⟨2, _⟩ => rfl) ?_).trans ?_
  · show 2 + t.val + 2 = 4 + t.val
    omega
  refine congrArg₂ (· * ·) (one 3072 _ _ ?_) (one 3584 _ _ ?_)
  · simp only [back]
    split_ifs <;> omega
  · simp only [back]
    split_ifs <;> omega

end Cert.Kernel2Ideal.Tail

end
-- ==== Proof.ProjRef.lean ====
/-
  The reference's six results at an index: the projection of each group's rows, and the rows its two convolutions carry on.
-/
module

public import proofs.«01_k».proof.Defs
public import proofs.«01_k».proof.Proof.Gen.Reference2Ideal.Run
public import proofs.«01_k».proof.Proof.Gen.Reference2Ideal.Read
public import proofs.«01_k».proof.Proof.ProjBody
public import Idealize.ShloMosaic.Lib.Pointwise

@[expose] public section

noncomputable section

open Idealize.ShloMosaic Idealize.ShloMosaic.TcCoe Idealize.SL.Sem

namespace Cert.Reference2Ideal.Proj

open Cert.Reference2Ideal Cert.Reference2Ideal.Gen Cert.Reference2Ideal.Read
open Cert.Kernel2Ideal.Body (normed projected)

variable (x0 : FVec Ideal S8x2048x1024 .f32) (x1 : FVec Ideal S32x4x1024 .f32) (x2 : FVec Ideal S32x3x768 .f32) (x3 : FVec Ideal S32x2x512 .f32)
  (x4 : FVec Ideal S1024 .f32) (x5 : FVec Ideal S1024x7200 .f32)

/-- Prompt `b`'s row `t` at column `n` of the projection, and sample `b`'s. -/
def prompt (b : Fin 8) (t : Fin 2048) (n : Fin 7200) : EReal :=
  projected (fun k => x0 (ix3 b t k)) (fun k => x4 (ix1 k)) (fun k => x5 (ix2 k n))
def sample (b : Fin 32) (t : Fin 4) (n : Fin 7200) : EReal :=
  projected (fun k => x1 (ix3 b t k)) (fun k => x4 (ix1 k)) (fun k => x5 (ix2 k n))

theorem prompt_normed (b : Fin 8) (t : Fin 2048) (j : Fin 1024) :
    val_main_v14 (F := Ideal) x0 x4 (ix3 b t j) = normed (fun k => x0 (ix3 b t k)) (fun k => x4 (ix1 k)) j := by
  unfold normed
  pointwise [val_main_v14, val_main_v13, val_main_v12, val_main_v11, val_main_v10, val_main_v9, val_main_v8, val_main_v7, val_main_cst_3,
    val_main_v6, val_main_v5, val_main_cst_2, val_main_v4, val_main_v3, val_main_cst_1, val_main_v2]

theorem sample_normed (b : Fin 32) (t : Fin 4) (j : Fin 1024) :
    val_main_v43 (F := Ideal) x1 x4 (ix3 b t j) = normed (fun k => x1 (ix3 b t k)) (fun k => x4 (ix1 k)) j := by
  unfold normed
  pointwise [val_main_v43, val_main_v42, val_main_v41, val_main_v40, val_main_v39, val_main_v38, val_main_v37, val_main_v36, val_main_cst_6,
    val_main_v35, val_main_v34, val_main_cst_5, val_main_v33, val_main_v32, val_main_cst_4, val_main_v31]

theorem prompt_cols (b : Fin 8) (t : Fin 2048) (n : Fin 7200) : val_main_v15 (F := Ideal) x0 x4 x5 (ix3 b t n) = prompt x0 x4 x5 b t n := by
  unfold prompt projected
  refine (val_main_v15_apply ..).trans (Finset.sum_congr rfl fun k _ => ?_)
  refine congrArg₂ (· * ·) ?_ ?_
  · refine (congrArg _ (funext fun a => Fin.ext (by match a with | ⟨0, _⟩ => rfl | ⟨1, _⟩ => rfl | ⟨2, _⟩ => rfl))).trans (prompt_normed x0 x4 b t k)
  · exact congrArg x5 (funext fun a => Fin.ext (by match a with | ⟨0, _⟩ => rfl | ⟨1, _⟩ => rfl))

theorem sample_cols (b : Fin 32) (t : Fin 4) (n : Fin 7200) : val_main_v44 (F := Ideal) x1 x4 x5 (ix3 b t n) = sample x1 x4 x5 b t n := by
  unfold sample projected
  refine (val_main_v44_apply ..).trans (Finset.sum_congr rfl fun k _ => ?_)
  refine congrArg₂ (· * ·) ?_ ?_
  · refine (congrArg _ (funext fun a => Fin.ext (by match a with | ⟨0, _⟩ => rfl | ⟨1, _⟩ => rfl | ⟨2, _⟩ => rfl))).trans (sample_normed x1 x4 b t k)
  · exact congrArg x5 (funext fun a => Fin.ext (by match a with | ⟨0, _⟩ => rfl | ⟨1, _⟩ => rfl))

/-! ## The carried rows -/

theorem ssm_prompt (b : Fin 8) (t : Fin 3) (k : Fin 768) :
    val_main_v27 (F := Ideal) x0 x4 x5 (ix3 b t k) = prompt x0 x4 x5 b ⟨2045 + t.val, by omega⟩ ⟨1816 + k.val, by omega⟩ := by
  refine Eq.trans ?_ (prompt_cols x0 x4 x5 b ⟨2045 + t.val, by omega⟩ ⟨1816 + k.val, by omega⟩)
  unfold val_main_v27 val_main_v26 val_main_v20
  generalize val_main_v15 (F := Ideal) x0 x4 x5 = y
  generalize val_main_v0 (F := Ideal) = z
  refine (extractStridedSlice_apply _ _ _ _ (ix3 b (⟨2048 + t.val, by omega⟩ : Fin 2051) k) (fun a => by match a with | ⟨0, _⟩ => exact (Nat.zero_add _).symm | ⟨1, _⟩ => rfl | ⟨2, _⟩ => exact (Nat.zero_add _).symm)).trans ?_
  refine (concatenate_pair_apply_right (s₁ := S8x3x768) (s₂ := S8x2048x768) (t := S8x2051x768) 1 _ _ _ _ rfl rfl
    (ix3 b (⟨2045 + t.val, by omega⟩ : Fin 2048) k) (fun a ha => by match a with | ⟨0, _⟩ => rfl | ⟨1, _⟩ => exact absurd rfl ha | ⟨2, _⟩ => rfl) ?_).trans ?_
  · show 2045 + t.val + 3 = 2048 + t.val
    omega
  pointwise

theorem ssm_sample (b : Fin 32) (t : Fin 3) (k : Fin 768) :
    val_main_v56 (F := Ideal) x1 x2 x4 x5 (ix3 b t k) = sample x1 x4 x5 b ⟨1 + t.val, by omega⟩ ⟨1816 + k.val, by omega⟩ := by
  refine Eq.trans ?_ (sample_cols x1 x4 x5 b ⟨1 + t.val, by omega⟩ ⟨1816 + k.val, by omega⟩)
  unfold val_main_v56 val_main_v55 val_main_v49
  generalize val_main_v44 (F := Ideal) x1 x4 x5 = y
  refine (extractStridedSlice_apply _ _ _ _ (ix3 b (⟨4 + t.val, by omega⟩ : Fin 7) k) (fun a => by match a with | ⟨0, _⟩ => exact (Nat.zero_add _).symm | ⟨1, _⟩ => rfl | ⟨2, _⟩ => exact (Nat.zero_add _).symm)).trans ?_
  refine (concatenate_pair_apply_right (s₁ := S32x3x768) (s₂ := S32x4x768) (t := S32x7x768) 1 _ _ _ _ rfl rfl
    (ix3 b (⟨1 + t.val, by omega⟩ : Fin 4) k) (fun a ha => by match a with | ⟨0, _⟩ => rfl | ⟨1, _⟩ => exact absurd rfl ha | ⟨2, _⟩ => rfl) ?_).trans ?_
  · show 1 + t.val + 3 = 4 + t.val
    omega
  pointwise

theorem short_prompt (b : Fin 8) (t : Fin 2) (k : Fin 512) : val_main_v30 (F := Ideal) x0 x4 x5 (ix3 b t k)
    = prompt x0 x4 x5 b ⟨2046 + t.val, by omega⟩ ⟨3104 + k.val, by omega⟩ * prompt x0 x4 x5 b ⟨2046 + t.val, by omega⟩ ⟨3616 + k.val, by omega⟩ := by
  rw [← prompt_cols, ← prompt_cols]
  unfold val_main_v30 val_main_v29 val_main_v28 val_main_v23 val_main_v24
  generalize val_main_v15 (F := Ideal) x0 x4 x5 = y
  generalize val_main_v1 (F := Ideal) = z
  refine (extractStridedSlice_apply _ _ _ _ (ix3 b (⟨2048 + t.val, by omega⟩ : Fin 2050) k) (fun a => by match a with | ⟨0, _⟩ => exact (Nat.zero_add _).symm | ⟨1, _⟩ => rfl | ⟨2, _⟩ => exact (Nat.zero_add _).symm)).trans ?_
  refine (concatenate_pair_apply_right (s₁ := S8x2x512) (s₂ := S8x2048x512) (t := S8x2050x512) 1 _ _ _ _ rfl rfl
    (ix3 b (⟨2046 + t.val, by omega⟩ : Fin 2048) k) (fun a ha => by match a with | ⟨0, _⟩ => rfl | ⟨1, _⟩ => exact absurd rfl ha | ⟨2, _⟩ => rfl) ?_).trans ?_
  · show 2046 + t.val + 2 = 2048 + t.val
    omega
  pointwise

theorem short_sample (b : Fin 32) (t : Fin 2) (k : Fin 512) : val_main_v59 (F := Ideal) x1 x3 x4 x5 (ix3 b t k)
    = sample x1 x4 x5 b ⟨2 + t.val, by omega⟩ ⟨3104 + k.val, by omega⟩ * sample x1 x4 x5 b ⟨2 + t.val, by omega⟩ ⟨3616 + k.val, by omega⟩ := by
  rw [← sample_cols, ← sample_cols]
  unfold val_main_v59 val_main_v58 val_main_v57 val_main_v52 val_main_v53
  generalize val_main_v44 (F := Ideal) x1 x4 x5 = y
  refine (extractStridedSlice_apply _ _ _ _ (ix3 b (⟨4 + t.val, by omega⟩ : Fin 6) k) (fun a => by match a with | ⟨0, _⟩ => exact (Nat.zero_add _).symm | ⟨1, _⟩ => rfl | ⟨2, _⟩ => exact (Nat.zero_add _).symm)).trans ?_
  refine (concatenate_pair_apply_right (s₁ := S32x2x512) (s₂ := S32x4x512) (t := S32x6x512) 1 _ _ _ _ rfl rfl
    (ix3 b (⟨2 + t.val, by omega⟩ : Fin 4) k) (fun a ha => by match a with | ⟨0, _⟩ => rfl | ⟨1, _⟩ => exact absurd rfl ha | ⟨2, _⟩ => rfl) ?_).trans ?_
  · show 2 + t.val + 2 = 4 + t.val
    omega
  pointwise

end Cert.Reference2Ideal.Proj

end
-- ==== Proof.ProjEquation.lean ====
/-
  The norm-and-project kernel's run and its six results, each equal to the reference's.
-/
module

public import proofs.«01_k».proof.Proof.ProjTail
public import proofs.«01_k».proof.Proof.ProjRef
public import Idealize.ShloMosaic.Lib.Quiescent

@[expose] public section

noncomputable section

open Idealize.ShloMosaic Idealize.ShloMosaic.TcCoe Idealize.SL.Sem

namespace Cert.Kernel2Ideal.Equation

open Cert.Kernel2Ideal Cert.Kernel2Ideal.Gen Cert.Kernel2Ideal.Fold Cert.Kernel2Ideal.Host Cert.Kernel2Ideal.Tail

variable (m : (ℓ : Loc nD τ sig) → Buf (Elt Ideal) ℓ) (ρ : Dev nD → PrngReg) (c : Dev nD)

/-! ## What the last host lines find -/

/-- The buffers as the region leaves them. -/
def after : Valuation τ sig (Elt Ideal) :=
  Pipeline.withArrays (cfgs 0).spec c (V0 m c) fun w => (dats m 0 c).arrAt w (cfgs 0).N

theorem after_v20 : after m c (Proc.devRef .tc main_v20) = out m c :=
  (Pipeline.withArrays_arr spec0 (by decide) c (V0 m c) (fun w => (dats m 0 c).arrAt w cfg0.N) 3).trans (final m c)

theorem after_arg2 : after m c (Proc.devRef .tc main_arg2) = ssmConv m c :=
  (Pipeline.withArrays_of_ne _ c (V0 m c) _ main_arg2 (by exact (by decide : ∀ w, Pipeline.arrRef spec0 w ≠ main_arg2))).trans (V_main_arg2 m c)

theorem after_arg3 : after m c (Proc.devRef .tc main_arg3) = shortConv m c :=
  (Pipeline.withArrays_of_ne _ c (V0 m c) _ main_arg3 (by exact (by decide : ∀ w, Pipeline.arrRef spec0 w ≠ main_arg3))).trans (V_main_arg3 m c)

theorem left_colsPrompt : Pipeline.afterTail₀ cfgs (dats m) 0 (V0 m) [hostOps1] c main_v65 = colsPrompt (out m c) := by
  refine (Tail.after_colsPrompt (after m c)).trans ?_
  exact congrArg colsPrompt (after_v20 m c)

theorem left_colsSample : Pipeline.afterTail₀ cfgs (dats m) 0 (V0 m) [hostOps1] c main_v68 = colsSample (out m c) := by
  refine (Tail.after_colsSample (after m c)).trans ?_
  exact congrArg colsSample (after_v20 m c)

theorem left_ssmPrompt : Pipeline.afterTail₀ cfgs (dats m) 0 (V0 m) [hostOps1] c main_v40 = ssmPrompt (out m c) := by
  refine (Tail.after_ssmPrompt (after m c)).trans ?_
  exact congrArg ssmPrompt (after_v20 m c)

theorem left_ssmSample : Pipeline.afterTail₀ cfgs (dats m) 0 (V0 m) [hostOps1] c main_v43 = ssmSample (ssmConv m c) (out m c) := by
  refine (Tail.after_ssmSample (after m c)).trans ?_
  exact congrArg₂ ssmSample (after_arg2 m c) (after_v20 m c)

theorem left_shortPrompt : Pipeline.afterTail₀ cfgs (dats m) 0 (V0 m) [hostOps1] c main_v47 = shortPrompt (out m c) := by
  refine (Tail.after_shortPrompt (after m c)).trans ?_
  exact congrArg shortPrompt (after_v20 m c)

theorem left_shortSample : Pipeline.afterTail₀ cfgs (dats m) 0 (V0 m) [hostOps1] c main_v52 = shortSample (shortConv m c) (out m c) := by
  refine (Tail.after_shortSample (after m c)).trans ?_
  exact congrArg₂ shortSample (after_arg3 m c) (after_v20 m c)

/-- The exact kernel's run: its six results, its arguments unchanged. -/
theorem run : θ_run defs (onTc (τ := τ) (main (F := Ideal))) ⟨m, fun _ => 0, ρ⟩ (fun r => ∀ c : Dev nD,
      r.2.mem ((c.tc : Thread nD τ).loc main_v65) = colsPrompt (out m c)
      ∧ r.2.mem ((c.tc : Thread nD τ).loc main_v68) = colsSample (out m c)
      ∧ r.2.mem ((c.tc : Thread nD τ).loc main_v40) = ssmPrompt (out m c)
      ∧ r.2.mem ((c.tc : Thread nD τ).loc main_v43) = ssmSample (ssmConv m c) (out m c)
      ∧ r.2.mem ((c.tc : Thread nD τ).loc main_v47) = shortPrompt (out m c)
      ∧ r.2.mem ((c.tc : Thread nD τ).loc main_v52) = shortSample (shortConv m c) (out m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨h.1 c |>.1, h.1 c |>.2.1, h.1 c |>.2.2.1, h.1 c |>.2.2.2.1, h.1 c |>.2.2.2.2.1, h.1 c |>.2.2.2.2.2, h.2 c⟩)
    (θ_run_and ((θ_run defs _ _).mono (fun r h (c : Dev nD) => (⟨
      ((h c).2 main_v65 (Pipeline.mem_restRefs_of main_v65 (by decide) (by decide))).trans (left_colsPrompt m c),
      ((h c).2 main_v68 (Pipeline.mem_restRefs_of main_v68 (by decide) (by decide))).trans (left_colsSample m c),
      ((h c).2 main_v40 (Pipeline.mem_restRefs_of main_v40 (by decide) (by decide))).trans (left_ssmPrompt m c),
      ((h c).2 main_v43 (Pipeline.mem_restRefs_of main_v43 (by decide) (by decide))).trans (left_ssmSample m c),
      ((h c).2 main_v47 (Pipeline.mem_restRefs_of main_v47 (by decide) (by decide))).trans (left_shortPrompt m c),
      ((h c).2 main_v52 (Pipeline.mem_restRefs_of main_v52 (by decide) (by decide))).trans (left_shortSample m c)⟩ :
      r.2.mem ((c.tc : Thread nD τ).loc main_v65) = colsPrompt (out m c)
      ∧ r.2.mem ((c.tc : Thread nD τ).loc main_v68) = colsSample (out m c)
      ∧ r.2.mem ((c.tc : Thread nD τ).loc main_v40) = ssmPrompt (out m c)
      ∧ r.2.mem ((c.tc : Thread nD τ).loc main_v43) = ssmSample (ssmConv m c) (out m c)
      ∧ r.2.mem ((c.tc : Thread nD τ).loc main_v47) = shortPrompt (out m c)
      ∧ r.2.mem ((c.tc : Thread nD τ).loc main_v52) = shortSample (shortConv m c) (out m c))) (run_main m ρ)) (unchanged m ρ))

/-! ## The kernel's output is the reference's projection -/

open Cert.Reference2Ideal.Proj

theorem out_prompt (b : Fin 8) (t : Fin 2048) (n : Fin 7200) :
    out m c (ix2 (promptRow b t) (back n)) = prompt (xPrompt m c) (normGain m c) (wIn m c) b t n := by
  show value m c (promptRow b t) (back n) = _
  unfold value Fold.hidden prompt Body.projected
  simp only [prompt_rows, gain_eq, weight_back]

theorem out_sample (b : Fin 32) (t : Fin 4) (n : Fin 7200) :
    out m c (ix2 (sampleRow b t) (back n)) = sample (xSample m c) (normGain m c) (wIn m c) b t n := by
  show value m c (sampleRow b t) (back n) = _
  unfold value Fold.hidden sample Body.projected
  simp only [sample_rows, gain_eq, weight_back]

theorem equal_colsPrompt : Cert.Reference2Ideal.Read.val_main_v15 (F := Ideal) (xPrompt m c) (normGain m c) (wIn m c) = colsPrompt (out m c) := by
  funext i
  idx_vars i
  exact (prompt_cols (xPrompt m c) (normGain m c) (wIn m c) _ _ _).trans ((colsPrompt_apply _ _ _ _).trans (out_prompt m c _ _ _)).symm

theorem equal_colsSample : Cert.Reference2Ideal.Read.val_main_v44 (F := Ideal) (xSample m c) (normGain m c) (wIn m c) = colsSample (out m c) := by
  funext i
  idx_vars i
  exact (sample_cols (xSample m c) (normGain m c) (wIn m c) _ _ _).trans ((colsSample_apply _ _ _ _).trans (out_sample m c _ _ _)).symm

theorem equal_ssmPrompt : Cert.Reference2Ideal.Read.val_main_v27 (F := Ideal) (xPrompt m c) (normGain m c) (wIn m c) = ssmPrompt (out m c) := by
  funext i
  idx_vars i
  exact (ssm_prompt (xPrompt m c) (normGain m c) (wIn m c) _ _ _).trans ((ssmPrompt_apply _ _ _ _).trans (out_prompt m c _ _ _)).symm

theorem equal_ssmSample : Cert.Reference2Ideal.Read.val_main_v56 (F := Ideal) (xSample m c) (ssmConv m c) (normGain m c) (wIn m c) = ssmSample (ssmConv m c) (out m c) := by
  funext i
  idx_vars i
  exact (ssm_sample (xSample m c) (ssmConv m c) (normGain m c) (wIn m c) _ _ _).trans ((ssmSample_apply _ _ _ _ _).trans (out_sample m c _ _ _)).symm

theorem equal_shortPrompt : Cert.Reference2Ideal.Read.val_main_v30 (F := Ideal) (xPrompt m c) (normGain m c) (wIn m c) = shortPrompt (out m c) := by
  funext i
  idx_vars i
  exact (short_prompt (xPrompt m c) (normGain m c) (wIn m c) _ _ _).trans ((shortPrompt_apply _ _ _ _).trans (congrArg₂ (· * ·) (out_prompt m c _ _ _) (out_prompt m c _ _ _))).symm

theorem equal_shortSample : Cert.Reference2Ideal.Read.val_main_v59 (F := Ideal) (xSample m c) (shortConv m c) (normGain m c) (wIn m c) = shortSample (shortConv m c) (out m c) := by
  funext i
  idx_vars i
  exact (short_sample (xSample m c) (shortConv m c) (normGain m c) (wIn m c) _ _ _).trans ((shortSample_apply _ _ _ _ _).trans (congrArg₂ (· * ·) (out_sample m c _ _ _) (out_sample m c _ _ _))).symm

end Cert.Kernel2Ideal.Equation

end
-- ==== Proof.Turn.lean ====
/-
  Keys as the preparation kernels make them, and as the mathematics says. A key is a head's 64 numbers, divided by their root
  mean square, scaled, and turned pairwise (number `d` with number `d + 32`) by an angle. The kernels hold two heads side by
  side in 128 lanes: they take the mean by a product with a table that is 1/64 inside a head and zero across heads, and turn
  by two rotations of the lanes.
-/
module

public import Idealize.ShloMosaic.Lib.Pointwise
public import Idealize.ShloMosaic.Lib.IdealHost
public import Idealize.ShloMosaic.Lib.Pipeline.Value
public import Idealize.ShloMosaic.Lib.Pipeline.ValueKit.Acc
public import Idealize.ShloMosaic.Lib.Tactic

@[expose] public section

noncomputable section

open Idealize.ShloMosaic

namespace Cert.Turn

/-- The root mean square's offset, and the number of lanes of a head. -/
abbrev eps : EReal := Ideal.ofBits .f32 0x358637BD#32
abbrev heads64 : EReal := Ideal.ofBits .f32 0x42800000#32

theorem heads64_eq : heads64 = ((64 : ℝ) : EReal) := by
  show Ideal.ofBits .f32 0x42800000#32 = _
  simp [Ideal.ofBits, Ideal.ieee, -EReal.coe_mul]; norm_num

/-- A number of a head divided by the head's root mean square, and scaled. -/
def normed (x w : Fin 64 → EReal) (d : Fin 64) : EReal :=
  x d * Ideal.rsqrt (Ideal.div (∑ k : Fin 64, x k * x k) heads64 + eps) * w d

/-- A head turned: number `d` with number `d + 32` by the angle whose cosine and sine are `c d` and `s d`. -/
def turned (y : Fin 64 → EReal) (c s : Fin 32 → EReal) (d : Fin 64) : EReal :=
  if h : d.val < 32 then y d * c ⟨d.val, h⟩ - y ⟨d.val + 32, by omega⟩ * s ⟨d.val, h⟩
  else y d * c ⟨d.val - 32, by omega⟩ + y ⟨d.val - 32, by omega⟩ * s ⟨d.val - 32, by omega⟩

/-- A key. -/
def key (x w : Fin 64 → EReal) (c s : Fin 32 → EReal) (d : Fin 64) : EReal := turned (normed x w) c s d

/-- The same in 128 lanes, the mean taken by a table. -/
def lnormed (x : Fin 128 → EReal) (bd : Fin 128 → Fin 128 → EReal) (w : Fin 128 → EReal) (l : Fin 128) : EReal :=
  x l * Ideal.rsqrt ((∑ k : Fin 128, x k * x k * bd k l) + eps) * w l

def lturned (y c s : Fin 128 → EReal) (l : Fin 128) : EReal :=
  y l * c l + (if l.val % 64 < 32 then y ⟨(l.val + 32) % 128, by omega⟩ else y ⟨(l.val + 96) % 128, by omega⟩) * s l

def lkey (x : Fin 128 → EReal) (bd : Fin 128 → Fin 128 → EReal) (w c s : Fin 128 → EReal) (l : Fin 128) : EReal :=
  lturned (lnormed x bd w) c s l

/-- Lane `d` of head `g`. -/
def lane (g : Fin 2) (d : Fin 64) : Fin 128 := ⟨g.val * 64 + d.val, by omega⟩

/-- The table of the mean. -/
def meanTable (k l : Fin 128) : EReal := if k.val / 64 = l.val / 64 then ((1 / 64 : ℝ) : EReal) else 0

/-- A sum of squares scaled is the squares scaled, summed. -/
theorem sum_sq_mul {n : ℕ} (x : Fin n → EReal) (r : ℝ) (hr : 0 ≤ r) : (∑ k, x k * x k * (r : EReal)) = (∑ k, x k * x k) * (r : EReal) := by
  have key : ∀ s : Finset (Fin n), (∑ k ∈ s, x k * x k * (r : EReal)) = (∑ k ∈ s, x k * x k) * (r : EReal) := by
    intro s
    induction s using Finset.induction_on with
    | empty => simp
    | insert a s ha ih =>
      rw [Finset.sum_insert ha, Finset.sum_insert ha, ih]
      exact (EReal.right_distrib_of_nonneg_of_ne_top (EReal.coe_nonneg.mpr hr) (EReal.coe_ne_top r) _ _).symm
  exact key Finset.univ

/-- The product with the table is the mean over the lane's head. -/
theorem mean_eq (x : Fin 128 → EReal) (g : Fin 2) (d : Fin 64) :
    (∑ k : Fin 128, x k * x k * meanTable k (lane g d)) = Ideal.div (∑ k : Fin 64, x (lane g k) * x (lane g k)) heads64 := by
  have hl : (lane g d).val / 64 = g.val := by show (g.val * 64 + d.val) / 64 = g.val; omega
  rw [heads64_eq, Ideal.div_coe (by norm_num), ← sum_sq_mul _ _ (by norm_num)]
  have split : (∑ k : Fin 128, x k * x k * meanTable k (lane g d))
      = ∑ a : Fin 2, ∑ e : Fin 64, x (lane a e) * x (lane a e) * meanTable (lane a e) (lane g d) :=
    (Fin.sum_mul_add_fin 2 64 (fun k : Fin 128 => x k * x k * meanTable k (lane g d))).symm
  rw [split]
  have zero (a : Fin 2) (h : a ≠ g) : (∑ e : Fin 64, x (lane a e) * x (lane a e) * meanTable (lane a e) (lane g d)) = 0 := by
    refine Finset.sum_eq_zero fun e _ => ?_
    have : meanTable (lane a e) (lane g d) = 0 := by
      unfold meanTable
      rw [if_neg]
      rw [hl]
      have he : (lane a e).val / 64 = a.val := by show (a.val * 64 + e.val) / 64 = a.val; omega
      rw [he]
      exact fun h' => h (Fin.ext h')
    rw [this, mul_zero]
  rw [Finset.sum_eq_single g (fun a _ h => zero a h) (fun h => absurd (Finset.mem_univ g) h)]
  refine Finset.sum_congr rfl fun e _ => ?_
  have : meanTable (lane g e) (lane g d) = ((1 / 64 : ℝ) : EReal) := by
    unfold meanTable
    rw [if_pos]
    rw [hl]
    show (g.val * 64 + e.val) / 64 = g.val
    omega
  rw [this]

theorem lnormed_eq (x : Fin 128 → EReal) (w : Fin 128 → EReal) (g : Fin 2) (d : Fin 64) :
    lnormed x meanTable w (lane g d) = normed (fun e => x (lane g e)) (fun e => w (lane g e)) d := by
  unfold lnormed normed
  rw [mean_eq]

/-- The cosines and signed sines in 128 lanes. -/
def cosLane (c : Fin 32 → EReal) (l : Fin 128) : EReal := c ⟨l.val % 32, by omega⟩
def sinLane (s : Fin 32 → EReal) (l : Fin 128) : EReal :=
  if l.val % 64 < 32 then -(s ⟨l.val % 32, by omega⟩) else s ⟨l.val % 32, by omega⟩

/-- Two heads in 128 lanes, normalized and turned, are the two heads normalized and turned. -/
theorem lkey_eq (x : Fin 128 → EReal) (w : Fin 128 → EReal) (c s : Fin 32 → EReal) (g : Fin 2) (d : Fin 64) :
    lkey x meanTable w (cosLane c) (sinLane s) (lane g d)
      = key (fun e => x (lane g e)) (fun e => w (lane g e)) c s d := by
  unfold lkey key lturned turned
  rw [lnormed_eq]
  have hm : (lane g d).val % 64 = d.val := by show (g.val * 64 + d.val) % 64 = d.val; omega
  have h32 : (lane g d).val % 32 = d.val % 32 := by show (g.val * 64 + d.val) % 32 = d.val % 32; omega
  by_cases h : d.val < 32
  · have e1 : (⟨((lane g d).val + 32) % 128, by omega⟩ : Fin 128) = lane g ⟨d.val + 32, by omega⟩ := Fin.ext (by
      show (g.val * 64 + d.val + 32) % 128 = g.val * 64 + (d.val + 32); omega)
    have e2 : (⟨(lane g d).val % 32, by omega⟩ : Fin 32) = ⟨d.val, h⟩ := Fin.ext (h32.trans (Nat.mod_eq_of_lt h))
    unfold cosLane sinLane
    rw [if_pos (by omega), if_pos (by omega), dif_pos h, e1, e2, lnormed_eq, mul_neg, sub_eq_add_neg]
  · have e1 : (⟨((lane g d).val + 96) % 128, by omega⟩ : Fin 128) = lane g ⟨d.val - 32, by omega⟩ := Fin.ext (by
      show (g.val * 64 + d.val + 96) % 128 = g.val * 64 + (d.val - 32); omega)
    have e2 : (⟨(lane g d).val % 32, by omega⟩ : Fin 32) = ⟨d.val - 32, by omega⟩ := Fin.ext (h32.trans (by
      show d.val % 32 = d.val - 32; omega))
    unfold cosLane sinLane
    rw [if_neg (by omega), if_neg (by omega), dif_neg h, e1, e2, lnormed_eq]

/-- What the kernels leave at column `n` of a position's three branches of keys and values: the even groups of 128 lanes are
    keys, the odd groups are values. -/
def branch (kv : Fin 768 → EReal) (bd : Fin 128 → Fin 128 → EReal) (kw : Fin 3 → Fin 128 → EReal) (c s : Fin 128 → EReal) (n : Fin 768) : EReal :=
  if n.val / 128 % 2 = 0 then lkey (fun k => kv ⟨n.val / 256 * 256 + k.val, by omega⟩) bd (kw ⟨n.val / 256, by omega⟩) c s ⟨n.val % 128, by omega⟩
  else kv n

theorem branch_key (kv : Fin 768 → EReal) (bd : Fin 128 → Fin 128 → EReal) (kw : Fin 3 → Fin 128 → EReal) (c s : Fin 128 → EReal)
    (b : Fin 3) (l : Fin 128) (n : Fin 768) (hn : n.val = b.val * 256 + l.val) :
    branch kv bd kw c s n = lkey (fun k => kv ⟨b.val * 256 + k.val, by omega⟩) bd (kw b) c s l := by
  have e1 : n.val / 256 = b.val := by omega
  have e2 : (⟨n.val / 256, by omega⟩ : Fin 3) = b := Fin.ext e1
  have e3 : (⟨n.val % 128, by omega⟩ : Fin 128) = l := Fin.ext (show n.val % 128 = l.val by omega)
  unfold branch
  rw [if_pos (by omega), e2, e3]
  exact congrArg (fun x => lkey x bd (kw b) c s l) (funext fun k => congrArg kv (Fin.ext (show n.val / 256 * 256 + k.val = _ by rw [e1])))

theorem branch_val (kv : Fin 768 → EReal) (bd : Fin 128 → Fin 128 → EReal) (kw : Fin 3 → Fin 128 → EReal) (c s : Fin 128 → EReal)
    (b : Fin 3) (l : Fin 128) (n : Fin 768) (hn : n.val = b.val * 256 + 128 + l.val) :
    branch kv bd kw c s n = kv n := if_neg (by omega)

/-- The angle of pair `f` at position `p`. -/
def angle (p : BitVec 32) (f : Fin 32) : EReal :=
  FloatOps.sitofp (F := Ideal) .f32 p
    * Ideal.exp (Ideal.div (Ideal.ofBits .f32 0xC1135D8E#32 * FloatOps.sitofp (F := Ideal) .f32 (BitVec.ofNat 32 f.val)) (Ideal.ofBits .f32 0x42000000#32))

/-- The tables of cosines and signed sines, as four pieces of 32 lanes. -/
theorem cos_pieces (g : Fin 32 → EReal) (l : Fin 128) :
    (if h : l.val < 32 then g ⟨l.val, h⟩ else if h : l.val - 32 < 32 then g ⟨l.val - 32, h⟩
      else if h : l.val - 32 - 32 < 32 then g ⟨l.val - 32 - 32, h⟩ else g ⟨l.val - 32 - 32 - 32, by omega⟩) = cosLane g l := by
  unfold cosLane
  split_ifs
  all_goals exact congrArg g (Fin.ext (by dsimp only; omega))

theorem sin_pieces (g : Fin 32 → EReal) (l : Fin 128) :
    (if h : l.val < 32 then -(g ⟨l.val, h⟩) else if h : l.val - 32 < 32 then g ⟨l.val - 32, h⟩
      else if h : l.val - 32 - 32 < 32 then -(g ⟨l.val - 32 - 32, h⟩) else g ⟨l.val - 32 - 32 - 32, by omega⟩) = sinLane g l := by
  unfold sinLane
  split_ifs
  all_goals first
    | exact congrArg g (Fin.ext (by dsimp only; omega))
    | exact congrArg (fun x => -(g x)) (Fin.ext (by dsimp only; omega))
    | omega

/-- Whether two lanes are in one head, as a number divided by 64. -/
theorem mean_word (k l : Fin 128) :
    Ideal.div (FloatOps.uitofp (F := Ideal) .f32 (IntOp.cmpi .eq (BitVec.ofNat 32 (k.val / 64)) (BitVec.ofNat 32 (l.val / 64)))) (Ideal.ofBits .f32 0x42800000#32)
      = meanTable k l := by
  rw [show Ideal.ofBits .f32 0x42800000#32 = ((64 : ℝ) : EReal) from heads64_eq, Ideal.div_coe (by norm_num)]
  have hw : ∀ k l : Fin 128, IntOp.cmpi .eq (BitVec.ofNat 32 (k.val / 64)) (BitVec.ofNat 32 (l.val / 64)) = if k.val / 64 = l.val / 64 then 1#1 else 0#1 := by
    decide +kernel
  rw [hw]
  unfold meanTable
  split_ifs
  · rw [show FloatOps.uitofp (F := Ideal) .f32 (1#1) = (1 : EReal) from (show ((((1#1).toNat : ℝ)) : EReal) = 1 by simp), one_mul]
  · rw [show FloatOps.uitofp (F := Ideal) .f32 (0#1) = (0 : EReal) from (show ((((0#1).toNat : ℝ)) : EReal) = 0 by simp), zero_mul]

end Cert.Turn

end
-- ==== Proof.RopeBody.lean ====
/-
  What the samples' preparation kernel computes of what it reads, at an index: a branch's keys are the projection's columns
  normalized and turned, lane by lane.
-/
module

public import proofs.«01_k».proof.Defs
public import proofs.«01_k».proof.Proof.Turn
public import proofs.«01_k».proof.Proof.Gen.Kernel3Ideal.Frame

@[expose] public section

noncomputable section

open Idealize.ShloMosaic Idealize.ShloMosaic.TcCoe Idealize.SL.Sem

namespace Cert.Kernel3Ideal.Body

open Cert.Kernel3Ideal Cert.Kernel3Ideal.Gen Cert.Turn

/-- The mask is true in the first half of a head. -/
theorem half_apply (r : Fin 256) (l : Fin 128) : k0_pay5 (ix2 r l) = if l.val % 64 < 32 then 1#1 else 0#1 := by
  pointwise [k0_pay5]
  revert l
  decide +kernel

theorem key_apply (cosT sinT : Vec Ideal S256x128 .f32) (bd : Vec Ideal S128x128 .f32) (x : Vec Ideal S256x128 .f32) (w : Vec Ideal S1x128 .f32)
    (r : Fin 256) (l : Fin 128) :
    k0_pay1 (F := Ideal) cosT sinT bd k0_pay5 x w (ix2 r l)
      = lkey (fun k => x (ix2 r k)) (fun k l => bd (ix2 k l)) (fun k => w (ix2 0 k)) (fun k => cosT (ix2 r k)) (fun k => sinT (ix2 r k)) l := by
  unfold lkey lturned
  pointwise [k0_pay1, lnormed]
  have e1 : (⟨(l.val + 128 - 96) % 128, by omega⟩ : Fin 128) = ⟨(l.val + 32) % 128, by omega⟩ := Fin.ext (by
    show (l.val + 128 - 96) % 128 = (l.val + 32) % 128; omega)
  have e2 : (⟨(l.val + 128 - 32) % 128, by omega⟩ : Fin 128) = ⟨(l.val + 96) % 128, by omega⟩ := Fin.ext (by
    show (l.val + 128 - 32) % 128 = (l.val + 96) % 128; omega)
  rw [half_apply, e1, e2]
  by_cases h : l.val % 64 < 32
  · rw [if_pos h, if_pos h]; rfl
  · rw [if_neg h, if_neg h]; rfl

/-! ## The two output blocks -/

section Blocks
variable (x0 : Vec Ideal S256x512 .f32) (x1 : Vec Ideal S256x768 .f32) (x2 x3 : Vec Ideal S256x128 .f32) (x4 : Vec Ideal S1x128 .f32)
  (x5 : Vec Ideal S8x128 .f32) (x6 : Vec Ideal S128x128 .f32)

theorem zero2 : (![0, 0] : Fin 2 → Nat) = fun _ => 0 := funext fun a => by fin_cases a <;> rfl

/-- Column `n` of position `r`'s three branches, from the blocks. -/
def made (r : Fin 256) (n : Fin 768) : EReal :=
  branch (fun k => x1 (ix2 r k)) (fun k l => x6 (ix2 k l)) (fun b k => x5 (ix2 ⟨b.val, by omega⟩ k)) (fun k => x2 (ix2 r k)) (fun k => x3 (ix2 r k)) n

theorem made_key (b : Fin 3) (r : Fin 256) (l : Fin 128) (n : Fin 768) (hn : n.val = b.val * 256 + l.val)
    (x : Vec Ideal S256x128 .f32) (w : Vec Ideal S1x128 .f32)
    (hx : ∀ k : Fin 128, x (ix2 r k) = x1 (ix2 r ⟨b.val * 256 + k.val, by omega⟩)) (hw : ∀ k : Fin 128, w (ix2 0 k) = x5 (ix2 ⟨b.val, by omega⟩ k)) :
    k0_pay1 (F := Ideal) (k0_pay19 x0 x1 x2 x3 x4 x5 x6) (k0_pay20 x0 x1 x2 x3 x4 x5 x6) (k0_pay21 x0 x1 x2 x3 x4 x5 x6) (k0_pay22 x0 x1 x2 x3 x4 x5 x6) x w (ix2 r l)
      = made x1 x2 x3 x5 x6 r n := by
  have e2 : ∀ k, (k0_pay19 (F := Ideal) x0 x1 x2 x3 x4 x5 x6) (ix2 r k) = x2 (ix2 r k) := fun k => by
    unfold k0_pay19; rw [View.ld_unit_zero zero2]; pointwise [k0_pay2]
  have e3 : ∀ k, (k0_pay20 (F := Ideal) x0 x1 x2 x3 x4 x5 x6) (ix2 r k) = x3 (ix2 r k) := fun k => by
    unfold k0_pay20; rw [View.ld_unit_zero zero2]; pointwise [k0_pay3]
  have e6 : ∀ k l, (k0_pay21 (F := Ideal) x0 x1 x2 x3 x4 x5 x6) (ix2 k l) = x6 (ix2 k l) := fun k l => by
    unfold k0_pay21; rw [View.ld_unit_zero zero2]; pointwise [k0_pay4]
  refine (key_apply _ _ _ x w r l).trans ?_
  unfold made
  rw [branch_key _ _ _ _ _ b l n hn]
  simp only [e2, e3, e6, hx, hw]

def rowsBlock : S256x512.Idx → Elt Ideal .f32 := fun y => made x1 x2 x3 x5 x6 (y 0) ⟨(y 1).val, lt_trans (y 1).isLt (by decide)⟩
def windowBlock : S256x256.Idx → Elt Ideal .f32 := fun y => made x1 x2 x3 x5 x6 (y 0) ⟨512 + (y 1).val, Nat.add_lt_add_left (y 1).isLt 512⟩

theorem rows_emb (o : ℕ) (inb : ∀ a, (![0, o] : Fin 2 → ℕ) a + S256x128.size a ≤ S256x512.size a) (r : Fin 256) (l : Fin 128) (n : Fin 768) (hn : n.val = o + l.val) :
    rowsBlock x1 x2 x3 x5 x6 ((Rect.unit (s := S256x512) ![0, o] S256x128.size inb).emb (ix2 r l)) = made x1 x2 x3 x5 x6 r n :=
  congrArg₂ (made x1 x2 x3 x5 x6) (Fin.ext (show 0 + 1 * r.val = r.val by omega)) (Fin.ext (show o + 1 * l.val = n.val by omega))

theorem window_emb (o : ℕ) (inb : ∀ a, (![0, o] : Fin 2 → ℕ) a + S256x128.size a ≤ S256x256.size a) (r : Fin 256) (l : Fin 128) (n : Fin 768) (hn : n.val = 512 + o + l.val) :
    windowBlock x1 x2 x3 x5 x6 ((Rect.unit (s := S256x256) ![0, o] S256x128.size inb).emb (ix2 r l)) = made x1 x2 x3 x5 x6 r n :=
  congrArg₂ (made x1 x2 x3 x5 x6) (Fin.ext (show 0 + 1 * r.val = r.val by omega)) (Fin.ext (show 512 + (o + 1 * l.val) = n.val by omega))

theorem ld_cols (o : ℕ) (inb : ∀ a, (![0, o] : Fin 2 → ℕ) a + S256x128.size a ≤ S256x768.size a) (r : Fin 256) (l : Fin 128) (n : Fin 768) (hn : n.val = o + l.val) :
    View.ld x1 (Rect.unit (s := S256x768) ![0, o] S256x128.size inb) (ix2 r l) = x1 (ix2 r n) :=
  congrArg x1 (funext fun a => Fin.ext (match a with
    | ⟨0, _⟩ => show 0 + 1 * r.val = r.val by omega
    | ⟨1, _⟩ => show o + 1 * l.val = n.val by omega))

theorem ld_gain (o : ℕ) (inb : ∀ a, (![o, 0] : Fin 2 → ℕ) a + S1x128.size a ≤ S8x128.size a) (l : Fin 128) (b : Fin 8) (hb : b.val = o) :
    View.ld x5 (Rect.unit (s := S8x128) ![o, 0] S1x128.size inb) (ix2 0 l) = x5 (ix2 b l) :=
  congrArg x5 (funext fun a => Fin.ext (match a with
    | ⟨0, _⟩ => show o + 1 * 0 = b.val by omega
    | ⟨1, _⟩ => show 0 + 1 * l.val = l.val by omega))

theorem made_val (b : Fin 3) (r : Fin 256) (l : Fin 128) (n : Fin 768) (hn : n.val = b.val * 256 + 128 + l.val) :
    made x1 x2 x3 x5 x6 r n = x1 (ix2 r n) := branch_val _ _ _ _ _ b l n hn

/-- The block of new rows. -/
theorem rows_block (y : S256x512.Idx) : out0_8 (F := Ideal) x0 x1 x2 x3 x4 x5 x6 y = rowsBlock x1 x2 x3 x5 x6 y := by
  unfold out0_8
  refine View.canon_apply_of_pieces (Val := Elt Ideal) (rowsBlock x1 x2 x3 x5 x6) _ ?_ y (cover0_8 _ _ _ _ y)
  intro p hp
  simp only [List.mem_cons, List.not_mem_nil, or_false] at hp
  rcases hp with rfl | rfl | rfl | rfl
  · intro (x : S256x128.Idx)
    rw [eq_ix2 x]
    have hx : (x 1).val < 128 := (x 1).isLt
    have hn : 384 + (x 1).val < 768 := by omega
    exact (ld_cols x1 384 _ (x 0) (x 1) ⟨_, hn⟩ rfl).trans ((made_val x1 x2 x3 x5 x6 1 (x 0) (x 1) ⟨_, hn⟩ rfl).symm.trans
      (rows_emb x1 x2 x3 x5 x6 384 inb_S256x512_S256x128_0_384 (x 0) (x 1) ⟨_, hn⟩ rfl).symm)
  · intro (x : S256x128.Idx)
    rw [eq_ix2 x]
    have hx : (x 1).val < 128 := (x 1).isLt
    have hn : 256 + (x 1).val < 768 := by omega
    exact (made_key x0 x1 x2 x3 x4 x5 x6 1 (x 0) (x 1) ⟨_, hn⟩ rfl _ _ (fun k => ld_cols x1 256 _ (x 0) k _ rfl) (fun k => ld_gain x5 1 _ k _ rfl)).trans
      (rows_emb x1 x2 x3 x5 x6 256 inb_S256x512_S256x128_0_256 (x 0) (x 1) ⟨_, hn⟩ rfl).symm
  · intro (x : S256x128.Idx)
    rw [eq_ix2 x]
    have hx : (x 1).val < 128 := (x 1).isLt
    have hn : 128 + (x 1).val < 768 := by omega
    exact (ld_cols x1 128 _ (x 0) (x 1) ⟨_, hn⟩ rfl).trans ((made_val x1 x2 x3 x5 x6 0 (x 0) (x 1) ⟨_, hn⟩ (by show 128 + (x 1).val = 0 * 256 + 128 + (x 1).val; omega)).symm.trans
      (rows_emb x1 x2 x3 x5 x6 128 inb_S256x512_S256x128_0_128 (x 0) (x 1) ⟨_, hn⟩ rfl).symm)
  · intro (x : S256x128.Idx)
    rw [eq_ix2 x]
    have hx : (x 1).val < 128 := (x 1).isLt
    have hn : 0 + (x 1).val < 768 := by omega
    exact (made_key x0 x1 x2 x3 x4 x5 x6 0 (x 0) (x 1) ⟨_, hn⟩ (by show 0 + (x 1).val = 0 * 256 + (x 1).val; omega) _ _
        (fun k => ld_cols x1 0 _ (x 0) k _ (by show 0 * 256 + k.val = 0 + k.val; omega)) (fun k => ld_gain x5 0 _ k _ rfl)).trans
      (rows_emb x1 x2 x3 x5 x6 0 inb_S256x512_S256x128_0_0 (x 0) (x 1) ⟨_, hn⟩ rfl).symm

/-- The block of the window's new rows. -/
theorem window_block (y : S256x256.Idx) : out0_9 (F := Ideal) x0 x1 x2 x3 x4 x5 x6 y = windowBlock x1 x2 x3 x5 x6 y := by
  unfold out0_9
  refine View.canon_apply_of_pieces (Val := Elt Ideal) (windowBlock x1 x2 x3 x5 x6) _ ?_ y (cover0_9 _ _ y)
  intro p hp
  simp only [List.mem_cons, List.not_mem_nil, or_false] at hp
  rcases hp with rfl | rfl
  · intro (x : S256x128.Idx)
    rw [eq_ix2 x]
    have hx : (x 1).val < 128 := (x 1).isLt
    have hn : 640 + (x 1).val < 768 := by omega
    exact (ld_cols x1 640 _ (x 0) (x 1) ⟨_, hn⟩ rfl).trans ((made_val x1 x2 x3 x5 x6 2 (x 0) (x 1) ⟨_, hn⟩ rfl).symm.trans
      (window_emb x1 x2 x3 x5 x6 128 inb_S256x256_S256x128_0_128 (x 0) (x 1) ⟨_, hn⟩ rfl).symm)
  · intro (x : S256x128.Idx)
    rw [eq_ix2 x]
    have hx : (x 1).val < 128 := (x 1).isLt
    have hn : 512 + (x 1).val < 768 := by omega
    exact (made_key x0 x1 x2 x3 x4 x5 x6 2 (x 0) (x 1) ⟨_, hn⟩ rfl _ _ (fun k => ld_cols x1 512 _ (x 0) k _ rfl) (fun k => ld_gain x5 2 _ k _ rfl)).trans
      (window_emb x1 x2 x3 x5 x6 0 inb_S256x256_S256x128_0_0 (x 0) (x 1) ⟨_, hn⟩ rfl).symm

end Blocks

end Cert.Kernel3Ideal.Body

end
-- ==== Proof.RopeFold.lean ====
/-
  What the samples' preparation kernel's two output arrays hold: the projection's columns of keys and values, the keys
  normalized and turned.
-/
module

public import proofs.«01_k».proof.Proof.RopeBody

@[expose] public section

noncomputable section

open Idealize.ShloMosaic Idealize.ShloMosaic.TcCoe Idealize.SL.Sem
open Idealize.ShloMosaic.Pipeline (Dat Cfg Window)

namespace Cert.Kernel3Ideal.Fold

open Cert.Kernel3Ideal Cert.Kernel3Ideal.Gen Cert.Kernel3Ideal.Body Cert.Turn

theorem coords_zero : ∀ t : Fin grid0.N, ((grid0.coords t) 0).val = 0 := by decide +kernel

theorem word_zero (t : Fin grid0.N) : (BitVec.ofNat 32 ((grid0.coords t) 0).val).toNat = 0 := by rw [coords_zero]; rfl

variable (m : (ℓ : Loc nD τ sig) → Buf (Elt Ideal) ℓ) (ρ : Dev nD → PrngReg) (c : Dev nD)

/-! ## The arrays that the region reads -/

def proj : S256x7680.Idx → EReal := V m c main_arg0
def cosT : S256x128.Idx → EReal := V m c main_v20
def sinT : S256x128.Idx → EReal := V m c main_v23
def gains : S8x128.Idx → EReal := V m c main_v31
def table : S128x128.Idx → EReal := V m c main_v42

theorem proj_at (t : Fin cfg0.N) (r : Fin 256) (k : Fin 768) :
    (iblk m c 1 t : Vec Ideal S256x768 .f32) (ix2 r k) = proj m c (ix2 r ⟨1536 + k.val, by omega⟩) := by
  unfold iblk
  refine (View.read_apply ..).trans ?_
  show proj m c _ = _
  congr 1
  funext a
  apply Fin.ext
  match a with
  | ⟨0, _⟩ =>
    show (BitVec.ofNat 32 ((grid0.coords t) 0).val).toNat * 256 + 1 * r.val = r.val
    rw [word_zero]; omega
  | ⟨1, _⟩ => show 2 * 768 + 1 * k.val = 1536 + k.val; omega

theorem cos_at (t : Fin cfg0.N) (r : Fin 256) (k : Fin 128) :
    (iblk m c 2 t : Vec Ideal S256x128 .f32) (ix2 r k) = cosT m c (ix2 r k) := by
  unfold iblk
  refine (View.read_apply ..).trans ?_
  show cosT m c _ = _
  congr 1
  funext a
  apply Fin.ext
  match a with
  | ⟨0, _⟩ =>
    show (BitVec.ofNat 32 ((grid0.coords t) 0).val).toNat * 256 + 1 * r.val = r.val
    rw [word_zero]; omega
  | ⟨1, _⟩ => show 0 * 128 + 1 * k.val = k.val; omega

theorem sin_at (t : Fin cfg0.N) (r : Fin 256) (k : Fin 128) :
    (iblk m c 3 t : Vec Ideal S256x128 .f32) (ix2 r k) = sinT m c (ix2 r k) := by
  unfold iblk
  refine (View.read_apply ..).trans ?_
  show sinT m c _ = _
  congr 1
  funext a
  apply Fin.ext
  match a with
  | ⟨0, _⟩ =>
    show (BitVec.ofNat 32 ((grid0.coords t) 0).val).toNat * 256 + 1 * r.val = r.val
    rw [word_zero]; omega
  | ⟨1, _⟩ => show 0 * 128 + 1 * k.val = k.val; omega

theorem gains_at (t : Fin cfg0.N) (b : Fin 8) (k : Fin 128) :
    (iblk m c 5 t : Vec Ideal S8x128 .f32) (ix2 b k) = gains m c (ix2 b k) := by
  unfold iblk
  refine (View.read_apply ..).trans ?_
  show gains m c _ = _
  congr 1
  funext a
  apply Fin.ext
  match a with
  | ⟨0, _⟩ => show 0 * 8 + 1 * b.val = b.val; omega
  | ⟨1, _⟩ => show 0 * 128 + 1 * k.val = k.val; omega

theorem table_at (t : Fin cfg0.N) (k l : Fin 128) :
    (iblk m c 6 t : Vec Ideal S128x128 .f32) (ix2 k l) = table m c (ix2 k l) := by
  unfold iblk
  refine (View.read_apply ..).trans ?_
  show table m c _ = _
  congr 1
  funext a
  apply Fin.ext
  match a with
  | ⟨0, _⟩ => show 0 * 128 + 1 * k.val = k.val; omega
  | ⟨1, _⟩ => show 0 * 128 + 1 * l.val = l.val; omega

/-- Column `n` of position `r`'s three branches, from the arrays. -/
def value (r : Fin 256) (n : Fin 768) : EReal :=
  branch (fun k => proj m c (ix2 r ⟨1536 + k.val, by omega⟩)) (fun k l => table m c (ix2 k l)) (fun b k => gains m c (ix2 ⟨b.val, by omega⟩ k))
    (fun k => cosT m c (ix2 r k)) (fun k => sinT m c (ix2 r k)) n

theorem made_at (t : Fin cfg0.N) (r : Fin 256) (n : Fin 768) :
    made (iblk m c 1 t) (iblk m c 2 t) (iblk m c 3 t) (iblk m c 5 t) (iblk m c 6 t) r n = value m c r n := by
  unfold made value
  simp only [proj_at, cos_at, sin_at, gains_at, table_at]

/-! ## The output arrays -/

def rows : S256x512.Idx → EReal := fun i => value m c (i 0) ⟨(i 1).val, lt_trans (i 1).isLt (by decide)⟩
def window : S256x256.Idx → EReal := fun i => value m c (i 0) ⟨512 + (i 1).val, Nat.add_lt_add_left (i 1).isLt 512⟩

theorem emb_rows (t : Fin cfg0.N) (y : S256x512.Idx) : ((cfg0.win 8).blk t).view.emb y = y := by
  funext a
  apply Fin.ext
  match a with
  | ⟨0, _⟩ =>
    show (BitVec.ofNat 32 ((grid0.coords t) 0).val).toNat * 256 + 1 * (y 0).val = (y 0).val
    rw [word_zero]; omega
  | ⟨1, _⟩ => show 0 * 512 + 1 * (y 1).val = (y 1).val; omega

theorem emb_window (t : Fin cfg0.N) (y : S256x256.Idx) : ((cfg0.win 9).blk t).view.emb y = y := by
  funext a
  apply Fin.ext
  match a with
  | ⟨0, _⟩ =>
    show (BitVec.ofNat 32 ((grid0.coords t) 0).val).toNat * 256 + 1 * (y 0).val = (y 0).val
    rw [word_zero]; omega
  | ⟨1, _⟩ => show 0 * 256 + 1 * (y 1).val = (y 1).val; omega

theorem cut_rows (t : Fin cfg0.N) (x : Vec Ideal S256x512 .f32) (g : S256x512.Idx → EReal) (h : ∀ y : S256x512.Idx, x y = g y) :
    (cfg0.win 8).cut (grid0.coords t) x = ((cfg0.win 8).blk t).view.read (Elt Ideal) g :=
  funext fun y => (h y).trans (congrArg g (emb_rows t y).symm)

theorem cut_window (t : Fin cfg0.N) (x : Vec Ideal S256x256 .f32) (g : S256x256.Idx → EReal) (h : ∀ y : S256x256.Idx, x y = g y) :
    (cfg0.win 9).cut (grid0.coords t) x = ((cfg0.win 9).blk t).view.read (Elt Ideal) g :=
  funext fun y => (h y).trans (congrArg g (emb_window t y).symm)

theorem flushed_rows (t : Fin cfg0.N) (hf : (cfg0.win 8).flush t = true) :
    (dats m 0 c).flushed 8 t = ((cfg0.win 8).blk t).view.read (Elt Ideal) (rows m c) := by
  show (cfg0.win 8).cut (grid0.coords t) ((dats m 0 c).after 8 t) = _
  rw [after0_8]
  refine cut_rows t _ _ fun y => (rows_block _ _ _ _ _ _ _ y).trans ?_
  unfold rowsBlock rows
  exact made_at m c t _ _

theorem flushed_window (t : Fin cfg0.N) (hf : (cfg0.win 9).flush t = true) :
    (dats m 0 c).flushed 9 t = ((cfg0.win 9).blk t).view.read (Elt Ideal) (window m c) := by
  show (cfg0.win 9).cut (grid0.coords t) ((dats m 0 c).after 9 t) = _
  rw [after0_9]
  refine cut_window t _ _ fun y => (window_block _ _ _ _ _ _ _ y).trans ?_
  unfold windowBlock window
  exact made_at m c t _ _

def point : Fin cfg0.N := ⟨0, by decide⟩

theorem covered_rows (i : S256x512.Idx) : ∃ t : Fin cfg0.N, (cfg0.win 8).flush t = true ∧ i ∈ ((cfg0.win 8).blk t).view.set := by
  refine ⟨point, flush0_8 _, ?_⟩
  have e : ((cfg0.win 8).blk point).view.set = ((cfg0.win 8).rect point).set := View.set_slice_whole main_v43_1 _
  rw [e]
  refine Rect.mem_set_unit.mpr fun a => ?_
  have h0 : (i 0).val < 256 := (i 0).isLt
  have h1 : (i 1).val < 512 := (i 1).isLt
  match a with
  | ⟨0, _⟩ =>
    show (BitVec.ofNat 32 ((grid0.coords point) 0).val).toNat * 256 ≤ (i 0).val ∧ (i 0).val < (BitVec.ofNat 32 ((grid0.coords point) 0).val).toNat * 256 + 256
    rw [word_zero]; omega
  | ⟨1, _⟩ => show 0 * 512 ≤ (i 1).val ∧ (i 1).val < 0 * 512 + 512; omega

theorem covered_window (i : S256x256.Idx) : ∃ t : Fin cfg0.N, (cfg0.win 9).flush t = true ∧ i ∈ ((cfg0.win 9).blk t).view.set := by
  refine ⟨point, flush0_9 _, ?_⟩
  have e : ((cfg0.win 9).blk point).view.set = ((cfg0.win 9).rect point).set := View.set_slice_whole main_v43_2 _
  rw [e]
  refine Rect.mem_set_unit.mpr fun a => ?_
  have h0 : (i 0).val < 256 := (i 0).isLt
  have h1 : (i 1).val < 256 := (i 1).isLt
  match a with
  | ⟨0, _⟩ =>
    show (BitVec.ofNat 32 ((grid0.coords point) 0).val).toNat * 256 ≤ (i 0).val ∧ (i 0).val < (BitVec.ofNat 32 ((grid0.coords point) 0).val).toNat * 256 + 256
    rw [word_zero]; omega
  | ⟨1, _⟩ => show 0 * 256 ≤ (i 1).val ∧ (i 1).val < 0 * 256 + 256; omega

theorem final_rows : (dats m 0 c).arrAt 8 cfg0.N = rows m c :=
  (dats m 0 c).arrAt_eq_of_cover 8 _ (fun t hf => flushed_rows m c t hf) (fun i => covered_rows i)

theorem final_window : (dats m 0 c).arrAt 9 cfg0.N = window m c :=
  (dats m 0 c).arrAt_eq_of_cover 9 _ (fun t hf => flushed_window m c t hf) (fun i => covered_window i)

end Cert.Kernel3Ideal.Fold

end
-- ==== Proof.RopeHost.lean ====
/-
  The host lines before the samples' preparation kernel: the tables of cosines and of signed sines, the keys' gains laid out in
  lanes, and the table that takes a head's mean.
-/
module

public import proofs.«01_k».proof.Proof.RopeFold
public import Idealize.ShloMosaic.Lib.StableHlo.RunRead

@[expose] public section

noncomputable section

open Idealize.ShloMosaic Idealize.ShloMosaic.TcCoe Idealize.SL.Sem

namespace Cert.Kernel3Ideal.Host

open Cert.Kernel3Ideal Cert.Kernel3Ideal.Gen Cert.Kernel3Ideal.Fold Cert.Turn

variable (m : (ℓ : Loc nD τ sig) → Buf (Elt Ideal) ℓ) (c : Dev nD)

def projArg : S256x7680.Idx → EReal := m ((c.tc : Thread nD τ).loc main_arg0)
def windowArg : S32x512x2x2x64.Idx → EReal := m ((c.tc : Thread nD τ).loc main_arg1)
def gainArg : S3x64.Idx → EReal := m ((c.tc : Thread nD τ).loc main_arg3)

theorem proj_eq : proj m c = projArg m c := V_main_arg0 m c

def positions : IVec S256 32 :=
  shapeCast S256 (broadcastInDim S32x8 ![0, 1] bcast_S1x8_S32x8_0_1
    (shapeCast S1x8 (addi (broadcastInDim S8 ![] bcast_S_S8 (constantI S_ 32 8192#32)) (iotaInDim S8 32 0)) shapeCasts_S8_S1x8)) shapeCasts_S32x8_S256

def angles : S256x32.Idx → EReal :=
  mulf (F := Ideal) (φ := .f32) (broadcastInDim S256x32 ![0, 1] bcast_S256x1_S256x32_0_1 (broadcastInDim S256x1 ![0] bcast_S256_S256x1_0 (sitofp (F := Ideal) .f32 positions)))
    (broadcastInDim S256x32 ![0, 1] bcast_S1x32_S256x32_0_1 (broadcastInDim S1x32 ![1] bcast_S32_S1x32_1
      (Host.exp (F := Ideal) (φ := .f32) (Host.divf (mulf (broadcastInDim S32 ![] bcast_S_S32 (constant S_ .f32 0xC1135D8E#32)) (sitofp .f32 (iotaInDim S32 32 0)))
        (broadcastInDim S32 ![] bcast_S_S32 (constant S_ .f32 0x42000000#32))))))

set_option maxHeartbeats 4000000 in
theorem cos_eq : cosT m c = concatenate S256x128 1
    [⟨S256x32, Host.cos (F := Ideal) (φ := .f32) angles⟩, ⟨S256x32, Host.cos (F := Ideal) (φ := .f32) angles⟩, ⟨S256x32, Host.cos (F := Ideal) (φ := .f32) angles⟩, ⟨S256x32, Host.cos (F := Ideal) (φ := .f32) angles⟩]
    concatenates_S256x32_S256x32_S256x32_S256x32_S256x128_d1 := by
  unfold cosT
  show StableHlo.after (List.flatten [hostOps0, hostOps0_1, hostOps0_2, hostOps0_3, hostOps0_4, hostOps0_5, hostOps0_6]) _ _ = _
  simp only [List.flatten_cons, List.flatten_nil, List.append_nil, List.cons_append, List.nil_append]
  after_reads_simp
  rfl

set_option maxHeartbeats 4000000 in
theorem sin_eq : sinT m c = concatenate S256x128 1
    [⟨S256x32, Host.negf (F := Ideal) (φ := .f32) (Host.sin angles)⟩, ⟨S256x32, Host.sin (F := Ideal) (φ := .f32) angles⟩, ⟨S256x32, Host.negf (F := Ideal) (φ := .f32) (Host.sin angles)⟩, ⟨S256x32, Host.sin (F := Ideal) (φ := .f32) angles⟩]
    concatenates_S256x32_S256x32_S256x32_S256x32_S256x128_d1 := by
  unfold sinT
  show StableHlo.after (List.flatten [hostOps0, hostOps0_1, hostOps0_2, hostOps0_3, hostOps0_4, hostOps0_5, hostOps0_6]) _ _ = _
  simp only [List.flatten_cons, List.flatten_nil, List.append_nil, List.cons_append, List.nil_append]
  after_reads_simp
  rfl

set_option maxHeartbeats 4000000 in
theorem gains_eq : gains m c = pad S8x128 ![0, 0] ![5, 0] ![0, 0]
    (shapeCast S3x128 (broadcastInDim S1x3x2x64 ![0, 1, 2, 3] bcast_S1x3x1x64_S1x3x2x64_0_1_2_3 (shapeCast S1x3x1x64 (gainArg m c) shapeCasts_S3x64_S1x3x1x64)) shapeCasts_S1x3x2x64_S3x128)
    (sitofp (F := Ideal) .f32 (constantI S_ 32 0#32)) pads_S3x128_S8x128_050_000 h_S_ := by
  unfold gains
  show StableHlo.after (List.flatten [hostOps0, hostOps0_1, hostOps0_2, hostOps0_3, hostOps0_4, hostOps0_5, hostOps0_6]) _ _ = _
  simp only [List.flatten_cons, List.flatten_nil, List.append_nil, List.cons_append, List.nil_append]
  after_reads_simp
  rfl

/-- The lane number divided by 64, down a column and along a row. -/
def column (x : IVec S128x1 32) : IVec S128x1 32 :=
  select (andi (cmpi .ne (signi x) (broadcastInDim S128x1 ![] bcast_S_S128x1 (signi (constantI S_ 32 64#32))))
      (cmpi .ne (Host.remsi x (broadcastInDim S128x1 ![] bcast_S_S128x1 (constantI S_ 32 64#32))) (broadcastInDim S128x1 ![] bcast_S_S128x1 (constantI S_ 32 0#32))))
    (subi (Host.divsi x (broadcastInDim S128x1 ![] bcast_S_S128x1 (constantI S_ 32 64#32))) (broadcastInDim S128x1 ![] bcast_S_S128x1 (constantI S_ 32 1#32)))
    (Host.divsi x (broadcastInDim S128x1 ![] bcast_S_S128x1 (constantI S_ 32 64#32)))

def line (x : IVec S1x128 32) : IVec S1x128 32 :=
  select (andi (cmpi .ne (signi x) (broadcastInDim S1x128 ![] bcast_S_S1x128 (signi (constantI S_ 32 64#32))))
      (cmpi .ne (Host.remsi x (broadcastInDim S1x128 ![] bcast_S_S1x128 (constantI S_ 32 64#32))) (broadcastInDim S1x128 ![] bcast_S_S1x128 (constantI S_ 32 0#32))))
    (subi (Host.divsi x (broadcastInDim S1x128 ![] bcast_S_S1x128 (constantI S_ 32 64#32))) (broadcastInDim S1x128 ![] bcast_S_S1x128 (constantI S_ 32 1#32)))
    (Host.divsi x (broadcastInDim S1x128 ![] bcast_S_S1x128 (constantI S_ 32 64#32)))

set_option maxHeartbeats 8000000 in
theorem table_eq : table m c = Host.divf (F := Ideal) (φ := .f32)
    (uitofp (F := Ideal) .f32 (cmpi .eq (broadcastInDim S128x128 ![0, 1] bcast_S128x1_S128x128_0_1 (column (broadcastInDim S128x1 ![0] bcast_S128_S128x1_0 (iotaInDim S128 32 0))))
      (broadcastInDim S128x128 ![0, 1] bcast_S1x128_S128x128_0_1 (line (broadcastInDim S1x128 ![1] bcast_S128_S1x128_1 (iotaInDim S128 32 0))))))
    (broadcastInDim S128x128 ![] bcast_S_S128x128 (constant (F := Ideal) S_ .f32 0x42800000#32)) := by
  unfold table
  show StableHlo.after (List.flatten [hostOps0, hostOps0_1, hostOps0_2, hostOps0_3, hostOps0_4, hostOps0_5, hostOps0_6]) _ _ = _
  simp only [List.flatten_cons, List.flatten_nil, List.append_nil, List.cons_append, List.nil_append]
  after_reads_simp
  rfl

/-! ## At an index -/

theorem column_apply (k : Fin 128) :
    column (broadcastInDim S128x1 ![0] bcast_S128_S128x1_0 (iotaInDim S128 32 0)) (ix2 k 0) = BitVec.ofNat 32 (k.val / 64) := by
  pointwise [column]
  revert k
  decide +kernel

theorem line_apply (l : Fin 128) :
    line (broadcastInDim S1x128 ![1] bcast_S128_S1x128_1 (iotaInDim S128 32 0)) (ix2 0 l) = BitVec.ofNat 32 (l.val / 64) := by
  pointwise [line]
  revert l
  decide +kernel

theorem table_apply (k l : Fin 128) : table m c (ix2 k l) = meanTable k l := by
  rw [table_eq]
  have hk := column_apply k
  have hl := line_apply l
  generalize column (broadcastInDim S128x1 ![0] bcast_S128_S128x1_0 (iotaInDim S128 32 0)) = x at *
  generalize line (broadcastInDim S1x128 ![1] bcast_S128_S1x128_1 (iotaInDim S128 32 0)) = y at *
  pointwise
  rw [hk, hl]
  exact mean_word k l

theorem gains_apply (b : Fin 3) (l : Fin 128) : gains m c (ix2 ⟨b.val, by omega⟩ l) = gainArg m c (ix2 b ⟨l.val % 64, by omega⟩) := by
  rw [gains_eq]
  pointwise

theorem cos_apply (r : Fin 256) (l : Fin 128) : cosT m c (ix2 r l) = cosLane (fun f => Ideal.cos (angles (ix2 r f))) l := by
  rw [cos_eq]
  refine Eq.trans ?_ (cos_pieces _ l)
  pointwise

theorem sin_apply (r : Fin 256) (l : Fin 128) : sinT m c (ix2 r l) = sinLane (fun f => Ideal.sin (angles (ix2 r f))) l := by
  rw [sin_eq]
  refine Eq.trans ?_ (sin_pieces _ l)
  pointwise

theorem angles_apply (r : Fin 256) (f : Fin 32) : angles (ix2 r f) = angle (IntOp.addi 8192#32 (BitVec.ofNat 32 (r.val % 8))) f := by
  unfold angle
  pointwise [angles, positions]

/-- The cosine and the sine of pair `f`'s angle at the `t`-th new position. -/
def cosAt (t : Fin 4) (f : Fin 32) : EReal := Ideal.cos (angle (IntOp.addi 8192#32 (BitVec.ofNat 32 t.val)) f)
def sinAt (t : Fin 4) (f : Fin 32) : EReal := Ideal.sin (angle (IntOp.addi 8192#32 (BitVec.ofNat 32 t.val)) f)

/-- Position `t` of sample `b` among the kernel's rows. -/
def row (b : Fin 32) (t : Fin 4) : Fin 256 := ⟨b.val * 8 + t.val, by omega⟩

/-- Branch `br`'s column of keys, and of values, of head `h`. -/
def keyCol (br : Fin 3) (h : Fin 2) (d : Fin 64) : Fin 7680 := ⟨1536 + (br.val * 256 + (h.val * 64 + d.val)), by omega⟩
def valCol (br : Fin 3) (h : Fin 2) (d : Fin 64) : Fin 7680 := ⟨1536 + (br.val * 256 + 128 + (h.val * 64 + d.val)), by omega⟩

/-- The new keys and values, of a projection `x` and of gains `w`. -/
def newKey (x : S256x7680.Idx → EReal) (w : S3x64.Idx → EReal) (b : Fin 32) (t : Fin 4) (br : Fin 3) (h : Fin 2) (d : Fin 64) : EReal :=
  key (fun e => x (ix2 (row b t) (keyCol br h e))) (fun e => w (ix2 br e)) (cosAt t) (sinAt t) d
def newVal (x : S256x7680.Idx → EReal) (b : Fin 32) (t : Fin 4) (br : Fin 3) (h : Fin 2) (d : Fin 64) : EReal := x (ix2 (row b t) (valCol br h d))

/-- Both side by side: keys where `kv` is 0, values where it is 1. -/
def part (x : S256x7680.Idx → EReal) (w : S3x64.Idx → EReal) (b : Fin 32) (t : Fin 4) (br : Fin 3) (kv : Fin 2) (h : Fin 2) (d : Fin 64) : EReal :=
  if kv.val = 0 then newKey x w b t br h d else newVal x b t br h d

theorem value_key (b : Fin 32) (t : Fin 4) (br : Fin 3) (h : Fin 2) (d : Fin 64) (n : Fin 768) (hn : n.val = br.val * 256 + (h.val * 64 + d.val)) :
    value m c (row b t) n = newKey (projArg m c) (gainArg m c) b t br h d := by
  unfold value newKey
  rw [branch_key _ _ _ _ _ br (lane h d) n hn]
  have hr : (row b t).val % 8 = t.val := by show (b.val * 8 + t.val) % 8 = t.val; omega
  have ht : (fun k l => table m c (ix2 k l)) = meanTable := funext fun k => funext fun l => table_apply m c k l
  have hc : (fun l => cosT m c (ix2 (row b t) l)) = cosLane (cosAt t) := funext fun l => by
    rw [cos_apply]; simp only [angles_apply, hr]; rfl
  have hs : (fun l => sinT m c (ix2 (row b t) l)) = sinLane (sinAt t) := funext fun l => by
    rw [sin_apply]; simp only [angles_apply, hr]; rfl
  rw [ht, hc, hs, lkey_eq, proj_eq]
  refine congrArg₂ (fun x w => key x w (cosAt t) (sinAt t) d) rfl (funext fun e => ?_)
  refine (gains_apply m c br (lane h e)).trans (congrArg (fun l => gainArg m c (ix2 br l)) (Fin.ext ?_))
  show (h.val * 64 + e.val) % 64 = e.val
  omega

theorem value_val (b : Fin 32) (t : Fin 4) (br : Fin 3) (h : Fin 2) (d : Fin 64) (n : Fin 768) (hn : n.val = br.val * 256 + 128 + (h.val * 64 + d.val)) :
    value m c (row b t) n = newVal (projArg m c) b t br h d := by
  unfold value newVal
  rw [branch_val _ _ _ _ _ br (lane h d) n hn, proj_eq]
  exact congrArg (fun k => projArg m c (ix2 (row b t) k)) (Fin.ext (show 1536 + n.val = 1536 + (br.val * 256 + 128 + (h.val * 64 + d.val)) by omega))

theorem value_part (b : Fin 32) (t : Fin 4) (br : Fin 3) (kv : Fin 2) (h : Fin 2) (d : Fin 64) (n : Fin 768)
    (hn : n.val = br.val * 256 + kv.val * 128 + (h.val * 64 + d.val)) :
    value m c (row b t) n = part (projArg m c) (gainArg m c) b t br kv h d := by
  unfold part
  split_ifs with hk
  · exact value_key m c b t br h d n (by omega)
  · exact value_val m c b t br h d n (by omega)

end Cert.Kernel3Ideal.Host

end
-- ==== Proof.RopeTail.lean ====
/-
  The host lines after the samples' preparation kernel: the new rows of the cache, and the window moved on by the new positions.
-/
module

public import proofs.«01_k».proof.Proof.RopeHost

@[expose] public section

noncomputable section

open Idealize.ShloMosaic Idealize.ShloMosaic.TcCoe Idealize.SL.Sem

namespace Cert.Kernel3Ideal.Tail

open Cert.Kernel3Ideal Cert.Kernel3Ideal.Gen Cert.Kernel3Ideal.Fold Cert.Kernel3Ideal.Host

def newRows (o : FVec Ideal S256x512 .f32) : FVec Ideal S32x4x4x2x64 .f32 :=
  shapeCast S32x4x4x2x64 (extractStridedSlice S32x4x512 ![0, 0, 0] (shapeCast S32x8x512 o shapeCasts_S256x512_S32x8x512)
    slices_S32x8x512_S32x4x512_0_0_0) shapeCasts_S32x4x512_S32x4x4x2x64

def newWindow (w : FVec Ideal S32x512x2x2x64 .f32) (o : FVec Ideal S256x256 .f32) : FVec Ideal S32x512x2x2x64 .f32 :=
  shapeCast S32x512x2x2x64 (extractStridedSlice S32x512x256 ![0, 4, 0]
    (concatenate S32x516x256 1 [⟨S32x512x256, shapeCast S32x512x256 w shapeCasts_S32x512x2x2x64_S32x512x256⟩,
      ⟨S32x4x256, extractStridedSlice S32x4x256 ![0, 0, 0] (shapeCast S32x8x256 o shapeCasts_S256x256_S32x8x256) slices_S32x8x256_S32x4x256_0_0_0⟩]
      concatenates_S32x512x256_S32x4x256_S32x516x256_d1)
    slices_S32x516x256_S32x512x256_0_4_0) shapeCasts_S32x512x256_S32x512x2x2x64

variable (U : Valuation τ sig (Elt Ideal))

set_option maxHeartbeats 4000000 in
theorem after_rows : StableHlo.after (List.flatten [hostOps1]) U (Proc.devRef .tc main_v50) = newRows (U (Proc.devRef .tc main_v43_1)) := by
  simp only [List.flatten_cons, List.flatten_nil, List.append_nil, List.cons_append, List.nil_append]
  after_reads_simp
  rfl

set_option maxHeartbeats 4000000 in
theorem after_window : StableHlo.after (List.flatten [hostOps1]) U (Proc.devRef .tc main_v52) = newWindow (U (Proc.devRef .tc main_arg1)) (U (Proc.devRef .tc main_v43_2)) := by
  simp only [List.flatten_cons, List.flatten_nil, List.append_nil, List.cons_append, List.nil_append]
  after_reads_simp
  rfl

theorem newRows_apply (o : FVec Ideal S256x512 .f32) (b : Fin 32) (t : Fin 4) (j : Fin 4) (h : Fin 2) (d : Fin 64) :
    newRows o (ix5 b t j h d) = o (ix2 (row b t) ⟨j.val * 128 + (h.val * 64 + d.val), by omega⟩) := by
  unfold newRows
  refine (shapeCast_apply _ _ _ (ix3 b t (⟨j.val * 128 + (h.val * 64 + d.val), by omega⟩ : Fin 512)) ?_).trans ?_
  · rw [Shape.rowMajor_val_three, Shape.rowMajor_val_five]
    show (b.val * 4 + t.val) * 512 + (j.val * 128 + (h.val * 64 + d.val)) = (((b.val * 4 + t.val) * 4 + j.val) * 2 + h.val) * 64 + d.val
    omega
  refine (extractStridedSlice_apply _ _ _ _ (ix3 b (⟨t.val, by omega⟩ : Fin 8) (⟨j.val * 128 + (h.val * 64 + d.val), by omega⟩ : Fin 512)) (fun a => by match a with | ⟨0, _⟩ => exact (Nat.zero_add _).symm | ⟨1, _⟩ => exact (Nat.zero_add _).symm | ⟨2, _⟩ => exact (Nat.zero_add _).symm)).trans ?_
  refine shapeCast_apply _ _ _ _ ?_
  rw [Shape.rowMajor_val_three, Shape.rowMajor_val_two]
  rfl

/-- The window's last four positions are the new ones … -/
theorem newWindow_new (w : FVec Ideal S32x512x2x2x64 .f32) (o : FVec Ideal S256x256 .f32) (b : Fin 32) (p : Fin 512) (t : Fin 4) (hp : p.val = 508 + t.val) (kv h : Fin 2) (d : Fin 64) :
    newWindow w o (ix5 b p kv h d) = o (ix2 (row b t) ⟨kv.val * 128 + (h.val * 64 + d.val), by omega⟩) := by
  unfold newWindow
  refine (shapeCast_apply _ _ _ (ix3 b p (⟨kv.val * 128 + (h.val * 64 + d.val), by omega⟩ : Fin 256)) ?_).trans ?_
  · rw [Shape.rowMajor_val_three, Shape.rowMajor_val_five]
    show (b.val * 512 + p.val) * 256 + (kv.val * 128 + (h.val * 64 + d.val)) = (((b.val * 512 + p.val) * 2 + kv.val) * 2 + h.val) * 64 + d.val
    omega
  refine (extractStridedSlice_apply _ _ _ _ (ix3 b (⟨4 + p.val, by omega⟩ : Fin 516) (⟨kv.val * 128 + (h.val * 64 + d.val), by omega⟩ : Fin 256)) (fun a => by match a with | ⟨0, _⟩ => exact (Nat.zero_add _).symm | ⟨1, _⟩ => rfl | ⟨2, _⟩ => exact (Nat.zero_add _).symm)).trans ?_
  refine (concatenate_pair_apply_right (s₁ := S32x512x256) (s₂ := S32x4x256) (t := S32x516x256) 1 _ _ _ _ rfl rfl
    (ix3 b t (⟨kv.val * 128 + (h.val * 64 + d.val), by omega⟩ : Fin 256)) (fun a ha => by match a with | ⟨0, _⟩ => rfl | ⟨1, _⟩ => exact absurd rfl ha | ⟨2, _⟩ => rfl) ?_).trans ?_
  · show t.val + 512 = 4 + p.val
    omega
  refine (extractStridedSlice_apply _ _ _ _ (ix3 b (⟨t.val, by omega⟩ : Fin 8) (⟨kv.val * 128 + (h.val * 64 + d.val), by omega⟩ : Fin 256)) (fun a => by match a with | ⟨0, _⟩ => exact (Nat.zero_add _).symm | ⟨1, _⟩ => exact (Nat.zero_add _).symm | ⟨2, _⟩ => exact (Nat.zero_add _).symm)).trans ?_
  refine shapeCast_apply _ _ _ _ ?_
  rw [Shape.rowMajor_val_three, Shape.rowMajor_val_two]
  rfl

/-- … and the others the old window's, four positions on. -/
theorem newWindow_old (w : FVec Ideal S32x512x2x2x64 .f32) (o : FVec Ideal S256x256 .f32) (b : Fin 32) (p : Fin 512) (hp : p.val < 508) (kv h : Fin 2) (d : Fin 64) :
    newWindow w o (ix5 b p kv h d) = w (ix5 b ⟨4 + p.val, by omega⟩ kv h d) := by
  unfold newWindow
  refine (shapeCast_apply _ _ _ (ix3 b p (⟨kv.val * 128 + (h.val * 64 + d.val), by omega⟩ : Fin 256)) ?_).trans ?_
  · rw [Shape.rowMajor_val_three, Shape.rowMajor_val_five]
    show (b.val * 512 + p.val) * 256 + (kv.val * 128 + (h.val * 64 + d.val)) = (((b.val * 512 + p.val) * 2 + kv.val) * 2 + h.val) * 64 + d.val
    omega
  refine (extractStridedSlice_apply _ _ _ _ (ix3 b (⟨4 + p.val, by omega⟩ : Fin 516) (⟨kv.val * 128 + (h.val * 64 + d.val), by omega⟩ : Fin 256)) (fun a => by match a with | ⟨0, _⟩ => exact (Nat.zero_add _).symm | ⟨1, _⟩ => rfl | ⟨2, _⟩ => exact (Nat.zero_add _).symm)).trans ?_
  refine (concatenate_pair_apply_left (s₁ := S32x512x256) (s₂ := S32x4x256) (t := S32x516x256) 1 _ _ _ _ rfl
    (ix3 b (⟨4 + p.val, by omega⟩ : Fin 512) (⟨kv.val * 128 + (h.val * 64 + d.val), by omega⟩ : Fin 256)) (fun a => by match a with | ⟨0, _⟩ => rfl | ⟨1, _⟩ => rfl | ⟨2, _⟩ => rfl)).trans ?_
  refine shapeCast_apply _ _ _ _ ?_
  rw [Shape.rowMajor_val_three, Shape.rowMajor_val_five]
  show (((b.val * 512 + (4 + p.val)) * 2 + kv.val) * 2 + h.val) * 64 + d.val = (b.val * 512 + (4 + p.val)) * 256 + (kv.val * 128 + (h.val * 64 + d.val))
  omega

end Cert.Kernel3Ideal.Tail

end
-- ==== Proof.RopeRef.lean ====
/-
  The samples' reference read at an index: its new keys are the projection's columns normalized and turned, its new values the
  projection's columns, and its window the old one moved on.
-/
module

public import proofs.«01_k».proof.Proof.RopeHost
public import proofs.«01_k».proof.Proof.Gen.Reference3Ideal.Run
public import proofs.«01_k».proof.Proof.Gen.Reference3Ideal.Read
public import Idealize.ShloMosaic.Lib.ValueIdxRank6

@[expose] public section

noncomputable section

open Idealize.ShloMosaic Idealize.ShloMosaic.TcCoe Idealize.SL.Sem

namespace Cert.Reference3Ideal.Rope

open Cert.Reference3Ideal Cert.Reference3Ideal.Gen Cert.Reference3Ideal.Read Cert.Turn
open Cert.Kernel3Ideal.Host (row keyCol valCol cosAt sinAt newKey newVal part)

variable (x0 : FVec Ideal S256x7680 .f32) (x1 : FVec Ideal S32x512x2x2x64 .f32) (x3 : FVec Ideal S3x64 .f32)

/-! ## The columns of keys and values -/

theorem columns (b : Fin 32) (t : Fin 4) (br : Fin 3) (kv h : Fin 2) (d : Fin 64) :
    val_main_v6 (F := Ideal) x0 (ix6 b t br kv h d) = x0 (ix2 (row b t) ⟨1536 + (br.val * 256 + kv.val * 128 + (h.val * 64 + d.val)), by omega⟩) := by
  unfold val_main_v6 val_main_v2 val_main_v1 val_main_v0
  refine (shapeCast_apply _ _ _ (ix3 b t (⟨br.val * 256 + kv.val * 128 + (h.val * 64 + d.val), by omega⟩ : Fin 768)) ?_).trans ?_
  · rw [Shape.rowMajor_val_three, Shape.rowMajor_val_six]
    show (b.val * 4 + t.val) * 768 + (br.val * 256 + kv.val * 128 + (h.val * 64 + d.val)) = ((((b.val * 4 + t.val) * 3 + br.val) * 2 + kv.val) * 2 + h.val) * 64 + d.val
    omega
  refine (extractStridedSlice_apply _ _ _ _ (ix3 b (⟨t.val, by omega⟩ : Fin 8) (⟨br.val * 256 + kv.val * 128 + (h.val * 64 + d.val), by omega⟩ : Fin 768)) (fun a => by match a with | ⟨0, _⟩ => exact (Nat.zero_add _).symm | ⟨1, _⟩ => exact (Nat.zero_add _).symm | ⟨2, _⟩ => exact (Nat.zero_add _).symm)).trans ?_
  refine (shapeCast_apply _ _ _ (ix2 (row b t) (⟨br.val * 256 + kv.val * 128 + (h.val * 64 + d.val), by omega⟩ : Fin 768)) ?_).trans ?_
  · rw [Shape.rowMajor_val_three, Shape.rowMajor_val_two]
    rfl
  exact extractStridedSlice_apply _ _ _ _ _ (fun a => by match a with | ⟨0, _⟩ => exact (Nat.zero_add _).symm | ⟨1, _⟩ => rfl)

theorem keys (b : Fin 32) (t : Fin 4) (br : Fin 3) (h : Fin 2) (d : Fin 64) :
    val_main_v8 (F := Ideal) x0 (ix5 b t br h d) = x0 (ix2 (row b t) (keyCol br h d)) := by
  unfold val_main_v8 val_main_v7
  refine (shapeCast_apply _ _ _ (ix6 b t br (0 : Fin 1) h d) ?_).trans ?_
  · rw [Shape.rowMajor_val_five, Shape.rowMajor_val_six]
    show ((((b.val * 4 + t.val) * 3 + br.val) * 1 + 0) * 2 + h.val) * 64 + d.val = (((b.val * 4 + t.val) * 3 + br.val) * 2 + h.val) * 64 + d.val
    omega
  refine (extractStridedSlice_apply _ _ _ _ (ix6 b t br (0 : Fin 2) h d) (fun a => by match a with | ⟨0, _⟩ => exact (Nat.zero_add _).symm | ⟨1, _⟩ => exact (Nat.zero_add _).symm | ⟨2, _⟩ => exact (Nat.zero_add _).symm | ⟨3, _⟩ => rfl | ⟨4, _⟩ => exact (Nat.zero_add _).symm | ⟨5, _⟩ => exact (Nat.zero_add _).symm)).trans ?_
  refine (columns x0 b t br 0 h d).trans (congrArg (fun k => x0 (ix2 (row b t) k)) (Fin.ext ?_))
  show 1536 + (br.val * 256 + 0 * 128 + (h.val * 64 + d.val)) = 1536 + (br.val * 256 + (h.val * 64 + d.val))
  omega

theorem values (b : Fin 32) (t : Fin 4) (br : Fin 3) (h : Fin 2) (d : Fin 64) :
    val_main_v53 (F := Ideal) x0 (ix5 b t br h d) = x0 (ix2 (row b t) (valCol br h d)) := by
  unfold val_main_v53 val_main_v52
  refine (shapeCast_apply _ _ _ (ix6 b t br (0 : Fin 1) h d) ?_).trans ?_
  · rw [Shape.rowMajor_val_five, Shape.rowMajor_val_six]
    show ((((b.val * 4 + t.val) * 3 + br.val) * 1 + 0) * 2 + h.val) * 64 + d.val = (((b.val * 4 + t.val) * 3 + br.val) * 2 + h.val) * 64 + d.val
    omega
  refine (extractStridedSlice_apply _ _ _ _ (ix6 b t br (1 : Fin 2) h d) (fun a => by match a with | ⟨0, _⟩ => exact (Nat.zero_add _).symm | ⟨1, _⟩ => exact (Nat.zero_add _).symm | ⟨2, _⟩ => exact (Nat.zero_add _).symm | ⟨3, _⟩ => rfl | ⟨4, _⟩ => exact (Nat.zero_add _).symm | ⟨5, _⟩ => exact (Nat.zero_add _).symm)).trans ?_
  refine (columns x0 b t br 1 h d).trans (congrArg (fun k => x0 (ix2 (row b t) k)) (Fin.ext ?_))
  show 1536 + (br.val * 256 + 1 * 128 + (h.val * 64 + d.val)) = 1536 + (br.val * 256 + 128 + (h.val * 64 + d.val))
  omega

/-! ## The norm and the turn -/

theorem normed_keys (b : Fin 32) (t : Fin 4) (br : Fin 3) (h : Fin 2) (d : Fin 64) :
    val_main_v22 (F := Ideal) x0 x3 (ix5 b t br h d) = normed (fun e => x0 (ix2 (row b t) (keyCol br h e))) (fun e => x3 (ix2 br e)) d := by
  have hk : (fun e => x0 (ix2 (row b t) (keyCol br h e))) = fun e => val_main_v8 (F := Ideal) x0 (ix5 b t br h e) := funext fun e => (keys x0 b t br h e).symm
  rw [hk]
  unfold normed val_main_v22 val_main_v21 val_main_v20 val_main_v19 val_main_v18 val_main_v17 val_main_v16 val_main_v15 val_main_v14 val_main_v13 val_main_v12 val_main_v11 val_main_v10 val_main_v9
  generalize val_main_v8 (F := Ideal) x0 = y
  pointwise [val_main_cst, val_main_cst_0, val_main_cst_1]

theorem turn_angles (t : Fin 4) (f : Fin 32) : val_main_v34 (F := Ideal) (ix2 t f) = angle (IntOp.addi 8192#32 (BitVec.ofNat 32 t.val)) f := by
  unfold angle
  pointwise [val_main_v34, val_main_v33, val_main_v32, val_main_v31, val_main_v30, val_main_v29, val_main_v28, val_main_v27, val_main_v26, val_main_v25, val_main_v24, val_main_v23, val_main_cst_2, val_main_cst_3, val_main_v5, val_main_v4, val_main_v3, val_main_c]

theorem turned_keys (b : Fin 32) (t : Fin 4) (br : Fin 3) (h : Fin 2) (d : Fin 64) :
    val_main_v51 (F := Ideal) x0 x3 (ix5 b t br h d) = newKey x0 x3 b t br h d := by
  have hc : ∀ f : Fin 32, cosAt t f = Ideal.cos (val_main_v34 (F := Ideal) (ix2 t f)) := fun f => congrArg Ideal.cos (turn_angles t f).symm
  have hs : ∀ f : Fin 32, sinAt t f = Ideal.sin (val_main_v34 (F := Ideal) (ix2 t f)) := fun f => congrArg Ideal.sin (turn_angles t f).symm
  unfold newKey key turned
  simp only [hc, hs, ← normed_keys]
  unfold val_main_v51 val_main_v50 val_main_v49 val_main_v48 val_main_v47 val_main_v46 val_main_v45 val_main_v44 val_main_v43 val_main_v42 val_main_v41 val_main_v40 val_main_v39 val_main_v38 val_main_v37 val_main_v36 val_main_v35
  generalize val_main_v34 (F := Ideal) = g
  generalize val_main_v22 (F := Ideal) x0 x3 = y
  pointwise
  by_cases hd : d.val < 32
  · rw [dif_pos hd, dif_pos hd, show (⟨32 + d.val, by omega⟩ : Fin 64) = ⟨d.val + 32, by omega⟩ from Fin.ext (Nat.add_comm _ _)]
  · rw [dif_neg hd, dif_neg hd, show (⟨32 + (d.val - 32), by omega⟩ : Fin 64) = d from Fin.ext (by show 32 + (d.val - 32) = d.val; omega)]

/-! ## The results -/

theorem stacked (b : Fin 32) (t : Fin 4) (br : Fin 3) (kv h : Fin 2) (d : Fin 64) :
    val_main_v56 (F := Ideal) x0 x3 (ix6 b t br kv h d) = part x0 x3 b t br kv h d := by
  unfold part val_main_v56
  split_ifs with hk
  · refine (concatenate_pair_apply_left (s₁ := S32x4x3x1x2x64) (s₂ := S32x4x3x1x2x64) (t := S32x4x3x2x2x64) 3 _ _ _ _ rfl
      (ix6 b t br (0 : Fin 1) h d) (fun a => by match a with | ⟨0, _⟩ => rfl | ⟨1, _⟩ => rfl | ⟨2, _⟩ => rfl | ⟨3, _⟩ => exact hk.symm | ⟨4, _⟩ => rfl | ⟨5, _⟩ => rfl)).trans ?_
    unfold val_main_v54
    refine (broadcastInDim_apply _ _ _ _ (ix5 b t br h d) (fun a => by match a with | ⟨0, _⟩ => rfl | ⟨1, _⟩ => rfl | ⟨2, _⟩ => rfl | ⟨3, _⟩ => rfl | ⟨4, _⟩ => rfl)).trans ?_
    exact turned_keys x0 x3 b t br h d
  · refine (concatenate_pair_apply_right (s₁ := S32x4x3x1x2x64) (s₂ := S32x4x3x1x2x64) (t := S32x4x3x2x2x64) 3 _ _ _ _ rfl rfl
      (ix6 b t br (0 : Fin 1) h d) (fun a ha => by match a with | ⟨0, _⟩ => rfl | ⟨1, _⟩ => rfl | ⟨2, _⟩ => rfl | ⟨3, _⟩ => exact absurd rfl ha | ⟨4, _⟩ => rfl | ⟨5, _⟩ => rfl) ?_).trans ?_
    · show 0 + 1 = kv.val
      omega
    unfold val_main_v55
    refine (broadcastInDim_apply _ _ _ _ (ix5 b t br h d) (fun a => by match a with | ⟨0, _⟩ => rfl | ⟨1, _⟩ => rfl | ⟨2, _⟩ => rfl | ⟨3, _⟩ => rfl | ⟨4, _⟩ => rfl)).trans ?_
    exact values x0 b t br h d

theorem rows_ref (b : Fin 32) (t : Fin 4) (j : Fin 4) (h : Fin 2) (d : Fin 64) :
    val_main_v58 (F := Ideal) x0 x3 (ix5 b t j h d) = part x0 x3 b t ⟨j.val / 2, by omega⟩ ⟨j.val % 2, by omega⟩ h d := by
  unfold val_main_v58 val_main_v57
  refine (shapeCast_apply _ _ _ (ix6 b t (⟨j.val / 2, by omega⟩ : Fin 2) (⟨j.val % 2, by omega⟩ : Fin 2) h d) ?_).trans ?_
  · rw [Shape.rowMajor_val_five, Shape.rowMajor_val_six]
    show ((((b.val * 4 + t.val) * 2 + j.val / 2) * 2 + j.val % 2) * 2 + h.val) * 64 + d.val = (((b.val * 4 + t.val) * 4 + j.val) * 2 + h.val) * 64 + d.val
    omega
  refine (extractStridedSlice_apply _ _ _ _ (ix6 b t (⟨j.val / 2, by omega⟩ : Fin 3) (⟨j.val % 2, by omega⟩ : Fin 2) h d) (fun a => by match a with | ⟨0, _⟩ => exact (Nat.zero_add _).symm | ⟨1, _⟩ => exact (Nat.zero_add _).symm | ⟨2, _⟩ => exact (Nat.zero_add _).symm | ⟨3, _⟩ => exact (Nat.zero_add _).symm | ⟨4, _⟩ => exact (Nat.zero_add _).symm | ⟨5, _⟩ => exact (Nat.zero_add _).symm)).trans ?_
  exact stacked x0 x3 b t _ _ h d

theorem window_new (b : Fin 32) (p : Fin 512) (t : Fin 4) (hp : p.val = 508 + t.val) (kv h : Fin 2) (d : Fin 64) :
    val_main_v62 (F := Ideal) x0 x1 x3 (ix5 b p kv h d) = part x0 x3 b t 2 kv h d := by
  unfold val_main_v62 val_main_v61
  refine (extractStridedSlice_apply _ _ _ _ (ix5 b (⟨4 + p.val, by omega⟩ : Fin 516) kv h d) (fun a => by match a with | ⟨0, _⟩ => exact (Nat.zero_add _).symm | ⟨1, _⟩ => rfl | ⟨2, _⟩ => exact (Nat.zero_add _).symm | ⟨3, _⟩ => exact (Nat.zero_add _).symm | ⟨4, _⟩ => exact (Nat.zero_add _).symm)).trans ?_
  refine (concatenate_pair_apply_right (s₁ := S32x512x2x2x64) (s₂ := S32x4x2x2x64) (t := S32x516x2x2x64) 1 _ _ _ _ rfl rfl
    (ix5 b t kv h d) (fun a ha => by match a with | ⟨0, _⟩ => rfl | ⟨1, _⟩ => exact absurd rfl ha | ⟨2, _⟩ => rfl | ⟨3, _⟩ => rfl | ⟨4, _⟩ => rfl) ?_).trans ?_
  · show t.val + 512 = 4 + p.val
    omega
  unfold val_main_v60 val_main_v59
  refine (shapeCast_apply _ _ _ (ix6 b t (0 : Fin 1) kv h d) ?_).trans ?_
  · rw [Shape.rowMajor_val_five, Shape.rowMajor_val_six]
    show ((((b.val * 4 + t.val) * 1 + 0) * 2 + kv.val) * 2 + h.val) * 64 + d.val = (((b.val * 4 + t.val) * 2 + kv.val) * 2 + h.val) * 64 + d.val
    omega
  refine (extractStridedSlice_apply _ _ _ _ (ix6 b t (2 : Fin 3) kv h d) (fun a => by match a with | ⟨0, _⟩ => exact (Nat.zero_add _).symm | ⟨1, _⟩ => exact (Nat.zero_add _).symm | ⟨2, _⟩ => rfl | ⟨3, _⟩ => exact (Nat.zero_add _).symm | ⟨4, _⟩ => exact (Nat.zero_add _).symm | ⟨5, _⟩ => exact (Nat.zero_add _).symm)).trans ?_
  exact stacked x0 x3 b t 2 kv h d

theorem window_old (b : Fin 32) (p : Fin 512) (hp : p.val < 508) (kv h : Fin 2) (d : Fin 64) :
    val_main_v62 (F := Ideal) x0 x1 x3 (ix5 b p kv h d) = x1 (ix5 b ⟨4 + p.val, by omega⟩ kv h d) := by
  unfold val_main_v62 val_main_v61
  refine (extractStridedSlice_apply _ _ _ _ (ix5 b (⟨4 + p.val, by omega⟩ : Fin 516) kv h d) (fun a => by match a with | ⟨0, _⟩ => exact (Nat.zero_add _).symm | ⟨1, _⟩ => rfl | ⟨2, _⟩ => exact (Nat.zero_add _).symm | ⟨3, _⟩ => exact (Nat.zero_add _).symm | ⟨4, _⟩ => exact (Nat.zero_add _).symm)).trans ?_
  exact concatenate_pair_apply_left (s₁ := S32x512x2x2x64) (s₂ := S32x4x2x2x64) (t := S32x516x2x2x64) 1 _ _ _ _ rfl
    (ix5 b (⟨4 + p.val, by omega⟩ : Fin 512) kv h d) (fun a => by match a with | ⟨0, _⟩ => rfl | ⟨1, _⟩ => rfl | ⟨2, _⟩ => rfl | ⟨3, _⟩ => rfl | ⟨4, _⟩ => rfl)

end Cert.Reference3Ideal.Rope

end
-- ==== Proof.RopeEquation.lean ====
/-
  The samples' preparation kernel's run and its two results, each equal to the reference's.
-/
module

public import proofs.«01_k».proof.Proof.RopeTail
public import proofs.«01_k».proof.Proof.RopeRef
public import Idealize.ShloMosaic.Lib.Quiescent

@[expose] public section

noncomputable section

open Idealize.ShloMosaic Idealize.ShloMosaic.TcCoe Idealize.SL.Sem

namespace Cert.Kernel3Ideal.Equation

open Cert.Kernel3Ideal Cert.Kernel3Ideal.Gen Cert.Kernel3Ideal.Fold Cert.Kernel3Ideal.Host Cert.Kernel3Ideal.Tail

variable (m : (ℓ : Loc nD τ sig) → Buf (Elt Ideal) ℓ) (ρ : Dev nD → PrngReg) (c : Dev nD)

/-! ## What the last host lines find -/

/-- The buffers as the region leaves them. -/
def after : Valuation τ sig (Elt Ideal) :=
  Pipeline.withArrays (cfgs 0).spec c (V0 m c) fun w => (dats m 0 c).arrAt w (cfgs 0).N

theorem sharedIn : Pipeline.SharedIn spec0 := by decide

theorem after_v43_1 : after m c (Proc.devRef .tc main_v43_1) = rows m c :=
  ((dats m 0 c).withArrays_arrAt sharedIn (V0 m c) (fun _ => rfl) 8).trans (final_rows m c)

theorem after_v43_2 : after m c (Proc.devRef .tc main_v43_2) = window m c :=
  ((dats m 0 c).withArrays_arrAt sharedIn (V0 m c) (fun _ => rfl) 9).trans (final_window m c)

theorem after_arg1 : after m c (Proc.devRef .tc main_arg1) = windowArg m c :=
  (Pipeline.withArrays_of_ne _ c (V0 m c) _ main_arg1 (by exact (by decide : ∀ w, Pipeline.arrRef spec0 w ≠ main_arg1))).trans (V_main_arg1 m c)

theorem left_rows : Pipeline.afterTail₀ cfgs (dats m) 0 (V0 m) [hostOps1] c main_v50 = newRows (rows m c) := by
  refine (Tail.after_rows (after m c)).trans ?_
  exact congrArg newRows (after_v43_1 m c)

theorem left_window : Pipeline.afterTail₀ cfgs (dats m) 0 (V0 m) [hostOps1] c main_v52 = newWindow (windowArg m c) (window m c) := by
  refine (Tail.after_window (after m c)).trans ?_
  exact congrArg₂ newWindow (after_arg1 m c) (after_v43_2 m c)

/-- The exact kernel's run: its two results, its arguments unchanged. -/
theorem run : θ_run defs (onTc (τ := τ) (main (F := Ideal))) ⟨m, fun _ => 0, ρ⟩ (fun r => ∀ c : Dev nD,
      r.2.mem ((c.tc : Thread nD τ).loc main_v50) = newRows (rows m c)
      ∧ r.2.mem ((c.tc : Thread nD τ).loc main_v52) = newWindow (windowArg m c) (window m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨h.1 c |>.1, h.1 c |>.2, h.2 c⟩)
    (θ_run_and ((θ_run defs _ _).mono (fun r h (c : Dev nD) => (⟨
      ((h c).2 main_v50 (Pipeline.mem_restRefs_of main_v50 (by decide) (by decide))).trans (left_rows m c),
      ((h c).2 main_v52 (Pipeline.mem_restRefs_of main_v52 (by decide) (by decide))).trans (left_window m c)⟩ :
      r.2.mem ((c.tc : Thread nD τ).loc main_v50) = newRows (rows m c)
      ∧ r.2.mem ((c.tc : Thread nD τ).loc main_v52) = newWindow (windowArg m c) (window m c))) (run_main m ρ)) (unchanged m ρ))

/-! ## The results are the reference's -/

open Cert.Reference3Ideal.Rope

theorem equal_rows : Cert.Reference3Ideal.Read.val_main_v58 (F := Ideal) (projArg m c) (gainArg m c) = newRows (rows m c) := by
  funext i
  obtain ⟨b, t, j, h, d, rfl⟩ : ∃ (b : Fin 32) (t : Fin 4) (j : Fin 4) (h : Fin 2) (d : Fin 64), i = ix5 b t j h d := ⟨i 0, i 1, i 2, i 3, i 4, eq_ix5 i⟩
  refine (rows_ref (projArg m c) (gainArg m c) b t j h d).trans (Eq.symm ?_)
  refine (newRows_apply (rows m c) b t j h d).trans ?_
  exact value_part m c b t ⟨j.val / 2, by omega⟩ ⟨j.val % 2, by omega⟩ h d _
    (show j.val * 128 + (h.val * 64 + d.val) = j.val / 2 * 256 + j.val % 2 * 128 + (h.val * 64 + d.val) by omega)

theorem equal_window : Cert.Reference3Ideal.Read.val_main_v62 (F := Ideal) (projArg m c) (windowArg m c) (gainArg m c) = newWindow (windowArg m c) (window m c) := by
  funext i
  obtain ⟨b, p, kv, h, d, rfl⟩ : ∃ (b : Fin 32) (p : Fin 512) (kv : Fin 2) (h : Fin 2) (d : Fin 64), i = ix5 b p kv h d := ⟨i 0, i 1, i 2, i 3, i 4, eq_ix5 i⟩
  by_cases hp : p.val < 508
  · exact (window_old (projArg m c) (windowArg m c) (gainArg m c) b p hp kv h d).trans (newWindow_old (windowArg m c) (window m c) b p hp kv h d).symm
  · have ht : p.val = 508 + (⟨p.val - 508, by have := p.isLt; omega⟩ : Fin 4).val := by show p.val = 508 + (p.val - 508); omega
    refine (window_new (projArg m c) (windowArg m c) (gainArg m c) b p _ ht kv h d).trans (Eq.symm ?_)
    refine (newWindow_new (windowArg m c) (window m c) b p _ ht kv h d).trans ?_
    exact value_part m c b _ 2 kv h d _
      (show 512 + (kv.val * 128 + (h.val * 64 + d.val)) = 2 * 256 + kv.val * 128 + (h.val * 64 + d.val) by omega)

end Cert.Kernel3Ideal.Equation

end
-- ==== Proof.PromptBody.lean ====
/-
  What the prompts' preparation kernel computes of what it reads, at an index: a branch's keys are the projection's columns
  normalized and turned, lane by lane, and written with the positions along the lanes.
-/
module

public import proofs.«01_k».proof.Defs
public import proofs.«01_k».proof.Proof.Turn
public import proofs.«01_k».proof.Proof.Gen.Kernel4Ideal.Frame

@[expose] public section

noncomputable section

open Idealize.ShloMosaic Idealize.ShloMosaic.TcCoe Idealize.SL.Sem

namespace Cert.Kernel4Ideal.Body

open Cert.Kernel4Ideal Cert.Kernel4Ideal.Gen Cert.Turn

/-- The mask is true in the first half of a head. -/
theorem half_apply (r : Fin 512) (l : Fin 128) : k0_pay9 (ix2 r l) = if l.val % 64 < 32 then 1#1 else 0#1 := by
  pointwise [k0_pay9]
  revert l
  decide +kernel

theorem key_apply (cosT sinT : Vec Ideal S512x128 .f32) (bd : Vec Ideal S128x128 .f32) (x : Vec Ideal S512x128 .f32) (w : Vec Ideal S1x128 .f32)
    (r : Fin 512) (l : Fin 128) :
    k0_pay35 (F := Ideal) cosT sinT bd k0_pay9 x w (ix2 r l)
      = lkey (fun k => x (ix2 r k)) (fun k l => bd (ix2 k l)) (fun k => w (ix2 0 k)) (fun k => cosT (ix2 r k)) (fun k => sinT (ix2 r k)) l := by
  unfold lkey lturned
  pointwise [k0_pay35, lnormed]
  have e1 : (⟨(l.val + 128 - 96) % 128, by omega⟩ : Fin 128) = ⟨(l.val + 32) % 128, by omega⟩ := Fin.ext (by
    show (l.val + 128 - 96) % 128 = (l.val + 32) % 128; omega)
  have e2 : (⟨(l.val + 128 - 32) % 128, by omega⟩ : Fin 128) = ⟨(l.val + 96) % 128, by omega⟩ := Fin.ext (by
    show (l.val + 128 - 32) % 128 = (l.val + 96) % 128; omega)
  rw [half_apply, e1, e2]
  by_cases h : l.val % 64 < 32
  · rw [if_pos h, if_pos h]; rfl
  · rw [if_neg h, if_neg h]; rfl

/-- The three branches' keys are one expression. -/
theorem first_key (cosT sinT : Vec Ideal S512x128 .f32) (bd : Vec Ideal S128x128 .f32) (x : Vec Ideal S512x128 .f32) (w : Vec Ideal S1x128 .f32) :
    k0_pay20 (F := Ideal) cosT sinT bd k0_pay9 x (k0_pay18 w) (k0_pay19 x) = k0_pay35 cosT sinT bd k0_pay9 x w := rfl

theorem second_key (cosT sinT : Vec Ideal S512x128 .f32) (bd : Vec Ideal S128x128 .f32) (x : Vec Ideal S512x128 .f32) (w : Vec Ideal S1x128 .f32) :
    k0_pay25 (F := Ideal) cosT sinT k0_pay9 (k0_pay23 bd x) (k0_pay24 w) = k0_pay35 cosT sinT bd k0_pay9 x w := rfl

/-- A block written with the positions along the lanes. -/
def upright (y : FVec Ideal S512x128 .f32) : FVec Ideal S1x128x512 .f32 :=
  shapeCast S1x128x512 (transpose S128x512 [1, 0] y transposes_S512x128_p1_0_S128x512) shapeCasts_S128x512_S1x128x512

theorem upright_apply (y : FVec Ideal S512x128 .f32) (l : Fin 128) (r : Fin 512) : upright y (ix3 0 l r) = y (ix2 r l) := by
  pointwise [upright]

theorem lead (x : S1x128x512.Idx) : x = ix3 0 (x 1) (x 2) :=
  (eq_ix3 x).trans (congrArg (fun a : Fin 1 => ix3 a (x 1) (x 2)) (Subsingleton.elim (α := Fin 1) _ _))

section Blocks
variable (c : Dev nD) (i : grid0.Coords)
  (arg2 : Memref sig .tc .vmem S512x512 .f32) (harg2 : arg2.IsWhole) (arg3 : Memref sig .tc .vmem S512x768 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x128 .f32) (harg6 : arg6.IsWhole) (arg7 : Memref sig .tc .vmem S8x128 .f32) (harg7 : arg7.IsWhole) (arg8 : Memref sig .tc .vmem S128x128 .f32) (harg8 : arg8.IsWhole) (arg9 : Memref sig .tc .vmem S512x512 .bf16) (harg9 : arg9.IsWhole) (arg10 : Memref sig .tc .vmem S512x256 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x4x128x128 .bf16) (harg13 : arg13.IsWhole) (arg14 : Memref sig .tc .vmem S1x4x128x128 .bf16) (harg14 : arg14.IsWhole) (arg15 : Memref sig .tc .vmem S1x512x512 .f32) (harg15 : arg15.IsWhole) (arg16 : Memref sig .tc .vmem S1x256x512 .f32) (harg16 : arg16.IsWhole)
variable (x0 : Vec Ideal S512x512 .f32) (x1 : Vec Ideal S512x768 .f32) (x2 x3 : Vec Ideal S512x128 .f32) (x4 : Vec Ideal S1x128 .f32)
  (x5 : Vec Ideal S8x128 .f32) (x6 : Vec Ideal S128x128 .f32)

theorem zero2 : (![0, 0] : Fin 2 → Nat) = fun _ => 0 := funext fun a => by fin_cases a <;> rfl

/-- Column `n` of position `r`'s three branches, from the blocks. -/
def made (r : Fin 512) (n : Fin 768) : EReal :=
  branch (fun k => x1 (ix2 r k)) (fun k l => x6 (ix2 k l)) (fun b k => x5 (ix2 ⟨b.val, by omega⟩ k)) (fun k => x2 (ix2 r k)) (fun k => x3 (ix2 r k)) n

theorem made_key (b : Fin 3) (r : Fin 512) (l : Fin 128) (n : Fin 768) (hn : n.val = b.val * 256 + l.val)
    (x : Vec Ideal S512x128 .f32) (w : Vec Ideal S1x128 .f32)
    (hx : ∀ k : Fin 128, x (ix2 r k) = x1 (ix2 r ⟨b.val * 256 + k.val, by omega⟩)) (hw : ∀ k : Fin 128, w (ix2 0 k) = x5 (ix2 ⟨b.val, by omega⟩ k)) :
    k0_pay35 (F := Ideal) (k0_pay6 (View.ld x2 (Rect.unit (s := S512x128) ![0, 0] S512x128.size inb_S512x128_S512x128_0_0)))
        (k0_pay7 (View.ld x3 (Rect.unit (s := S512x128) ![0, 0] S512x128.size inb_S512x128_S512x128_0_0)))
        (k0_pay8 (View.ld x6 (Rect.unit (s := S128x128) ![0, 0] S128x128.size inb_S128x128_S128x128_0_0))) k0_pay9 x w (ix2 r l)
      = made x1 x2 x3 x5 x6 r n := by
  have e2 : ∀ k, (k0_pay6 (F := Ideal) (View.ld x2 (Rect.unit (s := S512x128) ![0, 0] S512x128.size inb_S512x128_S512x128_0_0))) (ix2 r k) = x2 (ix2 r k) := fun k => by
    rw [View.ld_unit_zero zero2]; pointwise [k0_pay6]
  have e3 : ∀ k, (k0_pay7 (F := Ideal) (View.ld x3 (Rect.unit (s := S512x128) ![0, 0] S512x128.size inb_S512x128_S512x128_0_0))) (ix2 r k) = x3 (ix2 r k) := fun k => by
    rw [View.ld_unit_zero zero2]; pointwise [k0_pay7]
  have e6 : ∀ k l, (k0_pay8 (F := Ideal) (View.ld x6 (Rect.unit (s := S128x128) ![0, 0] S128x128.size inb_S128x128_S128x128_0_0))) (ix2 k l) = x6 (ix2 k l) := fun k l => by
    rw [View.ld_unit_zero zero2]; pointwise [k0_pay8]
  refine (key_apply _ _ _ x w r l).trans ?_
  unfold made
  rw [branch_key _ _ _ _ _ b l n hn]
  simp only [e2, e3, e6, hx, hw]

theorem made_val (b : Fin 3) (r : Fin 512) (l : Fin 128) (n : Fin 768) (hn : n.val = b.val * 256 + 128 + l.val) :
    made x1 x2 x3 x5 x6 r n = x1 (ix2 r n) := branch_val _ _ _ _ _ b l n hn

def rowsBlock : S1x512x512.Idx → Elt Ideal .f32 := fun y => made x1 x2 x3 x5 x6 (y 2) ⟨(y 1).val, lt_trans (y 1).isLt (by decide)⟩
def windowBlock : S1x256x512.Idx → Elt Ideal .f32 := fun y => made x1 x2 x3 x5 x6 (y 2) ⟨512 + (y 1).val, Nat.add_lt_add_left (y 1).isLt 512⟩

theorem rows_emb (o : ℕ) (inb : ∀ a, (![0, o, 0] : Fin 3 → ℕ) a + S1x128x512.size a ≤ S1x512x512.size a) (l : Fin 128) (r : Fin 512) (n : Fin 768) (hn : n.val = o + l.val) :
    rowsBlock x1 x2 x3 x5 x6 ((Rect.unit (s := S1x512x512) ![0, o, 0] S1x128x512.size inb).emb (ix3 0 l r)) = made x1 x2 x3 x5 x6 r n :=
  congrArg₂ (made x1 x2 x3 x5 x6) (Fin.ext (show 0 + 1 * r.val = r.val by omega)) (Fin.ext (show o + 1 * l.val = n.val by omega))

theorem window_emb (o : ℕ) (inb : ∀ a, (![0, o, 0] : Fin 3 → ℕ) a + S1x128x512.size a ≤ S1x256x512.size a) (l : Fin 128) (r : Fin 512) (n : Fin 768) (hn : n.val = 512 + o + l.val) :
    windowBlock x1 x2 x3 x5 x6 ((Rect.unit (s := S1x256x512) ![0, o, 0] S1x128x512.size inb).emb (ix3 0 l r)) = made x1 x2 x3 x5 x6 r n :=
  congrArg₂ (made x1 x2 x3 x5 x6) (Fin.ext (show 0 + 1 * r.val = r.val by omega)) (Fin.ext (show 512 + (o + 1 * l.val) = n.val by omega))

theorem ld_cols (o : ℕ) (inb : ∀ a, (![0, o] : Fin 2 → ℕ) a + S512x128.size a ≤ S512x768.size a) (r : Fin 512) (l : Fin 128) (n : Fin 768) (hn : n.val = o + l.val) :
    View.ld x1 (Rect.unit (s := S512x768) ![0, o] S512x128.size inb) (ix2 r l) = x1 (ix2 r n) :=
  congrArg x1 (funext fun a => Fin.ext (match a with
    | ⟨0, _⟩ => show 0 + 1 * r.val = r.val by omega
    | ⟨1, _⟩ => show o + 1 * l.val = n.val by omega))

theorem ld_gain (o : ℕ) (inb : ∀ a, (![o, 0] : Fin 2 → ℕ) a + S1x128.size a ≤ S8x128.size a) (l : Fin 128) (b : Fin 8) (hb : b.val = o) :
    View.ld x5 (Rect.unit (s := S8x128) ![o, 0] S1x128.size inb) (ix2 0 l) = x5 (ix2 b l) :=
  congrArg x5 (funext fun a => Fin.ext (match a with
    | ⟨0, _⟩ => show o + 1 * 0 = b.val by omega
    | ⟨1, _⟩ => show 0 + 1 * l.val = l.val by omega))

/-- The block of new rows. -/
theorem rows_block (y : S1x512x512.Idx) : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 y = rowsBlock x1 x2 x3 x5 x6 y := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  refine View.canon_apply_of_pieces (Val := Elt Ideal) (rowsBlock x1 x2 x3 x5 x6) _ ?_ y (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 y)
  unfold kernelRun0_A
  dsimp only
  sl_unfold_words
  simp only [View.readAt_eq_ld, harg3.read_unread, harg4.read_unread, harg5.read_unread, harg7.read_unread, harg8.read_unread]
  intro p hp
  simp only [List.mem_cons, List.not_mem_nil, or_false] at hp
  rcases hp with rfl | rfl | rfl | rfl
  · intro (x : S1x128x512.Idx)
    rw [lead x]
    have hx : (x 1).val < 128 := (x 1).isLt
    have hn : 384 + (x 1).val < 768 := by omega
    exact (upright_apply _ (x 1) (x 2)).trans ((ld_cols x1 384 _ (x 2) (x 1) ⟨_, hn⟩ rfl).trans
      ((made_val x1 x2 x3 x5 x6 1 (x 2) (x 1) ⟨_, hn⟩ (by show 384 + (x 1).val = 1 * 256 + 128 + (x 1).val; omega)).symm.trans
      (rows_emb x1 x2 x3 x5 x6 384 inb_S1x512x512_S1x128x512_0_384_0 (x 1) (x 2) ⟨_, hn⟩ rfl).symm))
  · intro (x : S1x128x512.Idx)
    rw [lead x]
    have hx : (x 1).val < 128 := (x 1).isLt
    have hn : 256 + (x 1).val < 768 := by omega
    exact (upright_apply _ (x 1) (x 2)).trans ((made_key x1 x2 x3 x5 x6 1 (x 2) (x 1) ⟨_, hn⟩ (by show 256 + (x 1).val = 1 * 256 + (x 1).val; omega) _ _
        (fun k => ld_cols x1 256 _ (x 2) k _ (by show 1 * 256 + k.val = 256 + k.val; omega)) (fun k => ld_gain x5 1 _ k _ rfl)).trans
      (rows_emb x1 x2 x3 x5 x6 256 inb_S1x512x512_S1x128x512_0_256_0 (x 1) (x 2) ⟨_, hn⟩ rfl).symm)
  · intro (x : S1x128x512.Idx)
    rw [lead x]
    have hx : (x 1).val < 128 := (x 1).isLt
    have hn : 128 + (x 1).val < 768 := by omega
    exact (upright_apply _ (x 1) (x 2)).trans ((ld_cols x1 128 _ (x 2) (x 1) ⟨_, hn⟩ rfl).trans
      ((made_val x1 x2 x3 x5 x6 0 (x 2) (x 1) ⟨_, hn⟩ (by show 128 + (x 1).val = 0 * 256 + 128 + (x 1).val; omega)).symm.trans
      (rows_emb x1 x2 x3 x5 x6 128 inb_S1x512x512_S1x128x512_0_128_0 (x 1) (x 2) ⟨_, hn⟩ rfl).symm))
  · intro (x : S1x128x512.Idx)
    rw [lead x]
    have hx : (x 1).val < 128 := (x 1).isLt
    have hn : 0 + (x 1).val < 768 := by omega
    exact (upright_apply _ (x 1) (x 2)).trans ((made_key x1 x2 x3 x5 x6 0 (x 2) (x 1) ⟨_, hn⟩ (by show 0 + (x 1).val = 0 * 256 + (x 1).val; omega) _ _
        (fun k => ld_cols x1 0 _ (x 2) k _ (by show 0 * 256 + k.val = 0 + k.val; omega)) (fun k => ld_gain x5 0 _ k _ rfl)).trans
      (rows_emb x1 x2 x3 x5 x6 0 inb_S1x512x512_S1x128x512_0_0_0 (x 1) (x 2) ⟨_, hn⟩ rfl).symm)

/-- The block of the window's new rows. -/
theorem window_block (y : S1x256x512.Idx) : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 y = windowBlock x1 x2 x3 x5 x6 y := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  refine View.canon_apply_of_pieces (Val := Elt Ideal) (windowBlock x1 x2 x3 x5 x6) _ ?_ y (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 y)
  unfold kernelRun0_A
  dsimp only
  sl_unfold_words
  simp only [View.readAt_eq_ld, harg3.read_unread, harg4.read_unread, harg5.read_unread, harg7.read_unread, harg8.read_unread]
  intro p hp
  simp only [List.mem_cons, List.not_mem_nil, or_false] at hp
  rcases hp with rfl | rfl
  · intro (x : S1x128x512.Idx)
    rw [lead x]
    have hx : (x 1).val < 128 := (x 1).isLt
    have hn : 640 + (x 1).val < 768 := by omega
    exact (upright_apply _ (x 1) (x 2)).trans ((ld_cols x1 640 _ (x 2) (x 1) ⟨_, hn⟩ rfl).trans
      ((made_val x1 x2 x3 x5 x6 2 (x 2) (x 1) ⟨_, hn⟩ (by show 640 + (x 1).val = 2 * 256 + 128 + (x 1).val; omega)).symm.trans
      (window_emb x1 x2 x3 x5 x6 128 inb_S1x256x512_S1x128x512_0_128_0 (x 1) (x 2) ⟨_, hn⟩ rfl).symm))
  · intro (x : S1x128x512.Idx)
    rw [lead x]
    have hx : (x 1).val < 128 := (x 1).isLt
    have hn : 512 + (x 1).val < 768 := by omega
    exact (upright_apply _ (x 1) (x 2)).trans ((made_key x1 x2 x3 x5 x6 2 (x 2) (x 1) ⟨_, hn⟩ (by show 512 + (x 1).val = 2 * 256 + (x 1).val; omega) _ _
        (fun k => ld_cols x1 512 _ (x 2) k _ (by show 2 * 256 + k.val = 512 + k.val; omega)) (fun k => ld_gain x5 2 _ k _ rfl)).trans
      (window_emb x1 x2 x3 x5 x6 0 inb_S1x256x512_S1x128x512_0_0_0 (x 1) (x 2) ⟨_, hn⟩ rfl).symm)

end Blocks

end Cert.Kernel4Ideal.Body

end
-- ==== Proof.PromptFold.lean ====
/-
  What the prompts' preparation kernel's two output arrays of rows hold: the projection's columns of keys and values, the keys
  normalized and turned, with the positions along the last axis.
-/
module

public import proofs.«01_k».proof.Proof.PromptBody

@[expose] public section

noncomputable section

open Idealize.ShloMosaic Idealize.ShloMosaic.TcCoe Idealize.SL.Sem
open Idealize.ShloMosaic.Pipeline (Dat Cfg Window)

namespace Cert.Kernel4Ideal.Fold

open Cert.Kernel4Ideal Cert.Kernel4Ideal.Gen Cert.Kernel4Ideal.Body Cert.Turn

/-! ## The grid: eight prompts, four tiles of 512 positions each -/

theorem point_lt (t : Fin grid0.N) : t.val < 32 := t.isLt.trans_eq N_0

theorem proj_tile : ∀ t : Fin grid0.N, cc0_transform_1 (grid0.coords t) 0 = t.val ∧ cc0_transform_1 (grid0.coords t) 1 = 2 := by decide +kernel
theorem cos_tile : ∀ t : Fin grid0.N, cc0_transform_2 (grid0.coords t) 0 = t.val % 4 ∧ cc0_transform_2 (grid0.coords t) 1 = 0 := by decide +kernel
theorem sin_tile : ∀ t : Fin grid0.N, cc0_transform_3 (grid0.coords t) 0 = t.val % 4 ∧ cc0_transform_3 (grid0.coords t) 1 = 0 := by decide +kernel
theorem rows_tile : ∀ t : Fin grid0.N, cc0_transform_13 (grid0.coords t) 0 = t.val / 4 ∧ cc0_transform_13 (grid0.coords t) 1 = 0 ∧ cc0_transform_13 (grid0.coords t) 2 = t.val % 4 := by
  decide +kernel
theorem window_tile : ∀ t : Fin grid0.N, cc0_transform_14 (grid0.coords t) 0 = t.val / 4 ∧ cc0_transform_14 (grid0.coords t) 1 = 0 ∧ cc0_transform_14 (grid0.coords t) 2 = t.val % 4 := by
  decide +kernel

/-- Position `p` of prompt `b` among the projection's rows. -/
def row (b : Fin 8) (p : Fin 2048) : Fin 16640 := ⟨b.val * 2048 + p.val, by omega⟩

/-- The prompt that grid point number `t` works on, and position `r` of its tile. -/
def prompt (t : Fin grid0.N) : Fin 8 := ⟨t.val / 4, by have := point_lt t; omega⟩
def pos (t : Fin grid0.N) (r : Fin 512) : Fin 2048 := ⟨t.val % 4 * 512 + r.val, by omega⟩

variable (m : (ℓ : Loc nD τ sig) → Buf (Elt Ideal) ℓ) (ρ : Dev nD → PrngReg) (c : Dev nD)

/-! ## The arrays that the region reads -/

def proj : S16640x7680.Idx → EReal := V m c main_arg0
def cosT : S2048x128.Idx → EReal := V m c main_v15
def sinT : S2048x128.Idx → EReal := V m c main_v18
def gains : S8x128.Idx → EReal := V m c main_v26
def table : S128x128.Idx → EReal := V m c main_v37

theorem proj_at (t : Fin cfg0.N) (r : Fin 512) (k : Fin 768) :
    (X0_1 m c t : Vec Ideal S512x768 .f32) (ix2 r k) = proj m c (ix2 (row (prompt t) (pos t r)) ⟨1536 + k.val, by omega⟩) := by
  unfold X0_1 Window.fill
  rw [dif_pos (moved0_1 t _)]
  unfold iblk
  refine (View.read_apply ..).trans ?_
  show proj m c _ = _
  congr 1
  funext a
  apply Fin.ext
  match a with
  | ⟨0, _⟩ =>
    show cc0_transform_1 (grid0.coords t) 0 * 512 + 1 * r.val = t.val / 4 * 2048 + (t.val % 4 * 512 + r.val)
    rw [(proj_tile t).1]; omega
  | ⟨1, _⟩ =>
    show cc0_transform_1 (grid0.coords t) 1 * 768 + 1 * k.val = 1536 + k.val
    rw [(proj_tile t).2]; omega

theorem cos_at (t : Fin cfg0.N) (r : Fin 512) (k : Fin 128) :
    (iblk m c 2 t : Vec Ideal S512x128 .f32) (ix2 r k) = cosT m c (ix2 (pos t r) k) := by
  unfold iblk
  refine (View.read_apply ..).trans ?_
  show cosT m c _ = _
  congr 1
  funext a
  apply Fin.ext
  match a with
  | ⟨0, _⟩ =>
    show cc0_transform_2 (grid0.coords t) 0 * 512 + 1 * r.val = t.val % 4 * 512 + r.val
    rw [(cos_tile t).1]; omega
  | ⟨1, _⟩ =>
    show cc0_transform_2 (grid0.coords t) 1 * 128 + 1 * k.val = k.val
    rw [(cos_tile t).2]; omega

theorem sin_at (t : Fin cfg0.N) (r : Fin 512) (k : Fin 128) :
    (iblk m c 3 t : Vec Ideal S512x128 .f32) (ix2 r k) = sinT m c (ix2 (pos t r) k) := by
  unfold iblk
  refine (View.read_apply ..).trans ?_
  show sinT m c _ = _
  congr 1
  funext a
  apply Fin.ext
  match a with
  | ⟨0, _⟩ =>
    show cc0_transform_3 (grid0.coords t) 0 * 512 + 1 * r.val = t.val % 4 * 512 + r.val
    rw [(sin_tile t).1]; omega
  | ⟨1, _⟩ =>
    show cc0_transform_3 (grid0.coords t) 1 * 128 + 1 * k.val = k.val
    rw [(sin_tile t).2]; omega

theorem gains_at (t : Fin cfg0.N) (b : Fin 8) (k : Fin 128) :
    (iblk m c 5 t : Vec Ideal S8x128 .f32) (ix2 b k) = gains m c (ix2 b k) := by
  unfold iblk
  refine (View.read_apply ..).trans ?_
  show gains m c _ = _
  congr 1
  funext a
  apply Fin.ext
  match a with
  | ⟨0, _⟩ => show 0 * 8 + 1 * b.val = b.val; omega
  | ⟨1, _⟩ => show 0 * 128 + 1 * k.val = k.val; omega

theorem table_at (t : Fin cfg0.N) (k l : Fin 128) :
    (iblk m c 6 t : Vec Ideal S128x128 .f32) (ix2 k l) = table m c (ix2 k l) := by
  unfold iblk
  refine (View.read_apply ..).trans ?_
  show table m c _ = _
  congr 1
  funext a
  apply Fin.ext
  match a with
  | ⟨0, _⟩ => show 0 * 128 + 1 * k.val = k.val; omega
  | ⟨1, _⟩ => show 0 * 128 + 1 * l.val = l.val; omega

/-- Column `n` of the three branches at position `p` of prompt `b`, from the arrays. -/
def value (b : Fin 8) (p : Fin 2048) (n : Fin 768) : EReal :=
  branch (fun k => proj m c (ix2 (row b p) ⟨1536 + k.val, by omega⟩)) (fun k l => table m c (ix2 k l)) (fun b k => gains m c (ix2 ⟨b.val, by omega⟩ k))
    (fun k => cosT m c (ix2 p k)) (fun k => sinT m c (ix2 p k)) n

theorem made_at (t : Fin cfg0.N) (r : Fin 512) (n : Fin 768) :
    made (X0_1 m c t) (iblk m c 2 t) (iblk m c 3 t) (iblk m c 5 t) (iblk m c 6 t) r n = value m c (prompt t) (pos t r) n := by
  unfold made value
  simp only [proj_at, cos_at, sin_at, gains_at, table_at]

/-! ## The output arrays -/

def rows : S8x512x2048.Idx → EReal := fun i => value m c (i 0) (i 2) ⟨(i 1).val, lt_trans (i 1).isLt (by decide)⟩
def window : S8x256x2048.Idx → EReal := fun i => value m c (i 0) (i 2) ⟨512 + (i 1).val, Nat.add_lt_add_left (i 1).isLt 512⟩

theorem emb_rows (t : Fin cfg0.N) (y : S1x512x512.Idx) : ((cfg0.win 13).blk t).view.emb y = (ix3 (prompt t) (y 1) (pos t (y 2)) : S8x512x2048.Idx) := by
  have h0 : (y 0).val < 1 := (y 0).isLt
  funext a
  apply Fin.ext
  match a with
  | ⟨0, _⟩ =>
    show cc0_transform_13 (grid0.coords t) 0 * 1 + 1 * (y 0).val = t.val / 4
    rw [(rows_tile t).1]; omega
  | ⟨1, _⟩ =>
    show cc0_transform_13 (grid0.coords t) 1 * 512 + 1 * (y 1).val = (y 1).val
    rw [(rows_tile t).2.1]; omega
  | ⟨2, _⟩ =>
    show cc0_transform_13 (grid0.coords t) 2 * 512 + 1 * (y 2).val = t.val % 4 * 512 + (y 2).val
    rw [(rows_tile t).2.2]; omega

theorem cut_rows (t : Fin cfg0.N) (x : Vec Ideal S1x512x512 .f32) (g : S8x512x2048.Idx → EReal)
    (h : ∀ y : S1x512x512.Idx, x y = g (ix3 (prompt t) (y 1) (pos t (y 2)))) :
    (cfg0.win 13).cut (grid0.coords t) x = ((cfg0.win 13).blk t).view.read (Elt Ideal) g :=
  funext fun y => (h y).trans (congrArg g (emb_rows t y).symm)

theorem flushed_rows (t : Fin cfg0.N) (hf : (cfg0.win 13).flush t = true) :
    (dats m 0 c).flushed 13 t = ((cfg0.win 13).blk t).view.read (Elt Ideal) (rows m c) := by
  show (cfg0.win 13).cut (grid0.coords t) ((dats m 0 c).after 13 t) = _
  rw [after0_13]
  refine cut_rows t _ _ fun y => ?_
  unfold outsAt0
  dsimp only
  refine (rows_block _ _ _ _ _ _ _ _ _ _ _ _ _ _ _ _ _ _ _ _ _ _ _ _ _ _ _ _ _ _ _ _ _ _ _ _ _ _ _ y).trans ?_
  unfold rowsBlock rows
  exact made_at m c t _ _

theorem covered_rows (i : S8x512x2048.Idx) : ∃ t : Fin cfg0.N, (cfg0.win 13).flush t = true ∧ i ∈ ((cfg0.win 13).blk t).view.set := by
  have h0 : (i 0).val < 8 := (i 0).isLt
  have h1 : (i 1).val < 512 := (i 1).isLt
  have h2 : (i 2).val < 2048 := (i 2).isLt
  have hN : (i 0).val * 4 + (i 2).val / 512 < cfg0.N := by rw [show cfg0.N = 32 from N_0]; omega
  let t : Fin cfg0.N := ⟨(i 0).val * 4 + (i 2).val / 512, hN⟩
  refine ⟨t, flush0_13 _, ?_⟩
  have e : ((cfg0.win 13).blk t).view.set = ((cfg0.win 13).rect t).set := View.set_slice_whole main_v38_6 _
  rw [e]
  refine Rect.mem_set_unit.mpr fun a => ?_
  have ht : t.val = (i 0).val * 4 + (i 2).val / 512 := rfl
  match a with
  | ⟨0, _⟩ =>
    show cc0_transform_13 (grid0.coords t) 0 * 1 ≤ (i 0).val ∧ (i 0).val < cc0_transform_13 (grid0.coords t) 0 * 1 + 1
    rw [(rows_tile t).1]; omega
  | ⟨1, _⟩ =>
    show cc0_transform_13 (grid0.coords t) 1 * 512 ≤ (i 1).val ∧ (i 1).val < cc0_transform_13 (grid0.coords t) 1 * 512 + 512
    rw [(rows_tile t).2.1]; omega
  | ⟨2, _⟩ =>
    show cc0_transform_13 (grid0.coords t) 2 * 512 ≤ (i 2).val ∧ (i 2).val < cc0_transform_13 (grid0.coords t) 2 * 512 + 512
    rw [(rows_tile t).2.2]; omega

theorem final_rows : (dats m 0 c).arrAt 13 cfg0.N = rows m c :=
  (dats m 0 c).arrAt_eq_of_cover 13 _ (fun t hf => flushed_rows m c t hf) (fun i => covered_rows i)

theorem emb_window (t : Fin cfg0.N) (y : S1x256x512.Idx) : ((cfg0.win 14).blk t).view.emb y = (ix3 (prompt t) (y 1) (pos t (y 2)) : S8x256x2048.Idx) := by
  have h0 : (y 0).val < 1 := (y 0).isLt
  funext a
  apply Fin.ext
  match a with
  | ⟨0, _⟩ =>
    show cc0_transform_14 (grid0.coords t) 0 * 1 + 1 * (y 0).val = t.val / 4
    rw [(window_tile t).1]; omega
  | ⟨1, _⟩ =>
    show cc0_transform_14 (grid0.coords t) 1 * 256 + 1 * (y 1).val = (y 1).val
    rw [(window_tile t).2.1]; omega
  | ⟨2, _⟩ =>
    show cc0_transform_14 (grid0.coords t) 2 * 512 + 1 * (y 2).val = t.val % 4 * 512 + (y 2).val
    rw [(window_tile t).2.2]; omega

theorem cut_window (t : Fin cfg0.N) (x : Vec Ideal S1x256x512 .f32) (g : S8x256x2048.Idx → EReal)
    (h : ∀ y : S1x256x512.Idx, x y = g (ix3 (prompt t) (y 1) (pos t (y 2)))) :
    (cfg0.win 14).cut (grid0.coords t) x = ((cfg0.win 14).blk t).view.read (Elt Ideal) g :=
  funext fun y => (h y).trans (congrArg g (emb_window t y).symm)

theorem flushed_window (t : Fin cfg0.N) (hf : (cfg0.win 14).flush t = true) :
    (dats m 0 c).flushed 14 t = ((cfg0.win 14).blk t).view.read (Elt Ideal) (window m c) := by
  show (cfg0.win 14).cut (grid0.coords t) ((dats m 0 c).after 14 t) = _
  rw [after0_14]
  refine cut_window t _ _ fun y => ?_
  unfold outsAt0
  dsimp only
  refine (window_block _ _ _ _ _ _ _ _ _ _ _ _ _ _ _ _ _ _ _ _ _ _ _ _ _ _ _ _ _ _ _ _ _ _ _ _ _ _ _ y).trans ?_
  unfold windowBlock window
  exact made_at m c t _ _

theorem covered_window (i : S8x256x2048.Idx) : ∃ t : Fin cfg0.N, (cfg0.win 14).flush t = true ∧ i ∈ ((cfg0.win 14).blk t).view.set := by
  have h0 : (i 0).val < 8 := (i 0).isLt
  have h1 : (i 1).val < 256 := (i 1).isLt
  have h2 : (i 2).val < 2048 := (i 2).isLt
  have hN : (i 0).val * 4 + (i 2).val / 512 < cfg0.N := by rw [show cfg0.N = 32 from N_0]; omega
  let t : Fin cfg0.N := ⟨(i 0).val * 4 + (i 2).val / 512, hN⟩
  refine ⟨t, flush0_14 _, ?_⟩
  have e : ((cfg0.win 14).blk t).view.set = ((cfg0.win 14).rect t).set := View.set_slice_whole main_v38_7 _
  rw [e]
  refine Rect.mem_set_unit.mpr fun a => ?_
  have ht : t.val = (i 0).val * 4 + (i 2).val / 512 := rfl
  match a with
  | ⟨0, _⟩ =>
    show cc0_transform_14 (grid0.coords t) 0 * 1 ≤ (i 0).val ∧ (i 0).val < cc0_transform_14 (grid0.coords t) 0 * 1 + 1
    rw [(window_tile t).1]; omega
  | ⟨1, _⟩ =>
    show cc0_transform_14 (grid0.coords t) 1 * 256 ≤ (i 1).val ∧ (i 1).val < cc0_transform_14 (grid0.coords t) 1 * 256 + 256
    rw [(window_tile t).2.1]; omega
  | ⟨2, _⟩ =>
    show cc0_transform_14 (grid0.coords t) 2 * 512 ≤ (i 2).val ∧ (i 2).val < cc0_transform_14 (grid0.coords t) 2 * 512 + 512
    rw [(window_tile t).2.2]; omega

theorem final_window : (dats m 0 c).arrAt 14 cfg0.N = window m c :=
  (dats m 0 c).arrAt_eq_of_cover 14 _ (fun t hf => flushed_window m c t hf) (fun i => covered_window i)

end Cert.Kernel4Ideal.Fold

end
-- ==== Proof.PromptHost.lean ====
/-
  The host lines before the prompts' preparation kernel: the tables of cosines and of signed sines, the keys' gains laid out in
  lanes, and the table that takes a head's mean.
-/
module

public import proofs.«01_k».proof.Proof.PromptFold
public import Idealize.ShloMosaic.Lib.StableHlo.RunRead

@[expose] public section

noncomputable section

open Idealize.ShloMosaic Idealize.ShloMosaic.TcCoe Idealize.SL.Sem

namespace Cert.Kernel4Ideal.Host

open Cert.Kernel4Ideal Cert.Kernel4Ideal.Gen Cert.Kernel4Ideal.Fold Cert.Turn

variable (m : (ℓ : Loc nD τ sig) → Buf (Elt Ideal) ℓ) (c : Dev nD)

def projArg : S16640x7680.Idx → EReal := m ((c.tc : Thread nD τ).loc main_arg0)
def gainArg : S3x64.Idx → EReal := m ((c.tc : Thread nD τ).loc main_arg2)

theorem proj_eq : proj m c = projArg m c := V_main_arg0 m c

def angles : S2048x32.Idx → EReal :=
  mulf (F := Ideal) (φ := .f32) (broadcastInDim S2048x32 ![0, 1] bcast_S2048x1_S2048x32_0_1 (broadcastInDim S2048x1 ![0] bcast_S2048_S2048x1_0 (sitofp (F := Ideal) .f32 (iotaInDim S2048 32 0))))
    (broadcastInDim S2048x32 ![0, 1] bcast_S1x32_S2048x32_0_1 (broadcastInDim S1x32 ![1] bcast_S32_S1x32_1
      (Host.exp (F := Ideal) (φ := .f32) (Host.divf (mulf (broadcastInDim S32 ![] bcast_S_S32 (constant S_ .f32 0xC1135D8E#32)) (sitofp .f32 (iotaInDim S32 32 0)))
        (broadcastInDim S32 ![] bcast_S_S32 (constant S_ .f32 0x42000000#32))))))

set_option maxHeartbeats 4000000 in
theorem cos_eq : cosT m c = concatenate S2048x128 1
    [⟨S2048x32, Host.cos (F := Ideal) (φ := .f32) angles⟩, ⟨S2048x32, Host.cos (F := Ideal) (φ := .f32) angles⟩, ⟨S2048x32, Host.cos (F := Ideal) (φ := .f32) angles⟩, ⟨S2048x32, Host.cos (F := Ideal) (φ := .f32) angles⟩]
    concatenates_S2048x32_S2048x32_S2048x32_S2048x32_S2048x128_d1 := by
  unfold cosT
  show StableHlo.after (List.flatten [hostOps0, hostOps0_1, hostOps0_2, hostOps0_3, hostOps0_4, hostOps0_5, hostOps0_6]) _ _ = _
  simp only [List.flatten_cons, List.flatten_nil, List.append_nil, List.cons_append, List.nil_append]
  after_reads_simp
  rfl

set_option maxHeartbeats 4000000 in
theorem sin_eq : sinT m c = concatenate S2048x128 1
    [⟨S2048x32, Host.negf (F := Ideal) (φ := .f32) (Host.sin angles)⟩, ⟨S2048x32, Host.sin (F := Ideal) (φ := .f32) angles⟩, ⟨S2048x32, Host.negf (F := Ideal) (φ := .f32) (Host.sin angles)⟩, ⟨S2048x32, Host.sin (F := Ideal) (φ := .f32) angles⟩]
    concatenates_S2048x32_S2048x32_S2048x32_S2048x32_S2048x128_d1 := by
  unfold sinT
  show StableHlo.after (List.flatten [hostOps0, hostOps0_1, hostOps0_2, hostOps0_3, hostOps0_4, hostOps0_5, hostOps0_6]) _ _ = _
  simp only [List.flatten_cons, List.flatten_nil, List.append_nil, List.cons_append, List.nil_append]
  after_reads_simp
  rfl

set_option maxHeartbeats 4000000 in
theorem gains_eq : gains m c = pad S8x128 ![0, 0] ![5, 0] ![0, 0]
    (shapeCast S3x128 (broadcastInDim S1x3x2x64 ![0, 1, 2, 3] bcast_S1x3x1x64_S1x3x2x64_0_1_2_3 (shapeCast S1x3x1x64 (gainArg m c) shapeCasts_S3x64_S1x3x1x64)) shapeCasts_S1x3x2x64_S3x128)
    (sitofp (F := Ideal) .f32 (constantI S_ 32 0#32)) pads_S3x128_S8x128_050_000 h_S_ := by
  unfold gains
  show StableHlo.after (List.flatten [hostOps0, hostOps0_1, hostOps0_2, hostOps0_3, hostOps0_4, hostOps0_5, hostOps0_6]) _ _ = _
  simp only [List.flatten_cons, List.flatten_nil, List.append_nil, List.cons_append, List.nil_append]
  after_reads_simp
  rfl

/-- The lane number divided by 64, down a column and along a row. -/
def column (x : IVec S128x1 32) : IVec S128x1 32 :=
  select (andi (cmpi .ne (signi x) (broadcastInDim S128x1 ![] bcast_S_S128x1 (signi (constantI S_ 32 64#32))))
      (cmpi .ne (Host.remsi x (broadcastInDim S128x1 ![] bcast_S_S128x1 (constantI S_ 32 64#32))) (broadcastInDim S128x1 ![] bcast_S_S128x1 (constantI S_ 32 0#32))))
    (subi (Host.divsi x (broadcastInDim S128x1 ![] bcast_S_S128x1 (constantI S_ 32 64#32))) (broadcastInDim S128x1 ![] bcast_S_S128x1 (constantI S_ 32 1#32)))
    (Host.divsi x (broadcastInDim S128x1 ![] bcast_S_S128x1 (constantI S_ 32 64#32)))

def line (x : IVec S1x128 32) : IVec S1x128 32 :=
  select (andi (cmpi .ne (signi x) (broadcastInDim S1x128 ![] bcast_S_S1x128 (signi (constantI S_ 32 64#32))))
      (cmpi .ne (Host.remsi x (broadcastInDim S1x128 ![] bcast_S_S1x128 (constantI S_ 32 64#32))) (broadcastInDim S1x128 ![] bcast_S_S1x128 (constantI S_ 32 0#32))))
    (subi (Host.divsi x (broadcastInDim S1x128 ![] bcast_S_S1x128 (constantI S_ 32 64#32))) (broadcastInDim S1x128 ![] bcast_S_S1x128 (constantI S_ 32 1#32)))
    (Host.divsi x (broadcastInDim S1x128 ![] bcast_S_S1x128 (constantI S_ 32 64#32)))

set_option maxHeartbeats 8000000 in
theorem table_eq : table m c = Host.divf (F := Ideal) (φ := .f32)
    (uitofp (F := Ideal) .f32 (cmpi .eq (broadcastInDim S128x128 ![0, 1] bcast_S128x1_S128x128_0_1 (column (broadcastInDim S128x1 ![0] bcast_S128_S128x1_0 (iotaInDim S128 32 0))))
      (broadcastInDim S128x128 ![0, 1] bcast_S1x128_S128x128_0_1 (line (broadcastInDim S1x128 ![1] bcast_S128_S1x128_1 (iotaInDim S128 32 0))))))
    (broadcastInDim S128x128 ![] bcast_S_S128x128 (constant (F := Ideal) S_ .f32 0x42800000#32)) := by
  unfold table
  show StableHlo.after (List.flatten [hostOps0, hostOps0_1, hostOps0_2, hostOps0_3, hostOps0_4, hostOps0_5, hostOps0_6]) _ _ = _
  simp only [List.flatten_cons, List.flatten_nil, List.append_nil, List.cons_append, List.nil_append]
  after_reads_simp
  rfl

/-! ## At an index -/

theorem column_apply (k : Fin 128) :
    column (broadcastInDim S128x1 ![0] bcast_S128_S128x1_0 (iotaInDim S128 32 0)) (ix2 k 0) = BitVec.ofNat 32 (k.val / 64) := by
  pointwise [column]
  revert k
  decide +kernel

theorem line_apply (l : Fin 128) :
    line (broadcastInDim S1x128 ![1] bcast_S128_S1x128_1 (iotaInDim S128 32 0)) (ix2 0 l) = BitVec.ofNat 32 (l.val / 64) := by
  pointwise [line]
  revert l
  decide +kernel

theorem table_apply (k l : Fin 128) : table m c (ix2 k l) = meanTable k l := by
  rw [table_eq]
  have hk := column_apply k
  have hl := line_apply l
  generalize column (broadcastInDim S128x1 ![0] bcast_S128_S128x1_0 (iotaInDim S128 32 0)) = x at *
  generalize line (broadcastInDim S1x128 ![1] bcast_S128_S1x128_1 (iotaInDim S128 32 0)) = y at *
  pointwise
  rw [hk, hl]
  exact mean_word k l

theorem gains_apply (b : Fin 3) (l : Fin 128) : gains m c (ix2 ⟨b.val, by omega⟩ l) = gainArg m c (ix2 b ⟨l.val % 64, by omega⟩) := by
  rw [gains_eq]
  pointwise

theorem cos_apply (r : Fin 2048) (l : Fin 128) : cosT m c (ix2 r l) = cosLane (fun f => Ideal.cos (angles (ix2 r f))) l := by
  rw [cos_eq]
  refine Eq.trans ?_ (cos_pieces _ l)
  pointwise

theorem sin_apply (r : Fin 2048) (l : Fin 128) : sinT m c (ix2 r l) = sinLane (fun f => Ideal.sin (angles (ix2 r f))) l := by
  rw [sin_eq]
  refine Eq.trans ?_ (sin_pieces _ l)
  pointwise

theorem angles_apply (p : Fin 2048) (f : Fin 32) : angles (ix2 p f) = angle (BitVec.ofNat 32 p.val) f := by
  unfold angle
  pointwise [angles]

/-- The cosine and the sine of pair `f`'s angle at position `p`. -/
def cosAt (p : Fin 2048) (f : Fin 32) : EReal := Ideal.cos (angle (BitVec.ofNat 32 p.val) f)
def sinAt (p : Fin 2048) (f : Fin 32) : EReal := Ideal.sin (angle (BitVec.ofNat 32 p.val) f)

/-- Branch `br`'s column of keys, and of values, of head `h`. -/
def keyCol (br : Fin 3) (h : Fin 2) (d : Fin 64) : Fin 7680 := ⟨1536 + (br.val * 256 + (h.val * 64 + d.val)), by omega⟩
def valCol (br : Fin 3) (h : Fin 2) (d : Fin 64) : Fin 7680 := ⟨1536 + (br.val * 256 + 128 + (h.val * 64 + d.val)), by omega⟩

/-- The keys and values, of a projection `x` and of gains `w`. -/
def newKey (x : S16640x7680.Idx → EReal) (w : S3x64.Idx → EReal) (b : Fin 8) (p : Fin 2048) (br : Fin 3) (h : Fin 2) (d : Fin 64) : EReal :=
  key (fun e => x (ix2 (row b p) (keyCol br h e))) (fun e => w (ix2 br e)) (cosAt p) (sinAt p) d
def newVal (x : S16640x7680.Idx → EReal) (b : Fin 8) (p : Fin 2048) (br : Fin 3) (h : Fin 2) (d : Fin 64) : EReal := x (ix2 (row b p) (valCol br h d))

/-- Both side by side: keys where `kv` is 0, values where it is 1. -/
def part (x : S16640x7680.Idx → EReal) (w : S3x64.Idx → EReal) (b : Fin 8) (p : Fin 2048) (br : Fin 3) (kv : Fin 2) (h : Fin 2) (d : Fin 64) : EReal :=
  if kv.val = 0 then newKey x w b p br h d else newVal x b p br h d

theorem value_key (b : Fin 8) (p : Fin 2048) (br : Fin 3) (h : Fin 2) (d : Fin 64) (n : Fin 768) (hn : n.val = br.val * 256 + (h.val * 64 + d.val)) :
    value m c b p n = newKey (projArg m c) (gainArg m c) b p br h d := by
  unfold value newKey
  rw [branch_key _ _ _ _ _ br (lane h d) n hn]
  have ht : (fun k l => table m c (ix2 k l)) = meanTable := funext fun k => funext fun l => table_apply m c k l
  have hc : (fun l => cosT m c (ix2 p l)) = cosLane (cosAt p) := funext fun l => by
    rw [cos_apply]; simp only [angles_apply]; rfl
  have hs : (fun l => sinT m c (ix2 p l)) = sinLane (sinAt p) := funext fun l => by
    rw [sin_apply]; simp only [angles_apply]; rfl
  rw [ht, hc, hs, lkey_eq, proj_eq]
  refine congrArg₂ (fun x w => key x w (cosAt p) (sinAt p) d) rfl (funext fun e => ?_)
  refine (gains_apply m c br (lane h e)).trans (congrArg (fun l => gainArg m c (ix2 br l)) (Fin.ext ?_))
  show (h.val * 64 + e.val) % 64 = e.val
  omega

theorem value_val (b : Fin 8) (p : Fin 2048) (br : Fin 3) (h : Fin 2) (d : Fin 64) (n : Fin 768) (hn : n.val = br.val * 256 + 128 + (h.val * 64 + d.val)) :
    value m c b p n = newVal (projArg m c) b p br h d := by
  unfold value newVal
  rw [branch_val _ _ _ _ _ br (lane h d) n hn, proj_eq]
  exact congrArg (fun k => projArg m c (ix2 (row b p) k)) (Fin.ext (show 1536 + n.val = 1536 + (br.val * 256 + 128 + (h.val * 64 + d.val)) by omega))

theorem value_part (b : Fin 8) (p : Fin 2048) (br : Fin 3) (kv : Fin 2) (h : Fin 2) (d : Fin 64) (n : Fin 768)
    (hn : n.val = br.val * 256 + kv.val * 128 + (h.val * 64 + d.val)) :
    value m c b p n = part (projArg m c) (gainArg m c) b p br kv h d := by
  unfold part
  split_ifs with hk
  · exact value_key m c b p br h d n (by omega)
  · exact value_val m c b p br h d n (by omega)

end Cert.Kernel4Ideal.Host

end
-- ==== Proof.PromptTail.lean ====
/-
  The host lines after the prompts' preparation kernel: the rows of the cache and the window, positions first.
-/
module

public import proofs.«01_k».proof.Proof.PromptHost

@[expose] public section

noncomputable section

open Idealize.ShloMosaic Idealize.ShloMosaic.TcCoe Idealize.SL.Sem

namespace Cert.Kernel4Ideal.Tail

open Cert.Kernel4Ideal Cert.Kernel4Ideal.Gen Cert.Kernel4Ideal.Fold Cert.Kernel4Ideal.Host

def newRows (o : FVec Ideal S8x512x2048 .f32) : FVec Ideal S8x2048x4x2x64 .f32 :=
  transpose S8x2048x4x2x64 [0, 4, 1, 2, 3] (shapeCast S8x4x2x64x2048 o shapeCasts_S8x512x2048_S8x4x2x64x2048)
    transposes_S8x4x2x64x2048_S8x2048x4x2x64_0_4_1_2_3

def newWindow (o : FVec Ideal S8x256x2048 .f32) : FVec Ideal S8x512x2x2x64 .f32 :=
  transpose S8x512x2x2x64 [0, 4, 1, 2, 3] (shapeCast S8x2x2x64x512 (extractStridedSlice S8x256x512 ![0, 0, 1536] o slices_S8x256x2048_S8x256x512_0_0_1536)
    shapeCasts_S8x256x512_S8x2x2x64x512) transposes_S8x2x2x64x512_S8x512x2x2x64_0_4_1_2_3

variable (U : Valuation τ sig (Elt Ideal))

set_option maxHeartbeats 4000000 in
theorem after_rows : StableHlo.after (List.flatten [hostOps1]) U (Proc.devRef .tc main_v40) = newRows (U (Proc.devRef .tc main_v38_6)) := by
  simp only [List.flatten_cons, List.flatten_nil, List.append_nil, List.cons_append, List.nil_append]
  after_reads_simp
  rfl

set_option maxHeartbeats 4000000 in
theorem after_window : StableHlo.after (List.flatten [hostOps1]) U (Proc.devRef .tc main_v43) = newWindow (U (Proc.devRef .tc main_v38_7)) := by
  simp only [List.flatten_cons, List.flatten_nil, List.append_nil, List.cons_append, List.nil_append]
  after_reads_simp
  rfl

theorem newRows_apply (o : FVec Ideal S8x512x2048 .f32) (b : Fin 8) (p : Fin 2048) (j : Fin 4) (h : Fin 2) (d : Fin 64) :
    newRows o (ix5 b p j h d) = o (ix3 b ⟨j.val * 128 + (h.val * 64 + d.val), by omega⟩ p) := by
  unfold newRows
  refine (transpose_apply _ _ _ _ (ix5 b j h d p) (fun a => by match a with | ⟨0, _⟩ => rfl | ⟨1, _⟩ => rfl | ⟨2, _⟩ => rfl | ⟨3, _⟩ => rfl | ⟨4, _⟩ => rfl)).trans ?_
  refine shapeCast_apply _ _ _ _ ?_
  rw [Shape.rowMajor_val_three, Shape.rowMajor_val_five]
  show (b.val * 512 + (j.val * 128 + (h.val * 64 + d.val))) * 2048 + p.val = (((b.val * 4 + j.val) * 2 + h.val) * 64 + d.val) * 2048 + p.val
  omega

theorem newWindow_apply (o : FVec Ideal S8x256x2048 .f32) (b : Fin 8) (p : Fin 512) (kv h : Fin 2) (d : Fin 64) :
    newWindow o (ix5 b p kv h d) = o (ix3 b ⟨kv.val * 128 + (h.val * 64 + d.val), by omega⟩ ⟨1536 + p.val, by omega⟩) := by
  unfold newWindow
  refine (transpose_apply _ _ _ _ (ix5 b kv h d p) (fun a => by match a with | ⟨0, _⟩ => rfl | ⟨1, _⟩ => rfl | ⟨2, _⟩ => rfl | ⟨3, _⟩ => rfl | ⟨4, _⟩ => rfl)).trans ?_
  refine (shapeCast_apply _ _ _ (ix3 b (⟨kv.val * 128 + (h.val * 64 + d.val), by omega⟩ : Fin 256) p) ?_).trans ?_
  · rw [Shape.rowMajor_val_three, Shape.rowMajor_val_five]
    show (b.val * 256 + (kv.val * 128 + (h.val * 64 + d.val))) * 512 + p.val = (((b.val * 2 + kv.val) * 2 + h.val) * 64 + d.val) * 512 + p.val
    omega
  exact extractStridedSlice_apply _ _ _ _ _ (fun a => by match a with | ⟨0, _⟩ => exact (Nat.zero_add _).symm | ⟨1, _⟩ => exact (Nat.zero_add _).symm | ⟨2, _⟩ => rfl)

end Cert.Kernel4Ideal.Tail

end
-- ==== Proof.PromptRef.lean ====
/-
  The prompts' reference read at an index: its keys are the projection's columns normalized and turned, its values the projection's
  columns, and its window the last 512 positions.
-/
module

public import proofs.«01_k».proof.Proof.PromptHost
public import proofs.«01_k».proof.Proof.Gen.Reference4Ideal.Run
public import proofs.«01_k».proof.Proof.Gen.Reference4Ideal.Read
public import Idealize.ShloMosaic.Lib.ValueIdxRank6

@[expose] public section

noncomputable section

open Idealize.ShloMosaic Idealize.ShloMosaic.TcCoe Idealize.SL.Sem

namespace Cert.Reference4Ideal.Prompt

open Cert.Reference4Ideal Cert.Reference4Ideal.Gen Cert.Reference4Ideal.Read Cert.Turn
open Cert.Kernel4Ideal.Fold (row)
open Cert.Kernel4Ideal.Host (keyCol valCol cosAt sinAt newKey newVal part)

variable (x0 : FVec Ideal S16640x7680 .f32) (x2 : FVec Ideal S3x64 .f32)

/-! ## The columns of keys and values -/

theorem columns (b : Fin 8) (t : Fin 2048) (br : Fin 3) (kv h : Fin 2) (d : Fin 64) :
    val_main_v6 (F := Ideal) x0 (ix6 b t br kv h d) = x0 (ix2 (row b t) ⟨1536 + (br.val * 256 + kv.val * 128 + (h.val * 64 + d.val)), by omega⟩) := by
  unfold val_main_v6 val_main_v1 val_main_v0
  refine (shapeCast_apply _ _ _ (ix3 b t (⟨br.val * 256 + kv.val * 128 + (h.val * 64 + d.val), by omega⟩ : Fin 768)) ?_).trans ?_
  · rw [Shape.rowMajor_val_three, Shape.rowMajor_val_six]
    show (b.val * 2048 + t.val) * 768 + (br.val * 256 + kv.val * 128 + (h.val * 64 + d.val)) = ((((b.val * 2048 + t.val) * 3 + br.val) * 2 + kv.val) * 2 + h.val) * 64 + d.val
    omega
  refine (shapeCast_apply _ _ _ (ix2 (⟨b.val * 2048 + t.val, by omega⟩ : Fin 16384) (⟨br.val * 256 + kv.val * 128 + (h.val * 64 + d.val), by omega⟩ : Fin 768)) ?_).trans ?_
  · rw [Shape.rowMajor_val_three, Shape.rowMajor_val_two]
    rfl
  exact extractStridedSlice_apply _ _ _ _ _ (fun a => by match a with | ⟨0, _⟩ => exact (Nat.zero_add _).symm | ⟨1, _⟩ => rfl)

theorem keys (b : Fin 8) (t : Fin 2048) (br : Fin 3) (h : Fin 2) (d : Fin 64) :
    val_main_v8 (F := Ideal) x0 (ix5 b t br h d) = x0 (ix2 (row b t) (keyCol br h d)) := by
  unfold val_main_v8 val_main_v7
  refine (shapeCast_apply _ _ _ (ix6 b t br (0 : Fin 1) h d) ?_).trans ?_
  · rw [Shape.rowMajor_val_five, Shape.rowMajor_val_six]
    show ((((b.val * 2048 + t.val) * 3 + br.val) * 1 + 0) * 2 + h.val) * 64 + d.val = (((b.val * 2048 + t.val) * 3 + br.val) * 2 + h.val) * 64 + d.val
    omega
  refine (extractStridedSlice_apply _ _ _ _ (ix6 b t br (0 : Fin 2) h d) (fun a => by match a with | ⟨0, _⟩ => exact (Nat.zero_add _).symm | ⟨1, _⟩ => exact (Nat.zero_add _).symm | ⟨2, _⟩ => exact (Nat.zero_add _).symm | ⟨3, _⟩ => rfl | ⟨4, _⟩ => exact (Nat.zero_add _).symm | ⟨5, _⟩ => exact (Nat.zero_add _).symm)).trans ?_
  refine (columns x0 b t br 0 h d).trans (congrArg (fun k => x0 (ix2 (row b t) k)) (Fin.ext ?_))
  show 1536 + (br.val * 256 + 0 * 128 + (h.val * 64 + d.val)) = 1536 + (br.val * 256 + (h.val * 64 + d.val))
  omega

theorem values (b : Fin 8) (t : Fin 2048) (br : Fin 3) (h : Fin 2) (d : Fin 64) :
    val_main_v53 (F := Ideal) x0 (ix5 b t br h d) = x0 (ix2 (row b t) (valCol br h d)) := by
  unfold val_main_v53 val_main_v52
  refine (shapeCast_apply _ _ _ (ix6 b t br (0 : Fin 1) h d) ?_).trans ?_
  · rw [Shape.rowMajor_val_five, Shape.rowMajor_val_six]
    show ((((b.val * 2048 + t.val) * 3 + br.val) * 1 + 0) * 2 + h.val) * 64 + d.val = (((b.val * 2048 + t.val) * 3 + br.val) * 2 + h.val) * 64 + d.val
    omega
  refine (extractStridedSlice_apply _ _ _ _ (ix6 b t br (1 : Fin 2) h d) (fun a => by match a with | ⟨0, _⟩ => exact (Nat.zero_add _).symm | ⟨1, _⟩ => exact (Nat.zero_add _).symm | ⟨2, _⟩ => exact (Nat.zero_add _).symm | ⟨3, _⟩ => rfl | ⟨4, _⟩ => exact (Nat.zero_add _).symm | ⟨5, _⟩ => exact (Nat.zero_add _).symm)).trans ?_
  refine (columns x0 b t br 1 h d).trans (congrArg (fun k => x0 (ix2 (row b t) k)) (Fin.ext ?_))
  show 1536 + (br.val * 256 + 1 * 128 + (h.val * 64 + d.val)) = 1536 + (br.val * 256 + 128 + (h.val * 64 + d.val))
  omega

/-! ## The norm and the turn -/

theorem normed_keys (b : Fin 8) (t : Fin 2048) (br : Fin 3) (h : Fin 2) (d : Fin 64) :
    val_main_v22 (F := Ideal) x0 x2 (ix5 b t br h d) = normed (fun e => x0 (ix2 (row b t) (keyCol br h e))) (fun e => x2 (ix2 br e)) d := by
  have hk : (fun e => x0 (ix2 (row b t) (keyCol br h e))) = fun e => val_main_v8 (F := Ideal) x0 (ix5 b t br h e) := funext fun e => (keys x0 b t br h e).symm
  rw [hk]
  unfold normed val_main_v22 val_main_v21 val_main_v20 val_main_v19 val_main_v18 val_main_v17 val_main_v16 val_main_v15 val_main_v14 val_main_v13 val_main_v12 val_main_v11 val_main_v10 val_main_v9
  generalize val_main_v8 (F := Ideal) x0 = y
  pointwise [val_main_cst_0, val_main_cst_1, val_main_cst_2]

theorem turn_angles (t : Fin 2048) (f : Fin 32) : val_main_v34 (F := Ideal) (ix2 t f) = angle (BitVec.ofNat 32 t.val) f := by
  have h0 : IntOp.addi 0#32 (BitVec.ofNat 32 t.val) = BitVec.ofNat 32 t.val := BitVec.zero_add _
  rw [← h0]
  unfold angle
  pointwise [val_main_v34, val_main_v33, val_main_v32, val_main_v31, val_main_v30, val_main_v29, val_main_v28, val_main_v27, val_main_v26, val_main_v25, val_main_v24, val_main_v23, val_main_cst_3, val_main_cst_4, val_main_v5, val_main_v4, val_main_v3, val_main_c]

theorem turned_keys (b : Fin 8) (t : Fin 2048) (br : Fin 3) (h : Fin 2) (d : Fin 64) :
    val_main_v51 (F := Ideal) x0 x2 (ix5 b t br h d) = newKey x0 x2 b t br h d := by
  have hc : ∀ f : Fin 32, cosAt t f = Ideal.cos (val_main_v34 (F := Ideal) (ix2 t f)) := fun f => congrArg Ideal.cos (turn_angles t f).symm
  have hs : ∀ f : Fin 32, sinAt t f = Ideal.sin (val_main_v34 (F := Ideal) (ix2 t f)) := fun f => congrArg Ideal.sin (turn_angles t f).symm
  unfold newKey key turned
  simp only [hc, hs, ← normed_keys]
  unfold val_main_v51 val_main_v50 val_main_v49 val_main_v48 val_main_v47 val_main_v46 val_main_v45 val_main_v44 val_main_v43 val_main_v42 val_main_v41 val_main_v40 val_main_v39 val_main_v38 val_main_v37 val_main_v36 val_main_v35
  generalize val_main_v34 (F := Ideal) = g
  generalize val_main_v22 (F := Ideal) x0 x2 = y
  pointwise
  by_cases hd : d.val < 32
  · rw [dif_pos hd, dif_pos hd, show (⟨32 + d.val, by omega⟩ : Fin 64) = ⟨d.val + 32, by omega⟩ from Fin.ext (Nat.add_comm _ _)]
  · rw [dif_neg hd, dif_neg hd, show (⟨32 + (d.val - 32), by omega⟩ : Fin 64) = d from Fin.ext (by show 32 + (d.val - 32) = d.val; omega)]

/-! ## The results -/

theorem stacked (b : Fin 8) (t : Fin 2048) (br : Fin 3) (kv h : Fin 2) (d : Fin 64) :
    val_main_v56 (F := Ideal) x0 x2 (ix6 b t br kv h d) = part x0 x2 b t br kv h d := by
  unfold part val_main_v56
  split_ifs with hk
  · refine (concatenate_pair_apply_left (s₁ := S8x2048x3x1x2x64) (s₂ := S8x2048x3x1x2x64) (t := S8x2048x3x2x2x64) 3 _ _ _ _ rfl
      (ix6 b t br (0 : Fin 1) h d) (fun a => by match a with | ⟨0, _⟩ => rfl | ⟨1, _⟩ => rfl | ⟨2, _⟩ => rfl | ⟨3, _⟩ => exact hk.symm | ⟨4, _⟩ => rfl | ⟨5, _⟩ => rfl)).trans ?_
    unfold val_main_v54
    refine (broadcastInDim_apply _ _ _ _ (ix5 b t br h d) (fun a => by match a with | ⟨0, _⟩ => rfl | ⟨1, _⟩ => rfl | ⟨2, _⟩ => rfl | ⟨3, _⟩ => rfl | ⟨4, _⟩ => rfl)).trans ?_
    exact turned_keys x0 x2 b t br h d
  · refine (concatenate_pair_apply_right (s₁ := S8x2048x3x1x2x64) (s₂ := S8x2048x3x1x2x64) (t := S8x2048x3x2x2x64) 3 _ _ _ _ rfl rfl
      (ix6 b t br (0 : Fin 1) h d) (fun a ha => by match a with | ⟨0, _⟩ => rfl | ⟨1, _⟩ => rfl | ⟨2, _⟩ => rfl | ⟨3, _⟩ => exact absurd rfl ha | ⟨4, _⟩ => rfl | ⟨5, _⟩ => rfl) ?_).trans ?_
    · show 0 + 1 = kv.val
      omega
    unfold val_main_v55
    refine (broadcastInDim_apply _ _ _ _ (ix5 b t br h d) (fun a => by match a with | ⟨0, _⟩ => rfl | ⟨1, _⟩ => rfl | ⟨2, _⟩ => rfl | ⟨3, _⟩ => rfl | ⟨4, _⟩ => rfl)).trans ?_
    exact values x0 b t br h d

theorem rows_ref (b : Fin 8) (t : Fin 2048) (j : Fin 4) (h : Fin 2) (d : Fin 64) :
    val_main_v58 (F := Ideal) x0 x2 (ix5 b t j h d) = part x0 x2 b t ⟨j.val / 2, by omega⟩ ⟨j.val % 2, by omega⟩ h d := by
  unfold val_main_v58 val_main_v57
  refine (shapeCast_apply _ _ _ (ix6 b t (⟨j.val / 2, by omega⟩ : Fin 2) (⟨j.val % 2, by omega⟩ : Fin 2) h d) ?_).trans ?_
  · rw [Shape.rowMajor_val_five, Shape.rowMajor_val_six]
    show ((((b.val * 2048 + t.val) * 2 + j.val / 2) * 2 + j.val % 2) * 2 + h.val) * 64 + d.val = (((b.val * 2048 + t.val) * 4 + j.val) * 2 + h.val) * 64 + d.val
    omega
  refine (extractStridedSlice_apply _ _ _ _ (ix6 b t (⟨j.val / 2, by omega⟩ : Fin 3) (⟨j.val % 2, by omega⟩ : Fin 2) h d) (fun a => by match a with | ⟨0, _⟩ => exact (Nat.zero_add _).symm | ⟨1, _⟩ => exact (Nat.zero_add _).symm | ⟨2, _⟩ => exact (Nat.zero_add _).symm | ⟨3, _⟩ => exact (Nat.zero_add _).symm | ⟨4, _⟩ => exact (Nat.zero_add _).symm | ⟨5, _⟩ => exact (Nat.zero_add _).symm)).trans ?_
  exact stacked x0 x2 b t _ _ h d

theorem window_ref (b : Fin 8) (p : Fin 512) (kv h : Fin 2) (d : Fin 64) :
    val_main_v62 (F := Ideal) x0 x2 (ix5 b p kv h d) = part x0 x2 b ⟨1536 + p.val, by omega⟩ 2 kv h d := by
  unfold val_main_v62 val_main_v61
  refine (extractStridedSlice_apply _ _ _ _ (ix5 b (⟨1536 + p.val, by omega⟩ : Fin 2048) kv h d) (fun a => by match a with | ⟨0, _⟩ => exact (Nat.zero_add _).symm | ⟨1, _⟩ => rfl | ⟨2, _⟩ => exact (Nat.zero_add _).symm | ⟨3, _⟩ => exact (Nat.zero_add _).symm | ⟨4, _⟩ => exact (Nat.zero_add _).symm)).trans ?_
  refine (concatenate_pair_apply_right (s₁ := S8x0x2x2x64) (s₂ := S8x2048x2x2x64) (t := S8x2048x2x2x64) 1 _ _ _ _ rfl rfl
    (ix5 b (⟨1536 + p.val, by omega⟩ : Fin 2048) kv h d) (fun a ha => by match a with | ⟨0, _⟩ => rfl | ⟨1, _⟩ => exact absurd rfl ha | ⟨2, _⟩ => rfl | ⟨3, _⟩ => rfl | ⟨4, _⟩ => rfl) ?_).trans ?_
  · rfl
  unfold val_main_v60 val_main_v59
  refine (shapeCast_apply _ _ _ (ix6 b (⟨1536 + p.val, by omega⟩ : Fin 2048) (0 : Fin 1) kv h d) ?_).trans ?_
  · rw [Shape.rowMajor_val_five, Shape.rowMajor_val_six]
    show ((((b.val * 2048 + (1536 + p.val)) * 1 + 0) * 2 + kv.val) * 2 + h.val) * 64 + d.val = (((b.val * 2048 + (1536 + p.val)) * 2 + kv.val) * 2 + h.val) * 64 + d.val
    omega
  refine (extractStridedSlice_apply _ _ _ _ (ix6 b (⟨1536 + p.val, by omega⟩ : Fin 2048) (2 : Fin 3) kv h d) (fun a => by match a with | ⟨0, _⟩ => exact (Nat.zero_add _).symm | ⟨1, _⟩ => exact (Nat.zero_add _).symm | ⟨2, _⟩ => rfl | ⟨3, _⟩ => exact (Nat.zero_add _).symm | ⟨4, _⟩ => exact (Nat.zero_add _).symm | ⟨5, _⟩ => exact (Nat.zero_add _).symm)).trans ?_
  exact stacked x0 x2 b _ 2 kv h d

end Cert.Reference4Ideal.Prompt

end
-- ==== Proof.PromptEquation.lean ====
/-
  The prompts' preparation kernel's run and its two results, each equal to the reference's.
-/
module

public import proofs.«01_k».proof.Proof.PromptTail
public import proofs.«01_k».proof.Proof.PromptRef
public import Idealize.ShloMosaic.Lib.Quiescent

@[expose] public section

noncomputable section

open Idealize.ShloMosaic Idealize.ShloMosaic.TcCoe Idealize.SL.Sem

namespace Cert.Kernel4Ideal.Equation

open Cert.Kernel4Ideal Cert.Kernel4Ideal.Gen Cert.Kernel4Ideal.Fold Cert.Kernel4Ideal.Host Cert.Kernel4Ideal.Tail

variable (m : (ℓ : Loc nD τ sig) → Buf (Elt Ideal) ℓ) (ρ : Dev nD → PrngReg) (c : Dev nD)

/-! ## What the last host lines find -/

/-- The buffers as the region leaves them. -/
def after : Valuation τ sig (Elt Ideal) :=
  Pipeline.withArrays (cfgs 0).spec c (V0 m c) fun w => (dats m 0 c).arrAt w (cfgs 0).N

theorem sharedIn : Pipeline.SharedIn spec0 := by decide

theorem after_v38_6 : after m c (Proc.devRef .tc main_v38_6) = rows m c :=
  ((dats m 0 c).withArrays_arrAt sharedIn (V0 m c) (fun _ => rfl) 13).trans (final_rows m c)

theorem after_v38_7 : after m c (Proc.devRef .tc main_v38_7) = window m c :=
  ((dats m 0 c).withArrays_arrAt sharedIn (V0 m c) (fun _ => rfl) 14).trans (final_window m c)

theorem left_rows : Pipeline.afterTail₀ cfgs (dats m) 0 (V0 m) [hostOps1] c main_v40 = newRows (rows m c) := by
  refine (Tail.after_rows (after m c)).trans ?_
  exact congrArg newRows (after_v38_6 m c)

theorem left_window : Pipeline.afterTail₀ cfgs (dats m) 0 (V0 m) [hostOps1] c main_v43 = newWindow (window m c) := by
  refine (Tail.after_window (after m c)).trans ?_
  exact congrArg newWindow (after_v38_7 m c)

/-- The exact kernel's run: its two results, its arguments unchanged. -/
theorem run : θ_run defs (onTc (τ := τ) (main (F := Ideal))) ⟨m, fun _ => 0, ρ⟩ (fun r => ∀ c : Dev nD,
      r.2.mem ((c.tc : Thread nD τ).loc main_v40) = newRows (rows m c)
      ∧ r.2.mem ((c.tc : Thread nD τ).loc main_v43) = newWindow (window m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨h.1 c |>.1, h.1 c |>.2, h.2 c⟩)
    (θ_run_and ((θ_run defs _ _).mono (fun r h (c : Dev nD) => (⟨
      ((h c).2 main_v40 (Pipeline.mem_restRefs_of main_v40 (by decide) (by decide))).trans (left_rows m c),
      ((h c).2 main_v43 (Pipeline.mem_restRefs_of main_v43 (by decide) (by decide))).trans (left_window m c)⟩ :
      r.2.mem ((c.tc : Thread nD τ).loc main_v40) = newRows (rows m c)
      ∧ r.2.mem ((c.tc : Thread nD τ).loc main_v43) = newWindow (window m c))) (run_main m ρ)) (unchanged m ρ))

/-! ## The results are the reference's -/

open Cert.Reference4Ideal.Prompt

theorem equal_rows : Cert.Reference4Ideal.Read.val_main_v58 (F := Ideal) (projArg m c) (gainArg m c) = newRows (rows m c) := by
  funext i
  obtain ⟨b, p, j, h, d, rfl⟩ : ∃ (b : Fin 8) (p : Fin 2048) (j : Fin 4) (h : Fin 2) (d : Fin 64), i = ix5 b p j h d := ⟨i 0, i 1, i 2, i 3, i 4, eq_ix5 i⟩
  refine (rows_ref (projArg m c) (gainArg m c) b p j h d).trans (Eq.symm ?_)
  refine (newRows_apply (rows m c) b p j h d).trans ?_
  exact value_part m c b p ⟨j.val / 2, by omega⟩ ⟨j.val % 2, by omega⟩ h d _
    (show j.val * 128 + (h.val * 64 + d.val) = j.val / 2 * 256 + j.val % 2 * 128 + (h.val * 64 + d.val) by omega)

theorem equal_window : Cert.Reference4Ideal.Read.val_main_v62 (F := Ideal) (projArg m c) (gainArg m c) = newWindow (window m c) := by
  funext i
  obtain ⟨b, p, kv, h, d, rfl⟩ : ∃ (b : Fin 8) (p : Fin 512) (kv : Fin 2) (h : Fin 2) (d : Fin 64), i = ix5 b p kv h d := ⟨i 0, i 1, i 2, i 3, i 4, eq_ix5 i⟩
  refine (window_ref (projArg m c) (gainArg m c) b p kv h d).trans (Eq.symm ?_)
  refine (newWindow_apply (window m c) b p kv h d).trans ?_
  exact value_part m c b _ 2 kv h d _
    (show 512 + (kv.val * 128 + (h.val * 64 + d.val)) = 2 * 256 + kv.val * 128 + (h.val * 64 + d.val) by omega)

end Cert.Kernel4Ideal.Equation

end
-- ==== Proof.SsdPay.lean ====
/-
  What the state-space kernel computes of what it reads, at an index: the convolution and its gate, the step sizes, the decays
  summed along the positions, and the new state of a group's heads.
-/
module

public import proofs.«01_k».proof.Defs
public import proofs.«01_k».proof.Proof.Gen.Kernel5Ideal.Frame
public import Idealize.ShloMosaic.Lib.Pointwise
public import Idealize.ShloMosaic.Lib.IdealHost
public import Idealize.ShloMosaic.Lib.Pipeline.Value
public import Idealize.ShloMosaic.Lib.Pipeline.CanonAppend
public import Idealize.ShloMosaic.Lib.Pipeline.ValueKit.Acc
public import Idealize.ShloMosaic.Lib.Tactic

@[expose] public section

noncomputable section

open Idealize.ShloMosaic Idealize.ShloMosaic.TcCoe Idealize.SL.Sem

namespace Cert.Kernel5Ideal.Body

open Cert.Kernel5Ideal Cert.Kernel5Ideal.Gen

/-- A value times its logistic function. -/
def silu (x : EReal) : EReal := x * Ideal.logistic x

/-- The step size that a value and a bias give. -/
def step (z b : EReal) : EReal := max (z + b) 0 + Ideal.log1p (Ideal.exp (0 - FloatOps.absf (F := Ideal) (φ := .f32) (z + b)))

theorem gated_apply (v30 : FVec Ideal S128x768 .f32) (s : Fin 128) (r : Fin 512) :
    k0_pay12 (F := Ideal) v30 (ix2 s r) = silu (v30 (ix2 s ⟨r.val, by omega⟩)) := by
  pointwise [k0_pay12, k0_pay11]
  rfl

theorem inputs_apply (v30 : FVec Ideal S128x768 .f32) (s l : Fin 128) :
    k0_pay13 (F := Ideal) v30 (ix2 s l) = silu (v30 (ix2 s ⟨512 + l.val, by omega⟩)) := by
  pointwise [k0_pay13, k0_pay11]
  rfl

theorem below_four (s : Fin 128) : IntOp.cmpi .slt (BitVec.ofNat 32 s.val) 4#32 = if s.val < 4 then 1#1 else 0#1 := by
  revert s
  decide +kernel

theorem steps_apply (z : Vec Ideal S128x128 .f32) (b : Vec Ideal S1x128 .f32) (s l : Fin 128) :
    k0_pay20 (F := Ideal) z b (ix2 s l) = if s.val < 4 then step (z (ix2 s l)) (b (ix2 0 l)) else 0 := by
  pointwise [k0_pay20]
  rw [below_four]
  by_cases h : s.val < 4
  · rw [if_pos h, if_pos h]; rfl
  · rw [if_neg h, if_neg h]; rfl

theorem summed_apply (z : Vec Ideal S128x128 .f32) (b a : Vec Ideal S1x128 .f32) (tri : Vec Ideal S128x128 .f32) (s l : Fin 128) :
    k0_pay22 (F := Ideal) z b a tri (ix2 s l) = ∑ x, tri (ix2 s x) * (k0_pay20 z b (ix2 x l) * a (ix2 0 l)) := by
  pointwise [k0_pay22, k0_pay21]

theorem summed_turned_apply (z : Vec Ideal S128x128 .f32) (b a : Vec Ideal S1x128 .f32) (tri : Vec Ideal S128x128 .f32) (s l : Fin 128) :
    k0_pay23 (F := Ideal) z b a tri (ix2 s l) = ∑ x, k0_pay20 z b (ix2 x s) * a (ix2 0 s) * tri (ix2 x l) := by
  pointwise [k0_pay23, k0_pay21]

theorem tail_apply (v37 : FVec Ideal S128x512 .f32) (v91 v98 : FVec Ideal S128x128 .f32) (ex : Vec Ideal S128x512 .f32) (s : Fin 128) (r : Fin 512) :
    k0_pay28 (F := Ideal) v37 v91 v98 ex (ix2 r s) = (v37 (ix2 s r) * ∑ x, v91 (ix2 s x) * ex (ix2 x r))
      * Ideal.exp (∑ x, v98 (ix2 127 x) * ex (ix2 x r) - ∑ x, v98 (ix2 s x) * ex (ix2 x r)) := by
  pointwise [k0_pay28, k0_pay25, k0_pay26, k0_pay24]

theorem decay_apply (v102 : FVec Ideal S128x128 .f32) (ext : Vec Ideal S512x128 .f32) (r : Fin 512) :
    k0_pay30 (F := Ideal) v102 ext (ix2 r 0) = Ideal.exp (∑ x, ext (ix2 r x) * v102 (ix2 x 127)) := by
  pointwise [k0_pay30]

theorem first_half (l : Fin 128) : IntOp.cmpi .eq (k0_pay32 (ix2 0 l)) (k0_pay33 (ix2 0 l)) = if l.val / 64 = 0 then 1#1 else 0#1 := by
  pointwise [k0_pay32, k0_pay33]
  revert l
  decide +kernel

theorem second_half (l : Fin 128) : IntOp.cmpi .eq (k0_pay56 (iota .tc S1x128 32 [1] iota_S1x128_d1_w32) (ix2 0 l)) (k0_pay57 (ix2 0 l)) = if l.val / 64 = 1 then 1#1 else 0#1 := by
  pointwise [k0_pay56, k0_pay57]
  revert l
  decide +kernel

theorem first_inputs (v38 : FVec Ideal S128x128 .f32) (s l : Fin 128) :
    k0_pay36 (F := Ideal) v38 k0_pay32 k0_pay33 (ix2 s l) = if l.val / 64 = 0 then v38 (ix2 s l) else 0 := by
  have h := first_half l
  generalize k0_pay32 = q at *
  generalize k0_pay33 = p at *
  pointwise [k0_pay36, k0_pay34]
  rw [h]
  by_cases hl : l.val / 64 = 0
  · rw [if_pos hl, if_pos hl]; rfl
  · rw [if_neg hl, if_neg hl]; rfl

theorem second_inputs (v38 : FVec Ideal S128x128 .f32) (s l : Fin 128) :
    k0_pay60 (F := Ideal) v38 (k0_pay56 (iota .tc S1x128 32 [1] iota_S1x128_d1_w32)) k0_pay57 (ix2 s l) = if l.val / 64 = 1 then v38 (ix2 s l) else 0 := by
  have h := second_half l
  generalize k0_pay56 (iota .tc S1x128 32 [1] iota_S1x128_d1_w32) = q at *
  generalize k0_pay57 = p at *
  pointwise [k0_pay60, k0_pay58]
  rw [h]
  by_cases hl : l.val / 64 = 1
  · rw [if_pos hl, if_pos hl]; rfl
  · rw [if_neg hl, if_neg hl]; rfl

theorem first_apply (v115 : FVec Ideal S512x128 .bf16) (v121 : FVec Ideal S512x1 .f32) (v161 : FVec Ideal S128x128 .bf16) (h : Vec Ideal S256x128 .f32)
    (r : Fin 256) (l : Fin 128) (q : Fin 512) (hq : q.val = r.val) :
    k0_pay55 (F := Ideal) v115 v121 v161 h (ix2 r l) = h (ix2 r l) * v121 (ix2 q 0) + ∑ x, v115 (ix2 q x) * v161 (ix2 x l) := by
  have e : q = ⟨r.val, by omega⟩ := Fin.ext hq
  rw [e]
  pointwise [k0_pay55]

theorem second_apply (v115 : FVec Ideal S512x128 .bf16) (v121 : FVec Ideal S512x1 .f32) (v161 : FVec Ideal S128x128 .bf16) (h : Vec Ideal S256x128 .f32)
    (r : Fin 256) (l : Fin 128) (q : Fin 512) (hq : q.val = 256 + r.val) :
    k0_pay78 (F := Ideal) v115 v121 v161 h (ix2 r l) = h (ix2 r l) * v121 (ix2 q 0) + ∑ x, v115 (ix2 q x) * v161 (ix2 x l) := by
  have e : q = ⟨256 + r.val, by omega⟩ := Fin.ext hq
  rw [e]
  pointwise [k0_pay78]

theorem conv_apply (v8 v10 : Vec Ideal S1x768 .f32) (v11 : Vec Ideal S128x768 .f32) (v16 : Vec Ideal S1x768 .f32) (v17 : Vec Ideal S128x768 .f32)
    (v21 : Vec Ideal S1x768 .f32) (v22 : Vec Ideal S128x768 .f32) (v26 : Vec Ideal S1x768 .f32) (v27 : Vec Ideal S128x768 .f32) (t : Fin 128) (n : Fin 768) :
    k0_pay8 (F := Ideal) v8 v10 v11 v16 v17 v21 v22 v26 v27 (ix2 t n)
      = v8 (ix2 0 n) + v10 (ix2 0 n) * v11 (ix2 t n) + v16 (ix2 0 n) * v17 (ix2 t n) + v21 (ix2 0 n) * v22 (ix2 t n) + v26 (ix2 0 n) * v27 (ix2 t n) := by
  pointwise [k0_pay8]

theorem put_apply (v : Vec Ideal S512x128 .f32) (r : Fin 512) (l : Fin 128) : k0_pay2 (F := Ideal) v (ix3 0 r l) = v (ix2 r l) := by
  pointwise [k0_pay2]

theorem took_apply (v : Vec Ideal S1x512x128 .f32) (r : Fin 512) (l : Fin 128) : k0_pay5 (F := Ideal) v (ix2 r l) = v (ix3 0 r l) := by
  pointwise [k0_pay5]

theorem before_apply (v : Vec Ideal S1x8x768 .f32) (j : Fin 8) (n : Fin 768) : k0_pay3 (F := Ideal) v (ix2 j n) = v (ix3 0 j n) := by
  pointwise [k0_pay3]

theorem now_eq (v : Vec Ideal S128x768 .f32) (t : Fin 128) (n : Fin 768) : k0_pay7 (F := Ideal) v (ix2 t n) = v (ix2 t n) := by
  pointwise [k0_pay7, k0_pay6]

end Cert.Kernel5Ideal.Body

end
-- ==== Proof.SsdBody.lean ====
/-
  The state block the state-space kernel writes: each head's state decayed over the positions, and what the positions bring.
-/
module

public import proofs.«01_k».proof.Defs
public import proofs.«01_k».proof.Proof.SsdPay

@[expose] public section

noncomputable section

open Idealize.ShloMosaic Idealize.ShloMosaic.TcCoe Idealize.SL.Sem

namespace Cert.Kernel5Ideal.Body

open Cert.Kernel5Ideal Cert.Kernel5Ideal.Gen

theorem zero2 : (![0, 0] : Fin 2 → Nat) = fun _ => 0 := funext fun a => by fin_cases a <;> rfl
theorem zero3 : (![0, 0, 0] : Fin 3 → Nat) = fun _ => 0 := funext fun a => by fin_cases a <;> rfl

theorem lead (x : S1x512x128.Idx) : x = ix3 0 (x 1) (x 2) :=
  (eq_ix3 x).trans (congrArg (fun a : Fin 1 => ix3 a (x 1) (x 2)) (Subsingleton.elim (α := Fin 1) _ _))

section Rows
variable {κ : Kind} {sp : Space}

/-- Row `j` of the rows kept from before followed by the new rows. -/
def xp (x0 : Vec Ideal S128x768 .f32) (x7 : Vec Ideal S1x8x768 .f32) (j : Fin 136) (n : Fin 768) : EReal :=
  if h : j.val < 8 then x7 (ix3 0 ⟨j.val, h⟩ n) else x0 (ix2 ⟨j.val - 8, by omega⟩ n)

theorem rows_apply (v : View sig κ sp S136x768 .f32) (x0 : Vec Ideal S128x768 .f32) (x7 : Vec Ideal S1x8x768 .f32) (k : ℕ)
    (inb8 : ∀ a, (![8, 0] : Fin 2 → ℕ) a + (![128, 768] : Fin 2 → ℕ) a ≤ S136x768.size a) (inb0 : ∀ a, (![0, 0] : Fin 2 → ℕ) a + (![8, 768] : Fin 2 → ℕ) a ≤ S136x768.size a)
    (inb : ∀ a, (![k, 0] : Fin 2 → ℕ) a + (![128, 768] : Fin 2 → ℕ) a ≤ S136x768.size a)
    (t : Fin 128) (n : Fin 768) (j : Fin 136) (hj : j.val = k + t.val) :
    v.readCov (Val := Elt Ideal) [⟨Rect.unit (s := S136x768) ![8, 0] ![128, 768] inb8, k0_pay7 x0⟩, ⟨Rect.unit (s := S136x768) ![0, 0] ![8, 768] inb0, k0_pay3 x7⟩]
      (Rect.unit (s := S136x768) ![k, 0] ![128, 768] inb).toLoadRect (ix2 t n) = xp x0 x7 j n := by
  rw [View.readCov_eq_canon']
  have e : (Rect.unit (s := S136x768) ![k, 0] ![128, 768] inb).toLoadRect.idx (ix2 t n) = ix2 j n := funext fun a => Fin.ext (match a with
    | ⟨0, _⟩ => show k + 1 * t.val = j.val by omega
    | ⟨1, _⟩ => show 0 + 1 * n.val = n.val by omega)
  show View.canon _ ((Rect.unit (s := S136x768) ![k, 0] ![128, 768] inb).toLoadRect.idx (ix2 t n)) = _
  rw [e]
  refine View.canon_apply_of_pieces (Val := Elt Ideal) (e := .f32) (fun y : S136x768.Idx => xp x0 x7 (y 0) (y 1)) _ ?_ (ix2 j n) ?_
  · intro p hp
    simp only [List.mem_cons, List.not_mem_nil, or_false] at hp
    rcases hp with rfl | rfl
    · intro (x : S128x768.Idx)
      rw [eq_ix2 x]
      refine (now_eq _ _ _).trans ?_
      have h0 : (x 0).val < 128 := (x 0).isLt
      show _ = xp x0 x7 ⟨8 + 1 * (x 0).val, _⟩ ⟨0 + 1 * (x 1).val, _⟩
      unfold xp
      rw [dif_neg (show ¬ (8 + 1 * (x 0).val < 8) by omega)]
      exact congrArg x0 (funext fun a => Fin.ext (match a with
        | ⟨0, _⟩ => show (x 0).val = 8 + 1 * (x 0).val - 8 by omega
        | ⟨1, _⟩ => show (x 1).val = 0 + 1 * (x 1).val by omega))
    · intro (x : S8x768.Idx)
      rw [eq_ix2 x]
      refine (before_apply _ _ _).trans ?_
      have h0 : (x 0).val < 8 := (x 0).isLt
      show _ = xp x0 x7 ⟨0 + 1 * (x 0).val, _⟩ ⟨0 + 1 * (x 1).val, _⟩
      unfold xp
      rw [dif_pos (show 0 + 1 * (x 0).val < 8 by omega)]
      exact congrArg x7 (funext fun a => Fin.ext (match a with
        | ⟨0, _⟩ => rfl
        | ⟨1, _⟩ => show (x 0).val = 0 + 1 * (x 0).val by omega
        | ⟨2, _⟩ => show (x 1).val = 0 + 1 * (x 1).val by omega))
  · by_cases h : 8 ≤ j.val
    · refine ⟨_, List.mem_cons_self, ?_⟩
      refine (Rect.mem_set_unit (inb := inb8)).mpr fun a => ?_
      match a with
      | ⟨0, _⟩ => exact ⟨show 8 ≤ j.val from h, show j.val < 8 + 128 by omega⟩
      | ⟨1, _⟩ => exact ⟨Nat.zero_le _, show n.val < 0 + 768 by omega⟩
    · refine ⟨_, List.mem_cons_of_mem _ List.mem_cons_self, ?_⟩
      refine (Rect.mem_set_unit (inb := inb0)).mpr fun a => ?_
      match a with
      | ⟨0, _⟩ => exact ⟨Nat.zero_le _, show j.val < 0 + 8 by omega⟩
      | ⟨1, _⟩ => exact ⟨Nat.zero_le _, show n.val < 0 + 768 by omega⟩

theorem idx_low (inb : ∀ a, (![0, 0] : Fin 2 → ℕ) a + (![256, 128] : Fin 2 → ℕ) a ≤ S512x128.size a) (r : Fin 256) (l : Fin 128) (q : Fin 512) (hq : q.val = r.val) :
    (Rect.unit (s := S512x128) ![0, 0] ![256, 128] inb).emb (ix2 r l) = ix2 q l := funext fun a => Fin.ext (match a with
    | ⟨0, _⟩ => show 0 + 1 * r.val = q.val by omega
    | ⟨1, _⟩ => show 0 + 1 * l.val = l.val by omega)

theorem idx_high (inb : ∀ a, (![256, 0] : Fin 2 → ℕ) a + (![256, 128] : Fin 2 → ℕ) a ≤ S512x128.size a) (r : Fin 256) (l : Fin 128) (q : Fin 512) (hq : q.val = 256 + r.val) :
    (Rect.unit (s := S512x128) ![256, 0] ![256, 128] inb).emb (ix2 r l) = ix2 q l := funext fun a => Fin.ext (match a with
    | ⟨0, _⟩ => show 256 + 1 * r.val = q.val by omega
    | ⟨1, _⟩ => show 0 + 1 * l.val = l.val by omega)

theorem low_apply (v : View sig κ sp S512x128 .f32) (w : Vec Ideal S512x128 .f32)
    (inb : ∀ a, (![0, 0] : Fin 2 → ℕ) a + S512x128.size a ≤ S512x128.size a) (inb0 : ∀ a, (![0, 0] : Fin 2 → ℕ) a + (![256, 128] : Fin 2 → ℕ) a ≤ S512x128.size a)
    (r : Fin 256) (l : Fin 128) (q : Fin 512) (hq : q.val = r.val) :
    v.readCov (Val := Elt Ideal) [⟨Rect.unit (s := S512x128) ![0, 0] S512x128.size inb, w⟩] (Rect.unit (s := S512x128) ![0, 0] ![256, 128] inb0).toLoadRect (ix2 r l) = w (ix2 q l) := by
  rw [View.readCov_eq_canon']
  show View.canon _ ((Rect.unit (s := S512x128) ![0, 0] ![256, 128] inb0).emb (ix2 r l)) = _
  rw [idx_low inb0 r l q hq, View.canon_unit_zero zero2]

theorem high_apply (v : View sig κ sp S512x128 .f32) (w : Vec Ideal S512x128 .f32) (p1 : Vec Ideal S256x128 .f32)
    (inb : ∀ a, (![0, 0] : Fin 2 → ℕ) a + S512x128.size a ≤ S512x128.size a) (inb0 : ∀ a, (![0, 0] : Fin 2 → ℕ) a + (![256, 128] : Fin 2 → ℕ) a ≤ S512x128.size a)
    (inb1 : ∀ a, (![256, 0] : Fin 2 → ℕ) a + (![256, 128] : Fin 2 → ℕ) a ≤ S512x128.size a)
    (r : Fin 256) (l : Fin 128) (q : Fin 512) (hq : q.val = 256 + r.val) :
    v.readCov (Val := Elt Ideal) [⟨Rect.unit (s := S512x128) ![0, 0] ![256, 128] inb0, p1⟩, ⟨Rect.unit (s := S512x128) ![0, 0] S512x128.size inb, w⟩]
      (Rect.unit (s := S512x128) ![256, 0] ![256, 128] inb1).toLoadRect (ix2 r l) = w (ix2 q l) := by
  rw [View.readCov_eq_canon']
  show View.canon _ ((Rect.unit (s := S512x128) ![256, 0] ![256, 128] inb1).emb (ix2 r l)) = _
  rw [idx_high inb1 r l q hq, View.canon_cons_of_not_mem, View.canon_unit_zero zero2]
  intro hm
  have h := ((Rect.mem_set_unit (inb := inb0)).mp hm (0 : Fin 2)).2
  have : q.val < 0 + 256 := h
  omega

theorem halves (v : View sig κ sp S512x128 .f32) (w : Vec Ideal S512x128 .f32) (p1 p2 : Vec Ideal S256x128 .f32) (M : Fin 512 → Fin 128 → EReal)
    (inb : ∀ a, (![0, 0] : Fin 2 → ℕ) a + S512x128.size a ≤ S512x128.size a) (inb0 : ∀ a, (![0, 0] : Fin 2 → ℕ) a + (![256, 128] : Fin 2 → ℕ) a ≤ S512x128.size a)
    (inb1 : ∀ a, (![256, 0] : Fin 2 → ℕ) a + (![256, 128] : Fin 2 → ℕ) a ≤ S512x128.size a)
    (h1 : ∀ (r : Fin 256) l (q : Fin 512), q.val = r.val → p1 (ix2 r l) = M q l) (h2 : ∀ (r : Fin 256) l (q : Fin 512), q.val = 256 + r.val → p2 (ix2 r l) = M q l) (r : Fin 512) (l : Fin 128) :
    v.readCov (Val := Elt Ideal) [⟨Rect.unit (s := S512x128) ![256, 0] ![256, 128] inb1, p2⟩, ⟨Rect.unit (s := S512x128) ![0, 0] ![256, 128] inb0, p1⟩, ⟨Rect.unit (s := S512x128) ![0, 0] S512x128.size inb, w⟩]
      (Rect.unit (s := S512x128) ![0, 0] S512x128.size inb).toLoadRect (ix2 r l) = M r l := by
  rw [View.readCov_eq_canon']
  have e : (Rect.unit (s := S512x128) ![0, 0] S512x128.size inb).toLoadRect.idx (ix2 r l) = ix2 r l := funext fun a => Fin.ext (match a with
    | ⟨0, _⟩ => show 0 + 1 * r.val = r.val by omega
    | ⟨1, _⟩ => show 0 + 1 * l.val = l.val by omega)
  show View.canon _ ((Rect.unit (s := S512x128) ![0, 0] S512x128.size inb).toLoadRect.idx (ix2 r l)) = _
  rw [e]
  refine View.canon_append_of_pieces (Val := Elt Ideal) (e := .f32) (fun y : S512x128.Idx => M (y 0) (y 1)) [⟨Rect.unit (s := S512x128) ![0, 0] S512x128.size inb, w⟩]
    [⟨Rect.unit (s := S512x128) ![256, 0] ![256, 128] inb1, p2⟩, ⟨Rect.unit (s := S512x128) ![0, 0] ![256, 128] inb0, p1⟩] ?_ (ix2 r l) ?_
  · intro p hp
    simp only [List.mem_cons, List.not_mem_nil, or_false] at hp
    rcases hp with rfl | rfl
    · intro (x : S256x128.Idx)
      have h0 : (x 0).val < 256 := (x 0).isLt
      rw [eq_ix2 x]
      show _ = (fun y : S512x128.Idx => M (y 0) (y 1)) ((Rect.unit (s := S512x128) ![256, 0] ![256, 128] inb1).emb (ix2 (x 0) (x 1)))
      rw [idx_high inb1 (x 0) (x 1) ⟨256 + (x 0).val, by omega⟩ rfl]
      exact h2 _ _ _ rfl
    · intro (x : S256x128.Idx)
      have h0 : (x 0).val < 256 := (x 0).isLt
      rw [eq_ix2 x]
      show _ = (fun y : S512x128.Idx => M (y 0) (y 1)) ((Rect.unit (s := S512x128) ![0, 0] ![256, 128] inb0).emb (ix2 (x 0) (x 1)))
      rw [idx_low inb0 (x 0) (x 1) ⟨(x 0).val, by omega⟩ rfl]
      exact h1 _ _ _ rfl
  · by_cases h : 256 ≤ r.val
    · refine ⟨_, List.mem_cons_self, ?_⟩
      refine (Rect.mem_set_unit (inb := inb1)).mpr fun a => ?_
      match a with
      | ⟨0, _⟩ => exact ⟨show 256 ≤ r.val from h, show r.val < 256 + 256 by omega⟩
      | ⟨1, _⟩ => exact ⟨Nat.zero_le _, show l.val < 0 + 128 by omega⟩
    · refine ⟨_, List.mem_cons_of_mem _ List.mem_cons_self, ?_⟩
      refine (Rect.mem_set_unit (inb := inb0)).mpr fun a => ?_
      match a with
      | ⟨0, _⟩ => exact ⟨Nat.zero_le _, show r.val < 0 + 256 by omega⟩
      | ⟨1, _⟩ => exact ⟨Nat.zero_le _, show l.val < 0 + 128 by omega⟩

end Rows

section Blocks
variable (c : Dev nD) (i : grid0.Coords) (arg2 : Memref sig .tc .vmem S128x768 .f32) (harg2 : arg2.IsWhole) (arg3 : Memref sig .tc .vmem S128x512 .f32) (harg3 : arg3.IsWhole) (arg4 : Memref sig .tc .vmem S128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S1x512x128 .f32) (harg8 : arg8.IsWhole) (arg9 : Memref sig .tc .vmem S1x8x768 .f32) (harg9 : arg9.IsWhole) (arg10 : Memref sig .tc .vmem S1x8x512 .f32) (harg10 : arg10.IsWhole) (arg11 : Memref sig .tc .vmem S4x768 .f32) (harg11 : arg11.IsWhole) (arg12 : Memref sig .tc .vmem S1x768 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S3x512 .f32) (harg17 : arg17.IsWhole) (arg18 : Memref sig .tc .vmem S128x512 .f32) (harg18 : arg18.IsWhole) (arg19 : Memref sig .tc .vmem S512x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x512 .bf16) (harg22 : arg22.IsWhole) (arg23 : Memref sig .tc .vmem S128x512 .bf16) (harg23 : arg23.IsWhole) (arg24 : Memref sig .tc .vmem S1x512x128 .f32) (harg24 : arg24.IsWhole) (arg25 : Memref sig .tc .vmem S136x768 .f32) (harg25 : arg25.IsWhole) (arg26 : Memref sig .tc .vmem S136x512 .f32) (harg26 : arg26.IsWhole) (arg27 : Memref sig .tc .vmem S512x128 .f32) (harg27 : arg27.IsWhole) (hc0 : cond0_0 i) (hc1 : cond0_1 i)
variable (x0 : Vec Ideal S128x768 .f32) (x1 : Vec Ideal S128x512 .f32) (x2 : Vec Ideal S128x128 .f32) (x3 : Vec Ideal S128x512 .f32) (x4 : Vec Ideal S128x512 .f32) (x5 : Vec Ideal S128x512 .f32) (x6 : Vec Ideal S1x512x128 .f32) (x7 : Vec Ideal S1x8x768 .f32) (x8 : Vec Ideal S1x8x512 .f32) (x9 : Vec Ideal S4x768 .f32) (x10 : Vec Ideal S1x768 .f32) (x11 : Vec Ideal S1x128 .f32) (x12 : Vec Ideal S1x128 .f32) (x13 : Vec Ideal S1x512 .f32) (x14 : Vec Ideal S1x512 .f32) (x15 : Vec Ideal S3x512 .f32) (x16 : Vec Ideal S128x512 .f32) (x17 : Vec Ideal S512x128 .f32) (x18 : Vec Ideal S128x128 .f32) (x19 : Vec Ideal S128x128 .f32)

/-- The convolution over the kept and the new rows, with its gate. -/
def cv (s : Fin 128) (n : Fin 768) : EReal :=
  silu (x10 (ix2 0 n) + x9 (ix2 0 n) * xp x0 x7 ⟨5 + s.val, by omega⟩ n + x9 (ix2 1 n) * xp x0 x7 ⟨6 + s.val, by omega⟩ n
    + x9 (ix2 2 n) * xp x0 x7 ⟨7 + s.val, by omega⟩ n + x9 (ix2 3 n) * xp x0 x7 ⟨8 + s.val, by omega⟩ n)

/-- The step size of a position on a lane; none past the fourth position. -/
def dt (s l : Fin 128) : EReal := if s.val < 4 then step (x2 (ix2 s l)) (x11 (ix2 0 l)) else 0

/-- The decays summed up to a position, on a lane. -/
def summed (s l : Fin 128) : EReal := ∑ t, x18 (ix2 s t) * (dt x2 x11 t l * x12 (ix2 0 l))

/-- The new state in row `r`, lane `l`. -/
def made (r : Fin 512) (l : Fin 128) : EReal :=
  x6 (ix3 0 r l) * Ideal.exp (∑ k, x17 (ix2 r k) * ∑ t, dt x2 x11 t k * x12 (ix2 0 k) * x19 (ix2 t 127))
    + ∑ s : Fin 128, (cv x0 x7 x9 x10 s ⟨r.val, by omega⟩ * ∑ k, dt x2 x11 s k * x16 (ix2 k r))
        * Ideal.exp (∑ k, summed x2 x11 x12 x18 127 k * x16 (ix2 k r) - ∑ k, summed x2 x11 x12 x18 s k * x16 (ix2 k r))
        * (if l.val / 64 = r.val / 256 then cv x0 x7 x9 x10 s ⟨512 + l.val, by omega⟩ else 0)

def stateBlock : S1x512x128.Idx → Elt Ideal .f32 := fun y => made x0 x2 x6 x7 x9 x10 x11 x12 x16 x17 x18 x19 (y 1) (y 2)

theorem ld_weight (k : ℕ) (inb : ∀ a, (![k, 0] : Fin 2 → ℕ) a + (![1, 768] : Fin 2 → ℕ) a ≤ S4x768.size a) (n : Fin 768) (b : Fin 4) (hb : b.val = k) :
    View.ld x9 (Rect.unit (s := S4x768) ![k, 0] ![1, 768] inb) (ix2 0 n) = x9 (ix2 b n) :=
  congrArg x9 (funext fun a => Fin.ext (match a with
    | ⟨0, _⟩ => show k + 1 * 0 = b.val by omega
    | ⟨1, _⟩ => show 0 + 1 * n.val = n.val by omega))

set_option maxHeartbeats 4000000 in
/-- The block of new states. -/
theorem state_block (y : S1x512x128.Idx) : out0_A_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 y = stateBlock x0 x2 x6 x7 x9 x10 x11 x12 x16 x17 x18 x19 y := by
  unfold out0_A_22
  rw [View.read_writes_eq_canon _ _ _ (cover0_A_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19)]
  refine View.canon_apply_of_pieces (Val := Elt Ideal) (stateBlock x0 x2 x6 x7 x9 x10 x11 x12 x16 x17 x18 x19) _ ?_ y (cover0_A_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  intro p hp
  simp only [List.mem_cons, List.not_mem_nil, or_false] at hp
  rcases hp with rfl
  intro (x : S1x512x128.Idx)
  rw [lead x]
  have e : stateBlock x0 x2 x6 x7 x9 x10 x11 x12 x16 x17 x18 x19 ((Rect.unit (s := S1x512x128) ![0, 0, 0] S1x512x128.size inb_S1x512x128_S1x512x128_0_0_0).emb (ix3 0 (x 1) (x 2)))
      = made x0 x2 x6 x7 x9 x10 x11 x12 x16 x17 x18 x19 (x 1) (x 2) :=
    congrArg₂ (made x0 x2 x6 x7 x9 x10 x11 x12 x16 x17 x18 x19) (Fin.ext (show 0 + 1 * (x 1).val = (x 1).val by omega)) (Fin.ext (show 0 + 1 * (x 2).val = (x 2).val by omega))
  refine Eq.trans ?_ e.symm
  dsimp only
  refine Eq.trans (put_apply _ (x 1) (x 2)) ?_
  rw [View.ld_unit_zero zero2 _ x2, View.ld_unit_zero zero2 _ x11, View.ld_unit_zero zero2 _ x12, View.ld_unit_zero zero2 _ x18, View.ld_unit_zero zero2 _ x19, View.ld_unit_zero zero2 _ x16, View.ld_unit_zero zero2 _ x17,
    View.ld_unit_zero zero2 _ x0, View.ld_unit_zero zero2 _ x10, View.ld_unit_zero zero3 _ x7, View.ld_unit_zero zero3 _ x6]
  generalize hC : k0_pay8 (F := Ideal) _ _ _ _ _ _ _ _ _ = CONV
  have hcv : ∀ s n, silu (CONV (ix2 s n)) = cv x0 x7 x9 x10 s n := by
    intro s n
    rw [← hC]
    refine congrArg silu ((conv_apply _ _ _ _ _ _ _ _ _ s n).trans ?_)
    rw [rows_apply _ x0 x7 5 _ _ _ s n ⟨5 + s.val, by omega⟩ rfl, rows_apply _ x0 x7 6 _ _ _ s n ⟨6 + s.val, by omega⟩ rfl,
      rows_apply _ x0 x7 7 _ _ _ s n ⟨7 + s.val, by omega⟩ rfl, rows_apply _ x0 x7 8 _ _ _ s n ⟨8 + s.val, by omega⟩ rfl,
      ld_weight x9 0 _ n 0 rfl, ld_weight x9 1 _ n 1 rfl, ld_weight x9 2 _ n 2 rfl, ld_weight x9 3 _ n 3 rfl]
  have hdt : ∀ s l, k0_pay20 (F := Ideal) x2 x11 (ix2 s l) = dt x2 x11 s l := fun s l => steps_apply x2 x11 s l
  have hsum : ∀ s l, k0_pay22 (F := Ideal) x2 x11 x12 x18 (ix2 s l) = summed x2 x11 x12 x18 s l := fun s l => by
    rw [summed_apply]; simp only [hdt]; rfl
  have hdec : ∀ r : Fin 512, k0_pay30 (F := Ideal) (k0_pay23 x2 x11 x12 x19) x17 (ix2 r 0)
      = Ideal.exp (∑ k, x17 (ix2 r k) * ∑ t, dt x2 x11 t k * x12 (ix2 0 k) * x19 (ix2 t 127)) := fun r => by
    rw [decay_apply]; simp only [summed_turned_apply, hdt]
  have htail : ∀ (r : Fin 512) (s : Fin 128), k0_pay28 (F := Ideal) (k0_pay12 CONV) (k0_pay20 x2 x11) (k0_pay22 x2 x11 x12 x18) x16 (ix2 r s)
      = (cv x0 x7 x9 x10 s ⟨r.val, by omega⟩ * ∑ k, dt x2 x11 s k * x16 (ix2 k r))
        * Ideal.exp (∑ k, summed x2 x11 x12 x18 127 k * x16 (ix2 k r) - ∑ k, summed x2 x11 x12 x18 s k * x16 (ix2 k r)) := fun r s => by
    rw [tail_apply, gated_apply, hcv]; simp only [hdt, hsum]
  have hb : ∀ s l : Fin 128, k0_pay13 (F := Ideal) CONV (ix2 s l) = cv x0 x7 x9 x10 s ⟨512 + l.val, by omega⟩ := fun s l => by
    rw [inputs_apply, hcv]
  refine halves _ _ _ _ (made x0 x2 x6 x7 x9 x10 x11 x12 x16 x17 x18 x19) _ _ _ ?_ ?_ (x 1) (x 2)
  · intro r l q hq
    refine (first_apply _ _ _ _ r l q hq).trans ?_
    rw [low_apply _ _ _ _ r l q hq, hdec, took_apply]
    unfold made
    congr 1
    refine Finset.sum_congr rfl fun s _ => ?_
    rw [htail, first_inputs, hb]
    have h0 : q.val / 256 = 0 := by omega
    rw [h0]
  · intro r l q hq
    refine (second_apply _ _ _ _ r l q hq).trans ?_
    rw [high_apply _ _ _ _ _ _ r l q hq, hdec, took_apply]
    unfold made
    congr 1
    refine Finset.sum_congr rfl fun s _ => ?_
    rw [htail, second_inputs, hb]
    have h0 : q.val / 256 = 1 := by omega
    rw [h0]

end Blocks
end Cert.Kernel5Ideal.Body
end
-- ==== Proof.SsdFold.lean ====
/-
  What the state-space kernel's array of states holds: each sample's new state, from the arrays that the region reads.
-/
module

public import proofs.«01_k».proof.Proof.SsdBody

@[expose] public section

noncomputable section

open Idealize.ShloMosaic Idealize.ShloMosaic.TcCoe Idealize.SL.Sem
open Idealize.ShloMosaic.Pipeline (Dat Cfg Window)

namespace Cert.Kernel5Ideal.Fold

open Cert.Kernel5Ideal Cert.Kernel5Ideal.Gen Cert.Kernel5Ideal.Body

/-! ## The grid: one point a sample -/

theorem point_lt (t : Fin grid0.N) : t.val < 32 := t.isLt.trans_eq N_0

theorem xbc_tile : ∀ t : Fin grid0.N, cc0_transform_0 (grid0.coords t) 0 = t.val ∧ cc0_transform_0 (grid0.coords t) 1 = 0 := by decide +kernel
theorem small_tile : ∀ t : Fin grid0.N, cc0_transform_2 (grid0.coords t) 0 = t.val ∧ cc0_transform_2 (grid0.coords t) 1 = 0 := by decide +kernel
theorem before_tile : ∀ t : Fin grid0.N, cc0_transform_6 (grid0.coords t) 0 = t.val ∧ cc0_transform_6 (grid0.coords t) 1 = 0 ∧ cc0_transform_6 (grid0.coords t) 2 = 0 := by decide +kernel
theorem rows_tile : ∀ t : Fin grid0.N, cc0_transform_7 (grid0.coords t) 0 = t.val ∧ cc0_transform_7 (grid0.coords t) 1 = 0 ∧ cc0_transform_7 (grid0.coords t) 2 = 0 := by decide +kernel
theorem state_tile : ∀ t : Fin grid0.N, cc0_transform_22 (grid0.coords t) 0 = t.val ∧ cc0_transform_22 (grid0.coords t) 1 = 0 ∧ cc0_transform_22 (grid0.coords t) 2 = 0 := by decide +kernel

/-- The sample that grid point number `t` works on, and position `r` of its rows. -/
def sample (t : Fin grid0.N) : Fin 32 := ⟨t.val, point_lt t⟩
def pos (b : Fin 32) (r : Fin 128) : Fin 4096 := ⟨b.val * 128 + r.val, by omega⟩

variable (m : (ℓ : Loc nD τ sig) → Buf (Elt Ideal) ℓ) (ρ : Dev nD → PrngReg) (c : Dev nD)

/-! ## The arrays that the region reads -/

def xbc : S4096x768.Idx → EReal := V m c main_v52
def small : S4096x128.Idx → EReal := V m c main_v58
def before : S32x512x128.Idx → EReal := V m c main_v84
def rows : S32x8x768.Idx → EReal := V m c main_v68
def weights : S4x768.Idx → EReal := V m c main_arg4
def bias : S1x768.Idx → EReal := V m c main_v31
def dtBias : S1x128.Idx → EReal := V m c main_v36
def rate : S1x128.Idx → EReal := V m c main_v43
def spread : S128x512.Idx → EReal := V m c main_v21
def gather : S512x128.Idx → EReal := V m c main_v48
def lower : S128x128.Idx → EReal := V m c main_v29
def upper : S128x128.Idx → EReal := V m c main_v30

theorem xbc_at (t : Fin cfg0.N) (r : Fin 128) (k : Fin 768) : (iblk m c 0 t : Vec Ideal S128x768 .f32) (ix2 r k) = xbc m c (ix2 (pos (sample t) r) k) := by
  unfold iblk
  refine (View.read_apply ..).trans ?_
  show xbc m c _ = _
  congr 1
  funext a
  apply Fin.ext
  match a with
  | ⟨0, _⟩ =>
    show cc0_transform_0 (grid0.coords t) 0 * 128 + 1 * r.val = t.val * 128 + r.val
    rw [(xbc_tile t).1]; omega
  | ⟨1, _⟩ =>
    show cc0_transform_0 (grid0.coords t) 1 * 768 + 1 * k.val = k.val
    rw [(xbc_tile t).2]; omega

theorem small_at (t : Fin cfg0.N) (r : Fin 128) (k : Fin 128) : (iblk m c 2 t : Vec Ideal S128x128 .f32) (ix2 r k) = small m c (ix2 (pos (sample t) r) k) := by
  unfold iblk
  refine (View.read_apply ..).trans ?_
  show small m c _ = _
  congr 1
  funext a
  apply Fin.ext
  match a with
  | ⟨0, _⟩ =>
    show cc0_transform_2 (grid0.coords t) 0 * 128 + 1 * r.val = t.val * 128 + r.val
    rw [(small_tile t).1]; omega
  | ⟨1, _⟩ =>
    show cc0_transform_2 (grid0.coords t) 1 * 128 + 1 * k.val = k.val
    rw [(small_tile t).2]; omega

theorem before_at (t : Fin cfg0.N) (r : Fin 512) (k : Fin 128) : (iblk m c 6 t : Vec Ideal S1x512x128 .f32) (ix3 0 r k) = before m c (ix3 (sample t) r k) := by
  unfold iblk
  refine (View.read_apply ..).trans ?_
  show before m c _ = _
  congr 1
  funext a
  apply Fin.ext
  match a with
  | ⟨0, _⟩ =>
    show cc0_transform_6 (grid0.coords t) 0 * 1 + 1 * 0 = t.val
    rw [(before_tile t).1]; omega
  | ⟨1, _⟩ =>
    show cc0_transform_6 (grid0.coords t) 1 * 512 + 1 * r.val = r.val
    rw [(before_tile t).2.1]; omega
  | ⟨2, _⟩ =>
    show cc0_transform_6 (grid0.coords t) 2 * 128 + 1 * k.val = k.val
    rw [(before_tile t).2.2]; omega

theorem rows_at (t : Fin cfg0.N) (r : Fin 8) (k : Fin 768) : (iblk m c 7 t : Vec Ideal S1x8x768 .f32) (ix3 0 r k) = rows m c (ix3 (sample t) r k) := by
  unfold iblk
  refine (View.read_apply ..).trans ?_
  show rows m c _ = _
  congr 1
  funext a
  apply Fin.ext
  match a with
  | ⟨0, _⟩ =>
    show cc0_transform_7 (grid0.coords t) 0 * 1 + 1 * 0 = t.val
    rw [(rows_tile t).1]; omega
  | ⟨1, _⟩ =>
    show cc0_transform_7 (grid0.coords t) 1 * 8 + 1 * r.val = r.val
    rw [(rows_tile t).2.1]; omega
  | ⟨2, _⟩ =>
    show cc0_transform_7 (grid0.coords t) 2 * 768 + 1 * k.val = k.val
    rw [(rows_tile t).2.2]; omega

theorem weights_at (t : Fin cfg0.N) (r : Fin 4) (k : Fin 768) : (iblk m c 9 t : Vec Ideal S4x768 .f32) (ix2 r k) = weights m c (ix2 (r) k) := by
  unfold iblk
  refine (View.read_apply ..).trans ?_
  show weights m c _ = _
  congr 1
  funext a
  apply Fin.ext
  match a with
  | ⟨0, _⟩ => show 0 * 4 + 1 * r.val = r.val; omega
  | ⟨1, _⟩ => show 0 * 768 + 1 * k.val = k.val; omega

theorem bias_at (t : Fin cfg0.N) (r : Fin 1) (k : Fin 768) : (iblk m c 10 t : Vec Ideal S1x768 .f32) (ix2 r k) = bias m c (ix2 (r) k) := by
  unfold iblk
  refine (View.read_apply ..).trans ?_
  show bias m c _ = _
  congr 1
  funext a
  apply Fin.ext
  match a with
  | ⟨0, _⟩ => show 0 * 1 + 1 * r.val = r.val; omega
  | ⟨1, _⟩ => show 0 * 768 + 1 * k.val = k.val; omega

theorem dtBias_at (t : Fin cfg0.N) (r : Fin 1) (k : Fin 128) : (iblk m c 11 t : Vec Ideal S1x128 .f32) (ix2 r k) = dtBias m c (ix2 (r) k) := by
  unfold iblk
  refine (View.read_apply ..).trans ?_
  show dtBias m c _ = _
  congr 1
  funext a
  apply Fin.ext
  match a with
  | ⟨0, _⟩ => show 0 * 1 + 1 * r.val = r.val; omega
  | ⟨1, _⟩ => show 0 * 128 + 1 * k.val = k.val; omega

theorem rate_at (t : Fin cfg0.N) (r : Fin 1) (k : Fin 128) : (iblk m c 12 t : Vec Ideal S1x128 .f32) (ix2 r k) = rate m c (ix2 (r) k) := by
  unfold iblk
  refine (View.read_apply ..).trans ?_
  show rate m c _ = _
  congr 1
  funext a
  apply Fin.ext
  match a with
  | ⟨0, _⟩ => show 0 * 1 + 1 * r.val = r.val; omega
  | ⟨1, _⟩ => show 0 * 128 + 1 * k.val = k.val; omega

theorem spread_at (t : Fin cfg0.N) (r : Fin 128) (k : Fin 512) : (iblk m c 16 t : Vec Ideal S128x512 .f32) (ix2 r k) = spread m c (ix2 (r) k) := by
  unfold iblk
  refine (View.read_apply ..).trans ?_
  show spread m c _ = _
  congr 1
  funext a
  apply Fin.ext
  match a with
  | ⟨0, _⟩ => show 0 * 128 + 1 * r.val = r.val; omega
  | ⟨1, _⟩ => show 0 * 512 + 1 * k.val = k.val; omega

theorem gather_at (t : Fin cfg0.N) (r : Fin 512) (k : Fin 128) : (iblk m c 17 t : Vec Ideal S512x128 .f32) (ix2 r k) = gather m c (ix2 (r) k) := by
  unfold iblk
  refine (View.read_apply ..).trans ?_
  show gather m c _ = _
  congr 1
  funext a
  apply Fin.ext
  match a with
  | ⟨0, _⟩ => show 0 * 512 + 1 * r.val = r.val; omega
  | ⟨1, _⟩ => show 0 * 128 + 1 * k.val = k.val; omega

theorem lower_at (t : Fin cfg0.N) (r : Fin 128) (k : Fin 128) : (iblk m c 18 t : Vec Ideal S128x128 .f32) (ix2 r k) = lower m c (ix2 (r) k) := by
  unfold iblk
  refine (View.read_apply ..).trans ?_
  show lower m c _ = _
  congr 1
  funext a
  apply Fin.ext
  match a with
  | ⟨0, _⟩ => show 0 * 128 + 1 * r.val = r.val; omega
  | ⟨1, _⟩ => show 0 * 128 + 1 * k.val = k.val; omega

theorem upper_at (t : Fin cfg0.N) (r : Fin 128) (k : Fin 128) : (iblk m c 19 t : Vec Ideal S128x128 .f32) (ix2 r k) = upper m c (ix2 (r) k) := by
  unfold iblk
  refine (View.read_apply ..).trans ?_
  show upper m c _ = _
  congr 1
  funext a
  apply Fin.ext
  match a with
  | ⟨0, _⟩ => show 0 * 128 + 1 * r.val = r.val; omega
  | ⟨1, _⟩ => show 0 * 128 + 1 * k.val = k.val; omega

/-- Row `j` of sample `b`'s kept rows followed by its new rows. -/
def line (b : Fin 32) (j : Fin 136) (n : Fin 768) : EReal :=
  if h : j.val < 8 then rows m c (ix3 b ⟨j.val, h⟩ n) else xbc m c (ix2 (pos b ⟨j.val - 8, by omega⟩) n)

/-- The convolution of sample `b`'s rows, with its gate. -/
def conv (b : Fin 32) (s : Fin 128) (n : Fin 768) : EReal :=
  silu (bias m c (ix2 0 n) + weights m c (ix2 0 n) * line m c b ⟨5 + s.val, by omega⟩ n + weights m c (ix2 1 n) * line m c b ⟨6 + s.val, by omega⟩ n
    + weights m c (ix2 2 n) * line m c b ⟨7 + s.val, by omega⟩ n + weights m c (ix2 3 n) * line m c b ⟨8 + s.val, by omega⟩ n)

/-- The step size of sample `b`'s position `s` on a lane. -/
def size (b : Fin 32) (s l : Fin 128) : EReal := if s.val < 4 then step (small m c (ix2 (pos b s) l)) (dtBias m c (ix2 0 l)) else 0

/-- The decays of sample `b` summed up to position `s`, on a lane. -/
def sums (b : Fin 32) (s l : Fin 128) : EReal := ∑ t, lower m c (ix2 s t) * (size m c b t l * rate m c (ix2 0 l))

/-- Sample `b`'s new state in row `r`, lane `l`, from the arrays. -/
def value (b : Fin 32) (r : Fin 512) (l : Fin 128) : EReal :=
  before m c (ix3 b r l) * Ideal.exp (∑ k, gather m c (ix2 r k) * ∑ t, size m c b t k * rate m c (ix2 0 k) * upper m c (ix2 t 127))
    + ∑ s : Fin 128, (conv m c b s ⟨r.val, by omega⟩ * ∑ k, size m c b s k * spread m c (ix2 k r))
        * Ideal.exp (∑ k, sums m c b 127 k * spread m c (ix2 k r) - ∑ k, sums m c b s k * spread m c (ix2 k r))
        * (if l.val / 64 = r.val / 256 then conv m c b s ⟨512 + l.val, by omega⟩ else 0)

theorem line_at (t : Fin cfg0.N) (j : Fin 136) (n : Fin 768) : xp (iblk m c 0 t) (iblk m c 7 t) j n = line m c (sample t) j n := by
  unfold xp line
  by_cases h : j.val < 8
  · rw [dif_pos h, dif_pos h, rows_at]
  · rw [dif_neg h, dif_neg h, xbc_at]

theorem conv_at (t : Fin cfg0.N) (s : Fin 128) (n : Fin 768) : cv (iblk m c 0 t) (iblk m c 7 t) (iblk m c 9 t) (iblk m c 10 t) s n = conv m c (sample t) s n := by
  unfold cv conv
  simp only [line_at, weights_at, bias_at]

theorem size_at (t : Fin cfg0.N) (s l : Fin 128) : dt (iblk m c 2 t) (iblk m c 11 t) s l = size m c (sample t) s l := by
  unfold dt size
  rw [small_at, dtBias_at]

theorem sums_at (t : Fin cfg0.N) (s l : Fin 128) : summed (iblk m c 2 t) (iblk m c 11 t) (iblk m c 12 t) (iblk m c 18 t) s l = sums m c (sample t) s l := by
  unfold summed sums
  simp only [size_at, lower_at, rate_at]

theorem made_at (t : Fin cfg0.N) (r : Fin 512) (l : Fin 128) :
    made (iblk m c 0 t) (iblk m c 2 t) (iblk m c 6 t) (iblk m c 7 t) (iblk m c 9 t) (iblk m c 10 t) (iblk m c 11 t) (iblk m c 12 t) (iblk m c 16 t) (iblk m c 17 t) (iblk m c 18 t) (iblk m c 19 t) r l
      = value m c (sample t) r l := by
  unfold made value
  simp only [conv_at, size_at, sums_at, before_at, gather_at, rate_at, upper_at, spread_at]

/-! ## The output array -/

def states : S32x512x128.Idx → EReal := fun i => value m c (i 0) (i 1) (i 2)

theorem emb_states (t : Fin cfg0.N) (y : S1x512x128.Idx) : ((cfg0.win 22).blk t).view.emb y = (ix3 (sample t) (y 1) (y 2) : S32x512x128.Idx) := by
  have h0 : (y 0).val < 1 := (y 0).isLt
  funext a
  apply Fin.ext
  match a with
  | ⟨0, _⟩ =>
    show cc0_transform_22 (grid0.coords t) 0 * 1 + 1 * (y 0).val = t.val
    rw [(state_tile t).1]; omega
  | ⟨1, _⟩ =>
    show cc0_transform_22 (grid0.coords t) 1 * 512 + 1 * (y 1).val = (y 1).val
    rw [(state_tile t).2.1]; omega
  | ⟨2, _⟩ =>
    show cc0_transform_22 (grid0.coords t) 2 * 128 + 1 * (y 2).val = (y 2).val
    rw [(state_tile t).2.2]; omega

theorem cut_states (t : Fin cfg0.N) (x : Vec Ideal S1x512x128 .f32) (g : S32x512x128.Idx → EReal)
    (h : ∀ y : S1x512x128.Idx, x y = g (ix3 (sample t) (y 1) (y 2))) :
    (cfg0.win 22).cut (grid0.coords t) x = ((cfg0.win 22).blk t).view.read (Elt Ideal) g :=
  funext fun y => (h y).trans (congrArg g (emb_states t y).symm)

theorem flushed_states (t : Fin cfg0.N) (hf : (cfg0.win 22).flush t = true) :
    (dats m 0 c).flushed 22 t = ((cfg0.win 22).blk t).view.read (Elt Ideal) (states m c) := by
  show (cfg0.win 22).cut (grid0.coords t) ((dats m 0 c).after 22 t) = _
  rw [after0_22]
  refine cut_states t _ _ fun y => ?_
  unfold outsAt0
  dsimp only
  refine (state_block _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y).trans ?_
  unfold stateBlock states
  exact made_at m c t _ _

theorem covered_states (i : S32x512x128.Idx) : ∃ t : Fin cfg0.N, (cfg0.win 22).flush t = true ∧ i ∈ ((cfg0.win 22).blk t).view.set := by
  have h0 : (i 0).val < 32 := (i 0).isLt
  have h1 : (i 1).val < 512 := (i 1).isLt
  have h2 : (i 2).val < 128 := (i 2).isLt
  have hN : (i 0).val < cfg0.N := by rw [show cfg0.N = 32 from N_0]; omega
  let t : Fin cfg0.N := ⟨(i 0).val, hN⟩
  refine ⟨t, flush0_22 _, ?_⟩
  have e : ((cfg0.win 22).blk t).view.set = ((cfg0.win 22).rect t).set := View.set_slice_whole main_v85_2 _
  rw [e]
  refine Rect.mem_set_unit.mpr fun a => ?_
  have ht : t.val = (i 0).val := rfl
  match a with
  | ⟨0, _⟩ =>
    show cc0_transform_22 (grid0.coords t) 0 * 1 ≤ (i 0).val ∧ (i 0).val < cc0_transform_22 (grid0.coords t) 0 * 1 + 1
    rw [(state_tile t).1]; omega
  | ⟨1, _⟩ =>
    show cc0_transform_22 (grid0.coords t) 1 * 512 ≤ (i 1).val ∧ (i 1).val < cc0_transform_22 (grid0.coords t) 1 * 512 + 512
    rw [(state_tile t).2.1]; omega
  | ⟨2, _⟩ =>
    show cc0_transform_22 (grid0.coords t) 2 * 128 ≤ (i 2).val ∧ (i 2).val < cc0_transform_22 (grid0.coords t) 2 * 128 + 128
    rw [(state_tile t).2.2]; omega

theorem final_states : (dats m 0 c).arrAt 22 cfg0.N = states m c :=
  (dats m 0 c).arrAt_eq_of_cover 22 _ (fun t hf => flushed_states m c t hf) (fun i => covered_states i)

end Cert.Kernel5Ideal.Fold

end
-- ==== Proof.SsdLands.lean ====
/-
  Where the updates of the three scatters before the state-space kernel land.
-/
module

public import proofs.«01_k».proof.Proof.SsdFold
public import Idealize.ShloMosaic.Lib.StableHlo.RunRead
public import Idealize.ShloMosaic.Lib.ValueIdxRank6
public import Idealize.ShloMosaic.Lib.Routing.OpsSet
public import Idealize.ShloMosaic.Lib.KernelVsHost

@[expose] public section

noncomputable section

open Idealize.ShloMosaic Idealize.ShloMosaic.TcCoe Idealize.SL.Sem

namespace Cert.Kernel5Ideal.Host

open Cert.Kernel5Ideal Cert.Kernel5Ideal.Gen Cert.Kernel5Ideal.Body Cert.Kernel5Ideal.Fold

variable (m : (ℓ : Loc nD τ sig) → Buf (Elt Ideal) ℓ) (c : Dev nD)

/-! ## Where the scatters' updates land -/

theorem table_lands (idx : IVec S512x2 32) (k : Fin 512) (l : Fin 128) (r : Fin 512) :
    scatter_S128x512_S512x2_S512_n_01_01_1.resultIdx? (ix1 k) idx = some (ix2 l r) ↔ (idx (ix2 k 0)).toInt = l.val ∧ (idx (ix2 k 1)).toInt = r.val := by
  have s0 : scatter_S128x512_S512x2_S512_n_01_01_1.start (ix1 k) idx 0 = (idx (ix2 k 0)).toInt :=
    congrArg (fun q => (idx q).toInt) (funext fun a => match a with | ⟨0, _⟩ => rfl | ⟨1, _⟩ => rfl)
  have s1 : scatter_S128x512_S512x2_S512_n_01_01_1.start (ix1 k) idx 1 = (idx (ix2 k 1)).toInt :=
    congrArg (fun q => (idx q).toInt) (funext fun a => match a with | ⟨0, _⟩ => rfl | ⟨1, _⟩ => rfl)
  have w0 : scatter_S128x512_S512x2_S512_n_01_01_1.window (ix1 k) 0 = 0 := rfl
  have w1 : scatter_S128x512_S512x2_S512_n_01_01_1.window (ix1 k) 1 = 0 := rfl
  refine (Routing.resultIdx?_ix2 (R := 128) (C := 512) _ _ _ _ _).trans ?_
  rw [s0, s1, w0, w1]
  omega

theorem lane_lands (idx : IVec S2 32) (k : Fin 8) (l : Fin 128) :
    scatter_S1x128_S2_S8_0_0_01_0.resultIdx? (ix1 k) idx = some (ix2 0 l) ↔ (idx (ix1 0)).toInt = 0 ∧ (idx (ix1 1)).toInt + k.val = l.val := by
  have s0 : scatter_S1x128_S2_S8_0_0_01_0.start (ix1 k) idx 0 = (idx (ix1 0)).toInt :=
    congrArg (fun q => (idx q).toInt) (funext fun a => match a with | ⟨0, _⟩ => rfl)
  have s1 : scatter_S1x128_S2_S8_0_0_01_0.start (ix1 k) idx 1 = (idx (ix1 1)).toInt :=
    congrArg (fun q => (idx q).toInt) (funext fun a => match a with | ⟨0, _⟩ => rfl)
  have w0 : scatter_S1x128_S2_S8_0_0_01_0.window (ix1 k) 0 = 0 := rfl
  have w1 : scatter_S1x128_S2_S8_0_0_01_0.window (ix1 k) 1 = k.val := rfl
  refine (Routing.resultIdx?_ix2 (R := 1) (C := 128) _ _ _ _ _).trans ?_
  rw [s0, s1, w0, w1]
  show _ + _ = (0 : ℤ) ∧ _ ↔ _
  omega

theorem state_lands (idx : IVec S2 32) (b : Fin 32) (k : Fin 256) (n : Fin 64) (b' : Fin 32) (g : Fin 2) (k' : Fin 256) (g' : Fin 2) (n' : Fin 64) :
    scatter_S32x2x256x2x64_S2_S32x256x64_012_13_13_0.resultIdx? (ix3 b k n) idx = some (ix5 b' g k' g' n')
      ↔ b = b' ∧ (idx (ix1 0)).toInt = g.val ∧ k = k' ∧ (idx (ix1 1)).toInt = g'.val ∧ n = n' := by
  have s0 : scatter_S32x2x256x2x64_S2_S32x256x64_012_13_13_0.start (ix3 b k n) idx 0 = 0 := rfl
  have s1 : scatter_S32x2x256x2x64_S2_S32x256x64_012_13_13_0.start (ix3 b k n) idx 1 = (idx (ix1 0)).toInt :=
    congrArg (fun q => (idx q).toInt) (funext fun a => match a with | ⟨0, _⟩ => rfl)
  have s2 : scatter_S32x2x256x2x64_S2_S32x256x64_012_13_13_0.start (ix3 b k n) idx 2 = 0 := rfl
  have s3 : scatter_S32x2x256x2x64_S2_S32x256x64_012_13_13_0.start (ix3 b k n) idx 3 = (idx (ix1 1)).toInt :=
    congrArg (fun q => (idx q).toInt) (funext fun a => match a with | ⟨0, _⟩ => rfl)
  have s4 : scatter_S32x2x256x2x64_S2_S32x256x64_012_13_13_0.start (ix3 b k n) idx 4 = 0 := rfl
  have w0 : scatter_S32x2x256x2x64_S2_S32x256x64_012_13_13_0.window (ix3 b k n) 0 = b.val := rfl
  have w1 : scatter_S32x2x256x2x64_S2_S32x256x64_012_13_13_0.window (ix3 b k n) 1 = 0 := rfl
  have w2 : scatter_S32x2x256x2x64_S2_S32x256x64_012_13_13_0.window (ix3 b k n) 2 = k.val := rfl
  have w3 : scatter_S32x2x256x2x64_S2_S32x256x64_012_13_13_0.window (ix3 b k n) 3 = 0 := rfl
  have w4 : scatter_S32x2x256x2x64_S2_S32x256x64_012_13_13_0.window (ix3 b k n) 4 = n.val := rfl
  rw [Routing.resultIdx?_eq_some]
  constructor
  · intro h
    have h0 := h 0
    have h1 := h 1
    have h2 := h 2
    have h3 := h 3
    have h4 := h 4
    rw [s0, w0] at h0
    rw [s1, w1] at h1
    rw [s2, w2] at h2
    rw [s3, w3] at h3
    rw [s4, w4] at h4
    have h0' : (0 : ℤ) + (b.val : ℤ) = (b'.val : ℤ) := h0
    have h1' : (idx (ix1 0)).toInt + ((0 : ℕ) : ℤ) = (g.val : ℤ) := h1
    have h2' : (0 : ℤ) + (k.val : ℤ) = (k'.val : ℤ) := h2
    have h3' : (idx (ix1 1)).toInt + ((0 : ℕ) : ℤ) = (g'.val : ℤ) := h3
    have h4' : (0 : ℤ) + (n.val : ℤ) = (n'.val : ℤ) := h4
    exact ⟨Fin.ext (by omega), by omega, Fin.ext (by omega), by omega, Fin.ext (by omega)⟩
  · rintro ⟨rfl, h1, rfl, h3, rfl⟩ a
    match a with
    | ⟨0, _⟩ => exact (congrArg₂ (fun (x : ℤ) (y : ℕ) => x + (y : ℤ)) s0 w0).trans (zero_add _)
    | ⟨1, _⟩ => exact (congrArg₂ (fun (x : ℤ) (y : ℕ) => x + (y : ℤ)) s1 w1).trans ((add_zero _).trans h1)
    | ⟨2, _⟩ => exact (congrArg₂ (fun (x : ℤ) (y : ℕ) => x + (y : ℤ)) s2 w2).trans (zero_add _)
    | ⟨3, _⟩ => exact (congrArg₂ (fun (x : ℤ) (y : ℕ) => x + (y : ℤ)) s3 w3).trans ((add_zero _).trans h3)
    | ⟨4, _⟩ => exact (congrArg₂ (fun (x : ℤ) (y : ℕ) => x + (y : ℤ)) s4 w4).trans (zero_add _)

end Cert.Kernel5Ideal.Host

end
-- ==== Proof.SsdHost.lean ====
/-
  The host lines before the state-space kernel: the tables of zeros and ones, the lanes that hold the heads' numbers, and the
  samples' rows and states laid out for the kernel.
-/
module

public import proofs.«01_k».proof.Proof.SsdLands

@[expose] public section

noncomputable section

open Idealize.ShloMosaic Idealize.ShloMosaic.TcCoe Idealize.SL.Sem

namespace Cert.Kernel5Ideal.Host

open Cert.Kernel5Ideal Cert.Kernel5Ideal.Gen Cert.Kernel5Ideal.Body Cert.Kernel5Ideal.Fold

variable (m : (ℓ : Loc nD τ sig) → Buf (Elt Ideal) ℓ) (c : Dev nD)

def projArg : S256x7680.Idx → EReal := m ((c.tc : Thread nD τ).loc main_arg0)
def stateArg : S32x8x64x64.Idx → EReal := m ((c.tc : Thread nD τ).loc main_arg1)
def keptArg : S32x3x768.Idx → EReal := m ((c.tc : Thread nD τ).loc main_arg2)
def weightArg : S4x768.Idx → EReal := m ((c.tc : Thread nD τ).loc main_arg4)
def biasArg : S768.Idx → EReal := m ((c.tc : Thread nD τ).loc main_arg5)
def dtBiasArg : S8.Idx → EReal := m ((c.tc : Thread nD τ).loc main_arg6)
def logArg : S8.Idx → EReal := m ((c.tc : Thread nD τ).loc main_arg7)

/-! ## What the lines compute -/

/-- The lane of each of the 512 columns' heads, and the columns' own numbers. -/
def lanes : IVec S512 32 :=
  addi (broadcastInDim S512 ![] bcast_S_S512 (constantI S_ 32 24#32)) (shapeCast S512 (broadcastInDim S8x64 ![0] bcast_S8_S8x64_0 (iotaInDim S8 32 0)) shapeCasts_S8x64_S512)

def wrapped (v : IVec S512 32) (k : BitVec 32) : IVec S512 32 :=
  select (cmpi .slt v (broadcastInDim S512 ![] bcast_S_S512 (constantI S_ 32 0#32))) (addi v (broadcastInDim S512 ![] bcast_S_S512 (constantI S_ 32 k))) v

def places : IVec S512x2 32 :=
  concatenate S512x2 1 [⟨S512x1, broadcastInDim S512x1 ![0] bcast_S512_S512x1_0 (wrapped lanes 128#32)⟩,
    ⟨S512x1, broadcastInDim S512x1 ![0] bcast_S512_S512x1_0 (wrapped (iotaInDim S512 32 0) 512#32)⟩] concatenates_S512x1_S512x1_S512x2_d1

def table : FVec Ideal S128x512 .f32 :=
  Host.scatter scatter_S128x512_S512x2_S512_n_01_01_1 (fun _ b => b) (broadcastInDim S128x512 ![] bcast_S_S128x512 (constant S_ .f32 0x00000000#32)) places
    (broadcastInDim S512 ![] bcast_S_S512 (constant S_ .f32 0x3F800000#32))

def pair (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

def inLanes (u : FVec Ideal S8 .f32) : FVec Ideal S1x128 .f32 :=
  Host.scatter scatter_S1x128_S2_S8_0_0_01_0 (fun _ b => b) (broadcastInDim S1x128 ![] bcast_S_S1x128 (constant S_ .f32 0x00000000#32)) (pair 0#32 24#32) u

def under : FVec Ideal S128x128 .f32 :=
  uitofp .f32 (cmpi .sle (broadcastInDim S128x128 ![0, 1] bcast_S1x128_S128x128_0_1 (broadcastInDim S1x128 ![1] bcast_S128_S1x128_1 (iotaInDim S128 32 0)))
    (broadcastInDim S128x128 ![0, 1] bcast_S128x1_S128x128_0_1 (broadcastInDim S128x1 ![0] bcast_S128_S128x1_0 (iotaInDim S128 32 0))))

def half0 (x : FVec Ideal S32x8x64x64 .f32) : FVec Ideal S32x256x64 .f32 :=
  shapeCast S32x256x64 (extractStridedSlice S32x1x256x64 ![0, 0, 0, 0] (shapeCast S32x2x256x64 x shapeCasts_S32x8x64x64_S32x2x256x64) slices_S32x2x256x64_S32x1x256x64_0_0_0_0) shapeCasts_S32x1x256x64_S32x256x64

def half1 (x : FVec Ideal S32x8x64x64 .f32) : FVec Ideal S32x256x64 .f32 :=
  shapeCast S32x256x64 (extractStridedSlice S32x1x256x64 ![0, 1, 0, 0] (shapeCast S32x2x256x64 x shapeCasts_S32x8x64x64_S32x2x256x64) slices_S32x2x256x64_S32x1x256x64_0_1_0_0) shapeCasts_S32x1x256x64_S32x256x64

def first (x : FVec Ideal S32x8x64x64 .f32) : FVec Ideal S32x2x256x2x64 .f32 :=
  Host.scatter scatter_S32x2x256x2x64_S2_S32x256x64_012_13_13_0 (fun _ b => b) (broadcastInDim S32x2x256x2x64 ![] bcast_S_S32x2x256x2x64 (constant S_ .f32 0x00000000#32)) (pair 0#32 0#32) (half0 x)

def both (x : FVec Ideal S32x8x64x64 .f32) : FVec Ideal S32x2x256x2x64 .f32 :=
  Host.scatter scatter_S32x2x256x2x64_S2_S32x256x64_012_13_13_0 (fun _ b => b) (first x) (pair 1#32 1#32) (half1 x)

def zero : FVec Ideal S_ .f32 := sitofp .f32 (constantI S_ 32 0#32)

theorem weights_eq : weights m c = weightArg m c := V_main_arg4 m c

set_option maxHeartbeats 8000000 in
theorem spread_eq : spread m c = table := by
  unfold spread
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) _ _ = _
  simp only [List.flatten_cons, List.flatten_nil, List.append_nil, List.cons_append, List.nil_append]
  after_reads_simp
  rfl

set_option maxHeartbeats 8000000 in
theorem gather_eq : gather m c = transpose S512x128 [1, 0] table transposes_S128x512_S512x128_1_0 := by
  unfold gather
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) _ _ = _
  simp only [List.flatten_cons, List.flatten_nil, List.append_nil, List.cons_append, List.nil_append]
  after_reads_simp
  rfl

set_option maxHeartbeats 8000000 in
theorem lower_eq : lower m c = under := by
  unfold lower
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) _ _ = _
  simp only [List.flatten_cons, List.flatten_nil, List.append_nil, List.cons_append, List.nil_append]
  after_reads_simp
  rfl

set_option maxHeartbeats 8000000 in
theorem upper_eq : upper m c = transpose S128x128 [1, 0] under transposes_S128x128_S128x128_1_0 := by
  unfold upper
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) _ _ = _
  simp only [List.flatten_cons, List.flatten_nil, List.append_nil, List.cons_append, List.nil_append]
  after_reads_simp
  rfl

set_option maxHeartbeats 8000000 in
theorem bias_eq : bias m c = shapeCast S1x768 (biasArg m c) shapeCasts_S768_S1x768 := by
  unfold bias
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) _ _ = _
  simp only [List.flatten_cons, List.flatten_nil, List.append_nil, List.cons_append, List.nil_append]
  after_reads_simp
  rfl

set_option maxHeartbeats 8000000 in
theorem dtBias_eq : dtBias m c = inLanes (dtBiasArg m c) := by
  unfold dtBias
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) _ _ = _
  simp only [List.flatten_cons, List.flatten_nil, List.append_nil, List.cons_append, List.nil_append]
  after_reads_simp
  rfl

set_option maxHeartbeats 8000000 in
theorem rate_eq : rate m c = inLanes (Host.negf (F := Ideal) (φ := .f32) (Host.exp (F := Ideal) (φ := .f32) (logArg m c))) := by
  unfold rate
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) _ _ = _
  simp only [List.flatten_cons, List.flatten_nil, List.append_nil, List.cons_append, List.nil_append]
  after_reads_simp
  rfl

set_option maxHeartbeats 8000000 in
theorem xbc_eq : xbc m c = shapeCast S4096x768 (pad S32x128x768 ![0, 0, 0] ![0, 120, 0] ![0, 0, 0] (extractStridedSlice S32x8x768 ![0, 0, 2304] (shapeCast S32x8x7680 (projArg m c) shapeCasts_S256x7680_S32x8x7680) slices_S32x8x7680_S32x8x768_0_0_2304) zero pads_S32x8x768_S32x128x768_000_01200_000 h_S_) shapeCasts_S32x128x768_S4096x768 := by
  unfold xbc
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) _ _ = _
  simp only [List.flatten_cons, List.flatten_nil, List.append_nil, List.cons_append, List.nil_append]
  after_reads_simp
  rfl

set_option maxHeartbeats 8000000 in
theorem small_eq : small m c = shapeCast S4096x128 (pad S32x128x128 ![0, 0, 0] ![0, 120, 0] ![0, 0, 0] (extractStridedSlice S32x8x128 ![0, 0, 7168] (shapeCast S32x8x7680 (projArg m c) shapeCasts_S256x7680_S32x8x7680) slices_S32x8x7680_S32x8x128_0_0_7168) zero pads_S32x8x128_S32x128x128_000_01200_000 h_S_) shapeCasts_S32x128x128_S4096x128 := by
  unfold small
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) _ _ = _
  simp only [List.flatten_cons, List.flatten_nil, List.append_nil, List.cons_append, List.nil_append]
  after_reads_simp
  rfl

set_option maxHeartbeats 8000000 in
theorem rows_eq : rows m c = pad S32x8x768 ![0, 5, 0] ![0, 0, 0] ![0, 0, 0] (keptArg m c) zero pads_S32x3x768_S32x8x768_000_500_000 h_S_ := by
  unfold rows
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) _ _ = _
  simp only [List.flatten_cons, List.flatten_nil, List.append_nil, List.cons_append, List.nil_append]
  after_reads_simp
  rfl

set_option maxHeartbeats 8000000 in
theorem before_eq : before m c = shapeCast S32x512x128 (both (stateArg m c)) shapeCasts_S32x2x256x2x64_S32x512x128 := by
  unfold before
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) _ _ = _
  simp only [List.flatten_cons, List.flatten_nil, List.append_nil, List.cons_append, List.nil_append]
  after_reads_simp
  rfl

end Cert.Kernel5Ideal.Host

end
-- ==== Proof.SsdSpec.lean ====
/-
  One step of the state space: what a sample's new state is, of the projection's rows, the state and the rows it kept.
-/
module

public import proofs.«01_k».proof.Proof.SsdPay

@[expose] public section

noncomputable section

open Idealize.ShloMosaic Idealize.ShloMosaic.TcCoe Idealize.SL.Sem

namespace Cert.Ssd

open Cert.Kernel5Ideal Cert.Kernel5Ideal.Body

variable (x0 : S256x7680.Idx → EReal) (x1 : S32x8x64x64.Idx → EReal) (x2 : S32x3x768.Idx → EReal) (x4 : S4x768.Idx → EReal) (x5 : S768.Idx → EReal)
  (x6 x7 : S8.Idx → EReal)

/-- The projection's row of a sample's position. -/
def proj (b : Fin 32) (s : Fin 4) : Fin 256 := ⟨b.val * 8 + s.val, by omega⟩

/-- The three rows that the sample kept, then its own four. -/
def line (b : Fin 32) (j : Fin 7) (n : Fin 768) : EReal :=
  if h : j.val < 3 then x2 (ix3 b ⟨j.val, h⟩ n) else x0 (ix2 (proj b ⟨j.val - 3, by omega⟩) ⟨2304 + n.val, by omega⟩)

/-- The convolution over four positions, gated. -/
def conv (b : Fin 32) (s : Fin 4) (n : Fin 768) : EReal :=
  silu (line x0 x2 b ⟨s.val, by omega⟩ n * x4 (ix2 0 n) + line x0 x2 b ⟨1 + s.val, by omega⟩ n * x4 (ix2 1 n) + line x0 x2 b ⟨2 + s.val, by omega⟩ n * x4 (ix2 2 n)
    + line x0 x2 b ⟨3 + s.val, by omega⟩ n * x4 (ix2 3 n) + x5 (ix1 n))

/-- The step size of a head at a position, and the head's rate. -/
def size (b : Fin 32) (s : Fin 4) (h : Fin 8) : EReal := step (x0 (ix2 (proj b s) ⟨7192 + h.val, by omega⟩)) (x6 (ix1 h))
def rate (h : Fin 8) : EReal := -Ideal.exp (x7 (ix1 h))

/-- The decays summed up to a position. -/
def sums (b : Fin 32) (h : Fin 8) (s : Fin 4) : EReal := ∑ t : Fin 4, if t ≤ s then size x0 x6 b t h * rate x7 h else 0

/-- The new state. -/
def state (b : Fin 32) (h : Fin 8) (p n : Fin 64) : EReal :=
  x1 (ix4 b h p n) * Ideal.exp (sums x0 x6 x7 b h 3)
    + ∑ s : Fin 4, conv x0 x2 x4 x5 b s ⟨h.val * 64 + p.val, by omega⟩ * size x0 x6 b s h * Ideal.exp (sums x0 x6 x7 b h 3 - sums x0 x6 x7 b h s)
      * conv x0 x2 x4 x5 b s ⟨512 + (h.val / 4 * 64 + n.val), by omega⟩

end Cert.Ssd

end
-- ==== Proof.SsdRead.lean ====
/-
  What the lines before the state-space kernel left, at an index.
-/
module

public import proofs.«01_k».proof.Proof.SsdHost
public import proofs.«01_k».proof.Proof.SsdSpec

@[expose] public section

noncomputable section

open Idealize.ShloMosaic Idealize.ShloMosaic.TcCoe Idealize.SL.Sem

namespace Cert.Kernel5Ideal.Host

open Cert.Kernel5Ideal Cert.Kernel5Ideal.Gen Cert.Kernel5Ideal.Body Cert.Kernel5Ideal.Fold

variable (m : (ℓ : Loc nD τ sig) → Buf (Elt Ideal) ℓ) (c : Dev nD)

/-! ## The table that spreads the heads' lanes over their columns -/

theorem lane_word (k : Fin 512) : wrapped lanes 128#32 (ix1 k) = BitVec.ofNat 32 (24 + k.val / 64) := by
  pointwise [wrapped, lanes]
  revert k
  decide +kernel

theorem column_word (k : Fin 512) : wrapped (iotaInDim S512 32 0) 512#32 (ix1 k) = BitVec.ofNat 32 k.val := by
  pointwise [wrapped]
  revert k
  decide +kernel

theorem places_lane (k : Fin 512) : (places (ix2 k 0)).toInt = ((24 + k.val / 64 : ℕ) : ℤ) := by
  have e : places (ix2 k 0) = BitVec.ofNat 32 (24 + k.val / 64) := by
    unfold places
    refine (concatenate_pair_apply_left (s₁ := S512x1) (s₂ := S512x1) (t := S512x2) 1 _ _ _ _ rfl (ix2 k (0 : Fin 1)) (fun a => by match a with | ⟨0, _⟩ => rfl | ⟨1, _⟩ => rfl)).trans ?_
    exact (broadcastInDim_apply _ _ _ _ (ix1 k) (fun a => by match a with | ⟨0, _⟩ => rfl)).trans (lane_word k)
  rw [e]
  exact StableHlo.Predicate.toInt_ofNat_small _ (show 24 + k.val / 64 < 2 ^ 31 by omega)

theorem places_column (k : Fin 512) : (places (ix2 k 1)).toInt = ((k.val : ℕ) : ℤ) := by
  have e : places (ix2 k 1) = BitVec.ofNat 32 k.val := by
    unfold places
    refine (concatenate_pair_apply_right (s₁ := S512x1) (s₂ := S512x1) (t := S512x2) 1 _ _ _ _ rfl rfl (ix2 k (0 : Fin 1)) (fun a ha => by match a with | ⟨0, _⟩ => rfl | ⟨1, _⟩ => exact absurd rfl ha) rfl).trans ?_
    exact (broadcastInDim_apply _ _ _ _ (ix1 k) (fun a => by match a with | ⟨0, _⟩ => rfl)).trans (column_word k)
  rw [e]
  exact StableHlo.Predicate.toInt_ofNat_small _ (show k.val < 2 ^ 31 by omega)

theorem table_apply (l : Fin 128) (r : Fin 512) : table (ix2 l r) = if l.val = 24 + r.val / 64 then 1 else 0 := by
  unfold table
  by_cases h : l.val = 24 + r.val / 64
  · rw [if_pos h]
    refine Routing.scatter_set_hit _ _ _ _ _ _ (fun k _ => ?_) (ix1 r) ((table_lands _ r l r).mpr ⟨(places_lane r).trans (by rw [h]), places_column r⟩)
    obtain ⟨k, rfl⟩ : ∃ q : Fin 512, k = ix1 q := ⟨k 0, eq_ix1 k⟩
    pointwise
  · rw [if_neg h]
    refine (Routing.scatter_set_miss _ _ _ _ _ (fun k hk => ?_)).trans ?_
    · obtain ⟨k, rfl⟩ : ∃ q : Fin 512, k = ix1 q := ⟨k 0, eq_ix1 k⟩
      obtain ⟨h0, h1⟩ := (table_lands _ k l r).mp hk
      rw [places_lane] at h0
      rw [places_column] at h1
      have : k.val = r.val := by omega
      rw [this] at h0
      omega
    · pointwise

theorem spread_apply (l : Fin 128) (r : Fin 512) : spread m c (ix2 l r) = if l.val = 24 + r.val / 64 then 1 else 0 := by
  rw [spread_eq]
  exact table_apply l r

theorem gather_apply (r : Fin 512) (l : Fin 128) : gather m c (ix2 r l) = if l.val = 24 + r.val / 64 then 1 else 0 := by
  rw [gather_eq]
  exact (transpose_apply _ _ _ _ (ix2 l r) (fun a => by match a with | ⟨0, _⟩ => rfl | ⟨1, _⟩ => rfl)).trans (table_apply l r)

/-! ## The triangles -/

theorem at_most (s t : Fin 128) : IntOp.cmpi .sle (BitVec.ofNat 32 t.val) (BitVec.ofNat 32 s.val) = if t.val ≤ s.val then 1#1 else 0#1 := by
  revert s t
  decide +kernel

theorem under_apply (s t : Fin 128) : under (ix2 s t) = if t.val ≤ s.val then 1 else 0 := by
  pointwise [under]
  rw [at_most]
  by_cases h : t.val ≤ s.val
  · rw [if_pos h, if_pos h]
    show (((1#1 : BitVec 1).toNat : ℝ) : EReal) = 1
    simp
  · rw [if_neg h, if_neg h]
    show (((0#1 : BitVec 1).toNat : ℝ) : EReal) = 0
    simp

theorem lower_apply (s t : Fin 128) : lower m c (ix2 s t) = if t.val ≤ s.val then 1 else 0 := by
  rw [lower_eq]
  exact under_apply s t

theorem upper_apply (t s : Fin 128) : upper m c (ix2 t s) = if t.val ≤ s.val then 1 else 0 := by
  rw [upper_eq]
  exact (transpose_apply _ _ _ _ (ix2 s t) (fun a => by match a with | ⟨0, _⟩ => rfl | ⟨1, _⟩ => rfl)).trans (under_apply s t)

/-! ## The heads' numbers -/

theorem pair_left (a b : BitVec 32) : pair a b (ix1 0) = a := by
  unfold pair
  refine (concatenate_pair_apply_left (s₁ := S1) (s₂ := S1) (t := S2) 0 _ _ _ _ rfl (ix1 (0 : Fin 1)) (fun a => by match a with | ⟨0, _⟩ => rfl)).trans ?_
  rfl

theorem pair_right (a b : BitVec 32) : pair a b (ix1 1) = b := by
  unfold pair
  refine (concatenate_pair_apply_right (s₁ := S1) (s₂ := S1) (t := S2) 0 _ _ _ _ rfl rfl (ix1 (0 : Fin 1)) (fun a ha => by match a with | ⟨0, _⟩ => exact absurd rfl ha) rfl).trans ?_
  rfl

theorem inLanes_apply (u : FVec Ideal S8 .f32) (h : Fin 8) (l : Fin 128) (hl : l.val = 24 + h.val) : inLanes u (ix2 0 l) = u (ix1 h) := by
  unfold inLanes
  refine Routing.scatter_set_hit _ _ _ _ _ _ (fun k hk => ?_) (ix1 h) ((lane_lands _ h l).mpr ⟨by rw [pair_left]; rfl, by rw [pair_right, hl]; show (24 : ℤ) + _ = _; omega⟩)
  obtain ⟨k, rfl⟩ : ∃ q : Fin 8, k = ix1 q := ⟨k 0, eq_ix1 k⟩
  have h1 := ((lane_lands _ k l).mp hk).2
  rw [pair_right, hl] at h1
  have h1' : (24 : ℤ) + (k.val : ℤ) = ((24 + h.val : ℕ) : ℤ) := h1
  exact congrArg (fun q => u (ix1 q)) (Fin.ext (by omega))

theorem dtBias_apply (h : Fin 8) (l : Fin 128) (hl : l.val = 24 + h.val) : dtBias m c (ix2 0 l) = dtBiasArg m c (ix1 h) := by
  rw [dtBias_eq]
  exact inLanes_apply _ h l hl

theorem rate_apply (h : Fin 8) (l : Fin 128) (hl : l.val = 24 + h.val) : rate m c (ix2 0 l) = Ssd.rate (logArg m c) h := by
  rw [rate_eq]
  exact inLanes_apply _ h l hl

theorem bias_apply (n : Fin 768) : bias m c (ix2 0 n) = biasArg m c (ix1 n) := by
  rw [bias_eq]
  pointwise

/-! ## The rows -/

theorem xbc_apply (b : Fin 32) (s : Fin 4) (p : Fin 4096) (hp : p.val = b.val * 128 + s.val) (n : Fin 768) :
    xbc m c (ix2 p n) = projArg m c (ix2 (Ssd.proj b s) ⟨2304 + n.val, by omega⟩) := by
  rw [xbc_eq]
  refine (shapeCast_apply _ _ _ (ix3 b (⟨s.val, by omega⟩ : Fin 128) n) ?_).trans ?_
  · rw [Shape.rowMajor_val_three, Shape.rowMajor_val_two]
    show (b.val * 128 + s.val) * 768 + n.val = p.val * 768 + n.val
    rw [hp]
  refine (pad_apply_of_inside _ _ _ _ _ _ _ _ (ix3 b (⟨s.val, by omega⟩ : Fin 8) n) (fun a => by match a with | ⟨0, _⟩ => (show _ = 0 + _ * (0 + 1); rw [Nat.mul_one, Nat.zero_add]; rfl) | ⟨1, _⟩ => (show _ = 0 + _ * (0 + 1); rw [Nat.mul_one, Nat.zero_add]; rfl) | ⟨2, _⟩ => (show _ = 0 + _ * (0 + 1); rw [Nat.mul_one, Nat.zero_add]; rfl))).trans ?_
  refine (extractStridedSlice_apply _ _ _ _ (ix3 b (⟨s.val, by omega⟩ : Fin 8) (⟨2304 + n.val, by omega⟩ : Fin 7680)) (fun a => by match a with | ⟨0, _⟩ => exact (Nat.zero_add _).symm | ⟨1, _⟩ => exact (Nat.zero_add _).symm | ⟨2, _⟩ => rfl)).trans ?_
  refine shapeCast_apply _ _ _ _ ?_
  rw [Shape.rowMajor_val_three, Shape.rowMajor_val_two]
  rfl

theorem small_apply (b : Fin 32) (s : Fin 4) (p : Fin 4096) (hp : p.val = b.val * 128 + s.val) (l : Fin 128) :
    small m c (ix2 p l) = projArg m c (ix2 (Ssd.proj b s) ⟨7168 + l.val, by omega⟩) := by
  rw [small_eq]
  refine (shapeCast_apply _ _ _ (ix3 b (⟨s.val, by omega⟩ : Fin 128) l) ?_).trans ?_
  · rw [Shape.rowMajor_val_three, Shape.rowMajor_val_two]
    show (b.val * 128 + s.val) * 128 + l.val = p.val * 128 + l.val
    rw [hp]
  refine (pad_apply_of_inside _ _ _ _ _ _ _ _ (ix3 b (⟨s.val, by omega⟩ : Fin 8) l) (fun a => by match a with | ⟨0, _⟩ => (show _ = 0 + _ * (0 + 1); rw [Nat.mul_one, Nat.zero_add]; rfl) | ⟨1, _⟩ => (show _ = 0 + _ * (0 + 1); rw [Nat.mul_one, Nat.zero_add]; rfl) | ⟨2, _⟩ => (show _ = 0 + _ * (0 + 1); rw [Nat.mul_one, Nat.zero_add]; rfl))).trans ?_
  refine (extractStridedSlice_apply _ _ _ _ (ix3 b (⟨s.val, by omega⟩ : Fin 8) (⟨7168 + l.val, by omega⟩ : Fin 7680)) (fun a => by match a with | ⟨0, _⟩ => exact (Nat.zero_add _).symm | ⟨1, _⟩ => exact (Nat.zero_add _).symm | ⟨2, _⟩ => rfl)).trans ?_
  refine shapeCast_apply _ _ _ _ ?_
  rw [Shape.rowMajor_val_three, Shape.rowMajor_val_two]
  rfl

theorem rows_apply (b : Fin 32) (k : Fin 3) (j : Fin 8) (hj : j.val = 5 + k.val) (n : Fin 768) : rows m c (ix3 b j n) = keptArg m c (ix3 b k n) := by
  rw [rows_eq]
  exact pad_apply_of_inside _ _ _ _ _ _ _ _ (ix3 b k n) (fun a => by match a with | ⟨0, _⟩ => (show _ = 0 + _ * (0 + 1); rw [Nat.mul_one, Nat.zero_add]; rfl) | ⟨1, _⟩ => (show j.val = 5 + k.val * (0 + 1); omega) | ⟨2, _⟩ => (show _ = 0 + _ * (0 + 1); rw [Nat.mul_one, Nat.zero_add]; rfl))

/-! ## The states -/

theorem half0_apply (x : FVec Ideal S32x8x64x64 .f32) (b : Fin 32) (k : Fin 256) (n : Fin 64) :
    half0 x (ix3 b k n) = x (ix4 b ⟨k.val / 64, by omega⟩ ⟨k.val % 64, by omega⟩ n) := by
  unfold half0
  refine (shapeCast_apply _ _ _ (ix4 b (0 : Fin 1) k n) ?_).trans ?_
  · rw [Shape.rowMajor_val_three, Shape.rowMajor_val_four]
    show ((b.val * 1 + 0) * 256 + k.val) * 64 + n.val = (b.val * 256 + k.val) * 64 + n.val
    omega
  refine (extractStridedSlice_apply _ _ _ _ (ix4 b (0 : Fin 2) k n) (fun a => by match a with | ⟨0, _⟩ => exact (Nat.zero_add _).symm | ⟨1, _⟩ => rfl | ⟨2, _⟩ => exact (Nat.zero_add _).symm | ⟨3, _⟩ => exact (Nat.zero_add _).symm)).trans ?_
  refine shapeCast_apply _ _ _ _ ?_
  rw [Shape.rowMajor_val_four, Shape.rowMajor_val_four]
  show ((b.val * 8 + k.val / 64) * 64 + k.val % 64) * 64 + n.val = ((b.val * 2 + 0) * 256 + k.val) * 64 + n.val
  omega

theorem half1_apply (x : FVec Ideal S32x8x64x64 .f32) (b : Fin 32) (k : Fin 256) (n : Fin 64) :
    half1 x (ix3 b k n) = x (ix4 b ⟨4 + k.val / 64, by omega⟩ ⟨k.val % 64, by omega⟩ n) := by
  unfold half1
  refine (shapeCast_apply _ _ _ (ix4 b (0 : Fin 1) k n) ?_).trans ?_
  · rw [Shape.rowMajor_val_three, Shape.rowMajor_val_four]
    show ((b.val * 1 + 0) * 256 + k.val) * 64 + n.val = (b.val * 256 + k.val) * 64 + n.val
    omega
  refine (extractStridedSlice_apply _ _ _ _ (ix4 b (1 : Fin 2) k n) (fun a => by match a with | ⟨0, _⟩ => exact (Nat.zero_add _).symm | ⟨1, _⟩ => rfl | ⟨2, _⟩ => exact (Nat.zero_add _).symm | ⟨3, _⟩ => exact (Nat.zero_add _).symm)).trans ?_
  refine shapeCast_apply _ _ _ _ ?_
  rw [Shape.rowMajor_val_four, Shape.rowMajor_val_four]
  show ((b.val * 8 + (4 + k.val / 64)) * 64 + k.val % 64) * 64 + n.val = ((b.val * 2 + 1) * 256 + k.val) * 64 + n.val
  omega

theorem first_apply (x : FVec Ideal S32x8x64x64 .f32) (b : Fin 32) (k : Fin 256) (n : Fin 64) : first x (ix5 b 0 k 0 n) = half0 x (ix3 b k n) := by
  unfold first
  refine Routing.scatter_set_hit _ _ _ _ _ _ (fun q hq => ?_) (ix3 b k n) ((state_lands _ b k n b 0 k 0 n).mpr ⟨rfl, by rw [pair_left]; rfl, rfl, by rw [pair_right]; rfl, rfl⟩)
  obtain ⟨b', k', n', rfl⟩ : ∃ (b' : Fin 32) (k' : Fin 256) (n' : Fin 64), q = ix3 b' k' n' := ⟨q 0, q 1, q 2, eq_ix3 q⟩
  obtain ⟨rfl, -, rfl, -, rfl⟩ := (state_lands _ b' k' n' b 0 k 0 n).mp hq
  rfl

theorem both_second (x : FVec Ideal S32x8x64x64 .f32) (b : Fin 32) (k : Fin 256) (n : Fin 64) : both x (ix5 b 1 k 1 n) = half1 x (ix3 b k n) := by
  unfold both
  refine Routing.scatter_set_hit _ _ _ _ _ _ (fun q hq => ?_) (ix3 b k n) ((state_lands _ b k n b 1 k 1 n).mpr ⟨rfl, by rw [pair_left]; rfl, rfl, by rw [pair_right]; rfl, rfl⟩)
  obtain ⟨b', k', n', rfl⟩ : ∃ (b' : Fin 32) (k' : Fin 256) (n' : Fin 64), q = ix3 b' k' n' := ⟨q 0, q 1, q 2, eq_ix3 q⟩
  obtain ⟨rfl, -, rfl, -, rfl⟩ := (state_lands _ b' k' n' b 1 k 1 n).mp hq
  rfl

theorem both_first (x : FVec Ideal S32x8x64x64 .f32) (b : Fin 32) (k : Fin 256) (n : Fin 64) : both x (ix5 b 0 k 0 n) = half0 x (ix3 b k n) := by
  unfold both
  refine (Routing.scatter_set_miss _ _ _ _ _ (fun q hq => ?_)).trans (first_apply x b k n)
  obtain ⟨b', k', n', rfl⟩ : ∃ (b' : Fin 32) (k' : Fin 256) (n' : Fin 64), q = ix3 b' k' n' := ⟨q 0, q 1, q 2, eq_ix3 q⟩
  have h := ((state_lands _ b' k' n' b 0 k 0 n).mp hq).2.1
  rw [pair_left] at h
  exact absurd h (by decide)

theorem before_apply (b : Fin 32) (h : Fin 8) (p n : Fin 64) (r : Fin 512) (l : Fin 128) (hr : r.val = h.val * 64 + p.val) (hl : l.val = h.val / 4 * 64 + n.val) :
    before m c (ix3 b r l) = stateArg m c (ix4 b h p n) := by
  rw [before_eq]
  refine (shapeCast_apply _ _ _ (ix5 b (⟨h.val / 4, by omega⟩ : Fin 2) (⟨h.val % 4 * 64 + p.val, by omega⟩ : Fin 256) (⟨h.val / 4, by omega⟩ : Fin 2) n) ?_).trans ?_
  · rw [Shape.rowMajor_val_three, Shape.rowMajor_val_five]
    show (((b.val * 2 + h.val / 4) * 256 + (h.val % 4 * 64 + p.val)) * 2 + h.val / 4) * 64 + n.val = (b.val * 512 + r.val) * 128 + l.val
    rw [hr, hl]
    omega
  by_cases hh : h.val < 4
  · have e : (⟨h.val / 4, by omega⟩ : Fin 2) = 0 := Fin.ext (by show h.val / 4 = 0; omega)
    rw [e, both_first, half0_apply]
    exact congrArg₂ (fun q w => stateArg m c (ix4 b q w n)) (Fin.ext (by show (h.val % 4 * 64 + p.val) / 64 = h.val; omega)) (Fin.ext (by show (h.val % 4 * 64 + p.val) % 64 = p.val; omega))
  · have e : (⟨h.val / 4, by omega⟩ : Fin 2) = 1 := Fin.ext (by show h.val / 4 = 1; omega)
    rw [e, both_second, half1_apply]
    exact congrArg₂ (fun q w => stateArg m c (ix4 b q w n)) (Fin.ext (by show 4 + (h.val % 4 * 64 + p.val) / 64 = h.val; omega)) (Fin.ext (by show (h.val % 4 * 64 + p.val) % 64 = p.val; omega))

end Cert.Kernel5Ideal.Host

end
-- ==== Proof.SsdTail.lean ====
/-
  The host lines after the state-space kernel: each group's heads take their own group's lanes of the states.
-/
module

public import proofs.«01_k».proof.Proof.SsdHost

@[expose] public section

noncomputable section

open Idealize.ShloMosaic Idealize.ShloMosaic.TcCoe Idealize.SL.Sem

namespace Cert.Kernel5Ideal.Tail

open Cert.Kernel5Ideal Cert.Kernel5Ideal.Gen Cert.Kernel5Ideal.Fold

def group0 (o : FVec Ideal S32x512x128 .f32) : FVec Ideal S32x1x256x64 .f32 :=
  broadcastInDim S32x1x256x64 ![0, 2, 3] bcast_S32x256x64_S32x1x256x64_0_2_3 (shapeCast S32x256x64 (extractStridedSlice S32x1x256x1x64 ![0, 0, 0, 0, 0]
    (shapeCast S32x2x256x2x64 o shapeCasts_S32x512x128_S32x2x256x2x64) slices_S32x2x256x2x64_S32x1x256x1x64_0_0_0_0_0) shapeCasts_S32x1x256x1x64_S32x256x64)

def group1 (o : FVec Ideal S32x512x128 .f32) : FVec Ideal S32x1x256x64 .f32 :=
  broadcastInDim S32x1x256x64 ![0, 2, 3] bcast_S32x256x64_S32x1x256x64_0_2_3 (shapeCast S32x256x64 (extractStridedSlice S32x1x256x1x64 ![0, 1, 0, 1, 0]
    (shapeCast S32x2x256x2x64 o shapeCasts_S32x512x128_S32x2x256x2x64) slices_S32x2x256x2x64_S32x1x256x1x64_0_1_0_1_0) shapeCasts_S32x1x256x1x64_S32x256x64)

def newState (o : FVec Ideal S32x512x128 .f32) : FVec Ideal S32x8x64x64 .f32 :=
  shapeCast S32x8x64x64 (concatenate S32x2x256x64 1 [⟨S32x1x256x64, group0 o⟩, ⟨S32x1x256x64, group1 o⟩] concatenates_S32x1x256x64_S32x1x256x64_S32x2x256x64_d1) shapeCasts_S32x2x256x64_S32x8x64x64

variable (U : Valuation τ sig (Elt Ideal))

set_option maxHeartbeats 4000000 in
theorem after_state : StableHlo.after (List.flatten [hostOps1]) U (Proc.devRef .tc main_v94) = newState (U (Proc.devRef .tc main_v85_2)) := by
  simp only [List.flatten_cons, List.flatten_nil, List.append_nil, List.cons_append, List.nil_append]
  after_reads_simp
  rfl

theorem group0_apply (o : FVec Ideal S32x512x128 .f32) (b : Fin 32) (k : Fin 256) (n : Fin 64) :
    group0 o (ix4 b 0 k n) = o (ix3 b ⟨k.val, by omega⟩ ⟨n.val, by omega⟩) := by
  unfold group0
  refine (broadcastInDim_apply _ _ _ _ (ix3 b k n) (fun a => by match a with | ⟨0, _⟩ => rfl | ⟨1, _⟩ => rfl | ⟨2, _⟩ => rfl)).trans ?_
  refine (shapeCast_apply _ _ _ (ix5 b (0 : Fin 1) k (0 : Fin 1) n) ?_).trans ?_
  · rw [Shape.rowMajor_val_three, Shape.rowMajor_val_five]
    show (((b.val * 1 + 0) * 256 + k.val) * 1 + 0) * 64 + n.val = (b.val * 256 + k.val) * 64 + n.val
    omega
  refine (extractStridedSlice_apply _ _ _ _ (ix5 b (0 : Fin 2) k (0 : Fin 2) n) (fun a => by match a with | ⟨0, _⟩ => exact (Nat.zero_add _).symm | ⟨1, _⟩ => rfl | ⟨2, _⟩ => exact (Nat.zero_add _).symm | ⟨3, _⟩ => rfl | ⟨4, _⟩ => exact (Nat.zero_add _).symm)).trans ?_
  refine shapeCast_apply _ _ _ _ ?_
  rw [Shape.rowMajor_val_three, Shape.rowMajor_val_five]
  show (b.val * 512 + k.val) * 128 + n.val = (((b.val * 2 + 0) * 256 + k.val) * 2 + 0) * 64 + n.val
  omega

theorem group1_apply (o : FVec Ideal S32x512x128 .f32) (b : Fin 32) (k : Fin 256) (n : Fin 64) :
    group1 o (ix4 b 0 k n) = o (ix3 b ⟨256 + k.val, by omega⟩ ⟨64 + n.val, by omega⟩) := by
  unfold group1
  refine (broadcastInDim_apply _ _ _ _ (ix3 b k n) (fun a => by match a with | ⟨0, _⟩ => rfl | ⟨1, _⟩ => rfl | ⟨2, _⟩ => rfl)).trans ?_
  refine (shapeCast_apply _ _ _ (ix5 b (0 : Fin 1) k (0 : Fin 1) n) ?_).trans ?_
  · rw [Shape.rowMajor_val_three, Shape.rowMajor_val_five]
    show (((b.val * 1 + 0) * 256 + k.val) * 1 + 0) * 64 + n.val = (b.val * 256 + k.val) * 64 + n.val
    omega
  refine (extractStridedSlice_apply _ _ _ _ (ix5 b (1 : Fin 2) k (1 : Fin 2) n) (fun a => by match a with | ⟨0, _⟩ => exact (Nat.zero_add _).symm | ⟨1, _⟩ => rfl | ⟨2, _⟩ => exact (Nat.zero_add _).symm | ⟨3, _⟩ => rfl | ⟨4, _⟩ => exact (Nat.zero_add _).symm)).trans ?_
  refine shapeCast_apply _ _ _ _ ?_
  rw [Shape.rowMajor_val_three, Shape.rowMajor_val_five]
  show (b.val * 512 + (256 + k.val)) * 128 + (64 + n.val) = (((b.val * 2 + 1) * 256 + k.val) * 2 + 1) * 64 + n.val
  omega

theorem newState_apply (o : FVec Ideal S32x512x128 .f32) (b : Fin 32) (h : Fin 8) (p n : Fin 64) :
    newState o (ix4 b h p n) = o (ix3 b ⟨h.val * 64 + p.val, by omega⟩ ⟨h.val / 4 * 64 + n.val, by omega⟩) := by
  unfold newState
  refine (shapeCast_apply _ _ _ (ix4 b (⟨h.val / 4, by omega⟩ : Fin 2) (⟨h.val % 4 * 64 + p.val, by omega⟩ : Fin 256) n) ?_).trans ?_
  · rw [Shape.rowMajor_val_four, Shape.rowMajor_val_four]
    show ((b.val * 2 + h.val / 4) * 256 + (h.val % 4 * 64 + p.val)) * 64 + n.val = ((b.val * 8 + h.val) * 64 + p.val) * 64 + n.val
    omega
  by_cases hh : h.val < 4
  · refine (concatenate_pair_apply_left (s₁ := S32x1x256x64) (s₂ := S32x1x256x64) (t := S32x2x256x64) 1 _ _ _ _ rfl (ix4 b (0 : Fin 1) (⟨h.val % 4 * 64 + p.val, by omega⟩ : Fin 256) n)
      (fun a => by match a with | ⟨0, _⟩ => rfl | ⟨1, _⟩ => (show 0 = h.val / 4; omega) | ⟨2, _⟩ => rfl | ⟨3, _⟩ => rfl)).trans ?_
    refine (group0_apply o b _ n).trans ?_
    exact congrArg₂ (fun q w => o (ix3 b q w)) (Fin.ext (by show h.val % 4 * 64 + p.val = h.val * 64 + p.val; omega)) (Fin.ext (by show n.val = h.val / 4 * 64 + n.val; omega))
  · refine (concatenate_pair_apply_right (s₁ := S32x1x256x64) (s₂ := S32x1x256x64) (t := S32x2x256x64) 1 _ _ _ _ rfl rfl (ix4 b (0 : Fin 1) (⟨h.val % 4 * 64 + p.val, by omega⟩ : Fin 256) n)
      (fun a ha => by match a with | ⟨0, _⟩ => rfl | ⟨1, _⟩ => exact absurd rfl ha | ⟨2, _⟩ => rfl | ⟨3, _⟩ => rfl) (by show 0 + 1 = h.val / 4; omega)).trans ?_
    refine (group1_apply o b _ n).trans ?_
    exact congrArg₂ (fun q w => o (ix3 b q w)) (Fin.ext (by show 256 + (h.val % 4 * 64 + p.val) = h.val * 64 + p.val; omega)) (Fin.ext (by show 64 + n.val = h.val / 4 * 64 + n.val; omega))

end Cert.Kernel5Ideal.Tail

end
-- ==== Proof.SsdRef.lean ====
/-
  The state-space reference read at an index: its result is one step of the state space.
-/
module

public import proofs.«01_k».proof.Proof.SsdSpec
public import proofs.«01_k».proof.Proof.Gen.Reference5Ideal.Run
public import proofs.«01_k».proof.Proof.Gen.Reference5Ideal.Read
public import Idealize.ShloMosaic.Lib.ValueIdxRank6

@[expose] public section

noncomputable section

open Idealize.ShloMosaic Idealize.ShloMosaic.TcCoe Idealize.SL.Sem

namespace Cert.Reference5Ideal.Scan

open Cert.Reference5Ideal Cert.Reference5Ideal.Gen Cert.Reference5Ideal.Read
open Cert.Kernel5Ideal.Body (silu step)

variable (x0 : FVec Ideal S256x7680 .f32) (x1 : FVec Ideal S32x8x64x64 .f32) (x2 : FVec Ideal S32x3x768 .f32) (x4 : FVec Ideal S4x768 .f32) (x5 : FVec Ideal S768 .f32)
  (x6 x7 : FVec Ideal S8 .f32)

/-! ## The convolution -/

theorem own_rows (b : Fin 32) (s : Fin 4) (n : Fin 768) : val_main_v2 (F := Ideal) x0 (ix3 b s n) = x0 (ix2 (Ssd.proj b s) ⟨2304 + n.val, by omega⟩) := by
  unfold val_main_v2 val_main_v1 val_main_v0
  refine (extractStridedSlice_apply _ _ _ _ (ix3 b (⟨s.val, by omega⟩ : Fin 8) n) (fun a => by match a with | ⟨0, _⟩ => exact (Nat.zero_add _).symm | ⟨1, _⟩ => exact (Nat.zero_add _).symm | ⟨2, _⟩ => exact (Nat.zero_add _).symm)).trans ?_
  refine (shapeCast_apply _ _ _ (ix2 (Ssd.proj b s) n) ?_).trans ?_
  · rw [Shape.rowMajor_val_three, Shape.rowMajor_val_two]
    rfl
  exact extractStridedSlice_apply _ _ _ _ _ (fun a => by match a with | ⟨0, _⟩ => exact (Nat.zero_add _).symm | ⟨1, _⟩ => rfl)

theorem line_ref (b : Fin 32) (j : Fin 7) (n : Fin 768) : val_main_v6 (F := Ideal) x0 x2 (ix3 b j n) = Ssd.line x0 x2 b j n := by
  unfold val_main_v6 Ssd.line
  by_cases h : j.val < 3
  · rw [dif_pos h]
    exact concatenate_pair_apply_left (s₁ := S32x3x768) (s₂ := S32x4x768) (t := S32x7x768) 1 _ _ _ _ rfl (ix3 b (⟨j.val, h⟩ : Fin 3) n) (fun a => by match a with | ⟨0, _⟩ => rfl | ⟨1, _⟩ => rfl | ⟨2, _⟩ => rfl)
  · rw [dif_neg h]
    refine (concatenate_pair_apply_right (s₁ := S32x3x768) (s₂ := S32x4x768) (t := S32x7x768) 1 _ _ _ _ rfl rfl (ix3 b (⟨j.val - 3, by omega⟩ : Fin 4) n)
      (fun a ha => by match a with | ⟨0, _⟩ => rfl | ⟨1, _⟩ => exact absurd rfl ha | ⟨2, _⟩ => rfl) (by show j.val - 3 + 3 = j.val; omega)).trans ?_
    exact own_rows x0 b _ n

theorem summed_ref (b : Fin 32) (s : Fin 4) (n : Fin 768) : val_main_v36 (F := Ideal) x0 x2 x4 x5 (ix3 b s n)
    = Ssd.line x0 x2 b ⟨s.val, by omega⟩ n * x4 (ix2 0 n) + Ssd.line x0 x2 b ⟨1 + s.val, by omega⟩ n * x4 (ix2 1 n) + Ssd.line x0 x2 b ⟨2 + s.val, by omega⟩ n * x4 (ix2 2 n)
      + Ssd.line x0 x2 b ⟨3 + s.val, by omega⟩ n * x4 (ix2 3 n) + x5 (ix1 n) := by
  simp only [← line_ref]
  unfold val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7
  generalize val_main_v6 (F := Ideal) x0 x2 = y
  pointwise

theorem conv_ref (b : Fin 32) (s : Fin 4) (n : Fin 768) : val_main_v38 (F := Ideal) x0 x2 x4 x5 (ix3 b s n) = Ssd.conv x0 x2 x4 x5 b s n := by
  unfold Ssd.conv silu
  rw [← summed_ref x0 x2 x4 x5 b s n]
  unfold val_main_v38 val_main_call0_v5 val_main_call0_v4 val_main_call0_v3 val_main_call0_v2 val_main_call0_v1 val_main_call0_v0
  generalize val_main_v36 (F := Ideal) x0 x2 x4 x5 = y
  pointwise [val_main_call0_cst, val_main_call0_cst_0]
  rfl

/-! ## The step sizes and the decays -/

theorem biased_ref (b : Fin 32) (s : Fin 4) (h : Fin 8) : val_main_v48 (F := Ideal) x0 x6 (ix3 b s h) = x0 (ix2 (Ssd.proj b s) ⟨7192 + h.val, by omega⟩) + x6 (ix1 h) := by
  have e : val_main_v5 (F := Ideal) x0 (ix3 b s h) = x0 (ix2 (Ssd.proj b s) ⟨7192 + h.val, by omega⟩) := by
    unfold val_main_v5 val_main_v4 val_main_v3
    refine (extractStridedSlice_apply _ _ _ _ (ix3 b (⟨s.val, by omega⟩ : Fin 8) h) (fun a => by match a with | ⟨0, _⟩ => exact (Nat.zero_add _).symm | ⟨1, _⟩ => exact (Nat.zero_add _).symm | ⟨2, _⟩ => exact (Nat.zero_add _).symm)).trans ?_
    refine (shapeCast_apply _ _ _ (ix2 (Ssd.proj b s) h) ?_).trans ?_
    · rw [Shape.rowMajor_val_three, Shape.rowMajor_val_two]
      rfl
    exact extractStridedSlice_apply _ _ _ _ _ (fun a => by match a with | ⟨0, _⟩ => exact (Nat.zero_add _).symm | ⟨1, _⟩ => rfl)
  rw [← e]
  unfold val_main_v48 val_main_v47 val_main_v46
  generalize val_main_v5 (F := Ideal) x0 = y
  pointwise

theorem size_ref (b : Fin 32) (s : Fin 4) (h : Fin 8) : val_main_v49 (F := Ideal) x0 x6 (ix3 b s h) = Ssd.size x0 x6 b s h := by
  unfold Ssd.size step
  rw [← biased_ref x0 x6 b s h]
  unfold val_main_v49 val_main_call1_v11 val_main_call1_v10 val_main_call1_v9 val_main_call1_v8 val_main_call1_v7 val_main_call1_v6 val_main_call1_v5 val_main_call1_v4 val_main_call1_v3 val_main_call1_v2 val_main_call1_v1 val_main_call1_v0
  generalize val_main_v48 (F := Ideal) x0 x6 = y
  pointwise [val_main_call1_cst]
  rw [if_neg (fun hne => hne rfl), zero_sub]

theorem decay_ref (b : Fin 32) (s : Fin 4) (h : Fin 8) : val_main_v55 (F := Ideal) x0 x6 x7 (ix4 b 0 s h) = Ssd.size x0 x6 b s h * Ssd.rate x7 h := by
  rw [← size_ref x0 x6 b s h]
  unfold val_main_v55 val_main_v54 val_main_v53 val_main_v52 val_main_v51 val_main_v50 Ssd.rate
  generalize val_main_v49 (F := Ideal) x0 x6 = y
  pointwise

/-- A fold of additions over four positions. -/
theorem fold_four {N : ℕ} (hN : N = 4) (F : EReal → Fin N → EReal) (g : Fin N → EReal) (hF : ∀ r n, F r n = r + g n) :
    List.foldl F 0 (List.finRange N) = ∑ n : Fin 4, g (n.cast hN.symm) := by
  subst hN
  rw [show F = fun r n => r + g n from funext fun r => funext fun n => hF r n, Fin.sum_univ_four]
  show 0 + g 0 + g 1 + g 2 + g 3 = _
  rw [zero_add]
  rfl

/-- The term that position `n` of the window adds. -/
def windowTerm (y : FVec Ideal S32x1x4x8 .f32) (b : Fin 32) (s : Fin 4) (h : Fin 8) (n : ℕ) : EReal :=
  if hh : 3 ≤ s.val + n ∧ n < 4 then y (ix4 b 0 ⟨s.val + n - 3, by omega⟩ h) else 0

/-- The window of a running sum over four positions. -/
theorem window_sum (y : FVec Ideal S32x1x4x8 .f32) (b : Fin 32) (s : Fin 4) (h : Fin 8) :
    Host.reduceWindowAdd ![1, 1, 4, 1] ![1, 1, 1, 1] ![0, 0, 3, 0] ![0, 0, 0, 0] y (val_main_call2_call0_v0 (F := Ideal))
      reduceWindows_S32x1x4x8_S32x1x4x8_w1s1p0_0_w1s1p0_0_w4s1p3_0_w1s1p0_0 h_S_ (ix4 b 0 s h) = ∑ t : Fin 4, if t ≤ s then y (ix4 b 0 t h) else 0 := by
  have hz : val_main_call2_call0_v0 (F := Ideal) (Shape.Idx.first h_S_) = 0 := by
    exact Ideal.ofBits_zero_f32
  show Host.reduceWindow (· + ·) ![1, 1, 4, 1] ![1, 1, 1, 1] ![0, 0, 3, 0] ![0, 0, 0, 0] y (fun _ : S_.Idx => val_main_call2_call0_v0 (F := Ideal) (Shape.Idx.first h_S_))
    reduceWindows_S32x1x4x8_S32x1x4x8_w1s1p0_0_w1s1p0_0_w4s1p3_0_w1s1p0_0 h_S_ (ix4 b 0 s h) = _
  rw [hz]
  have w : ∀ n : Fin (⟨4, ![1, 1, 4, 1]⟩ : Shape).numel, ((⟨4, ![1, 1, 4, 1]⟩ : Shape).rowMajor.symm n 0).val = 0 ∧ ((⟨4, ![1, 1, 4, 1]⟩ : Shape).rowMajor.symm n 1).val = 0
      ∧ ((⟨4, ![1, 1, 4, 1]⟩ : Shape).rowMajor.symm n 2).val = n.val ∧ ((⟨4, ![1, 1, 4, 1]⟩ : Shape).rowMajor.symm n 3).val = 0 := by decide +kernel
  unfold Host.reduceWindow
  refine (fold_four (N := (⟨4, ![1, 1, 4, 1]⟩ : Shape).numel) (by decide) _ (fun n => windowTerm y b s h n.val) (fun r n => ?_)).trans ?_
  · obtain ⟨w0, w1, w2, w3⟩ := w n
    have hn : n.val < 4 := n.isLt
    refine congrArg (fun q : EReal => r + q) ?_
    by_cases hh : 3 ≤ s.val + n.val
    · unfold windowTerm
      rw [dif_pos (And.intro hh hn)]
      refine (dif_pos (fun a => ?_)).trans ?_
      · match a with
        | ⟨0, _⟩ => show 0 ≤ b.val * 1 + ((⟨4, ![1, 1, 4, 1]⟩ : Shape).rowMajor.symm n 0).val ∧ b.val * 1 + ((⟨4, ![1, 1, 4, 1]⟩ : Shape).rowMajor.symm n 0).val - 0 < 32; rw [w0]; omega
        | ⟨1, _⟩ => show 0 ≤ 0 * 1 + ((⟨4, ![1, 1, 4, 1]⟩ : Shape).rowMajor.symm n 1).val ∧ 0 * 1 + ((⟨4, ![1, 1, 4, 1]⟩ : Shape).rowMajor.symm n 1).val - 0 < 1; rw [w1]; omega
        | ⟨2, _⟩ => show 3 ≤ s.val * 1 + ((⟨4, ![1, 1, 4, 1]⟩ : Shape).rowMajor.symm n 2).val ∧ s.val * 1 + ((⟨4, ![1, 1, 4, 1]⟩ : Shape).rowMajor.symm n 2).val - 3 < 4; rw [w2]; omega
        | ⟨3, _⟩ => show 0 ≤ h.val * 1 + ((⟨4, ![1, 1, 4, 1]⟩ : Shape).rowMajor.symm n 3).val ∧ h.val * 1 + ((⟨4, ![1, 1, 4, 1]⟩ : Shape).rowMajor.symm n 3).val - 0 < 8; rw [w3]; omega
      refine congrArg y (funext fun a => Fin.ext ?_)
      match a with
      | ⟨0, _⟩ => show b.val * 1 + ((⟨4, ![1, 1, 4, 1]⟩ : Shape).rowMajor.symm n 0).val - 0 = b.val; rw [w0]; omega
      | ⟨1, _⟩ => show 0 * 1 + ((⟨4, ![1, 1, 4, 1]⟩ : Shape).rowMajor.symm n 1).val - 0 = 0; rw [w1]
      | ⟨2, _⟩ => show s.val * 1 + ((⟨4, ![1, 1, 4, 1]⟩ : Shape).rowMajor.symm n 2).val - 3 = s.val + n.val - 3; rw [w2]; omega
      | ⟨3, _⟩ => show h.val * 1 + ((⟨4, ![1, 1, 4, 1]⟩ : Shape).rowMajor.symm n 3).val - 0 = h.val; rw [w3]; omega
    · have e0 : windowTerm y b s h n.val = 0 := dif_neg (fun e => hh e.1)
      refine Eq.trans (dif_neg (fun hin => hh ?_)) e0.symm
      have h2 : 3 ≤ s.val * 1 + ((⟨4, ![1, 1, 4, 1]⟩ : Shape).rowMajor.symm n 2).val := (hin 2).1
      rw [w2] at h2
      omega
  show ∑ n : Fin 4, windowTerm y b s h n.val = _
  rw [Fin.sum_univ_four, Fin.sum_univ_four]
  fin_cases s <;> simp [windowTerm]

theorem sums_ref (b : Fin 32) (s : Fin 4) (h : Fin 8) : val_main_v56 (F := Ideal) x0 x6 x7 (ix4 b 0 s h) = Ssd.sums x0 x6 x7 b h s := by
  unfold val_main_v56 Ssd.sums
  refine (window_sum _ b s h).trans (Finset.sum_congr rfl fun t _ => ?_)
  rw [decay_ref]

/-! ## The new state -/

theorem inputs_ref (b : Fin 32) (s : Fin 4) (h : Fin 8) (n : Fin 64) :
    val_main_v45 (F := Ideal) x0 x2 x4 x5 (ix5 b 0 s h n) = Ssd.conv x0 x2 x4 x5 b s ⟨512 + (h.val / 4 * 64 + n.val), by omega⟩ := by
  rw [← conv_ref]
  unfold val_main_v45 val_main_v44 val_main_v43 val_main_v40
  generalize val_main_v38 (F := Ideal) x0 x2 x4 x5 = y
  refine (shapeCast_apply _ _ _ (ix6 b (0 : Fin 1) s (⟨h.val / 4, by omega⟩ : Fin 2) (⟨h.val % 4, by omega⟩ : Fin 4) n) ?_).trans ?_
  · rw [Shape.rowMajor_val_five, Shape.rowMajor_val_six]
    show ((((b.val * 1 + 0) * 4 + s.val) * 2 + h.val / 4) * 4 + h.val % 4) * 64 + n.val = (((b.val * 1 + 0) * 4 + s.val) * 8 + h.val) * 64 + n.val
    omega
  refine (broadcastInDim_apply _ _ _ _ (ix5 b (0 : Fin 1) s (⟨h.val / 4, by omega⟩ : Fin 2) n) (fun a => by match a with | ⟨0, _⟩ => rfl | ⟨1, _⟩ => rfl | ⟨2, _⟩ => rfl | ⟨3, _⟩ => rfl | ⟨4, _⟩ => rfl)).trans ?_
  refine (shapeCast_apply _ _ _ (ix3 b s (⟨h.val / 4 * 64 + n.val, by omega⟩ : Fin 128)) ?_).trans ?_
  · rw [Shape.rowMajor_val_five, Shape.rowMajor_val_three]
    show (b.val * 4 + s.val) * 128 + (h.val / 4 * 64 + n.val) = (((b.val * 1 + 0) * 4 + s.val) * 2 + h.val / 4) * 64 + n.val
    omega
  exact extractStridedSlice_apply _ _ _ _ _ (fun a => by match a with | ⟨0, _⟩ => exact (Nat.zero_add _).symm | ⟨1, _⟩ => exact (Nat.zero_add _).symm | ⟨2, _⟩ => rfl)

theorem gated_ref (b : Fin 32) (s : Fin 4) (h : Fin 8) (p : Fin 64) :
    val_main_v42 (F := Ideal) x0 x2 x4 x5 (ix5 b 0 s h p) = Ssd.conv x0 x2 x4 x5 b s ⟨h.val * 64 + p.val, by omega⟩ := by
  rw [← conv_ref]
  unfold val_main_v42 val_main_v39
  generalize val_main_v38 (F := Ideal) x0 x2 x4 x5 = y
  refine (shapeCast_apply _ _ _ (ix3 b s (⟨h.val * 64 + p.val, by omega⟩ : Fin 512)) ?_).trans ?_
  · rw [Shape.rowMajor_val_five, Shape.rowMajor_val_three]
    show (b.val * 4 + s.val) * 512 + (h.val * 64 + p.val) = (((b.val * 1 + 0) * 4 + s.val) * 8 + h.val) * 64 + p.val
    omega
  exact extractStridedSlice_apply _ _ _ _ _ (fun a => by match a with | ⟨0, _⟩ => exact (Nat.zero_add _).symm | ⟨1, _⟩ => exact (Nat.zero_add _).symm | ⟨2, _⟩ => exact (Nat.zero_add _).symm)

theorem weighted_ref (b : Fin 32) (s : Fin 4) (h : Fin 8) (p : Fin 64) :
    val_main_v66 (F := Ideal) x0 x2 x4 x5 x6 x7 (ix5 b 0 s h p) = Ssd.conv x0 x2 x4 x5 b s ⟨h.val * 64 + p.val, by omega⟩ * Ssd.size x0 x6 b s h
      * Ideal.exp (Ssd.sums x0 x6 x7 b h 3 - Ssd.sums x0 x6 x7 b h s) := by
  rw [← gated_ref, ← size_ref, ← sums_ref, ← sums_ref]
  unfold val_main_v66 val_main_v65 val_main_v64 val_main_v63 val_main_v62 val_main_v61 val_main_v60 val_main_v59 val_main_v58 val_main_v57 val_main_v50
  generalize val_main_v42 (F := Ideal) x0 x2 x4 x5 = y
  generalize val_main_v49 (F := Ideal) x0 x6 = z
  generalize val_main_v56 (F := Ideal) x0 x6 x7 = w
  pointwise

theorem kept_ref (b : Fin 32) (h : Fin 8) (p n : Fin 64) : val_main_v73 (F := Ideal) x0 x6 x7 (ix4 b h p n) = Ideal.exp (Ssd.sums x0 x6 x7 b h 3) := by
  rw [← sums_ref]
  unfold val_main_v73 val_main_v72 val_main_v71 val_main_v70 val_main_v69 val_main_v68
  generalize val_main_v56 (F := Ideal) x0 x6 x7 = w
  pointwise

theorem state_ref (b : Fin 32) (h : Fin 8) (p n : Fin 64) :
    val_main_v76 (F := Ideal) x0 x1 x2 x4 x5 x6 x7 (ix4 b h p n) = Ssd.state x0 x1 x2 x4 x5 x6 x7 b h p n := by
  unfold Ssd.state val_main_v76 val_main_v74 val_main_v75
  refine congrArg₂ (· + ·) (congrArg (fun q => x1 (ix4 b h p n) * q) (kept_ref x0 x6 x7 b h p n)) ?_
  refine (shapeCast_apply _ _ _ (ix5 b (0 : Fin 1) h p n) ?_).trans ?_
  · rw [Shape.rowMajor_val_five, Shape.rowMajor_val_four]
    show (((b.val * 1 + 0) * 8 + h.val) * 64 + p.val) * 64 + n.val = ((b.val * 8 + h.val) * 64 + p.val) * 64 + n.val
    omega
  refine (val_main_v67_apply x0 x2 x4 x5 x6 x7 _).trans (Finset.sum_congr rfl fun s _ => ?_)
  rw [← weighted_ref, ← inputs_ref]
  exact congrArg₂ (fun q w => val_main_v66 (F := Ideal) x0 x2 x4 x5 x6 x7 q * val_main_v45 (F := Ideal) x0 x2 x4 x5 w)
    (funext fun a => by match a with | ⟨0, _⟩ => rfl | ⟨1, _⟩ => rfl | ⟨2, _⟩ => rfl | ⟨3, _⟩ => rfl | ⟨4, _⟩ => rfl) (funext fun a => by match a with | ⟨0, _⟩ => rfl | ⟨1, _⟩ => rfl | ⟨2, _⟩ => rfl | ⟨3, _⟩ => rfl | ⟨4, _⟩ => rfl)

end Cert.Reference5Ideal.Scan

end
-- ==== Proof.SsdEquation.lean ====
/-
  The state-space kernel's run and its result, equal to the reference's.
-/
module

public import proofs.«01_k».proof.Proof.SsdRead
public import proofs.«01_k».proof.Proof.SsdTail
public import proofs.«01_k».proof.Proof.SsdRef
public import Idealize.ShloMosaic.Lib.Quiescent

@[expose] public section

noncomputable section

open Idealize.ShloMosaic Idealize.ShloMosaic.TcCoe Idealize.SL.Sem

namespace Cert.Kernel5Ideal.Equation

open Cert.Kernel5Ideal Cert.Kernel5Ideal.Gen Cert.Kernel5Ideal.Body Cert.Kernel5Ideal.Fold Cert.Kernel5Ideal.Host Cert.Kernel5Ideal.Tail

variable (m : (ℓ : Loc nD τ sig) → Buf (Elt Ideal) ℓ) (ρ : Dev nD → PrngReg) (c : Dev nD)

/-! ## What the last host lines find -/

/-- The buffers as the region leaves them. -/
def after : Valuation τ sig (Elt Ideal) :=
  Pipeline.withArrays (cfgs 0).spec c (V0 m c) fun w => (dats m 0 c).arrAt w (cfgs 0).N

theorem sharedIn : Pipeline.SharedIn spec0 := by decide

theorem after_v85_2 : after m c (Proc.devRef .tc main_v85_2) = states m c :=
  ((dats m 0 c).withArrays_arrAt sharedIn (V0 m c) (fun _ => rfl) 22).trans (final_states m c)

theorem left_state : Pipeline.afterTail₀ cfgs (dats m) 0 (V0 m) [hostOps1] c main_v94 = newState (states m c) := by
  refine (Tail.after_state (after m c)).trans ?_
  exact congrArg newState (after_v85_2 m c)

/-- The exact kernel's run: its result, its arguments unchanged. -/
theorem run : θ_run defs (onTc (τ := τ) (main (F := Ideal))) ⟨m, fun _ => 0, ρ⟩ (fun r => ∀ c : Dev nD,
      r.2.mem ((c.tc : Thread nD τ).loc main_v94) = newState (states m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨h.1 c, h.2 c⟩)
    (θ_run_and ((θ_run defs _ _).mono (fun r h (c : Dev nD) =>
      (((h c).2 main_v94 (Pipeline.mem_restRefs_of main_v94 (by decide) (by decide))).trans (left_state m c) :
      r.2.mem ((c.tc : Thread nD τ).loc main_v94) = newState (states m c))) (run_main m ρ)) (unchanged m ρ))

/-! ## The kernel's terms are the step's -/

/-- A sum over the 128 positions of a term that is zero from the fifth on. -/
theorem sum_four (f : Fin 128 → EReal) (hf : ∀ t : Fin 128, 4 ≤ t.val → f t = 0) : ∑ t, f t = ∑ t : Fin 4, f ⟨t.val, by omega⟩ := by
  refine (Fin.sum_univ_add (a := 4) (b := 124) f).trans ?_
  rw [show ∑ i : Fin 124, f (Fin.natAdd 4 i) = 0 from Finset.sum_eq_zero fun i _ => hf _ (by show 4 ≤ 4 + i.val; omega), add_zero]
  rfl

/-- A sum against a table's column of zeros and one. -/
theorem sum_hot (g : Fin 128 → EReal) (h : Fin 8) : (∑ k : Fin 128, g k * if k.val = 24 + h.val then 1 else 0) = g ⟨24 + h.val, by omega⟩ := by
  rw [Finset.sum_eq_single (⟨24 + h.val, by omega⟩ : Fin 128) (fun k _ hk => by rw [if_neg (fun e => hk (Fin.ext e)), mul_zero]) (fun hn => absurd (Finset.mem_univ _) hn), if_pos rfl, mul_one]

theorem line_eq (b : Fin 32) (j : Fin 136) (i : Fin 7) (hj : j.val = 5 + i.val) (n : Fin 768) :
    Fold.line m c b j n = Ssd.line (projArg m c) (keptArg m c) b i n := by
  unfold Fold.line Ssd.line
  by_cases h : i.val < 3
  · rw [dif_pos h, dif_pos (by omega)]
    exact rows_apply m c b ⟨i.val, h⟩ ⟨j.val, by omega⟩ hj n
  · rw [dif_neg h, dif_neg (by omega)]
    exact xbc_apply m c b ⟨i.val - 3, by omega⟩ _ (by show b.val * 128 + (j.val - 8) = b.val * 128 + (i.val - 3); omega) n

theorem conv_eq (b : Fin 32) (s : Fin 4) (n : Fin 768) :
    Fold.conv m c b ⟨s.val, by omega⟩ n = Ssd.conv (projArg m c) (keptArg m c) (weightArg m c) (biasArg m c) b s n := by
  unfold Fold.conv Ssd.conv
  rw [line_eq m c b _ ⟨s.val, by omega⟩ rfl, line_eq m c b _ ⟨1 + s.val, by omega⟩ (by show 6 + s.val = 5 + (1 + s.val); omega),
    line_eq m c b _ ⟨2 + s.val, by omega⟩ (by show 7 + s.val = 5 + (2 + s.val); omega), line_eq m c b _ ⟨3 + s.val, by omega⟩ (by show 8 + s.val = 5 + (3 + s.val); omega),
    bias_apply, weights_eq]
  refine congrArg silu ?_
  generalize Ssd.line (projArg m c) (keptArg m c) b _ n = y0
  ac_rfl

theorem size_eq (b : Fin 32) (s : Fin 4) (h : Fin 8) :
    Fold.size m c b ⟨s.val, by omega⟩ ⟨24 + h.val, by omega⟩ = Ssd.size (projArg m c) (dtBiasArg m c) b s h := by
  unfold Fold.size Ssd.size
  rw [if_pos (show s.val < 4 by omega), small_apply m c b s _ rfl, dtBias_apply m c h _ rfl]
  exact congrArg (fun q => step (projArg m c (ix2 (Ssd.proj b s) q)) (dtBiasArg m c (ix1 h))) (Fin.ext (by show 7168 + (24 + h.val) = 7192 + h.val; omega))

theorem size_zero (b : Fin 32) (s l : Fin 128) (hs : 4 ≤ s.val) : Fold.size m c b s l = 0 := if_neg (by omega)

theorem sums_eq (b : Fin 32) (s : Fin 128) (i : Fin 4) (hi : ∀ t : Fin 4, t.val ≤ s.val ↔ t ≤ i) (h : Fin 8) :
    Fold.sums m c b s ⟨24 + h.val, by omega⟩ = Ssd.sums (projArg m c) (dtBiasArg m c) (logArg m c) b h i := by
  unfold Fold.sums Ssd.sums
  rw [sum_four _ (fun t ht => by rw [size_zero m c b t _ ht, zero_mul, mul_zero])]
  refine Finset.sum_congr rfl fun t _ => ?_
  rw [lower_apply, size_eq, rate_apply m c h _ rfl]
  by_cases ht : t ≤ i
  · rw [if_pos ht, if_pos ((hi t).mpr ht), one_mul]
  · rw [if_neg ht, if_neg (fun e => ht ((hi t).mp e)), zero_mul]

theorem total_eq (b : Fin 32) (h : Fin 8) :
    ∑ t, Fold.size m c b t ⟨24 + h.val, by omega⟩ * Fold.rate m c (ix2 0 ⟨24 + h.val, by omega⟩) * upper m c (ix2 t 127) = Ssd.sums (projArg m c) (dtBiasArg m c) (logArg m c) b h 3 := by
  unfold Ssd.sums
  rw [sum_four _ (fun t ht => by rw [size_zero m c b t _ ht, zero_mul, zero_mul])]
  refine Finset.sum_congr rfl fun t _ => ?_
  rw [upper_apply, size_eq, rate_apply m c h _ rfl, if_pos (show (⟨t.val, by omega⟩ : Fin 128).val ≤ (127 : Fin 128).val by show t.val ≤ 127; omega), if_pos (show t ≤ 3 from Fin.le_def.mpr (by show t.val ≤ 3; omega)), mul_one]

theorem value_eq (b : Fin 32) (h : Fin 8) (p n : Fin 64) :
    value m c b ⟨h.val * 64 + p.val, by omega⟩ ⟨h.val / 4 * 64 + n.val, by omega⟩
      = Ssd.state (projArg m c) (stateArg m c) (keptArg m c) (weightArg m c) (biasArg m c) (dtBiasArg m c) (logArg m c) b h p n := by
  have hd : (h.val * 64 + p.val) / 64 = h.val := by omega
  unfold value Ssd.state
  simp only [gather_apply, spread_apply, hd, sum_hot]
  have hg : (∑ k : Fin 128, (if k.val = 24 + h.val then (1 : EReal) else 0) * ∑ t, Fold.size m c b t k * Fold.rate m c (ix2 0 k) * upper m c (ix2 t 127))
      = Ssd.sums (projArg m c) (dtBiasArg m c) (logArg m c) b h 3 := by
    refine (Finset.sum_congr rfl fun k _ => mul_comm _ _).trans ((sum_hot (fun k => ∑ t, Fold.size m c b t k * Fold.rate m c (ix2 0 k) * upper m c (ix2 t 127)) h).trans (total_eq m c b h))
  rw [hg, before_apply m c b h p n _ _ rfl rfl]
  refine congrArg (fun q => stateArg m c (ix4 b h p n) * Ideal.exp (Ssd.sums (projArg m c) (dtBiasArg m c) (logArg m c) b h 3) + q) ?_
  rw [sum_four _ (fun s hs => by rw [size_zero m c b s _ hs, mul_zero, zero_mul, zero_mul])]
  refine Finset.sum_congr rfl fun s _ => ?_
  rw [if_pos (show (h.val / 4 * 64 + n.val) / 64 = (h.val * 64 + p.val) / 256 by omega), conv_eq, conv_eq, size_eq,
    sums_eq m c b 127 3 (fun t => ⟨fun _ => Fin.le_def.mpr (by show t.val ≤ 3; omega), fun _ => by show t.val ≤ 127; omega⟩) h,
    sums_eq m c b ⟨s.val, by omega⟩ s (fun t => Iff.rfl) h]

open Cert.Reference5Ideal.Scan

theorem equal_state : Cert.Reference5Ideal.Read.val_main_v76 (F := Ideal) (projArg m c) (stateArg m c) (keptArg m c) (weightArg m c) (biasArg m c) (dtBiasArg m c) (logArg m c)
    = newState (states m c) := by
  funext i
  obtain ⟨b, h, p, n, rfl⟩ : ∃ (b : Fin 32) (h : Fin 8) (p n : Fin 64), i = ix4 b h p n := ⟨i 0, i 1, i 2, i 3, eq_ix4 i⟩
  refine (state_ref _ _ _ _ _ _ _ b h p n).trans (Eq.symm ?_)
  exact (newState_apply (states m c) b h p n).trans (value_eq m c b h p n)

end Cert.Kernel5Ideal.Equation

end
-- ==== Proof.DenseFrame.lean ====
/-
  The dense feed-forward's exact kernel, point by point: what its output and its two scratch arrays hold after each grid point, and
  its run from that. These are the generated module's own declarations, with a larger bound on the work of the one step that reads
  the points' contents at a tile's first point.
-/
module

public import proofs.«01_k».proof.Proof.Gen.Kernel6Ideal.Frame.RunB
public import Idealize.ShloMosaic.Lib.Claim

@[expose] public section

-- membership in a rectangle of the arrays' own extents recurses once per coordinate of the long axes
set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Case A stores nothing into output 6 (the window is idle at its points and not written back there):
    no pieces — a placeholder (junk read back) that nothing consults, since at these points the window is neither
    written back nor read at the next point (Lib/Pipeline.lean "Idle points"). -/
def out0_A_6 (c : Dev nD) (i : grid0.Coords) (arg3 : Memref sig .tc .vmem S640x1024 .f32) (harg3 : arg3.IsWhole) (arg4 : Memref sig .tc .vmem S1x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S640x1 .f32) (harg8 : arg8.IsWhole) (arg9 : Memref sig .tc .vmem S640x1024 .f32) (harg9 : arg9.IsWhole) (arg10 : Memref sig .tc .vmem S640x1024 .bf16) (harg10 : arg10.IsWhole) (arg11 : Memref sig .tc .vmem S640x1024 .f32) (harg11 : arg11.IsWhole) (hc0 : cond0_0 i) (hc1 : ¬cond0_1 i)
    (x0 : Vec F S640x1024 .f32) (x1 : Vec F S1x1024 .f32) (x2 : Vec F S1x1024x1408 .bf16) (x3 : Vec F S1x1024x1408 .bf16) (x4 : Vec F S1x1408x1024 .bf16) (x5 : Vec F S640x1 .f32) (xt0 : TbBuf0 (F := F) c tbM0_0) : Vec F S640x1024 .f32 :=
  VO0_6.read (Elt F) (VO0_6.writes (Elt F) VO0_6.junk (kernelRun0_A c i arg3 harg3 arg4 harg4 arg5 harg5 arg6 harg6 arg7 harg7 arg8 harg8 arg9 harg9 arg10 harg10 arg11 harg11 hc0 hc1 x0 x1 x2 x3 x4 x5 xt0).1)

/-- Case A's pieces for scratch `arg10`, which the kernel carries between points, cover it: 1 piece of `S640x1024` tiling it (Lib/Ring.lean `Piece.tiledL`). -/
theorem scover0_A_0 (c : Dev nD) (i : grid0.Coords) (arg3 : Memref sig .tc .vmem S640x1024 .f32) (harg3 : arg3.IsWhole) (arg4 : Memref sig .tc .vmem S1x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S640x1 .f32) (harg8 : arg8.IsWhole) (arg9 : Memref sig .tc .vmem S640x1024 .f32) (harg9 : arg9.IsWhole) (arg10 : Memref sig .tc .vmem S640x1024 .bf16) (harg10 : arg10.IsWhole) (arg11 : Memref sig .tc .vmem S640x1024 .f32) (harg11 : arg11.IsWhole) (hc0 : cond0_0 i) (hc1 : ¬cond0_1 i)
    (x0 : Vec F S640x1024 .f32) (x1 : Vec F S1x1024 .f32) (x2 : Vec F S1x1024x1408 .bf16) (x3 : Vec F S1x1024x1408 .bf16) (x4 : Vec F S1x1408x1024 .bf16) (x5 : Vec F S640x1 .f32) (xt0 : TbBuf0 (F := F) c tbM0_0) (y : S640x1024.Idx) :
    ∃ pc ∈ (kernelRun0_A c i arg3 harg3 arg4 harg4 arg5 harg5 arg6 harg6 arg7 harg7 arg8 harg8 arg9 harg9 arg10 harg10 arg11 harg11 hc0 hc1 x0 x1 x2 x3 x4 x5 xt0).2.1, y ∈ pc.1.set :=
  View.cover_of_tiledL (kernelRun0_A c i arg3 harg3 arg4 harg4 arg5 harg5 arg6 harg6 arg7 harg7 arg8 harg8 arg9 harg9 arg10 harg10 arg11 harg11 hc0 hc1 x0 x1 x2 x3 x4 x5 xt0).2.1 S640x1024.size (by sl_kernel_rfl) y

/-- What case A leaves in scratch `arg10`: its pieces read back over junk. -/
def sout0_A_0 (c : Dev nD) (i : grid0.Coords) (arg3 : Memref sig .tc .vmem S640x1024 .f32) (harg3 : arg3.IsWhole) (arg4 : Memref sig .tc .vmem S1x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S640x1 .f32) (harg8 : arg8.IsWhole) (arg9 : Memref sig .tc .vmem S640x1024 .f32) (harg9 : arg9.IsWhole) (arg10 : Memref sig .tc .vmem S640x1024 .bf16) (harg10 : arg10.IsWhole) (arg11 : Memref sig .tc .vmem S640x1024 .f32) (harg11 : arg11.IsWhole) (hc0 : cond0_0 i) (hc1 : ¬cond0_1 i)
    (x0 : Vec F S640x1024 .f32) (x1 : Vec F S1x1024 .f32) (x2 : Vec F S1x1024x1408 .bf16) (x3 : Vec F S1x1024x1408 .bf16) (x4 : Vec F S1x1408x1024 .bf16) (x5 : Vec F S640x1 .f32) (xt0 : TbBuf0 (F := F) c tbM0_0) : Vec F S640x1024 .bf16 :=
  VS0_0.read (Elt F) (VS0_0.writes (Elt F) VS0_0.junk (kernelRun0_A c i arg3 harg3 arg4 harg4 arg5 harg5 arg6 harg6 arg7 harg7 arg8 harg8 arg9 harg9 arg10 harg10 arg11 harg11 hc0 hc1 x0 x1 x2 x3 x4 x5 xt0).2.1)

/-- Case A's pieces for scratch `arg11`, which the kernel carries between points, cover it: 2 pieces of `S640x1024` tiling it (Lib/Ring.lean `Piece.tiledL`). -/
theorem scover0_A_1 (c : Dev nD) (i : grid0.Coords) (arg3 : Memref sig .tc .vmem S640x1024 .f32) (harg3 : arg3.IsWhole) (arg4 : Memref sig .tc .vmem S1x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S640x1 .f32) (harg8 : arg8.IsWhole) (arg9 : Memref sig .tc .vmem S640x1024 .f32) (harg9 : arg9.IsWhole) (arg10 : Memref sig .tc .vmem S640x1024 .bf16) (harg10 : arg10.IsWhole) (arg11 : Memref sig .tc .vmem S640x1024 .f32) (harg11 : arg11.IsWhole) (hc0 : cond0_0 i) (hc1 : ¬cond0_1 i)
    (x0 : Vec F S640x1024 .f32) (x1 : Vec F S1x1024 .f32) (x2 : Vec F S1x1024x1408 .bf16) (x3 : Vec F S1x1024x1408 .bf16) (x4 : Vec F S1x1408x1024 .bf16) (x5 : Vec F S640x1 .f32) (xt0 : TbBuf0 (F := F) c tbM0_0) (y : S640x1024.Idx) :
    ∃ pc ∈ (kernelRun0_A c i arg3 harg3 arg4 harg4 arg5 harg5 arg6 harg6 arg7 harg7 arg8 harg8 arg9 harg9 arg10 harg10 arg11 harg11 hc0 hc1 x0 x1 x2 x3 x4 x5 xt0).2.2.1, y ∈ pc.1.set :=
  View.cover_of_tiledL (kernelRun0_A c i arg3 harg3 arg4 harg4 arg5 harg5 arg6 harg6 arg7 harg7 arg8 harg8 arg9 harg9 arg10 harg10 arg11 harg11 hc0 hc1 x0 x1 x2 x3 x4 x5 xt0).2.2.1 S640x1024.size (by sl_kernel_rfl) y

/-- What case A leaves in scratch `arg11`: its pieces read back over junk. -/
def sout0_A_1 (c : Dev nD) (i : grid0.Coords) (arg3 : Memref sig .tc .vmem S640x1024 .f32) (harg3 : arg3.IsWhole) (arg4 : Memref sig .tc .vmem S1x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S640x1 .f32) (harg8 : arg8.IsWhole) (arg9 : Memref sig .tc .vmem S640x1024 .f32) (harg9 : arg9.IsWhole) (arg10 : Memref sig .tc .vmem S640x1024 .bf16) (harg10 : arg10.IsWhole) (arg11 : Memref sig .tc .vmem S640x1024 .f32) (harg11 : arg11.IsWhole) (hc0 : cond0_0 i) (hc1 : ¬cond0_1 i)
    (x0 : Vec F S640x1024 .f32) (x1 : Vec F S1x1024 .f32) (x2 : Vec F S1x1024x1408 .bf16) (x3 : Vec F S1x1024x1408 .bf16) (x4 : Vec F S1x1408x1024 .bf16) (x5 : Vec F S640x1 .f32) (xt0 : TbBuf0 (F := F) c tbM0_0) : Vec F S640x1024 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 hc0 hc1 x0 x1 x2 x3 x4 x5 xt0).2.2.1)

/-- Case B's pieces for output 6 tile its block (1 store of `S640x1024`, checked by the kernel's evaluation: Lib/Ring.lean `Piece.tiledL`, linear in the pieces, through a loop's `@[irreducible]` trip theorem too), so they cover it. -/
theorem cover0_B_6 (c : Dev nD) (i : grid0.Coords) (arg3 : Memref sig .tc .vmem S640x1024 .f32) (harg3 : arg3.IsWhole) (arg4 : Memref sig .tc .vmem S1x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S640x1 .f32) (harg8 : arg8.IsWhole) (arg9 : Memref sig .tc .vmem S640x1024 .f32) (harg9 : arg9.IsWhole) (arg10 : Memref sig .tc .vmem S640x1024 .bf16) (harg10 : arg10.IsWhole) (arg11 : Memref sig .tc .vmem S640x1024 .f32) (harg11 : arg11.IsWhole) (hc0 : ¬cond0_0 i) (hc1 : cond0_1 i)
    (x0 : Vec F S640x1024 .f32) (x1 : Vec F S1x1024 .f32) (x2 : Vec F S1x1024x1408 .bf16) (x3 : Vec F S1x1024x1408 .bf16) (x4 : Vec F S1x1408x1024 .bf16) (x5 : Vec F S640x1 .f32) (xt0 : TbBuf0 (F := F) c tbM0_0) (xs0 : Vec F S640x1024 .bf16) (xs1 : Vec F S640x1024 .f32) (y : S640x1024.Idx) :
    ∃ pc ∈ (kernelRun0_B c i arg3 harg3 arg4 harg4 arg5 harg5 arg6 harg6 arg7 harg7 arg8 harg8 arg9 harg9 arg10 harg10 arg11 harg11 hc0 hc1 x0 x1 x2 x3 x4 x5 xt0 xs0 xs1).1, y ∈ pc.1.set :=
  View.cover_of_tiledL (kernelRun0_B c i arg3 harg3 arg4 harg4 arg5 harg5 arg6 harg6 arg7 harg7 arg8 harg8 arg9 harg9 arg10 harg10 arg11 harg11 hc0 hc1 x0 x1 x2 x3 x4 x5 xt0 xs0 xs1).1 S640x1024.size (by sl_kernel_rfl) y

/-- What case B leaves in output 6's staging buffer: its pieces read back over junk. -/
def out0_B_6 (c : Dev nD) (i : grid0.Coords) (arg3 : Memref sig .tc .vmem S640x1024 .f32) (harg3 : arg3.IsWhole) (arg4 : Memref sig .tc .vmem S1x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S640x1 .f32) (harg8 : arg8.IsWhole) (arg9 : Memref sig .tc .vmem S640x1024 .f32) (harg9 : arg9.IsWhole) (arg10 : Memref sig .tc .vmem S640x1024 .bf16) (harg10 : arg10.IsWhole) (arg11 : Memref sig .tc .vmem S640x1024 .f32) (harg11 : arg11.IsWhole) (hc0 : ¬cond0_0 i) (hc1 : cond0_1 i)
    (x0 : Vec F S640x1024 .f32) (x1 : Vec F S1x1024 .f32) (x2 : Vec F S1x1024x1408 .bf16) (x3 : Vec F S1x1024x1408 .bf16) (x4 : Vec F S1x1408x1024 .bf16) (x5 : Vec F S640x1 .f32) (xt0 : TbBuf0 (F := F) c tbM0_0) (xs0 : Vec F S640x1024 .bf16) (xs1 : Vec F S640x1024 .f32) : Vec F S640x1024 .f32 :=
  VO0_6.read (Elt F) (VO0_6.writes (Elt F) VO0_6.junk (kernelRun0_B c i arg3 harg3 arg4 harg4 arg5 harg5 arg6 harg6 arg7 harg7 arg8 harg8 arg9 harg9 arg10 harg10 arg11 harg11 hc0 hc1 x0 x1 x2 x3 x4 x5 xt0 xs0 xs1).1)

/-- Case B stores nothing into scratch `arg10`: it holds what the point before left. -/
def sout0_B_0 (c : Dev nD) (i : grid0.Coords) (arg3 : Memref sig .tc .vmem S640x1024 .f32) (harg3 : arg3.IsWhole) (arg4 : Memref sig .tc .vmem S1x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S640x1 .f32) (harg8 : arg8.IsWhole) (arg9 : Memref sig .tc .vmem S640x1024 .f32) (harg9 : arg9.IsWhole) (arg10 : Memref sig .tc .vmem S640x1024 .bf16) (harg10 : arg10.IsWhole) (arg11 : Memref sig .tc .vmem S640x1024 .f32) (harg11 : arg11.IsWhole) (hc0 : ¬cond0_0 i) (hc1 : cond0_1 i)
    (x0 : Vec F S640x1024 .f32) (x1 : Vec F S1x1024 .f32) (x2 : Vec F S1x1024x1408 .bf16) (x3 : Vec F S1x1024x1408 .bf16) (x4 : Vec F S1x1408x1024 .bf16) (x5 : Vec F S640x1 .f32) (xt0 : TbBuf0 (F := F) c tbM0_0) (xs0 : Vec F S640x1024 .bf16) (xs1 : Vec F S640x1024 .f32) : Vec F S640x1024 .bf16 := xs0

/-- Case B's pieces for scratch `arg11`, which the kernel carries between points, cover it: 1 piece of `S640x1024` tiling it (Lib/Ring.lean `Piece.tiledL`). -/
theorem scover0_B_1 (c : Dev nD) (i : grid0.Coords) (arg3 : Memref sig .tc .vmem S640x1024 .f32) (harg3 : arg3.IsWhole) (arg4 : Memref sig .tc .vmem S1x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S640x1 .f32) (harg8 : arg8.IsWhole) (arg9 : Memref sig .tc .vmem S640x1024 .f32) (harg9 : arg9.IsWhole) (arg10 : Memref sig .tc .vmem S640x1024 .bf16) (harg10 : arg10.IsWhole) (arg11 : Memref sig .tc .vmem S640x1024 .f32) (harg11 : arg11.IsWhole) (hc0 : ¬cond0_0 i) (hc1 : cond0_1 i)
    (x0 : Vec F S640x1024 .f32) (x1 : Vec F S1x1024 .f32) (x2 : Vec F S1x1024x1408 .bf16) (x3 : Vec F S1x1024x1408 .bf16) (x4 : Vec F S1x1408x1024 .bf16) (x5 : Vec F S640x1 .f32) (xt0 : TbBuf0 (F := F) c tbM0_0) (xs0 : Vec F S640x1024 .bf16) (xs1 : Vec F S640x1024 .f32) (y : S640x1024.Idx) :
    ∃ pc ∈ (kernelRun0_B c i arg3 harg3 arg4 harg4 arg5 harg5 arg6 harg6 arg7 harg7 arg8 harg8 arg9 harg9 arg10 harg10 arg11 harg11 hc0 hc1 x0 x1 x2 x3 x4 x5 xt0 xs0 xs1).2.2.1, y ∈ pc.1.set :=
  View.cover_of_tiledL (kernelRun0_B c i arg3 harg3 arg4 harg4 arg5 harg5 arg6 harg6 arg7 harg7 arg8 harg8 arg9 harg9 arg10 harg10 arg11 harg11 hc0 hc1 x0 x1 x2 x3 x4 x5 xt0 xs0 xs1).2.2.1 S640x1024.size (by sl_kernel_rfl) y

/-- What case B leaves in scratch `arg11`: its pieces read back over junk. -/
def sout0_B_1 (c : Dev nD) (i : grid0.Coords) (arg3 : Memref sig .tc .vmem S640x1024 .f32) (harg3 : arg3.IsWhole) (arg4 : Memref sig .tc .vmem S1x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S640x1 .f32) (harg8 : arg8.IsWhole) (arg9 : Memref sig .tc .vmem S640x1024 .f32) (harg9 : arg9.IsWhole) (arg10 : Memref sig .tc .vmem S640x1024 .bf16) (harg10 : arg10.IsWhole) (arg11 : Memref sig .tc .vmem S640x1024 .f32) (harg11 : arg11.IsWhole) (hc0 : ¬cond0_0 i) (hc1 : cond0_1 i)
    (x0 : Vec F S640x1024 .f32) (x1 : Vec F S1x1024 .f32) (x2 : Vec F S1x1024x1408 .bf16) (x3 : Vec F S1x1024x1408 .bf16) (x4 : Vec F S1x1408x1024 .bf16) (x5 : Vec F S640x1 .f32) (xt0 : TbBuf0 (F := F) c tbM0_0) (xs0 : Vec F S640x1024 .bf16) (xs1 : Vec F S640x1024 .f32) : Vec F S640x1024 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 hc0 hc1 x0 x1 x2 x3 x4 x5 xt0 xs0 xs1).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S640x1024 .f32 × Vec F S640x1024 .bf16 × Vec F S640x1024 .f32
  | 0, hn => (out0_A_6 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0), sout0_A_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0))
  | n + 1, hn =>
    if h0 : (n + 1) % 2 = 0 then
      if h1 : (n + 1) % 2 = 1 then
        False.elim (by have hN : n + 1 < 52 := lt_of_lt_of_eq hn (show (cfgM m hO).N = 52 from N_0); omega)
      else
        (out0_A_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0), sout0_A_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0))
    else
      if h1 : (n + 1) % 2 = 1 then
        (out0_B_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO c n (Nat.lt_of_succ_lt hn)).2.1 (outsAt0 hO c n (Nat.lt_of_succ_lt hn)).2.2, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO c n (Nat.lt_of_succ_lt hn)).2.1 (outsAt0 hO c n (Nat.lt_of_succ_lt hn)).2.2, sout0_B_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO c n (Nat.lt_of_succ_lt hn)).2.1 (outsAt0 hO c n (Nat.lt_of_succ_lt hn)).2.2)
      else
        False.elim (by have hN : n + 1 < 52 := lt_of_lt_of_eq hn (show (cfgM m hO).N = 52 from N_0); omega)

set_option maxHeartbeats 4000000 in
/-- `outsAt0` at a point of case A: that case's contents. -/
theorem outsAt0_A (hO : Ok m) (c : Dev nD) (t : Fin (cfgM m hO).N) (h0 : t.val % 2 = 0) (h1 : ¬t.val % 2 = 1) :
    outsAt0 m hO c t.val t.isLt = (out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0), sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0)) := by
  obtain ⟨n, hn⟩ := t
  cases n with
  | zero => exact rfl
  | succ n => exact (dif_pos h0).trans ((dif_neg h1).trans rfl)

/-- `outsAt0` at a point of case B: that case's contents, over what the point before left. -/
theorem outsAt0_B (hO : Ok m) (c : Dev nD) (t : Fin (cfgM m hO).N) (h0 : ¬t.val % 2 = 0) (h1 : t.val % 2 = 1) :
    outsAt0 m hO c t.val t.isLt = (out0_B_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2, sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp (MT nD τ sig Unit (Elt F) ℕ (UR sig nD τ) ℕ)
  | 0, _ => iprop(Pipeline.ΦA spec0 c ∗ Pipeline.ΦT pre0 (tbl m) c)
  | n + 1, hn => iprop(iprop(iprop(owns (c : Thread nD τ) scM0_0 fullShare ((outsAt0 m hO c n hn).2.1) ∗ owns (c : Thread nD τ) scM0_1 fullShare ((outsAt0 m hO c n hn).2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.1) ∗ owns (c : Thread nD τ) scM0_1 fullShare ((outsAt0 m hO c n hn).2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.1) ∗ owns (c : Thread nD τ) scM0_1 fullShare ((outsAt0 m hO c (n - 1) (by omega)).2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO c t.val t.isLt).1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 52 := lt_of_lt_of_eq t.isLt (show (cfgM m hO).N = 52 from N_0)
  by_cases h0 : t.val % 2 = 0
  · by_cases h1 : t.val % 2 = 1
    · exfalso; omega
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [Dat.leavesExact_idle (dats m hO 0 c) 6 t (idleAt0_6_A m hO t ((hcond0_0 t).mpr h0) (fun h => h1 ((hcond0_1 t).mp h))) (noFlush0_6_A m hO t ((hcond0_0 t).mpr h0) (fun h => h1 ((hcond0_1 t).mp h)))]
      by_cases hz : t.val = 0
      · rw [PhiS_castSucc m hO c t, PhiS_zero m hO c _ _ hz, PhiT0_eq, PhiA0_eq]
        rw [outsAt0_A m hO c t h0 h1]
        unfold sout0_A_0 sout0_A_1; (try dsimp only)
        iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HT0]; · iexact HT0
        iintro ⟨H0, H1, H2, H3, H4, H5, H6, ⟨%es0, HS0⟩, ⟨%es1, HS1⟩, HT0⟩
        isplitl [HS0 HS1 Hg HT0]
        · isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m hO c t, PhiS_pos m hO c _ _ hz, PhiT0_eq]
        rw [outsAt0_A m hO c t h0 h1]
        unfold sout0_A_0 sout0_A_1; (try dsimp only)
        iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HT0]; · iexact HT0
        iintro ⟨H0, H1, H2, H3, H4, H5, H6, ⟨%es0, HS0⟩, ⟨%es1, HS1⟩, HT0⟩
        isplitl [HS0 HS1 Hg HT0]
        · isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 2 = 1
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6_B m hO t (fun h => h0 ((hcond0_0 t).mp h)) ((hcond0_1 t).mpr h1)]; try rfl, after0_6]
      by_cases hz : t.val = 0
      · exfalso; have hN : t.val < 52 := lt_of_lt_of_eq t.isLt (show (cfgM m hO).N = 52 from N_0); omega
      · rw [PhiS_castSucc m hO c t, PhiS_pos m hO c _ _ hz, PhiT0_eq]
        rw [outsAt0_B m hO c t h0 h1]
        unfold out0_B_6 sout0_B_0 sout0_B_1; (try dsimp only)
        iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HT0]; · iexact HT0
        iintro ⟨H0, H1, H2, H3, H4, H5, ⟨%e6, H6⟩, HS0, ⟨%es1, HS1⟩, HT0⟩
        isplitl [HS0 HS1 Hg HT0]
        · isplitl [HS0 HS1 Hg]
          · isplitl [HS0 HS1]
            · isplitl [HS0]
              · iexact HS0
              unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _)
    · exfalso; omega

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexists _; iexact HS1
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 52 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The frame, for every contents of the prefetched table for which each block that an index map picks lies inside its array. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Kernel6Ideal.Gen

end
-- ==== Proof.DenseBody.lean ====
/-
  What one grid point of the dense feed-forward leaves behind, as a function of what it reads. At a row tile's first point the
  body normalizes the tile's rows into its scratch and starts the accumulator with the product of one half of the hidden columns;
  at its second and last point it adds the other half's and writes the rows plus the accumulator.
-/
module

public import proofs.«01_k».proof.Defs
public import proofs.«01_k».proof.Proof.DenseFrame
public import proofs.«01_k».proof.Proof.Body
public import proofs.«01_k».proof.Proof.ProjBody
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem

namespace Cert.Kernel6Ideal.Body

open Cert.Kernel6Ideal Cert.Kernel6Ideal.Gen
open Cert.KernelIdeal.Body (gated)
open Cert.Kernel2Ideal.Body (normed)

section Cases
variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

variable (c : Dev nD) (i : grid0.Coords)
  (a3 : Memref sig .tc .vmem S640x1024 .f32) (h3 : a3.IsWhole) (a4 : Memref sig .tc .vmem S1x1024 .f32) (h4 : a4.IsWhole)
  (a5 : Memref sig .tc .vmem S1x1024x1408 .bf16) (h5 : a5.IsWhole) (a6 : Memref sig .tc .vmem S1x1024x1408 .bf16) (h6 : a6.IsWhole)
  (a7 : Memref sig .tc .vmem S1x1408x1024 .bf16) (h7 : a7.IsWhole) (a8 : Memref sig .tc .vmem S640x1 .f32) (h8 : a8.IsWhole)
  (a9 : Memref sig .tc .vmem S640x1024 .f32) (h9 : a9.IsWhole) (a10 : Memref sig .tc .vmem S640x1024 .bf16) (h10 : a10.IsWhole)
  (a11 : Memref sig .tc .vmem S640x1024 .f32) (h11 : a11.IsWhole)
  (x0 : Vec F S640x1024 .f32) (x1 : Vec F S1x1024 .f32) (x2 : Vec F S1x1024x1408 .bf16) (x3 : Vec F S1x1024x1408 .bf16)
  (x4 : Vec F S1x1408x1024 .bf16) (x5 : Vec F S640x1 .f32) (xt : TbBuf0 (F := F) c tbM0_0)
  (xs : Vec F S640x1024 .bf16) (xa : Vec F S640x1024 .f32)

/-- A tile's first point normalizes the tile's rows into the scratch … -/
theorem rows_first (hc0 : cond0_0 i) (hc1 : ¬cond0_1 i) :
    sout0_A_0 c i a3 h3 a4 h4 a5 h5 a6 h6 a7 h7 a8 h8 a9 h9 a10 h10 a11 h11 hc0 hc1 x0 x1 x2 x3 x4 x5 xt = k0_pay1 x0 x1 := by
  unfold sout0_A_0
  rw [View.read_writes_eq_canon _ _ _ (scover0_A_0 c i a3 h3 a4 h4 a5 h5 a6 h6 a7 h7 a8 h8 a9 h9 a10 h10 a11 h11 hc0 hc1 x0 x1 x2 x3 x4 x5 xt)]
  unfold kernelRun0_A
  dsimp only
  sl_unfold_words
  rw [View.canon_unit_zero zero2]
  simp only [View.readAt_eq_ld, h3.read_unread, h4.read_unread, View.ld_unit_zero (S := S640x1024) zero2, View.ld_unit_zero (S := S1x1024) zero2]

/-- … and starts the accumulator from zero. -/
theorem acc_first (hc0 : cond0_0 i) (hc1 : ¬cond0_1 i) :
    sout0_A_1 c i a3 h3 a4 h4 a5 h5 a6 h6 a7 h7 a8 h8 a9 h9 a10 h10 a11 h11 hc0 hc1 x0 x1 x2 x3 x4 x5 xt
      = k0_pay3 (k0_pay1 x0 x1) x2 x3 (k0_pay2 (F := F)) x4 := by
  unfold sout0_A_1
  rw [View.read_writes_eq_canon _ _ _ (scover0_A_1 c i a3 h3 a4 h4 a5 h5 a6 h6 a7 h7 a8 h8 a9 h9 a10 h10 a11 h11 hc0 hc1 x0 x1 x2 x3 x4 x5 xt)]
  unfold kernelRun0_A
  dsimp only
  sl_unfold_words
  rw [View.canon_cons_unit_zero (S := S640x1024) zero2, View.readCov_unit_zero (S := S640x1024) _ zero2, View.readCov_unit_zero (S := S640x1024) _ zero2]
  simp only [View.readAt_eq_ld, h3.read_unread, h4.read_unread, h5.read_unread, h6.read_unread, h7.read_unread, View.ld_unit_zero (S := S640x1024) zero2, View.ld_unit_zero (S := S1x1024) zero2,
    View.ld_unit_zero (S := S1x1024x1408) zero3, View.ld_unit_zero (S := S1x1408x1024) zero3]

/-- A tile's last point adds its half's product and writes the rows plus the accumulator. -/
theorem out_last (hc0 : ¬cond0_0 i) (hc1 : cond0_1 i) :
    out0_B_6 c i a3 h3 a4 h4 a5 h5 a6 h6 a7 h7 a8 h8 a9 h9 a10 h10 a11 h11 hc0 hc1 x0 x1 x2 x3 x4 x5 xt xs xa
      = k0_pay4 x0 (k0_pay3 xs x2 x3 xa x4) := by
  unfold out0_B_6
  rw [View.read_writes_eq_canon _ _ _ (cover0_B_6 c i a3 h3 a4 h4 a5 h5 a6 h6 a7 h7 a8 h8 a9 h9 a10 h10 a11 h11 hc0 hc1 x0 x1 x2 x3 x4 x5 xt xs xa)]
  unfold kernelRun0_B
  dsimp only
  sl_unfold_words
  rw [View.canon_unit_zero zero2, View.readCov_unit_zero (S := S640x1024) _ zero2]
  simp only [View.readAt_eq_ld, h3.read_unread, h5.read_unread, h6.read_unread, h7.read_unread, h10.read_unread, h11.read_unread, View.ld_unit_zero (S := S640x1024) zero2, View.ld_unit_zero (S := S1x1024) zero2,
    View.ld_unit_zero (S := S1x1024x1408) zero3, View.ld_unit_zero (S := S1x1408x1024) zero3]

end Cases

/-! ## The same at an index, over the extended reals -/

theorem pay1_apply (x : Vec Ideal S640x1024 .f32) (g : Vec Ideal S1x1024 .f32) (r : Fin 640) (j : Fin 1024) :
    k0_pay1 (F := Ideal) x g (ix2 r j) = normed (fun k => x (ix2 r k)) (fun k => g (ix2 0 k)) j := by
  unfold normed
  pointwise [k0_pay1]

/-- One point's contribution, at row `r` and output column `d`: the sum over the block's hidden columns. -/
theorem pay3_apply (x : Vec Ideal S640x1024 .bf16) (wg wu : Vec Ideal S1x1024x1408 .bf16) (acc : Vec Ideal S640x1024 .f32)
    (wd : Vec Ideal S1x1408x1024 .bf16) (r : Fin 640) (d : Fin 1024) :
    k0_pay3 (F := Ideal) x wg wu acc wd (ix2 r d)
      = acc (ix2 r d) + ∑ k : Fin 1408, gated (∑ j : Fin 1024, x (ix2 r j) * wg (ix3 0 j k)) (∑ j : Fin 1024, x (ix2 r j) * wu (ix3 0 j k))
          * wd (ix3 0 k d) := by
  unfold gated
  pointwise [k0_pay3]

theorem pay2_apply (r : Fin 640) (d : Fin 1024) : k0_pay2 (F := Ideal) (ix2 r d) = (0 : EReal) := by
  pointwise [k0_pay2]

theorem pay4_apply (s x : Vec Ideal S640x1024 .f32) (r : Fin 640) (d : Fin 1024) :
    k0_pay4 (F := Ideal) s x (ix2 r d) = s (ix2 r d) + x (ix2 r d) := by
  pointwise [k0_pay4]

end Cert.Kernel6Ideal.Body

end
-- ==== Proof.DenseTables.lean ====
/-
  The dense feed-forward's call reads its weight blocks through a table too; the host fills it with zeros, so every block lies
  inside its array. That is the side condition under which the two printed kernels run.
-/
module

public import proofs.«01_k».proof.Defs
public import proofs.«01_k».proof.Proof.DenseFrameRounded
public import proofs.«01_k».proof.Proof.DenseFrame
public import Idealize.ShloMosaic.Lib.StableHlo.Predicate
public import Idealize.ShloMosaic.Lib.Tactic

@[expose] public section

noncomputable section

open Idealize.ShloMosaic Idealize.ShloMosaic.TcCoe Idealize.SL.Sem

namespace Cert.DenseTables

section Rounded
open Cert.Kernel6 Cert.Kernel6.Gen

/-- The table is all zeros: every tile's weights are those of the one layer. -/
theorem table_rounded (m : (ℓ : Loc nD τ sig) → Buf (Elt Bits) ℓ) : (V m 0 main_v3 : S26.Idx → BitVec 32) = fun _ => 0#32 := by
  show StableHlo.after hostOps0 _ _ = _
  after_results_simp
  rfl

theorem word_rounded (m : (ℓ : Loc nD τ sig) → Buf (Elt Bits) ℓ) (x : S26.Idx) : (tbl m 0 x : BitVec 32) = 0#32 :=
  congrFun (table_rounded m) x

theorem ok_rounded (m : (ℓ : Loc nD τ sig) → Buf (Elt Bits) ℓ) : Ok (F := Bits) m := by
  have word : ∀ (r : Rect S26) (h1 : r.shape.numel = 1), ((tbl m).at 0 r h1 : BitVec 32).toNat < 1 := fun r h1 =>
    (congrArg BitVec.toNat (word_rounded m _)).trans_lt Nat.zero_lt_one
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    have hf : (i 1).val < 2 := (i 1).isLt
    have hf' : (BitVec.ofNat 32 (i 1).val).toNat = (i 1).val := by rw [BitVec.toNat_ofNat]; omega
    have hw := word (Rect.unit (s := S26) ![(Scalar.indexCast (BitVec.ofNat 32 (i 0).val) : BitVec 32).toNat] S1.size (k0_off1_inb i)) numel1_S1
  · match a with
    | ⟨0, _⟩ => exact (Nat.mul_one _).trans_le hw
    | ⟨1, _⟩ => exact le_refl 1024
    | ⟨2, _⟩ => show ((BitVec.ofNat 32 (i 1).val).toNat + 1) * 1408 ≤ 2816; omega
  · match a with
    | ⟨0, _⟩ => exact (Nat.mul_one _).trans_le hw
    | ⟨1, _⟩ => exact le_refl 1024
    | ⟨2, _⟩ => show ((BitVec.ofNat 32 (i 1).val).toNat + 1) * 1408 ≤ 2816; omega
  · match a with
    | ⟨0, _⟩ => exact (Nat.mul_one _).trans_le hw
    | ⟨1, _⟩ => show ((BitVec.ofNat 32 (i 1).val).toNat + 1) * 1408 ≤ 2816; omega
    | ⟨2, _⟩ => exact le_refl 1024

end Rounded

section Exact
open Cert.Kernel6Ideal Cert.Kernel6Ideal.Gen

/-- The table is all zeros: every tile's weights are those of the one layer. -/
theorem table_exact (m : (ℓ : Loc nD τ sig) → Buf (Elt Ideal) ℓ) : (V m 0 main_v3 : S26.Idx → BitVec 32) = fun _ => 0#32 := by
  show StableHlo.after hostOps0 _ _ = _
  after_results_simp
  rfl

theorem word_exact (m : (ℓ : Loc nD τ sig) → Buf (Elt Ideal) ℓ) (x : S26.Idx) : (tbl m 0 x : BitVec 32) = 0#32 :=
  congrFun (table_exact m) x

theorem ok_exact (m : (ℓ : Loc nD τ sig) → Buf (Elt Ideal) ℓ) : Ok (F := Ideal) m := by
  have word : ∀ (r : Rect S26) (h1 : r.shape.numel = 1), ((tbl m).at 0 r h1 : BitVec 32).toNat < 1 := fun r h1 =>
    (congrArg BitVec.toNat (word_exact m _)).trans_lt Nat.zero_lt_one
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    have hf : (i 1).val < 2 := (i 1).isLt
    have hf' : (BitVec.ofNat 32 (i 1).val).toNat = (i 1).val := by rw [BitVec.toNat_ofNat]; omega
    have hw := word (Rect.unit (s := S26) ![(Scalar.indexCast (BitVec.ofNat 32 (i 0).val) : BitVec 32).toNat] S1.size (k0_off1_inb i)) numel1_S1
  · match a with
    | ⟨0, _⟩ => exact (Nat.mul_one _).trans_le hw
    | ⟨1, _⟩ => exact le_refl 1024
    | ⟨2, _⟩ => show ((BitVec.ofNat 32 (i 1).val).toNat + 1) * 1408 ≤ 2816; omega
  · match a with
    | ⟨0, _⟩ => exact (Nat.mul_one _).trans_le hw
    | ⟨1, _⟩ => exact le_refl 1024
    | ⟨2, _⟩ => show ((BitVec.ofNat 32 (i 1).val).toNat + 1) * 1408 ≤ 2816; omega
  · match a with
    | ⟨0, _⟩ => exact (Nat.mul_one _).trans_le hw
    | ⟨1, _⟩ => show ((BitVec.ofNat 32 (i 1).val).toNat + 1) * 1408 ≤ 2816; omega
    | ⟨2, _⟩ => exact le_refl 1024

end Exact

end Cert.DenseTables

end
-- ==== Proof.DenseFold.lean ====
/-
  What the dense feed-forward's output array holds: row by row, the row plus the sum of the two halves' contributions, each half's
  over its own 1408 hidden columns.
-/
module

public import proofs.«01_k».proof.Proof.DenseBody
public import proofs.«01_k».proof.Proof.DenseTables

@[expose] public section

noncomputable section

open Idealize.ShloMosaic Idealize.ShloMosaic.TcCoe Idealize.SL.Sem
open Idealize.ShloMosaic.Pipeline (Dat Cfg Window)

namespace Cert.Kernel6Ideal.Fold

open Cert.Kernel6Ideal Cert.Kernel6Ideal.Gen Cert.Kernel6Ideal.Body
open Cert.KernelIdeal.Body (gated)
open Cert.Kernel2Ideal.Body (normed)

/-- A grid point's coordinates: the row tile and the half of the hidden columns. -/
theorem coords_tile : ∀ t : Fin grid0.N, ((grid0.coords t) 0).val = t.val / 2 := by decide +kernel
theorem coords_block : ∀ t : Fin grid0.N, ((grid0.coords t) 1).val = t.val % 2 := by decide +kernel

theorem point_lt (t : Fin grid0.N) : t.val < 52 := t.isLt.trans_eq N_0

theorem tile_word (t : Fin grid0.N) : (BitVec.ofNat 32 ((grid0.coords t) 0).val).toNat = t.val / 2 := by
  have h := point_lt t
  rw [coords_tile, BitVec.toNat_ofNat]; omega

theorem block_word (t : Fin grid0.N) : (BitVec.ofNat 32 ((grid0.coords t) 1).val).toNat = t.val % 2 := by
  rw [coords_block, BitVec.toNat_ofNat]; omega

/-- The row tile of a grid point. -/
def tile (t : Fin grid0.N) : Fin 26 := ⟨t.val / 2, by have h := point_lt t; omega⟩

variable (m : (ℓ : Loc nD τ sig) → Buf (Elt Ideal) ℓ) (ρ : Dev nD → PrngReg) (hO : Ok m) (c : Dev nD)

/-- The one table word that an index map reads at a grid point is zero. -/
theorem table_at (t : Fin grid0.N) :
    ((tbl m).at 0 (Rect.unit (s := S26) ![(Scalar.indexCast (BitVec.ofNat 32 ((grid0.coords t) 0).val) : BitVec 32).toNat] S1.size (k0_off1_inb (grid0.coords t)))
      numel1_S1 : BitVec 32) = 0#32 := Cert.DenseTables.word_exact m _

/-! ## The arguments, as arrays of extended reals, and as the region finds them -/

def rows : S16640x1024.Idx → EReal := m ((c.tc : Thread nD τ).loc main_arg0)
def gain : S1024.Idx → EReal := m ((c.tc : Thread nD τ).loc main_arg1)
def wGate : S1x1024x2816.Idx → EReal := m ((c.tc : Thread nD τ).loc main_arg2)
def wUp : S1x1024x2816.Idx → EReal := m ((c.tc : Thread nD τ).loc main_arg3)
def wDown : S1x2816x1024.Idx → EReal := m ((c.tc : Thread nD τ).loc main_arg4)

theorem gate_cast : V m c main_v0 = wGate m c := by
  show StableHlo.after hostOps0 _ _ = _
  after_results_simp
  rfl

theorem up_cast : V m c main_v1 = wUp m c := by
  show StableHlo.after hostOps0 _ _ = _
  after_results_simp
  rfl

theorem down_cast : V m c main_v2 = wDown m c := by
  show StableHlo.after hostOps0 _ _ = _
  after_results_simp
  rfl

theorem gain_cast : V m c main_v5 = shapeCast S1x1024 (gain m c) shapeCasts_S1024_S1x1024 := by
  show StableHlo.after hostOps0 _ _ = _
  after_results_simp
  rfl

/-! ## The blocks -/

/-- Row `r` of tile `q`. -/
def row (q : Fin 26) (r : Fin 640) : Fin 16640 := ⟨q.val * 640 + r.val, by omega⟩

/-- Column `k` of half `f` of the hidden columns. -/
def hidden (f : ℕ) (k : Fin 1408) : Fin 2816 := ⟨f % 2 * 1408 + k.val, by omega⟩

theorem rows_at (t : Fin (cfgM m hO).N) (r : Fin 640) (j : Fin 1024) :
    (iblk m hO c 0 t : Vec Ideal S640x1024 .f32) (ix2 r j) = rows m c (ix2 (row (tile t) r) j) := by
  unfold iblk
  refine (View.read_apply ..).trans ?_
  show V m c main_arg0 _ = _
  rw [V_main_arg0]
  show rows m c _ = _
  congr 1
  funext a
  apply Fin.ext
  match a with
  | ⟨0, _⟩ =>
    show (BitVec.ofNat 32 ((grid0.coords t) 0).val).toNat * 640 + 1 * r.val = t.val / 2 * 640 + r.val
    rw [tile_word]; omega
  | ⟨1, _⟩ => show 0 * 1024 + 1 * j.val = j.val; omega

theorem gain_row (j : Fin 1024) : (V m c main_v5 : S1x1024.Idx → EReal) (ix2 0 j) = gain m c (ix1 j) := by
  rw [gain_cast]
  refine shapeCast_apply (gain m c) shapeCasts_S1024_S1x1024 (ix2 0 j) (ix1 j) ?_
  rw [Shape.rowMajor_val_one, Shape.rowMajor_val_two]
  show j.val = 0 * 1024 + j.val
  omega

theorem gain_at (t : Fin (cfgM m hO).N) (j : Fin 1024) :
    (iblk m hO c 1 t : Vec Ideal S1x1024 .f32) (ix2 0 j) = gain m c (ix1 j) := by
  unfold iblk
  refine (View.read_apply ..).trans ?_
  refine (congrArg (V m c main_v5 : S1x1024.Idx → EReal) (a₂ := ix2 0 j) (funext fun a => Fin.ext ?_)).trans (gain_row m c j)
  match a with
  | ⟨0, _⟩ => show 0 * 1 + 1 * 0 = 0; omega
  | ⟨1, _⟩ => show 0 * 1024 + 1 * j.val = j.val; omega

theorem gate_at (t : Fin (cfgM m hO).N) (j : Fin 1024) (k : Fin 1408) :
    (iblk m hO c 2 t : Vec Ideal S1x1024x1408 .bf16) (ix3 0 j k) = wGate m c (ix3 0 j (hidden t.val k)) := by
  unfold iblk
  refine (View.read_apply ..).trans ?_
  show V m c main_v0 _ = _
  rw [gate_cast]
  congr 1
  funext a
  apply Fin.ext
  match a with
  | ⟨0, _⟩ => exact congrArg (fun w : BitVec 32 => w.toNat * 1 + 1 * 0) (table_at m t)
  | ⟨1, _⟩ => show 0 * 1024 + 1 * j.val = j.val; omega
  | ⟨2, _⟩ =>
    show (BitVec.ofNat 32 ((grid0.coords t) 1).val).toNat * 1408 + 1 * k.val = t.val % 2 * 1408 + k.val
    rw [block_word]; omega

theorem up_at (t : Fin (cfgM m hO).N) (j : Fin 1024) (k : Fin 1408) :
    (iblk m hO c 3 t : Vec Ideal S1x1024x1408 .bf16) (ix3 0 j k) = wUp m c (ix3 0 j (hidden t.val k)) := by
  unfold iblk
  refine (View.read_apply ..).trans ?_
  show V m c main_v1 _ = _
  rw [up_cast]
  congr 1
  funext a
  apply Fin.ext
  match a with
  | ⟨0, _⟩ => exact congrArg (fun w : BitVec 32 => w.toNat * 1 + 1 * 0) (table_at m t)
  | ⟨1, _⟩ => show 0 * 1024 + 1 * j.val = j.val; omega
  | ⟨2, _⟩ =>
    show (BitVec.ofNat 32 ((grid0.coords t) 1).val).toNat * 1408 + 1 * k.val = t.val % 2 * 1408 + k.val
    rw [block_word]; omega

theorem down_at (t : Fin (cfgM m hO).N) (k : Fin 1408) (d : Fin 1024) :
    (iblk m hO c 4 t : Vec Ideal S1x1408x1024 .bf16) (ix3 0 k d) = wDown m c (ix3 0 (hidden t.val k) d) := by
  unfold iblk
  refine (View.read_apply ..).trans ?_
  show V m c main_v2 _ = _
  rw [down_cast]
  congr 1
  funext a
  apply Fin.ext
  match a with
  | ⟨0, _⟩ => exact congrArg (fun w : BitVec 32 => w.toNat * 1 + 1 * 0) (table_at m t)
  | ⟨1, _⟩ =>
    show (BitVec.ofNat 32 ((grid0.coords t) 1).val).toNat * 1408 + 1 * k.val = t.val % 2 * 1408 + k.val
    rw [block_word]; omega
  | ⟨2, _⟩ => show 0 * 1024 + 1 * d.val = d.val; omega

/-! ## The points in order -/

/-- Row `p` normalized. -/
def norm (p : Fin 16640) (j : Fin 1024) : EReal := normed (fun k => rows m c (ix2 p k)) (fun k => gain m c (ix1 k)) j

/-- Hidden unit `n` on row `p`. -/
def unit (p : Fin 16640) (n : Fin 2816) : EReal :=
  gated (∑ j : Fin 1024, norm m c p j * wGate m c (ix3 0 j n)) (∑ j : Fin 1024, norm m c p j * wUp m c (ix3 0 j n))

/-- What half `f` of the hidden columns adds to row `p`, output column `d`. -/
def part (p : Fin 16640) (d : Fin 1024) (f : ℕ) : EReal := ∑ k : Fin 1408, unit m c p (hidden f k) * wDown m c (ix3 0 (hidden f k) d)

theorem part_mod (p : Fin 16640) (d : Fin 1024) (f : ℕ) : part m c p d (f % 2) = part m c p d f := by
  have h (k : Fin 1408) : hidden (f % 2) k = hidden f k := Fin.ext (by
    show f % 2 % 2 * 1408 + k.val = f % 2 * 1408 + k.val
    rw [Nat.mod_mod])
  unfold part
  simp only [h]

theorem normed_at (t : Fin (cfgM m hO).N) (r : Fin 640) (j : Fin 1024) :
    k0_pay1 (F := Ideal) (iblk m hO c 0 t) (iblk m hO c 1 t) (ix2 r j) = norm m c (row (tile t) r) j := by
  refine (pay1_apply _ _ r j).trans ?_
  unfold norm
  exact congrArg₂ (fun x g => normed x g j) (funext fun k => rows_at m hO c t r k) (funext fun k => gain_at m hO c t k)

/-- One point's sum over its blocks is the contribution of its half of the hidden columns. -/
theorem point_apply (t : Fin (cfgM m hO).N) (x : Vec Ideal S640x1024 .bf16) (acc : Vec Ideal S640x1024 .f32)
    (hx : ∀ r j, x (ix2 r j) = norm m c (row (tile t) r) j) (r : Fin 640) (d : Fin 1024) :
    k0_pay3 x (iblk m hO c 2 t) (iblk m hO c 3 t) acc (iblk m hO c 4 t) (ix2 r d)
      = acc (ix2 r d) + part m c (row (tile t) r) d t.val := by
  refine (pay3_apply _ _ _ _ _ r d).trans ?_
  congr 1
  refine Finset.sum_congr rfl fun k _ => ?_
  refine congrArg₂ (· * ·) (congrArg₂ gated (Finset.sum_congr rfl fun j _ => ?_) (Finset.sum_congr rfl fun j _ => ?_)) (down_at m hO c t k d)
  · exact congrArg₂ (· * ·) (hx r j) (gate_at m hO c t j k)
  · exact congrArg₂ (· * ·) (hx r j) (up_at m hO c t j k)

/-- A tile's first point, in the chain of what the points leave. -/
theorem first_eq (t : Fin (cfgM m hO).N) (h0 : t.val % 2 = 0) (h1 : ¬t.val % 2 = 1) :
    (outsAt0 m hO c t.val t.isLt).2
      = (k0_pay1 (F := Ideal) (iblk m hO c 0 t) (iblk m hO c 1 t),
        k0_pay3 (k0_pay1 (iblk m hO c 0 t) (iblk m hO c 1 t)) (iblk m hO c 2 t) (iblk m hO c 3 t) (k0_pay2 (F := Ideal)) (iblk m hO c 4 t)) := by
  have e := congrArg Prod.snd (outsAt0_A m hO c t h0 h1)
  dsimp only at e
  exact e.trans (Prod.ext (by dsimp only; exact rows_first (F := Ideal) ..) (by dsimp only; exact acc_first (F := Ideal) ..))

/-- A tile's last point. -/
theorem last_eq (t : Fin (cfgM m hO).N) (hp : t.val - 1 < (cfgM m hO).N) (h0 : ¬t.val % 2 = 0) (h1 : t.val % 2 = 1) :
    (outsAt0 m hO c t.val t.isLt).1
      = k0_pay4 (F := Ideal) (iblk m hO c 0 t)
        (k0_pay3 (outsAt0 m hO c (t.val - 1) hp).2.1 (iblk m hO c 2 t) (iblk m hO c 3 t) (outsAt0 m hO c (t.val - 1) hp).2.2 (iblk m hO c 4 t)) := by
  have e := congrArg Prod.fst (outsAt0_B m hO c t h0 h1)
  dsimp only at e
  exact e.trans (out_last (F := Ideal) ..)

/-- After a tile's first point: the scratch holds the tile's normalized rows, the accumulator the first half's part. -/
theorem carried (t : Fin (cfgM m hO).N) (h0 : t.val % 2 = 0) :
    (∀ r j, (outsAt0 m hO c t.val t.isLt).2.1 (ix2 r j) = norm m c (row (tile t) r) j)
      ∧ ∀ r d, (outsAt0 m hO c t.val t.isLt).2.2 (ix2 r d) = part m c (row (tile t) r) d 0 := by
  have e := first_eq m hO c t h0 (by omega)
  refine ⟨fun r j => (congrFun (congrArg Prod.fst e) _).trans (normed_at m hO c t r j), fun r d => (congrFun (congrArg Prod.snd e) _).trans ?_⟩
  refine (point_apply m hO c t _ _ (normed_at m hO c t) r d).trans ?_
  rw [pay2_apply, zero_add, ← part_mod, h0]

/-- The output array's value. -/
def value (p : Fin 16640) (d : Fin 1024) : EReal := rows m c (ix2 p d) + (part m c p d 0 + part m c p d 1)

/-- At a tile's last point the output block holds the tile's rows of the value. -/
theorem written (t : Fin (cfgM m hO).N) (h1 : t.val % 2 = 1) (r : Fin 640) (d : Fin 1024) :
    (outsAt0 m hO c t.val t.isLt).1 (ix2 r d) = value m c (row (tile t) r) d := by
  have h0 : ¬t.val % 2 = 0 := by omega
  have hp : t.val - 1 < (cfgM m hO).N := lt_of_le_of_lt (Nat.sub_le _ 1) t.isLt
  obtain ⟨hrows, hacc⟩ := carried m hO c ⟨t.val - 1, hp⟩ (by show (t.val - 1) % 2 = 0; omega)
  have ht : tile ⟨t.val - 1, hp⟩ = tile t := Fin.ext (by show (t.val - 1) / 2 = t.val / 2; omega)
  rw [ht] at hrows hacc
  refine (congrFun (last_eq m hO c t hp h0 h1) _).trans ((pay4_apply _ _ r d).trans ?_)
  refine congrArg₂ (· + ·) (rows_at m hO c t r d) ((point_apply m hO c t _ _ hrows r d).trans ?_)
  refine congrArg₂ (· + ·) (hacc r d) ?_
  rw [← part_mod, h1]

/-! ## The output array -/

/-- The output array. -/
def out : S16640x1024.Idx → EReal := fun i => value m c (i 0) (i 1)

theorem written_idx (t : Fin (cfgM m hO).N) (h1 : t.val % 2 = 1) (y : S640x1024.Idx) :
    (outsAt0 m hO c t.val t.isLt).1 y = value m c (row (tile t) (y 0)) (y 1) := by
  conv_lhs => rw [eq_ix2 y]
  exact written m hO c t h1 (y 0) (y 1)

/-- A block whose entries are a table's entries at the block's rows is the table read at the block. -/
theorem cut_eq (t : Fin (cfgM m hO).N) (g : Fin 16640 → Fin 1024 → EReal) (x : Vec Ideal S640x1024 .f32)
    (h : ∀ y : S640x1024.Idx, x y = g (row (tile t) (y 0)) (y 1)) :
    ((cfgM m hO).win 6).cut (grid0.coords t) x = (((cfgM m hO).win 6).blk t).view.read (Elt Ideal) (fun i : S16640x1024.Idx => g (i 0) (i 1)) := by
  have rows (y : S640x1024.Idx) : g (row (tile t) (y 0)) (y 1)
      = (fun i : S16640x1024.Idx => g (i 0) (i 1)) ((((cfgM m hO).win 6).blk t).view.emb y) := by
    refine congrArg₂ g (Fin.ext ?_) (Fin.ext ?_)
    · show t.val / 2 * 640 + (y 0).val = (BitVec.ofNat 32 ((grid0.coords t) 0).val).toNat * 640 + 1 * (y 0).val
      rw [tile_word]; omega
    · show (y 1).val = 0 * 1024 + 1 * (y 1).val
      omega
  exact funext fun y => (h y).trans (rows y)

theorem flushed_eq (t : Fin (cfgM m hO).N) (hf : ((cfgM m hO).win 6).flush t = true) :
    (dats m hO 0 c).flushed 6 t = (((cfgM m hO).win 6).blk t).view.read (Elt Ideal) (out m c) := by
  show ((cfgM m hO).win 6).cut (grid0.coords t) ((dats m hO 0 c).after 6 t) = _
  rw [after0_6]
  exact cut_eq m hO t (value m c) _ (written_idx m hO c t ((flush0_6 (adm m hO) t).mp hf))

theorem mem_blk (t : Fin (cfgM m hO).N) (i : S16640x1024.Idx) :
    i ∈ (((cfgM m hO).win 6).blk t).view.set
      ↔ ∀ a : Fin 2, cc0_transform_6 (grid0.coords t) a * S640x1024.size a ≤ (i a).val
        ∧ (i a).val < cc0_transform_6 (grid0.coords t) a * S640x1024.size a + S640x1024.size a := by
  have e : (((cfgM m hO).win 6).blk t).view.set = (((cfgM m hO).win 6).rect t).set := View.set_slice_whole main_v6 _
  rw [e]
  exact Rect.mem_set_unit

/-- Every row lies in the block that its tile's last point writes back. -/
theorem covered (i : S16640x1024.Idx) : ∃ t : Fin (cfgM m hO).N, ((cfgM m hO).win 6).flush t = true ∧ i ∈ (((cfgM m hO).win 6).blk t).view.set := by
  have hi : (i 0).val < 16640 := (i 0).isLt
  have hd : (i 1).val < 1024 := (i 1).isLt
  have hlt : (i 0).val / 640 * 2 + 1 < (cfgM m hO).N := lt_of_lt_of_eq (by omega) (show 52 = (cfgM m hO).N from N_0.symm)
  have hmod : ((i 0).val / 640 * 2 + 1) % 2 = 1 := by omega
  refine ⟨⟨_, hlt⟩, (flush0_6 (adm m hO) ⟨_, hlt⟩).mpr hmod, ?_⟩
  rw [mem_blk]
  have ht := tile_word ⟨(i 0).val / 640 * 2 + 1, hlt⟩
  dsimp only at ht
  intro a
  match a with
  | ⟨0, _⟩ =>
    show (BitVec.ofNat 32 ((grid0.coords _) 0).val).toNat * 640 ≤ (i 0).val ∧ (i 0).val < (BitVec.ofNat 32 ((grid0.coords _) 0).val).toNat * 640 + 640
    rw [ht]; omega
  | ⟨1, _⟩ =>
    show 0 * 1024 ≤ (i 1).val ∧ (i 1).val < 0 * 1024 + 1024
    omega

theorem final : (dats m hO 0 c).arrAt 6 (cfgM m hO).N = out m c :=
  (dats m hO 0 c).arrAt_eq_of_cover 6 _ (fun t hf => flushed_eq m hO c t hf) (fun i => covered m hO i)

include hO in
/-- The exact kernel's run: its result is `out`, its arguments end unchanged. -/
theorem run : θ_run defs (onTc (τ := τ) (main (F := Ideal))) ⟨m, fun _ => 0, ρ⟩ (fun r => ∀ c : Dev nD,
      r.2.mem ((c.tc : Thread nD τ).loc main_v6) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).trans (final m hO c), h.2 c⟩)
    (θ_run_and ((θ_run defs _ _).mono (fun _ h c => (h c).1 6) (run_main m ρ hO)) (unchanged m ρ hO))

end Cert.Kernel6Ideal.Fold

end
-- ==== Proof.DenseEquation.lean ====
/-
  The dense feed-forward's output array is the reference's: a sum over all hidden columns is the sum of the sums over the kernel's
  two halves of them.
-/
module

public import proofs.«01_k».proof.Proof.DenseFold
public import proofs.«01_k».proof.Proof.Gen.Reference6Ideal.Run
public import proofs.«01_k».proof.Proof.Gen.Reference6Ideal.Read

@[expose] public section

noncomputable section

open Idealize.ShloMosaic Idealize.ShloMosaic.TcCoe Idealize.SL.Sem

namespace Cert.DenseEquation

open Cert.Kernel6Ideal.Fold
open Cert.Reference6Ideal Cert.Reference6Ideal.Gen Cert.Reference6Ideal.Read
open Cert.KernelIdeal.Body (gated)
open Cert.Kernel2Ideal.Body (normed)

variable (x0 : FVec Ideal S16640x1024 .f32) (x1 : FVec Ideal S1024 .f32) (x2 x3 : FVec Ideal S1x1024x2816 .f32) (x4 : FVec Ideal S1x2816x1024 .f32)

theorem normed_apply (p : Fin 16640) (j : Fin 1024) :
    val_main_v12 (F := Ideal) x0 x1 (ix2 p j) = normed (fun k => x0 (ix2 p k)) (fun k => x1 (ix1 k)) j := by
  unfold normed
  pointwise [val_main_v12, val_main_v11, val_main_v10, val_main_v9, val_main_v8, val_main_v7, val_main_v6, val_main_v5, val_main_cst_1, val_main_v4,
    val_main_v3, val_main_cst_0, val_main_v2, val_main_v1, val_main_cst, val_main_v0]

theorem gate_apply (p : Fin 16640) (n : Fin 2816) :
    val_main_v16 (F := Ideal) x0 x1 x2 (ix2 p n) = ∑ j : Fin 1024, val_main_v12 (F := Ideal) x0 x1 (ix2 p j) * x2 (ix3 0 j n) := by
  unfold val_main_v16 val_main_v13
  generalize val_main_v12 (F := Ideal) x0 x1 = h
  pointwise []

theorem up_apply (p : Fin 16640) (n : Fin 2816) :
    val_main_v18 (F := Ideal) x0 x1 x3 (ix2 p n) = ∑ j : Fin 1024, val_main_v12 (F := Ideal) x0 x1 (ix2 p j) * x3 (ix3 0 j n) := by
  unfold val_main_v18 val_main_v14
  generalize val_main_v12 (F := Ideal) x0 x1 = h
  pointwise []

theorem act_apply (p : Fin 16640) (n : Fin 2816) :
    val_main_v19 (F := Ideal) x0 x1 x2 x3 (ix2 p n) = gated (val_main_v16 (F := Ideal) x0 x1 x2 (ix2 p n)) (val_main_v18 (F := Ideal) x0 x1 x3 (ix2 p n)) := by
  unfold gated val_main_v19 val_main_v17 val_main_call0_v5 val_main_call0_v3 val_main_call0_v1 val_main_call0_v0
  generalize val_main_v16 (F := Ideal) x0 x1 x2 = g
  generalize val_main_v18 (F := Ideal) x0 x1 x3 = u
  pointwise [val_main_call0_v4, val_main_call0_cst_0, val_main_call0_v2, val_main_call0_cst, Ideal.logistic]

theorem reference_apply (p : Fin 16640) (d : Fin 1024) :
    val_main_v21 (F := Ideal) x0 x1 x2 x3 x4 (ix2 p d) = x0 (ix2 p d) + ∑ n : Fin 2816, val_main_v19 (F := Ideal) x0 x1 x2 x3 (ix2 p n) * x4 (ix3 0 n d) := by
  unfold val_main_v21 val_main_v20 val_main_v15
  generalize val_main_v19 (F := Ideal) x0 x1 x2 x3 = a
  pointwise []

/-- A sum over the 2816 hidden columns, half by half. -/
theorem sum_halves (g : Fin 2816 → EReal) : ∑ n, g n = ∑ k : Fin 1408, g (hidden 0 k) + ∑ k : Fin 1408, g (hidden 1 k) := by
  refine (Fin.sum_univ_add (a := 1408) (b := 1408) g).trans ?_
  refine congrArg₂ (· + ·) (Finset.sum_congr rfl fun k _ => congrArg g (Fin.ext ?_)) (Finset.sum_congr rfl fun k _ => congrArg g (Fin.ext ?_))
  · show k.val = 0 % 2 * 1408 + k.val; omega
  · show 1408 + k.val = 1 % 2 * 1408 + k.val; omega

variable (m : (ℓ : Loc Cert.Kernel6Ideal.nD Cert.Kernel6Ideal.τ Cert.Kernel6Ideal.sig) → Buf (Elt Ideal) ℓ) (c : Dev Cert.Kernel6Ideal.nD)

theorem unit_apply (p : Fin 16640) (n : Fin 2816) :
    val_main_v19 (F := Ideal) (rows m c) (gain m c) (wGate m c) (wUp m c) (ix2 p n) = unit m c p n := by
  rw [act_apply, gate_apply, up_apply]
  simp only [normed_apply]
  rfl

/-- The two arrays are the same function of the arguments. -/
theorem out_eq : val_main_v21 (F := Ideal) (rows m c) (gain m c) (wGate m c) (wUp m c) (wDown m c) = out m c := by
  have key (p : Fin 16640) (d : Fin 1024) :
      val_main_v21 (F := Ideal) (rows m c) (gain m c) (wGate m c) (wUp m c) (wDown m c) (ix2 p d) = value m c p d := by
    refine (reference_apply _ _ _ _ _ p d).trans ?_
    unfold value part
    rw [sum_halves]
    simp only [unit_apply]
  funext i
  exact (congrArg _ (eq_ix2 i)).trans (key (i 0) (i 1))

end Cert.DenseEquation

end
-- ==== Proof.MergeBody.lean ====
/-
  What one grid point of the merge writes, as a function of what it reads: the rows plus the product, with the output weight, of
  the three branches' products, each times the logistic function of its own gate.
-/
module

public import proofs.«01_k».proof.Defs
public import proofs.«01_k».proof.Proof.Gen.Kernel7Ideal.Frame
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem

namespace Cert.Kernel7Ideal.Body

open Cert.Kernel7Ideal Cert.Kernel7Ideal.Gen

section Cases
variable {F : FTy → Type} [FloatOps F]

theorem zero2 : (![0, 0] : Fin 2 → Nat) = fun _ => 0 := funext fun a => by fin_cases a <;> rfl

/-- The weight of branch `b`, out of the three. -/
def branch (w : Vec F S3x512x1024 .bf16) (b : Fin 3) : Vec F S1x512x1024 .bf16 := fun i => w (ix3 b (i 1) (i 2))

theorem ld_branch (w : Vec F S3x512x1024 .bf16) (b : Fin 3) (o : ℕ) (hb : b.val = o) (inb : ∀ a, (![o, 0, 0] : Fin 3 → ℕ) a + S1x512x1024.size a ≤ S3x512x1024.size a) :
    View.ld w (Rect.unit (s := S3x512x1024) ![o, 0, 0] S1x512x1024.size inb) = branch w b :=
  funext fun i => congrArg w (funext fun a => Fin.ext (match a with
    | ⟨0, _⟩ => show o + 1 * (i 0).val = b.val by have : (i 0).val < 1 := (i 0).isLt; omega
    | ⟨1, _⟩ => show 0 + 1 * (i 1).val = (i 1).val by omega
    | ⟨2, _⟩ => show 0 + 1 * (i 2).val = (i 2).val by omega))

variable (c : Dev nD) (i : grid0.Coords)
  (a1 : Memref sig .tc .vmem S640x512 .bf16) (h1 : a1.IsWhole)
  (a2 : Memref sig .tc .vmem S640x512 .bf16) (h2 : a2.IsWhole)
  (a3 : Memref sig .tc .vmem S640x512 .bf16) (h3 : a3.IsWhole)
  (a4 : Memref sig .tc .vmem S640x1024 .f32) (h4 : a4.IsWhole)
  (a5 : Memref sig .tc .vmem S640x1024 .f32) (h5 : a5.IsWhole)
  (a6 : Memref sig .tc .vmem S640x1024 .f32) (h6 : a6.IsWhole)
  (a7 : Memref sig .tc .vmem S640x1024 .f32) (h7 : a7.IsWhole)
  (a8 : Memref sig .tc .vmem S3x512x1024 .bf16) (h8 : a8.IsWhole)
  (a9 : Memref sig .tc .vmem S1024x1024 .bf16) (h9 : a9.IsWhole)
  (a10 : Memref sig .tc .vmem S640x1024 .f32) (h10 : a10.IsWhole)
  (x0 : Vec F S640x512 .bf16)
  (x1 : Vec F S640x512 .bf16)
  (x2 : Vec F S640x512 .bf16)
  (x3 : Vec F S640x1024 .f32)
  (x4 : Vec F S640x1024 .f32)
  (x5 : Vec F S640x1024 .f32)
  (x6 : Vec F S640x1024 .f32)
  (x7 : Vec F S3x512x1024 .bf16)
  (x8 : Vec F S1024x1024 .bf16)

theorem out_point :
    out0_A_9 c i a1 h1 a2 h2 a3 h3 a4 h4 a5 h5 a6 h6 a7 h7 a8 h8 a9 h9 a10 h10 x0 x1 x2 x3 x4 x5 x6 x7 x8
      = k0_pay1 x3 x0 (branch x7 0) x4 x1 (branch x7 1) x5 x2 (branch x7 2) x6 x8 := by
  unfold out0_A_9
  rw [View.read_writes_eq_canon _ _ _ (cover0_A_9 c i a1 h1 a2 h2 a3 h3 a4 h4 a5 h5 a6 h6 a7 h7 a8 h8 a9 h9 a10 h10 x0 x1 x2 x3 x4 x5 x6 x7 x8)]
  unfold kernelRun0_A
  dsimp only
  sl_unfold_words
  rw [View.canon_unit_zero zero2]
  simp only [View.readAt_eq_ld, h1.read_unread, h2.read_unread, h3.read_unread, h4.read_unread, h5.read_unread, h6.read_unread, h7.read_unread, h8.read_unread, h9.read_unread, View.ld_unit_zero (S := S640x512) zero2,
    View.ld_unit_zero (S := S640x1024) zero2, View.ld_unit_zero (S := S1024x1024) zero2, ld_branch x7 0 0 rfl, ld_branch x7 1 1 rfl, ld_branch x7 2 2 rfl]

end Cases

/-! ## The same at an index, over the extended reals -/

/-- A branch's row times one column of its weight, gated. -/
def part (g : EReal) (o w : Fin 512 → EReal) : EReal := Ideal.logistic g * ∑ k : Fin 512, o k * w k

theorem branch_apply (w : Vec Ideal S3x512x1024 .bf16) (b : Fin 3) (k : Fin 512) (n : Fin 1024) : branch w b (ix3 0 k n) = w (ix3 b k n) := rfl

theorem pay1_apply (g0 : Vec Ideal S640x1024 .f32) (o0 : Vec Ideal S640x512 .bf16) (w0 : Vec Ideal S1x512x1024 .bf16)
    (g1 : Vec Ideal S640x1024 .f32) (o1 : Vec Ideal S640x512 .bf16) (w1 : Vec Ideal S1x512x1024 .bf16)
    (g2 : Vec Ideal S640x1024 .f32) (o2 : Vec Ideal S640x512 .bf16) (w2 : Vec Ideal S1x512x1024 .bf16)
    (x : Vec Ideal S640x1024 .f32) (wo : Vec Ideal S1024x1024 .bf16) (r : Fin 640) (d : Fin 1024) :
    k0_pay1 (F := Ideal) g0 o0 w0 g1 o1 w1 g2 o2 w2 x wo (ix2 r d)
      = x (ix2 r d) + ∑ n : Fin 1024, (part (g0 (ix2 r n)) (fun k => o0 (ix2 r k)) (fun k => w0 (ix3 0 k n))
          + part (g1 (ix2 r n)) (fun k => o1 (ix2 r k)) (fun k => w1 (ix3 0 k n))
          + part (g2 (ix2 r n)) (fun k => o2 (ix2 r k)) (fun k => w2 (ix3 0 k n))) * wo (ix2 n d) := by
  unfold part
  pointwise [k0_pay1]

end Cert.Kernel7Ideal.Body

end
-- ==== Proof.MergeFold.lean ====
/-
  What the merge's output array holds: every point writes its own tile of 640 rows.
-/
module

public import proofs.«01_k».proof.Proof.MergeBody

@[expose] public section

noncomputable section

open Idealize.ShloMosaic Idealize.ShloMosaic.TcCoe Idealize.SL.Sem
open Idealize.ShloMosaic.Pipeline (Dat Cfg Window)

namespace Cert.Kernel7Ideal.Fold

open Cert.Kernel7Ideal Cert.Kernel7Ideal.Gen Cert.Kernel7Ideal.Body

theorem point_lt (t : Fin grid0.N) : t.val < 26 := t.isLt.trans_eq N_0

theorem tile_0 : ∀ t : Fin grid0.N, cc0_transform_0 (grid0.coords t) 0 = t.val ∧ cc0_transform_0 (grid0.coords t) 1 = 0 := by decide +kernel
theorem tile_1 : ∀ t : Fin grid0.N, cc0_transform_1 (grid0.coords t) 0 = t.val ∧ cc0_transform_1 (grid0.coords t) 1 = 0 := by decide +kernel
theorem tile_2 : ∀ t : Fin grid0.N, cc0_transform_2 (grid0.coords t) 0 = t.val ∧ cc0_transform_2 (grid0.coords t) 1 = 0 := by decide +kernel
theorem tile_6 : ∀ t : Fin grid0.N, cc0_transform_6 (grid0.coords t) 0 = t.val ∧ cc0_transform_6 (grid0.coords t) 1 = 0 := by decide +kernel
theorem tile_9 : ∀ t : Fin grid0.N, cc0_transform_9 (grid0.coords t) 0 = t.val ∧ cc0_transform_9 (grid0.coords t) 1 = 0 := by decide +kernel
theorem tile_3 : ∀ t : Fin grid0.N, cc0_transform_3 (grid0.coords t) 0 = t.val ∧ cc0_transform_3 (grid0.coords t) 1 = 4 := by decide +kernel
theorem tile_4 : ∀ t : Fin grid0.N, cc0_transform_4 (grid0.coords t) 0 = t.val ∧ cc0_transform_4 (grid0.coords t) 1 = 5 := by decide +kernel
theorem tile_5 : ∀ t : Fin grid0.N, cc0_transform_5 (grid0.coords t) 0 = t.val ∧ cc0_transform_5 (grid0.coords t) 1 = 6 := by decide +kernel

/-- Row `r` of the tile that grid point number `t` works on. -/
def row (t : Fin grid0.N) (r : Fin 640) : Fin 16640 := ⟨t.val * 640 + r.val, by have := point_lt t; omega⟩

/-- Column `n` of branch `b`'s gates, among the projection's columns. -/
def gateCol (b : Fin 3) (n : Fin 1024) : Fin 7680 := ⟨4096 + b.val * 1024 + n.val, by omega⟩

variable (m : (ℓ : Loc nD τ sig) → Buf (Elt Ideal) ℓ) (ρ : Dev nD → PrngReg) (c : Dev nD)

/-! ## The arrays that the region reads -/

def nsa : S16640x512.Idx → EReal := m ((c.tc : Thread nD τ).loc main_arg0)
def ssm : S16640x512.Idx → EReal := m ((c.tc : Thread nD τ).loc main_arg1)
def short : S16640x512.Idx → EReal := m ((c.tc : Thread nD τ).loc main_arg2)
def proj : S16640x7680.Idx → EReal := m ((c.tc : Thread nD τ).loc main_arg3)
def rows : S16640x1024.Idx → EReal := m ((c.tc : Thread nD τ).loc main_arg4)
def wBranch : S3x512x1024.Idx → EReal := m ((c.tc : Thread nD τ).loc main_arg5)
def wOut : S1024x1024.Idx → EReal := m ((c.tc : Thread nD τ).loc main_arg6)

theorem branch_cast : V m c main_v0 = wBranch m c := by
  show StableHlo.after hostOps0 _ _ = _
  after_results_simp
  rfl

theorem out_cast : V m c main_v1 = wOut m c := by
  show StableHlo.after hostOps0 _ _ = _
  after_results_simp
  rfl

theorem nsa_at (t : Fin cfg0.N) (r : Fin 640) (k : Fin 512) :
    (iblk m c 0 t : Vec Ideal S640x512 .bf16) (ix2 r k) = nsa m c (ix2 (row t r) k) := by
  unfold iblk
  refine (View.read_apply ..).trans ?_
  show V m c main_arg0 _ = _
  rw [V_main_arg0]
  show nsa m c _ = _
  congr 1
  funext a
  apply Fin.ext
  match a with
  | ⟨0, _⟩ =>
    show cc0_transform_0 (grid0.coords t) 0 * 640 + 1 * r.val = t.val * 640 + r.val
    rw [(tile_0 t).1]; omega
  | ⟨1, _⟩ =>
    show cc0_transform_0 (grid0.coords t) 1 * 512 + 1 * k.val = k.val
    rw [(tile_0 t).2]; omega

theorem ssm_at (t : Fin cfg0.N) (r : Fin 640) (k : Fin 512) :
    (iblk m c 1 t : Vec Ideal S640x512 .bf16) (ix2 r k) = ssm m c (ix2 (row t r) k) := by
  unfold iblk
  refine (View.read_apply ..).trans ?_
  show V m c main_arg1 _ = _
  rw [V_main_arg1]
  show ssm m c _ = _
  congr 1
  funext a
  apply Fin.ext
  match a with
  | ⟨0, _⟩ =>
    show cc0_transform_1 (grid0.coords t) 0 * 640 + 1 * r.val = t.val * 640 + r.val
    rw [(tile_1 t).1]; omega
  | ⟨1, _⟩ =>
    show cc0_transform_1 (grid0.coords t) 1 * 512 + 1 * k.val = k.val
    rw [(tile_1 t).2]; omega

theorem short_at (t : Fin cfg0.N) (r : Fin 640) (k : Fin 512) :
    (iblk m c 2 t : Vec Ideal S640x512 .bf16) (ix2 r k) = short m c (ix2 (row t r) k) := by
  unfold iblk
  refine (View.read_apply ..).trans ?_
  show V m c main_arg2 _ = _
  rw [V_main_arg2]
  show short m c _ = _
  congr 1
  funext a
  apply Fin.ext
  match a with
  | ⟨0, _⟩ =>
    show cc0_transform_2 (grid0.coords t) 0 * 640 + 1 * r.val = t.val * 640 + r.val
    rw [(tile_2 t).1]; omega
  | ⟨1, _⟩ =>
    show cc0_transform_2 (grid0.coords t) 1 * 512 + 1 * k.val = k.val
    rw [(tile_2 t).2]; omega

theorem gate0_at (t : Fin cfg0.N) (r : Fin 640) (k : Fin 1024) :
    (X0_3 m c t : Vec Ideal S640x1024 .f32) (ix2 r k) = proj m c (ix2 (row t r) (gateCol 0 k)) := by
  unfold X0_3 Window.fill
  rw [dif_pos (moved0_3 t _)]
  unfold iblk
  refine (View.read_apply ..).trans ?_
  show V m c main_arg3 _ = _
  rw [V_main_arg3]
  show proj m c _ = _
  congr 1
  funext a
  apply Fin.ext
  match a with
  | ⟨0, _⟩ =>
    show cc0_transform_3 (grid0.coords t) 0 * 640 + 1 * r.val = t.val * 640 + r.val
    rw [(tile_3 t).1]; omega
  | ⟨1, _⟩ =>
    show cc0_transform_3 (grid0.coords t) 1 * 1024 + 1 * k.val = 4096 + 0 * 1024 + k.val
    rw [(tile_3 t).2]; omega

theorem gate1_at (t : Fin cfg0.N) (r : Fin 640) (k : Fin 1024) :
    (X0_4 m c t : Vec Ideal S640x1024 .f32) (ix2 r k) = proj m c (ix2 (row t r) (gateCol 1 k)) := by
  unfold X0_4 Window.fill
  rw [dif_pos (moved0_4 t _)]
  unfold iblk
  refine (View.read_apply ..).trans ?_
  show V m c main_arg3 _ = _
  rw [V_main_arg3]
  show proj m c _ = _
  congr 1
  funext a
  apply Fin.ext
  match a with
  | ⟨0, _⟩ =>
    show cc0_transform_4 (grid0.coords t) 0 * 640 + 1 * r.val = t.val * 640 + r.val
    rw [(tile_4 t).1]; omega
  | ⟨1, _⟩ =>
    show cc0_transform_4 (grid0.coords t) 1 * 1024 + 1 * k.val = 4096 + 1 * 1024 + k.val
    rw [(tile_4 t).2]; omega

theorem gate2_at (t : Fin cfg0.N) (r : Fin 640) (k : Fin 1024) :
    (X0_5 m c t : Vec Ideal S640x1024 .f32) (ix2 r k) = proj m c (ix2 (row t r) (gateCol 2 k)) := by
  unfold X0_5 Window.fill
  rw [dif_pos (moved0_5 t _)]
  unfold iblk
  refine (View.read_apply ..).trans ?_
  show V m c main_arg3 _ = _
  rw [V_main_arg3]
  show proj m c _ = _
  congr 1
  funext a
  apply Fin.ext
  match a with
  | ⟨0, _⟩ =>
    show cc0_transform_5 (grid0.coords t) 0 * 640 + 1 * r.val = t.val * 640 + r.val
    rw [(tile_5 t).1]; omega
  | ⟨1, _⟩ =>
    show cc0_transform_5 (grid0.coords t) 1 * 1024 + 1 * k.val = 4096 + 2 * 1024 + k.val
    rw [(tile_5 t).2]; omega

theorem rows_at (t : Fin cfg0.N) (r : Fin 640) (k : Fin 1024) :
    (iblk m c 6 t : Vec Ideal S640x1024 .f32) (ix2 r k) = rows m c (ix2 (row t r) k) := by
  unfold iblk
  refine (View.read_apply ..).trans ?_
  show V m c main_arg4 _ = _
  rw [V_main_arg4]
  show rows m c _ = _
  congr 1
  funext a
  apply Fin.ext
  match a with
  | ⟨0, _⟩ =>
    show cc0_transform_6 (grid0.coords t) 0 * 640 + 1 * r.val = t.val * 640 + r.val
    rw [(tile_6 t).1]; omega
  | ⟨1, _⟩ =>
    show cc0_transform_6 (grid0.coords t) 1 * 1024 + 1 * k.val = k.val
    rw [(tile_6 t).2]; omega

theorem branch_at (t : Fin cfg0.N) (b : Fin 3) (k : Fin 512) (n : Fin 1024) :
    (iblk m c 7 t : Vec Ideal S3x512x1024 .bf16) (ix3 b k n) = wBranch m c (ix3 b k n) := by
  unfold iblk
  refine (View.read_apply ..).trans ?_
  show V m c main_v0 _ = _
  rw [branch_cast]
  congr 1
  funext a
  apply Fin.ext
  match a with
  | ⟨0, _⟩ => show 0 * 3 + 1 * b.val = b.val; omega
  | ⟨1, _⟩ => show 0 * 512 + 1 * k.val = k.val; omega
  | ⟨2, _⟩ => show 0 * 1024 + 1 * n.val = n.val; omega

theorem out_at (t : Fin cfg0.N) (k n : Fin 1024) :
    (iblk m c 8 t : Vec Ideal S1024x1024 .bf16) (ix2 k n) = wOut m c (ix2 k n) := by
  unfold iblk
  refine (View.read_apply ..).trans ?_
  show V m c main_v1 _ = _
  rw [out_cast]
  congr 1
  funext a
  apply Fin.ext
  match a with
  | ⟨0, _⟩ => show 0 * 1024 + 1 * k.val = k.val; omega
  | ⟨1, _⟩ => show 0 * 1024 + 1 * n.val = n.val; omega

/-! ## What a point writes -/

/-- The three gated branches of row `p`, at column `n` of the product with the branches' weights. -/
def mixed (p : Fin 16640) (n : Fin 1024) : EReal :=
  part (proj m c (ix2 p (gateCol 0 n))) (fun k => nsa m c (ix2 p k)) (fun k => wBranch m c (ix3 0 k n))
    + part (proj m c (ix2 p (gateCol 1 n))) (fun k => ssm m c (ix2 p k)) (fun k => wBranch m c (ix3 1 k n))
    + part (proj m c (ix2 p (gateCol 2 n))) (fun k => short m c (ix2 p k)) (fun k => wBranch m c (ix3 2 k n))

/-- Row `p` of the output, at column `d`. -/
def value (p : Fin 16640) (d : Fin 1024) : EReal := rows m c (ix2 p d) + ∑ n : Fin 1024, mixed m c p n * wOut m c (ix2 n d)

theorem written (t : Fin cfg0.N) (r : Fin 640) (d : Fin 1024) : outsAt0 m c t (ix2 r d) = value m c (row t r) d := by
  unfold outsAt0
  refine (congrFun (out_point (F := Ideal) ..) _).trans ((pay1_apply ..).trans ?_)
  unfold value mixed
  simp only [branch_apply, nsa_at, ssm_at, short_at, gate0_at, gate1_at, gate2_at, rows_at, branch_at, out_at]

/-! ## The output array -/

/-- The output array. -/
def out : S16640x1024.Idx → EReal := fun i => value m c (i 0) (i 1)

theorem written_idx (t : Fin cfg0.N) (y : S640x1024.Idx) : outsAt0 m c t y = value m c (row t (y 0)) (y 1) := by
  conv_lhs => rw [eq_ix2 y]
  exact written m c t (y 0) (y 1)

/-- A block whose entries are a table's entries at the block's rows is the table read at the block. -/
theorem cut_eq (t : Fin cfg0.N) (g : Fin 16640 → Fin 1024 → EReal) (x : Vec Ideal S640x1024 .f32)
    (h : ∀ y : S640x1024.Idx, x y = g (row t (y 0)) (y 1)) :
    (cfg0.win 9).cut (grid0.coords t) x = ((cfg0.win 9).blk t).view.read (Elt Ideal) (fun i : S16640x1024.Idx => g (i 0) (i 1)) := by
  have at_blk (y : S640x1024.Idx) : g (row t (y 0)) (y 1)
      = (fun i : S16640x1024.Idx => g (i 0) (i 1)) (((cfg0.win 9).blk t).view.emb y) := by
    refine congrArg₂ g (Fin.ext ?_) (Fin.ext ?_)
    · show t.val * 640 + (y 0).val = cc0_transform_9 (grid0.coords t) 0 * 640 + 1 * (y 0).val
      rw [(tile_9 t).1]; omega
    · show (y 1).val = cc0_transform_9 (grid0.coords t) 1 * 1024 + 1 * (y 1).val
      rw [(tile_9 t).2]; omega
  exact funext fun y => (h y).trans (at_blk y)

theorem flushed_eq (t : Fin cfg0.N) (hf : (cfg0.win 9).flush t = true) :
    (dats m 0 c).flushed 9 t = ((cfg0.win 9).blk t).view.read (Elt Ideal) (out m c) := by
  show (cfg0.win 9).cut (grid0.coords t) ((dats m 0 c).after 9 t) = _
  rw [after0_9]
  exact cut_eq t (value m c) _ (written_idx m c t)

theorem mem_blk (t : Fin cfg0.N) (i : S16640x1024.Idx) :
    i ∈ ((cfg0.win 9).blk t).view.set
      ↔ ∀ a : Fin 2, cc0_transform_9 (grid0.coords t) a * S640x1024.size a ≤ (i a).val
        ∧ (i a).val < cc0_transform_9 (grid0.coords t) a * S640x1024.size a + S640x1024.size a := by
  have e : ((cfg0.win 9).blk t).view.set = ((cfg0.win 9).rect t).set := View.set_slice_whole main_v2 _
  rw [e]
  exact Rect.mem_set_unit

/-- Every entry lies in the block that one point writes back. -/
theorem covered (i : S16640x1024.Idx) : ∃ t : Fin cfg0.N, (cfg0.win 9).flush t = true ∧ i ∈ ((cfg0.win 9).blk t).view.set := by
  have hi : (i 0).val < 16640 := (i 0).isLt
  have hd : (i 1).val < 1024 := (i 1).isLt
  have hlt : (i 0).val / 640 < cfg0.N := lt_of_lt_of_eq (by omega) (show 26 = cfg0.N from N_0.symm)
  refine ⟨⟨_, hlt⟩, flush0_9 ⟨_, hlt⟩, ?_⟩
  rw [mem_blk]
  have ht := tile_9 ⟨_, hlt⟩
  dsimp only at ht
  intro a
  match a with
  | ⟨0, _⟩ =>
    show cc0_transform_9 (grid0.coords _) 0 * 640 ≤ (i 0).val ∧ (i 0).val < cc0_transform_9 (grid0.coords _) 0 * 640 + 640
    rw [ht.1]; omega
  | ⟨1, _⟩ =>
    show cc0_transform_9 (grid0.coords _) 1 * 1024 ≤ (i 1).val ∧ (i 1).val < cc0_transform_9 (grid0.coords _) 1 * 1024 + 1024
    rw [ht.2]; omega

theorem final : (dats m 0 c).arrAt 9 cfg0.N = out m c :=
  (dats m 0 c).arrAt_eq_of_cover 9 _ (fun t hf => flushed_eq m c t hf) (fun i => covered i)

/-- The exact kernel's run: its result, its arguments unchanged. -/
theorem run : θ_run defs (onTc (τ := τ) (main (F := Ideal))) ⟨m, fun _ => 0, ρ⟩ (fun r => ∀ c : Dev nD,
      r.2.mem ((c.tc : Thread nD τ).loc main_v2) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).trans (final m c), h.2 c⟩)
    (θ_run_and ((θ_run defs _ _).mono (fun _ h c => (h c).1 9) (run_main m ρ)) (unchanged m ρ))

end Cert.Kernel7Ideal.Fold

end
-- ==== Proof.MergeEquation.lean ====
/-
  The merge's output array is the reference's: the reference sums the three branches over an axis of length three.
-/
module

public import proofs.«01_k».proof.Proof.MergeFold
public import proofs.«01_k».proof.Proof.Gen.Reference7Ideal.Run
public import proofs.«01_k».proof.Proof.Gen.Reference7Ideal.Read

@[expose] public section

noncomputable section

open Idealize.ShloMosaic Idealize.ShloMosaic.TcCoe Idealize.SL.Sem

namespace Cert.MergeEquation

open Cert.Kernel7Ideal.Fold
open Cert.Reference7Ideal Cert.Reference7Ideal.Gen Cert.Reference7Ideal.Read
open Cert.Kernel7Ideal.Body (part)

variable (x0 x1 x2 : FVec Ideal S16640x512 .bf16) (x3 : FVec Ideal S16640x7680 .f32) (x4 : FVec Ideal S16640x1024 .f32)
  (x5 : FVec Ideal S3x512x1024 .f32) (x6 : FVec Ideal S1024x1024 .f32)

/-- The three branches' rows, by the branch's number. -/
def outs (b : Fin 3) : FVec Ideal S16640x512 .bf16 := match b with
  | 0 => x0
  | 1 => x1
  | 2 => x2

theorem outs_apply (p : Fin 16640) (b : Fin 3) (k : Fin 512) : val_main_v4 (F := Ideal) x0 x1 x2 (ix3 p b k) = outs x0 x1 x2 b (ix2 p k) := by
  fin_cases b
  · show _ = x0 (ix2 p k)
    pointwise [val_main_v4, val_main_v3, val_main_v2, val_main_v1, val_main_v0]
  · show _ = x1 (ix2 p k)
    pointwise [val_main_v4, val_main_v3, val_main_v2, val_main_v1, val_main_v0]
  · show _ = x2 (ix2 p k)
    pointwise [val_main_v4, val_main_v3, val_main_v2, val_main_v1, val_main_v0]

theorem product_apply (p : Fin 16640) (b : Fin 3) (n : Fin 1024) :
    val_main_v6 (F := Ideal) x0 x1 x2 x5 (ix3 p b n) = ∑ k : Fin 512, x5 (ix3 b k n) * outs x0 x1 x2 b (ix2 p k) := by
  have h : val_main_v6 (F := Ideal) x0 x1 x2 x5 (ix3 p b n) = ∑ k : Fin 512, x5 (ix3 b k n) * val_main_v4 (F := Ideal) x0 x1 x2 (ix3 p b k) := by
    unfold val_main_v6 val_main_v5
    generalize val_main_v4 (F := Ideal) x0 x1 x2 = o
    pointwise []
  simpa only [outs_apply] using h

theorem gate_apply (p : Fin 16640) (b : Fin 3) (n : Fin 1024) :
    val_main_v14 (F := Ideal) x3 (ix3 p b n) = Ideal.logistic (x3 (ix2 p (gateCol b n))) := by
  have h : val_main_v8 (F := Ideal) x3 (ix3 p b n) = x3 (ix2 p (gateCol b n)) := by
    rw [val_main_v8_apply, val_main_v7_apply]
    refine congrArg x3 (funext fun a => Fin.ext ?_)
    match a with
    | ⟨0, _⟩ => show ((p.val * 3 + b.val) * 1024 + n.val) / 3072 = p.val; omega
    | ⟨1, _⟩ => show 4096 + ((p.val * 3 + b.val) * 1024 + n.val) % 3072 = 4096 + b.val * 1024 + n.val; omega
  rw [← h]
  unfold val_main_v14 val_main_v12 val_main_v10 val_main_v9
  generalize val_main_v8 (F := Ideal) x3 = g
  pointwise [val_main_v13, val_main_v11, val_main_cst, val_main_cst_0, Ideal.logistic]

theorem mix_apply (p : Fin 16640) (n : Fin 1024) :
    val_main_v15 (F := Ideal) x0 x1 x2 x3 x5 (ix2 p n)
      = ∑ b : Fin 3, val_main_v14 (F := Ideal) x3 (ix3 p b n) * val_main_v6 (F := Ideal) x0 x1 x2 x5 (ix3 p b n) := by
  unfold val_main_v15
  generalize val_main_v14 (F := Ideal) x3 = g
  generalize val_main_v6 (F := Ideal) x0 x1 x2 x5 = u
  pointwise []

theorem reference_apply (p : Fin 16640) (d : Fin 1024) :
    val_main_v17 (F := Ideal) x0 x1 x2 x3 x4 x5 x6 (ix2 p d) = x4 (ix2 p d) + ∑ n : Fin 1024, val_main_v15 (F := Ideal) x0 x1 x2 x3 x5 (ix2 p n) * x6 (ix2 n d) := by
  unfold val_main_v17 val_main_v16
  generalize val_main_v15 (F := Ideal) x0 x1 x2 x3 x5 = a
  pointwise []

theorem part_apply (p : Fin 16640) (b : Fin 3) (n : Fin 1024) :
    val_main_v14 (F := Ideal) x3 (ix3 p b n) * val_main_v6 (F := Ideal) x0 x1 x2 x5 (ix3 p b n)
      = part (x3 (ix2 p (gateCol b n))) (fun k => outs x0 x1 x2 b (ix2 p k)) (fun k => x5 (ix3 b k n)) := by
  rw [gate_apply, product_apply]
  unfold part
  exact congrArg _ (Finset.sum_congr rfl fun k _ => mul_comm _ _)

variable (m : (ℓ : Loc Cert.Kernel7Ideal.nD Cert.Kernel7Ideal.τ Cert.Kernel7Ideal.sig) → Buf (Elt Ideal) ℓ) (c : Dev Cert.Kernel7Ideal.nD)

theorem mixed_apply (p : Fin 16640) (n : Fin 1024) :
    val_main_v15 (F := Ideal) (nsa m c) (ssm m c) (short m c) (proj m c) (wBranch m c) (ix2 p n) = mixed m c p n := by
  refine (mix_apply ..).trans ((Fin.sum_univ_three _).trans ?_)
  exact congrArg₂ (· + ·) (congrArg₂ (· + ·) (part_apply _ _ _ _ _ p 0 n) (part_apply _ _ _ _ _ p 1 n)) (part_apply _ _ _ _ _ p 2 n)

/-- The two arrays are the same function of the arguments. -/
theorem out_eq : val_main_v17 (F := Ideal) (nsa m c) (ssm m c) (short m c) (proj m c) (rows m c) (wBranch m c) (wOut m c) = out m c := by
  have key (p : Fin 16640) (d : Fin 1024) :
      val_main_v17 (F := Ideal) (nsa m c) (ssm m c) (short m c) (proj m c) (rows m c) (wBranch m c) (wOut m c) (ix2 p d) = value m c p d := by
    refine (reference_apply _ _ _ _ _ _ _ p d).trans ?_
    unfold value
    simp only [mixed_apply]
  funext i
  exact (congrArg _ (eq_ix2 i)).trans (key (i 0) (i 1))

end Cert.MergeEquation

end
-- ==== Proof.RouterBody.lean ====
/-
  What one grid point of the router writes: its rows normalized, and the normalized rows times the experts' columns.
-/
module

public import proofs.«01_k».proof.Defs
public import proofs.«01_k».proof.Proof.Gen.Kernel8Ideal.Frame
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem

namespace Cert.Kernel8Ideal.Body

open Cert.Kernel8Ideal Cert.Kernel8Ideal.Gen

theorem zero2 : (![0, 0] : Fin 2 → Nat) = fun _ => 0 := funext fun a => by fin_cases a <;> rfl

/-- A row's entry `j` divided by the row's root mean square, times the gain. -/
def normed (x : Fin 1024 → EReal) (g : Fin 1024 → EReal) (j : Fin 1024) : EReal :=
  x j * Ideal.rsqrt (Ideal.div (∑ k : Fin 1024, x k * x k) (Ideal.ofBits .f32 0x44800000#32) + Ideal.ofBits .f32 0x358637BD#32) * g j

variable (x : Vec Ideal S640x1024 .f32) (g : Vec Ideal S1x1024 .f32) (w : Vec Ideal S1024x128 .f32)

theorem pay1_apply (r : Fin 640) (j : Fin 1024) :
    k0_pay1 (F := Ideal) x g (ix2 r j) = normed (fun k => x (ix2 r k)) (fun k => g (ix2 0 k)) j := by
  unfold normed
  pointwise [k0_pay1]

theorem pay2_apply (r : Fin 640) (j : Fin 1024) :
    k0_pay2 (F := Ideal) x g (ix2 r j) = normed (fun k => x (ix2 r k)) (fun k => g (ix2 0 k)) j := pay1_apply x g r j

theorem pay3_apply (r : Fin 640) (e : Fin 128) :
    k0_pay3 (F := Ideal) x g w (ix2 r e) = ∑ j : Fin 1024, normed (fun k => x (ix2 r k)) (fun k => g (ix2 0 k)) j * w (ix2 j e) := by
  have h : k0_pay3 (F := Ideal) x g w (ix2 r e) = ∑ j : Fin 1024, k0_pay1 (F := Ideal) x g (ix2 r j) * w (ix2 j e) := by
    unfold k0_pay3
    generalize k0_pay1 (F := Ideal) x g = h
    pointwise []
  simpa only [pay1_apply] using h

theorem rows_block : out0_3 (F := Ideal) x g w = k0_pay2 x g := by
  unfold out0_3
  rw [View.canon_unit_zero zero2, View.ld_unit_zero (S := S640x1024) zero2, View.ld_unit_zero (S := S1x1024) zero2]

theorem scores_block : out0_4 (F := Ideal) x g w = k0_pay3 x g w := by
  unfold out0_4
  rw [View.canon_unit_zero zero2, View.ld_unit_zero (S := S640x1024) zero2, View.ld_unit_zero (S := S1x1024) zero2,
    View.ld_unit_zero (S := S1024x128) zero2]

end Cert.Kernel8Ideal.Body

end
-- ==== Proof.RouterFold.lean ====
/-
  What the router's two output arrays hold: every point writes its own tile of 640 rows.
-/
module

public import proofs.«01_k».proof.Proof.RouterBody
public import Idealize.ShloMosaic.Lib.StableHlo.RunRead
public import Idealize.ShloMosaic.Lib.Quiescent

@[expose] public section

noncomputable section

open Idealize.ShloMosaic Idealize.ShloMosaic.TcCoe Idealize.SL.Sem
open Idealize.ShloMosaic.Pipeline (Dat Cfg Window)

namespace Cert.Kernel8Ideal.Fold

open Cert.Kernel8Ideal Cert.Kernel8Ideal.Gen Cert.Kernel8Ideal.Body

theorem point_lt (t : Fin grid0.N) : t.val < 26 := t.isLt.trans_eq N_0

theorem tile_0 : ∀ t : Fin grid0.N, cc0_transform_0 (grid0.coords t) 0 = t.val ∧ cc0_transform_0 (grid0.coords t) 1 = 0 := by decide +kernel
theorem tile_3 : ∀ t : Fin grid0.N, cc0_transform_3 (grid0.coords t) 0 = t.val ∧ cc0_transform_3 (grid0.coords t) 1 = 0 := by decide +kernel
theorem tile_4 : ∀ t : Fin grid0.N, cc0_transform_4 (grid0.coords t) 0 = t.val ∧ cc0_transform_4 (grid0.coords t) 1 = 0 := by decide +kernel

/-- Row `r` of the tile that grid point number `t` works on. -/
def row (t : Fin grid0.N) (r : Fin 640) : Fin 16640 := ⟨t.val * 640 + r.val, by have := point_lt t; omega⟩

variable (m : (ℓ : Loc nD τ sig) → Buf (Elt Ideal) ℓ) (ρ : Dev nD → PrngReg) (c : Dev nD)

/-! ## The arrays that the region reads -/

def xs : S16640x1024.Idx → EReal := m ((c.tc : Thread nD τ).loc main_arg0)
def gain : S1024.Idx → EReal := m ((c.tc : Thread nD τ).loc main_arg1)
def router : S1024x8.Idx → EReal := m ((c.tc : Thread nD τ).loc main_arg2)

/-- The weight as the region reads it: 120 more columns, of zeros. -/
def wide : S1024x128.Idx → EReal := V m c main_v0

theorem gain_cast (j : Fin 1024) : (V m c main_v1 : S1x1024.Idx → EReal) (ix2 0 j) = gain m c (ix1 j) := by
  have e : (V m c main_v1 : S1x1024.Idx → EReal) = shapeCast S1x1024 (gain m c) shapeCasts_S1024_S1x1024 := by
    show StableHlo.after (List.flatten [hostOps0, hostOps0_1, hostOps0_2]) _ _ = _
    simp only [List.flatten_cons, List.flatten_nil, List.append_nil, List.cons_append, List.nil_append]
    after_reads_simp
    rfl
  rw [e]
  pointwise

theorem wide_eq : wide m c = pad S1024x128 ![0, 0] ![0, 120] ![0, 0] (router m c) (sitofp (F := Ideal) .f32 (constantI S_ 32 0#32))
    pads_S1024x8_S1024x128_000_01200 h_S_ := by
  unfold wide
  show StableHlo.after (List.flatten [hostOps0, hostOps0_1, hostOps0_2]) _ _ = _
  simp only [List.flatten_cons, List.flatten_nil, List.append_nil, List.cons_append, List.nil_append]
  after_reads_simp
  rfl

/-- Expert `e`'s column, among the columns that the region reads. -/
def col (e : Fin 8) : Fin 128 := ⟨e.val, by omega⟩

theorem wide_apply (j : Fin 1024) (e : Fin 8) : wide m c (ix2 j (col e)) = router m c (ix2 j e) := by
  rw [wide_eq]
  generalize router m c = w
  generalize sitofp (F := Ideal) .f32 (constantI S_ 32 0#32) = z
  pointwise
  exact dif_pos e.isLt

theorem xs_at (t : Fin cfg0.N) (r : Fin 640) (k : Fin 1024) :
    (iblk m c 0 t : Vec Ideal S640x1024 .f32) (ix2 r k) = xs m c (ix2 (row t r) k) := by
  unfold iblk
  refine (View.read_apply ..).trans ?_
  show V m c main_arg0 _ = _
  rw [V_main_arg0]
  show xs m c _ = _
  congr 1
  funext a
  apply Fin.ext
  match a with
  | ⟨0, _⟩ =>
    show cc0_transform_0 (grid0.coords t) 0 * 640 + 1 * r.val = t.val * 640 + r.val
    rw [(tile_0 t).1]; omega
  | ⟨1, _⟩ =>
    show cc0_transform_0 (grid0.coords t) 1 * 1024 + 1 * k.val = k.val
    rw [(tile_0 t).2]; omega

theorem gain_at (t : Fin cfg0.N) (k : Fin 1024) : (iblk m c 1 t : Vec Ideal S1x1024 .f32) (ix2 0 k) = gain m c (ix1 k) := by
  unfold iblk
  refine (View.read_apply ..).trans (Eq.trans ?_ (gain_cast m c k))
  show V m c main_v1 _ = V m c main_v1 _
  congr 1
  funext a
  apply Fin.ext
  match a with
  | ⟨0, _⟩ => rfl
  | ⟨1, _⟩ => show 0 * 1024 + 1 * k.val = k.val; omega

theorem wide_at (t : Fin cfg0.N) (k : Fin 1024) (e : Fin 128) :
    (iblk m c 2 t : Vec Ideal S1024x128 .f32) (ix2 k e) = wide m c (ix2 k e) := by
  unfold iblk
  refine (View.read_apply ..).trans ?_
  show wide m c _ = _
  congr 1
  funext a
  apply Fin.ext
  match a with
  | ⟨0, _⟩ => show 0 * 1024 + 1 * k.val = k.val; omega
  | ⟨1, _⟩ => show 0 * 128 + 1 * e.val = e.val; omega

/-! ## The output arrays -/

/-- Row `p` normalized, at column `j`. -/
def unit (p : Fin 16640) (j : Fin 1024) : EReal := normed (fun k => xs m c (ix2 p k)) (fun k => gain m c (ix1 k)) j

/-- Row `p`'s score in column `e`. -/
def score (p : Fin 16640) (e : Fin 128) : EReal := ∑ j : Fin 1024, unit m c p j * wide m c (ix2 j e)

def rows : S16640x1024.Idx → EReal := fun i => unit m c (i 0) (i 1)
def scores : S16640x128.Idx → EReal := fun i => score m c (i 0) (i 1)

theorem rows_written (t : Fin cfg0.N) (r : Fin 640) (j : Fin 1024) :
    out0_3 (F := Ideal) (iblk m c 0 t) (iblk m c 1 t) (iblk m c 2 t) (ix2 r j) = unit m c (row t r) j := by
  refine (congrFun (rows_block ..) _).trans ((pay2_apply ..).trans ?_)
  unfold unit
  simp only [xs_at, gain_at]

theorem scores_written (t : Fin cfg0.N) (r : Fin 640) (e : Fin 128) :
    out0_4 (F := Ideal) (iblk m c 0 t) (iblk m c 1 t) (iblk m c 2 t) (ix2 r e) = score m c (row t r) e := by
  refine (congrFun (scores_block ..) _).trans ((pay3_apply ..).trans ?_)
  unfold score unit
  simp only [xs_at, gain_at, wide_at]

theorem rows_written_idx (t : Fin cfg0.N) (y : S640x1024.Idx) :
    out0_3 (F := Ideal) (iblk m c 0 t) (iblk m c 1 t) (iblk m c 2 t) y = unit m c (row t (y 0)) (y 1) := by
  conv_lhs => rw [eq_ix2 y]
  exact rows_written m c t (y 0) (y 1)

/-- A block whose entries are a table's entries at the block's rows is the table read at the block. -/
theorem rows_cut (t : Fin cfg0.N) (g : Fin 16640 → Fin 1024 → EReal) (x : Vec Ideal S640x1024 .bf16)
    (h : ∀ y : S640x1024.Idx, x y = g (row t (y 0)) (y 1)) :
    (cfg0.win 3).cut (grid0.coords t) x = ((cfg0.win 3).blk t).view.read (Elt Ideal) (fun i : S16640x1024.Idx => g (i 0) (i 1)) := by
  have at_blk (y : S640x1024.Idx) : g (row t (y 0)) (y 1)
      = (fun i : S16640x1024.Idx => g (i 0) (i 1)) (((cfg0.win 3).blk t).view.emb y) := by
    refine congrArg₂ g (Fin.ext ?_) (Fin.ext ?_)
    · show t.val * 640 + (y 0).val = cc0_transform_3 (grid0.coords t) 0 * 640 + 1 * (y 0).val
      rw [(tile_3 t).1]; omega
    · show (y 1).val = cc0_transform_3 (grid0.coords t) 1 * 1024 + 1 * (y 1).val
      rw [(tile_3 t).2]; omega
  exact funext fun y => (h y).trans (at_blk y)

theorem rows_flushed (t : Fin cfg0.N) (hf : (cfg0.win 3).flush t = true) :
    (dats m 0 c).flushed 3 t = ((cfg0.win 3).blk t).view.read (Elt Ideal) (rows m c) := by
  show (cfg0.win 3).cut (grid0.coords t) ((dats m 0 c).after 3 t) = _
  rw [after0_3]
  exact rows_cut t (unit m c) _ (rows_written_idx m c t)

theorem rows_mem (t : Fin cfg0.N) (i : S16640x1024.Idx) :
    i ∈ ((cfg0.win 3).blk t).view.set
      ↔ ∀ a : Fin 2, cc0_transform_3 (grid0.coords t) a * S640x1024.size a ≤ (i a).val
        ∧ (i a).val < cc0_transform_3 (grid0.coords t) a * S640x1024.size a + S640x1024.size a := by
  have e : ((cfg0.win 3).blk t).view.set = ((cfg0.win 3).rect t).set := View.set_slice_whole main_v2_0 _
  rw [e]
  exact Rect.mem_set_unit

/-- Every entry lies in the block that one point writes back. -/
theorem rows_covered (i : S16640x1024.Idx) : ∃ t : Fin cfg0.N, (cfg0.win 3).flush t = true ∧ i ∈ ((cfg0.win 3).blk t).view.set := by
  have hi : (i 0).val < 16640 := (i 0).isLt
  have hd : (i 1).val < 1024 := (i 1).isLt
  have hlt : (i 0).val / 640 < cfg0.N := lt_of_lt_of_eq (by omega) (show 26 = cfg0.N from N_0.symm)
  refine ⟨⟨_, hlt⟩, flush0_3 ⟨_, hlt⟩, ?_⟩
  rw [rows_mem]
  have ht := tile_3 ⟨_, hlt⟩
  dsimp only at ht
  intro a
  match a with
  | ⟨0, _⟩ =>
    show cc0_transform_3 (grid0.coords _) 0 * 640 ≤ (i 0).val ∧ (i 0).val < cc0_transform_3 (grid0.coords _) 0 * 640 + 640
    rw [ht.1]; omega
  | ⟨1, _⟩ =>
    show cc0_transform_3 (grid0.coords _) 1 * 1024 ≤ (i 1).val ∧ (i 1).val < cc0_transform_3 (grid0.coords _) 1 * 1024 + 1024
    rw [ht.2]; omega

theorem rows_final : (dats m 0 c).arrAt 3 cfg0.N = rows m c :=
  (dats m 0 c).arrAt_eq_of_cover 3 _ (fun t hf => rows_flushed m c t hf) (fun i => rows_covered i)

theorem scores_written_idx (t : Fin cfg0.N) (y : S640x128.Idx) :
    out0_4 (F := Ideal) (iblk m c 0 t) (iblk m c 1 t) (iblk m c 2 t) y = score m c (row t (y 0)) (y 1) := by
  conv_lhs => rw [eq_ix2 y]
  exact scores_written m c t (y 0) (y 1)

/-- A block whose entries are a table's entries at the block's rows is the table read at the block. -/
theorem scores_cut (t : Fin cfg0.N) (g : Fin 16640 → Fin 128 → EReal) (x : Vec Ideal S640x128 .f32)
    (h : ∀ y : S640x128.Idx, x y = g (row t (y 0)) (y 1)) :
    (cfg0.win 4).cut (grid0.coords t) x = ((cfg0.win 4).blk t).view.read (Elt Ideal) (fun i : S16640x128.Idx => g (i 0) (i 1)) := by
  have at_blk (y : S640x128.Idx) : g (row t (y 0)) (y 1)
      = (fun i : S16640x128.Idx => g (i 0) (i 1)) (((cfg0.win 4).blk t).view.emb y) := by
    refine congrArg₂ g (Fin.ext ?_) (Fin.ext ?_)
    · show t.val * 640 + (y 0).val = cc0_transform_4 (grid0.coords t) 0 * 640 + 1 * (y 0).val
      rw [(tile_4 t).1]; omega
    · show (y 1).val = cc0_transform_4 (grid0.coords t) 1 * 128 + 1 * (y 1).val
      rw [(tile_4 t).2]; omega
  exact funext fun y => (h y).trans (at_blk y)

theorem scores_flushed (t : Fin cfg0.N) (hf : (cfg0.win 4).flush t = true) :
    (dats m 0 c).flushed 4 t = ((cfg0.win 4).blk t).view.read (Elt Ideal) (scores m c) := by
  show (cfg0.win 4).cut (grid0.coords t) ((dats m 0 c).after 4 t) = _
  rw [after0_4]
  exact scores_cut t (score m c) _ (scores_written_idx m c t)

theorem scores_mem (t : Fin cfg0.N) (i : S16640x128.Idx) :
    i ∈ ((cfg0.win 4).blk t).view.set
      ↔ ∀ a : Fin 2, cc0_transform_4 (grid0.coords t) a * S640x128.size a ≤ (i a).val
        ∧ (i a).val < cc0_transform_4 (grid0.coords t) a * S640x128.size a + S640x128.size a := by
  have e : ((cfg0.win 4).blk t).view.set = ((cfg0.win 4).rect t).set := View.set_slice_whole main_v2_1 _
  rw [e]
  exact Rect.mem_set_unit

/-- Every entry lies in the block that one point writes back. -/
theorem scores_covered (i : S16640x128.Idx) : ∃ t : Fin cfg0.N, (cfg0.win 4).flush t = true ∧ i ∈ ((cfg0.win 4).blk t).view.set := by
  have hi : (i 0).val < 16640 := (i 0).isLt
  have hd : (i 1).val < 128 := (i 1).isLt
  have hlt : (i 0).val / 640 < cfg0.N := lt_of_lt_of_eq (by omega) (show 26 = cfg0.N from N_0.symm)
  refine ⟨⟨_, hlt⟩, flush0_4 ⟨_, hlt⟩, ?_⟩
  rw [scores_mem]
  have ht := tile_4 ⟨_, hlt⟩
  dsimp only at ht
  intro a
  match a with
  | ⟨0, _⟩ =>
    show cc0_transform_4 (grid0.coords _) 0 * 640 ≤ (i 0).val ∧ (i 0).val < cc0_transform_4 (grid0.coords _) 0 * 640 + 640
    rw [ht.1]; omega
  | ⟨1, _⟩ =>
    show cc0_transform_4 (grid0.coords _) 1 * 128 ≤ (i 1).val ∧ (i 1).val < cc0_transform_4 (grid0.coords _) 1 * 128 + 128
    rw [ht.2]; omega

theorem scores_final : (dats m 0 c).arrAt 4 cfg0.N = scores m c :=
  (dats m 0 c).arrAt_eq_of_cover 4 _ (fun t hf => scores_flushed m c t hf) (fun i => scores_covered i)

/-! ## The run -/

/-- The scores' first eight columns. -/
def eight (o : FVec Ideal S16640x128 .f32) : FVec Ideal S16640x8 .f32 := extractStridedSlice S16640x8 ![0, 0] o slices_S16640x128_S16640x8_0_0

/-- The buffers as the region leaves them. -/
def after : Valuation τ sig (Elt Ideal) :=
  Pipeline.withArrays (cfgs 0).spec c (V0 m c) fun w => (dats m 0 c).arrAt w (cfgs 0).N

theorem sharedIn : Pipeline.SharedIn spec0 := by decide

theorem after_scores : after m c (Proc.devRef .tc main_v2_1) = scores m c :=
  ((dats m 0 c).withArrays_arrAt sharedIn (V0 m c) (fun _ => rfl) 4).trans (scores_final m c)

theorem last_line (v : Valuation τ sig (Elt Ideal)) :
    StableHlo.after hostOps1 v (Proc.devRef .tc main_v3) = eight (v (Proc.devRef .tc main_v2_1)) := by
  after_results_simp
  rfl

theorem left_scores : Pipeline.afterTail₀ cfgs (dats m) 0 (V0 m) [hostOps1] c main_v3 = eight (scores m c) := by
  refine (last_line (after m c)).trans ?_
  exact congrArg eight (after_scores m c)

/-- The exact kernel's run: its two results, its arguments unchanged. -/
theorem run : θ_run defs (onTc (τ := τ) (main (F := Ideal))) ⟨m, fun _ => 0, ρ⟩ (fun r => ∀ c : Dev nD,
      r.2.mem ((c.tc : Thread nD τ).loc main_v2_0) = rows m c
      ∧ r.2.mem ((c.tc : Thread nD τ).loc main_v3) = eight (scores m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨h.1 c |>.1, h.1 c |>.2, h.2 c⟩)
    (θ_run_and ((θ_run defs _ _).mono (fun r h (c : Dev nD) => (⟨
      ((h c).1 3).trans (rows_final m c),
      ((h c).2 main_v3 (Pipeline.mem_restRefs_of main_v3 (by decide) (by decide))).trans (left_scores m c)⟩ :
      r.2.mem ((c.tc : Thread nD τ).loc main_v2_0) = rows m c
      ∧ r.2.mem ((c.tc : Thread nD τ).loc main_v3) = eight (scores m c))) (run_main m ρ)) (unchanged m ρ))

end Cert.Kernel8Ideal.Fold

end
-- ==== Proof.RouterEquation.lean ====
/-
  The router's two results are the reference's.
-/
module

public import proofs.«01_k».proof.Proof.RouterFold
public import proofs.«01_k».proof.Proof.Gen.Reference8Ideal.Run
public import proofs.«01_k».proof.Proof.Gen.Reference8Ideal.Read

@[expose] public section

noncomputable section

open Idealize.ShloMosaic Idealize.ShloMosaic.TcCoe Idealize.SL.Sem
namespace Cert.RouterEquation

open Cert.Kernel8Ideal.Fold
open Cert.Reference8Ideal Cert.Reference8Ideal.Gen Cert.Reference8Ideal.Read
open Cert.Kernel8Ideal.Body (normed)

variable (x0 : FVec Ideal S16640x1024 .f32) (x1 : FVec Ideal S1024 .f32) (x2 : FVec Ideal S1024x8 .f32)

theorem normed_apply (p : Fin 16640) (j : Fin 1024) :
    val_main_v12 (F := Ideal) x0 x1 (ix2 p j) = normed (fun k => x0 (ix2 p k)) (fun k => x1 (ix1 k)) j := by
  unfold normed
  pointwise [val_main_v12, val_main_v11, val_main_v10, val_main_v9, val_main_v8, val_main_v7, val_main_v6, val_main_v5, val_main_cst_1, val_main_v4,
    val_main_v3, val_main_cst_0, val_main_v2, val_main_v1, val_main_cst, val_main_v0]

theorem scores_apply (p : Fin 16640) (e : Fin 8) :
    val_main_v13 (F := Ideal) x0 x1 x2 (ix2 p e) = ∑ j : Fin 1024, normed (fun k => x0 (ix2 p k)) (fun k => x1 (ix1 k)) j * x2 (ix2 j e) := by
  have h : val_main_v13 (F := Ideal) x0 x1 x2 (ix2 p e) = ∑ j : Fin 1024, val_main_v12 (F := Ideal) x0 x1 (ix2 p j) * x2 (ix2 j e) := by
    unfold val_main_v13
    generalize val_main_v12 (F := Ideal) x0 x1 = y
    pointwise []
  simpa only [normed_apply] using h

variable (m : (ℓ : Loc Cert.Kernel8Ideal.nD Cert.Kernel8Ideal.τ Cert.Kernel8Ideal.sig) → Buf (Elt Ideal) ℓ) (c : Dev Cert.Kernel8Ideal.nD)

theorem rows_eq : val_main_v14 (F := Ideal) (xs m c) (gain m c) = rows m c := by
  have key (p : Fin 16640) (j : Fin 1024) : val_main_v14 (F := Ideal) (xs m c) (gain m c) (ix2 p j) = unit m c p j :=
    normed_apply (xs m c) (gain m c) p j
  funext i
  exact (congrArg _ (eq_ix2 i)).trans (key (i 0) (i 1))

theorem eight_apply (o : Cert.Kernel8Ideal.S16640x128.Idx → EReal) (p : Fin 16640) (e : Fin 8) : eight o (ix2 p e) = o (ix2 p (col e)) := by
  unfold eight col
  pointwise

theorem scores_eq : val_main_v13 (F := Ideal) (xs m c) (gain m c) (router m c) = eight (scores m c) := by
  have key (p : Fin 16640) (e : Fin 8) :
      val_main_v13 (F := Ideal) (xs m c) (gain m c) (router m c) (ix2 p e) = eight (scores m c) (ix2 p e) := by
    refine (scores_apply _ _ _ p e).trans (Eq.symm ((eight_apply _ p e).trans ?_))
    show score m c p (col e) = _
    unfold score unit
    simp only [wide_apply]
  funext i
  exact (congrArg _ (eq_ix2 i)).trans ((key (i 0) (i 1)).trans (congrArg _ (eq_ix2 i)).symm)

end Cert.RouterEquation

end
-- ==== Proof.lean ====
/-
  The claims. For the grouped expert feed-forward, the dense feed-forward, the router, the merge, the norm-and-project
  call, the samples' and the prompts' preparation calls and the samples' state-space call alike: the rounded and the exact kernel and
  the reference run and leave their arguments as they were, the exact kernel is the rounded kernel's own text, and the exact
  kernel and the reference end with the same arrays.
-/
module

public import proofs.«01_k».proof.Defs
public import proofs.«01_k».proof.Proof.Equation
public import proofs.«01_k».proof.Proof.ProjEquation
public import proofs.«01_k».proof.Proof.RopeEquation
public import proofs.«01_k».proof.Proof.PromptEquation
public import proofs.«01_k».proof.Proof.SsdEquation
public import proofs.«01_k».proof.Proof.DenseEquation
public import proofs.«01_k».proof.Proof.MergeEquation
public import proofs.«01_k».proof.Proof.RouterEquation
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel7.Frame
public import proofs.«01_k».proof.Proof.Gen.Kernel8.Frame
public import Idealize.ShloMosaic.Lib.Quiescent

@[expose] public section

noncomputable section

namespace Cert.Proof

open Idealize.ShloMosaic Idealize.ShloMosaic.TcCoe Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Kernel2.Facts := Cert.Kernel2.Gen.facts
local instance : Cert.Kernel2Ideal.Facts := Cert.Kernel2Ideal.Gen.facts
local instance : Cert.Reference2Ideal.Facts := Cert.Reference2Ideal.Gen.facts
local instance : Cert.Kernel3.Facts := Cert.Kernel3.Gen.facts
local instance : Cert.Kernel3Ideal.Facts := Cert.Kernel3Ideal.Gen.facts
local instance : Cert.Reference3Ideal.Facts := Cert.Reference3Ideal.Gen.facts
local instance : Cert.Kernel4.Facts := Cert.Kernel4.Gen.facts
local instance : Cert.Kernel4Ideal.Facts := Cert.Kernel4Ideal.Gen.facts
local instance : Cert.Reference4Ideal.Facts := Cert.Reference4Ideal.Gen.facts
local instance : Cert.Kernel5.Facts := Cert.Kernel5.Gen.facts
local instance : Cert.Kernel5Ideal.Facts := Cert.Kernel5Ideal.Gen.facts
local instance : Cert.Reference5Ideal.Facts := Cert.Reference5Ideal.Gen.facts
local instance : Cert.Kernel6.Facts := Cert.Kernel6.Gen.facts
local instance : Cert.Kernel6Ideal.Facts := Cert.Kernel6Ideal.Gen.facts
local instance : Cert.Reference6Ideal.Facts := Cert.Reference6Ideal.Gen.facts
local instance : Cert.Kernel7.Facts := Cert.Kernel7.Gen.facts
local instance : Cert.Kernel7Ideal.Facts := Cert.Kernel7Ideal.Gen.facts
local instance : Cert.Reference7Ideal.Facts := Cert.Reference7Ideal.Gen.facts
local instance : Cert.Kernel8.Facts := Cert.Kernel8.Gen.facts
local instance : Cert.Kernel8Ideal.Facts := Cert.Kernel8Ideal.Gen.facts
local instance : Cert.Reference8Ideal.Facts := Cert.Reference8Ideal.Gen.facts
local instance : Cert.Pre_experts_in_range.Facts := Cert.Pre_experts_in_range.Gen.facts

theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem values_equal : Cert.algebraic_KernelIdeal_ReferenceIdeal := by
  intro m g m' g' h args
  have hw : ∀ q, (Cert.KernelIdeal.Blocks.word m q).toNat < 8 := fun q => Cert.Tables.expert_lt m h _
  refine ⟨fun c => Cert.KernelIdeal.Fold.out m c hw, Cert.KernelIdeal.Fold.run m g (Cert.Tables.ok_ideal m h) hw, ?_⟩
  refine (θ_run Cert.ReferenceIdeal.defs _ _).mono (fun r hr c => ⟨?_, (hr c).2⟩) (Cert.ReferenceIdeal.Value.run (F := Ideal) m' g')
  obtain ⟨h0, h1, -, h3, h4, h5, h6⟩ := args c
  refine (hr c).1.trans ((Cert.ReferenceIdeal.Read.val_main_v126_eq (StableHlo.launchContents m' c)).trans ?_)
  refine Eq.trans ?_ (Cert.Equation.out_eq m c hw).symm
  exact congr (congr (congr (congr (congr (congrArg _ h0) h1) h3) h4) h5) h6

theorem projection_reference_frame : Cert.quiescent_Reference2Ideal := fun m ρ _ =>
  (θ_run Cert.Reference2Ideal.defs _ _).mono
    (fun r h => ⟨fun c => (h c).2.2.2.2.2.2, Idealize.ShloMosaic.sem_eq_zero_of_no_sems (by decide) r.2⟩)
    (Cert.Reference2Ideal.Value.run (F := Ideal) m ρ)

theorem projection_values_equal : Cert.algebraic_Kernel2Ideal_Reference2Ideal := by
  intro m g m' g' h args
  refine ⟨_, _, _, _, _, _, Cert.Kernel2Ideal.Equation.run m g, ?_⟩
  refine (θ_run Cert.Reference2Ideal.defs _ _).mono (fun r hr c => ?_) (Cert.Reference2Ideal.Value.run (F := Ideal) m' g')
  obtain ⟨h0, h1, h2, h3, h4, h5⟩ := args c
  refine ⟨?_, ?_, ?_, ?_, ?_, ?_, (hr c).2.2.2.2.2.2⟩
  · refine (hr c).1.trans ((Cert.Reference2Ideal.Read.val_main_v15_eq _ _ _).trans ?_)
    exact Eq.trans (congr (congr (congrArg _ h0) h4) h5) (Cert.Kernel2Ideal.Equation.equal_colsPrompt m c)
  · refine (hr c).2.1.trans ((Cert.Reference2Ideal.Read.val_main_v44_eq _ _ _).trans ?_)
    exact Eq.trans (congr (congr (congrArg _ h1) h4) h5) (Cert.Kernel2Ideal.Equation.equal_colsSample m c)
  · refine (hr c).2.2.1.trans ((Cert.Reference2Ideal.Read.val_main_v27_eq _ _ _).trans ?_)
    exact Eq.trans (congr (congr (congrArg _ h0) h4) h5) (Cert.Kernel2Ideal.Equation.equal_ssmPrompt m c)
  · refine (hr c).2.2.2.1.trans ((Cert.Reference2Ideal.Read.val_main_v56_eq _ _ _ _).trans ?_)
    exact Eq.trans (congr (congr (congr (congrArg _ h1) h2) h4) h5) (Cert.Kernel2Ideal.Equation.equal_ssmSample m c)
  · refine (hr c).2.2.2.2.1.trans ((Cert.Reference2Ideal.Read.val_main_v30_eq _ _ _).trans ?_)
    exact Eq.trans (congr (congr (congrArg _ h0) h4) h5) (Cert.Kernel2Ideal.Equation.equal_shortPrompt m c)
  · refine (hr c).2.2.2.2.2.1.trans ((Cert.Reference2Ideal.Read.val_main_v59_eq _ _ _ _).trans ?_)
    exact Eq.trans (congr (congr (congr (congrArg _ h1) h3) h4) h5) (Cert.Kernel2Ideal.Equation.equal_shortSample m c)

theorem samples_reference_frame : Cert.quiescent_Reference3Ideal := fun m ρ _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m ρ)

theorem samples_values_equal : Cert.algebraic_Kernel3Ideal_Reference3Ideal := by
  intro m g m' g' h args
  refine ⟨_, _, Cert.Kernel3Ideal.Equation.run m g, ?_⟩
  refine (θ_run Cert.Reference3Ideal.defs _ _).mono (fun r hr c => ?_) (Cert.Reference3Ideal.Value.run (F := Ideal) m' g')
  obtain ⟨h0, h1, h2, h3⟩ := args c
  refine ⟨?_, ?_, (hr c).2.2⟩
  · refine (hr c).1.trans ((Cert.Reference3Ideal.Read.val_main_v58_eq _ _).trans ?_)
    exact Eq.trans (congr (congrArg _ h0) h3) (Cert.Kernel3Ideal.Equation.equal_rows m c)
  · refine (hr c).2.1.trans ((Cert.Reference3Ideal.Read.val_main_v62_eq _ _).trans ?_)
    exact Eq.trans (congr (congr (congrArg _ h0) h1) h3) (Cert.Kernel3Ideal.Equation.equal_window m c)

theorem prompts_reference_frame : Cert.quiescent_Reference4Ideal := fun m ρ _ =>
  (θ_run Cert.Reference4Ideal.defs _ _).mono
    (fun r h => ⟨fun c => (h c).2.2, Idealize.ShloMosaic.sem_eq_zero_of_no_sems (by decide) r.2⟩)
    (Cert.Reference4Ideal.Value.run (F := Ideal) m ρ)

theorem prompts_values_equal : Cert.algebraic_Kernel4Ideal_Reference4Ideal := by
  intro m g m' g' h args
  refine ⟨_, _, Cert.Kernel4Ideal.Equation.run m g, ?_⟩
  refine (θ_run Cert.Reference4Ideal.defs _ _).mono (fun r hr c => ?_) (Cert.Reference4Ideal.Value.run (F := Ideal) m' g')
  obtain ⟨h0, h1, h2⟩ := args c
  refine ⟨?_, ?_, (hr c).2.2⟩
  · refine (hr c).1.trans ((Cert.Reference4Ideal.Read.val_main_v58_eq _ _).trans ?_)
    exact Eq.trans (congr (congrArg _ h0) h2) (Cert.Kernel4Ideal.Equation.equal_rows m c)
  · refine (hr c).2.1.trans ((Cert.Reference4Ideal.Read.val_main_v62_eq _ _).trans ?_)
    exact Eq.trans (congr (congrArg _ h0) h2) (Cert.Kernel4Ideal.Equation.equal_window m c)

theorem states_reference_frame : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

theorem states_values_equal : Cert.algebraic_Kernel5Ideal_Reference5Ideal := by
  intro m g m' g' h args
  refine ⟨_, Cert.Kernel5Ideal.Equation.run m g, ?_⟩
  refine (θ_run Cert.Reference5Ideal.defs _ _).mono (fun r hr c => ?_) (Cert.Reference5Ideal.Value.run (F := Ideal) m' g')
  obtain ⟨h0, h1, h2, -, h4, h5, h6, h7, -⟩ := args c
  refine ⟨?_, (hr c).2⟩
  refine (hr c).1.trans ((Cert.Reference5Ideal.Read.val_main_v76_eq _ _).trans ?_)
  exact Eq.trans (congr (congr (congr (congr (congr (congr (congrArg _ h0) h1) h2) h4) h5) h6) h7)
    (Cert.Kernel5Ideal.Equation.equal_state m c)

theorem dense_reference_frame : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

theorem dense_values_equal : Cert.algebraic_Kernel6Ideal_Reference6Ideal := by
  intro m g m' g' h args
  refine ⟨fun c => Cert.Kernel6Ideal.Fold.out m c, Cert.Kernel6Ideal.Fold.run m g (Cert.DenseTables.ok_exact m), ?_⟩
  refine (θ_run Cert.Reference6Ideal.defs _ _).mono (fun r hr c => ⟨?_, (hr c).2⟩) (Cert.Reference6Ideal.Value.run (F := Ideal) m' g')
  obtain ⟨h0, h1, h2, h3, h4⟩ := args c
  refine (hr c).1.trans ((Cert.Reference6Ideal.Read.val_main_v21_eq _ _ _ _ _).trans ?_)
  exact Eq.trans (congr (congr (congr (congr (congrArg _ h0) h1) h2) h3) h4) (Cert.DenseEquation.out_eq m c)

theorem merge_reference_frame : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

theorem merge_values_equal : Cert.algebraic_Kernel7Ideal_Reference7Ideal := by
  intro m g m' g' h args
  refine ⟨fun c => Cert.Kernel7Ideal.Fold.out m c, Cert.Kernel7Ideal.Fold.run m g, ?_⟩
  refine (θ_run Cert.Reference7Ideal.defs _ _).mono (fun r hr c => ⟨?_, (hr c).2⟩) (Cert.Reference7Ideal.Value.run (F := Ideal) m' g')
  obtain ⟨h0, h1, h2, h3, h4, h5, h6⟩ := args c
  refine (hr c).1.trans ((Cert.Reference7Ideal.Read.val_main_v17_eq _ _ _ _ _ _ _).trans ?_)
  exact Eq.trans (congr (congr (congr (congr (congr (congr (congrArg _ h0) h1) h2) h3) h4) h5) h6) (Cert.MergeEquation.out_eq m c)

theorem router_reference_frame : Cert.quiescent_Reference8Ideal := fun m ρ _ =>
  (θ_run Cert.Reference8Ideal.defs _ _).mono
    (fun r h => ⟨fun c => (h c).2.2, Idealize.ShloMosaic.sem_eq_zero_of_no_sems (by decide) r.2⟩)
    (Cert.Reference8Ideal.Value.run (F := Ideal) m ρ)

theorem router_values_equal : Cert.algebraic_Kernel8Ideal_Reference8Ideal := by
  intro m g m' g' h args
  refine ⟨fun c => Cert.Kernel8Ideal.Fold.rows m c, fun c => Cert.Kernel8Ideal.Fold.eight (Cert.Kernel8Ideal.Fold.scores m c),
    Cert.Kernel8Ideal.Fold.run m g, ?_⟩
  refine (θ_run Cert.Reference8Ideal.defs _ _).mono (fun r hr c => ⟨?_, ?_, (hr c).2.2⟩) (Cert.Reference8Ideal.Value.run (F := Ideal) m' g')
  · obtain ⟨h0, h1, _⟩ := args c
    refine (hr c).1.trans ((Cert.Reference8Ideal.Read.val_main_v14_eq _ _).trans ?_)
    exact Eq.trans (congr (congrArg _ h0) h1) (Cert.RouterEquation.rows_eq m c)
  · obtain ⟨h0, h1, h2⟩ := args c
    refine (hr c).2.1.trans ((Cert.Reference8Ideal.Read.val_main_v13_eq _ _ _).trans ?_)
    exact Eq.trans (congr (congr (congrArg _ h0) h1) h2) (Cert.RouterEquation.scores_eq m c)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Cert.Pre_experts_in_range.Gen.facts,
    fun m ρ h => Cert.Kernel.Gen.frame m ρ (Cert.Tables.ok_kernel m h),
    fun m ρ h => Cert.KernelIdeal.Gen.frame m ρ (Cert.Tables.ok_ideal m h),
    reference_frame, fun m ρ _ => Cert.Kernel2.Gen.frame m ρ, fun m ρ _ => Cert.Kernel2Ideal.Gen.frame m ρ, projection_reference_frame,
    fun m ρ _ => Cert.Kernel3.Gen.frame m ρ, fun m ρ _ => Cert.Kernel3Ideal.Gen.frame m ρ, samples_reference_frame,
    fun m ρ _ => Cert.Kernel4.Gen.frame m ρ, fun m ρ _ => Cert.Kernel4Ideal.Gen.frame m ρ, prompts_reference_frame,
    fun m ρ _ => Cert.Kernel5.Gen.frame m ρ, fun m ρ _ => Cert.Kernel5Ideal.Gen.frame m ρ, states_reference_frame,
    fun m ρ _ => Cert.Kernel6.Gen.frame m ρ (Cert.DenseTables.ok_rounded m),
    fun m ρ _ => Cert.Kernel6Ideal.Gen.frame m ρ (Cert.DenseTables.ok_exact m), dense_reference_frame,
    fun m ρ _ => Cert.Kernel7.Gen.frame m ρ, fun m ρ _ => Cert.Kernel7Ideal.Gen.frame m ρ, merge_reference_frame,
    fun m ρ _ => Cert.Kernel8.Gen.frame m ρ, fun m ρ _ => Cert.Kernel8Ideal.Gen.frame m ρ, router_reference_frame,
    trivial, values_equal, trivial, projection_values_equal, trivial, samples_values_equal,
    trivial, prompts_values_equal, trivial, states_values_equal, trivial, dense_values_equal, trivial, merge_values_equal,
    trivial, router_values_equal⟩

end Cert.Proof

end
